-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_q [hPre_finite_q : Cert.Pre_finite_q.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_q.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_q [hPre_finite_q : Cert.Pre_finite_q.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_q.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_kv [hPre_finite_kv : Cert.Pre_finite_kv.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_kv.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_kv [hPre_finite_kv : Cert.Pre_finite_kv.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_kv.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite_q [hKernel6Ideal : Cert.Kernel6Ideal.Facts] [hPre_finite_q : Cert.Pre_finite_q.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_q m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite_q [hReference6Ideal : Cert.Reference6Ideal.Facts] [hPre_finite_q : Cert.Pre_finite_q.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_q m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite_kv [hKernel7Ideal : Cert.Kernel7Ideal.Facts] [hPre_finite_kv : Cert.Pre_finite_kv.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_kv m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite_kv [hReference7Ideal : Cert.Reference7Ideal.Facts] [hPre_finite_kv : Cert.Pre_finite_kv.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_kv m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "q_scale" .f32 0x3E0293EE#32 ((((Real.log 2) * (Real.sqrt 128))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "mla_q_scale" .f32 0x3DD53B95#32 ((((Real.log 2) * (Real.sqrt 192))⁻¹ : ℝ) : EReal)

def algebraic_Kernel6Ideal_Reference6Ideal_pre_finite_q [hKernel6Ideal : Cert.Kernel6Ideal.Facts] [hReference6Ideal : Cert.Reference6Ideal.Facts] [hPre_finite_q : Cert.Pre_finite_q.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_q m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v61) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite_kv [hKernel7Ideal : Cert.Kernel7Ideal.Facts] [hReference7Ideal : Cert.Reference7Ideal.Facts] [hPre_finite_kv : Cert.Pre_finite_kv.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_kv m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v46) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_q : Cert.Pre_finite_q.Facts) (hPre_finite_kv : Cert.Pre_finite_kv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_q (hKernel6Ideal := hKernel6Ideal) (hPre_finite_q := hPre_finite_q)
    ∧ quiescent_Reference6Ideal (hReference6Ideal := hReference6Ideal)
    ∧ quiescent_Reference6Ideal_pre_finite_q (hReference6Ideal := hReference6Ideal) (hPre_finite_q := hPre_finite_q)
    ∧ quiescent_Kernel7 (hKernel7 := hKernel7)
    ∧ quiescent_Kernel7Ideal (hKernel7Ideal := hKernel7Ideal)
    ∧ quiescent_Kernel7Ideal_pre_finite_kv (hKernel7Ideal := hKernel7Ideal) (hPre_finite_kv := hPre_finite_kv)
    ∧ quiescent_Reference7Ideal (hReference7Ideal := hReference7Ideal)
    ∧ quiescent_Reference7Ideal_pre_finite_kv (hReference7Ideal := hReference7Ideal) (hPre_finite_kv := hPre_finite_kv)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_q (hKernel6Ideal := hKernel6Ideal) (hReference6Ideal := hReference6Ideal) (hPre_finite_q := hPre_finite_q)
    ∧ preserves_Kernel7_Kernel7Ideal
    ∧ algebraic_Kernel7Ideal_Reference7Ideal_pre_finite_kv (hKernel7Ideal := hKernel7Ideal) (hReference7Ideal := hReference7Ideal) (hPre_finite_kv := hPre_finite_kv)
-- ==== Pre_finite.lean ====
abbrev S16x8192x192 : Shape := ⟨3, ![16, 8192, 192]⟩
abbrev S16x8192x128 : Shape := ⟨3, ![16, 8192, 128]⟩
abbrev S_ : Shape := ⟨0, ![]⟩

class Facts : Prop where
  bcast_S_S16x8192x192 : S_.BroadcastsInDim S16x8192x192 (![] : Fin 0 → Fin S16x8192x192.rank)
  reducesTo_S16x8192x192_S_d0_1_2 : S16x8192x192.ReducesTo [0, 1, 2] S_
  h_S_ : 0 < S_.numel
  bcast_S_S16x8192x128 : S_.BroadcastsInDim S16x8192x128 (![] : Fin 0 → Fin S16x8192x128.rank)
  reducesTo_S16x8192x128_S_d0_1_2 : S16x8192x128.ReducesTo [0, 1, 2] S_

variable [Facts]

def fn {F : FTy → Type} [FloatOps F] (main_arg0 : FVec F S16x8192x192 .f32) (main_arg1 : FVec F S16x8192x192 .f32) (main_arg2 : FVec F S16x8192x128 .f32) : IVec S_ 1 :=
  let main_v0 : FVec F S16x8192x192 .f32 := Host.absf main_arg0
  let main_cst : FVec F S_ .f32 := constant S_ .f32 0x7F800000#32
  let main_v1 : FVec F S16x8192x192 .f32 := broadcastInDim S16x8192x192 ![] bcast_S_S16x8192x192 main_cst
  let main_v2 : IVec S16x8192x192 1 := cmpf .olt main_v0 main_v1
  let main_c : IVec S_ 1 := constantI S_ 1 1#1
  let main_v3 : IVec S_ 1 := (fun x v => Host.reduce IntOp.andi x v reducesTo_S16x8192x192_S_d0_1_2 h_S_) main_v2 main_c
  let main_v4 : FVec F S16x8192x192 .f32 := Host.absf main_arg1
  let main_cst_0 : FVec F S_ .f32 := constant S_ .f32 0x7F800000#32
  let main_v5 : FVec F S16x8192x192 .f32 := broadcastInDim S16x8192x192 ![] bcast_S_S16x8192x192 main_cst_0
  let main_v6 : IVec S16x8192x192 1 := cmpf .olt main_v4 main_v5
  let main_c_1 : IVec S_ 1 := constantI S_ 1 1#1
  let main_v7 : IVec S_ 1 := (fun x v => Host.reduce IntOp.andi x v reducesTo_S16x8192x192_S_d0_1_2 h_S_) main_v6 main_c_1
  let main_v8 : IVec S_ 1 := andi main_v3 main_v7
  let main_v9 : FVec F S16x8192x128 .f32 := Host.absf main_arg2
  let main_cst_2 : FVec F S_ .f32 := constant S_ .f32 0x7F800000#32
  let main_v10 : FVec F S16x8192x128 .f32 := broadcastInDim S16x8192x128 ![] bcast_S_S16x8192x128 main_cst_2
  let main_v11 : IVec S16x8192x128 1 := cmpf .olt main_v9 main_v10
  let main_c_3 : IVec S_ 1 := constantI S_ 1 1#1
  let main_v12 : IVec S_ 1 := (fun x v => Host.reduce IntOp.andi x v reducesTo_S16x8192x128_S_d0_1_2 h_S_) main_v11 main_c_3
  let main_v13 : IVec S_ 1 := andi main_v8 main_v12
  main_v13
-- ==== Pre_finite_kv.lean ====
abbrev S8192x2048 : Shape := ⟨2, ![8192, 2048]⟩
abbrev S2048 : Shape := ⟨1, ![2048]⟩
abbrev S2048x576 : Shape := ⟨2, ![2048, 576]⟩
abbrev S512 : Shape := ⟨1, ![512]⟩
abbrev S512x4096 : Shape := ⟨2, ![512, 4096]⟩
abbrev S8192x32 : Shape := ⟨2, ![8192, 32]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x576 : S_.BroadcastsInDim S2048x576 (![] : Fin 0 → Fin S2048x576.rank)
  reducesTo_S2048x576_S_d0_1 : S2048x576.ReducesTo [0, 1] S_

variable [Facts]

def fn {F : FTy → Type} [FloatOps F] (main_arg0 : FVec F S8192x2048 .f32) (main_arg1 : FVec F S2048 .f32) (main_arg2 : FVec F S2048x576 .f32) (main_arg3 : FVec F S512 .f32) (main_arg4 : FVec F S512x4096 .f32) (main_arg5 : FVec F S8192x32 .f32) (main_arg6 : FVec F S8192x32 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x576 .f32 := Host.absf main_arg2
  let main_cst_0 : FVec F S_ .f32 := constant S_ .f32 0x7F800000#32
  let main_v5 : FVec F S2048x576 .f32 := broadcastInDim S2048x576 ![] bcast_S_S2048x576 main_cst_0
  let main_v6 : IVec S2048x576 1 := cmpf .olt main_v4 main_v5
  let main_c_1 : IVec S_ 1 := constantI S_ 1 1#1
  let main_v7 : IVec S_ 1 := (fun x v => Host.reduce IntOp.andi x v reducesTo_S2048x576_S_d0_1 h_S_) main_v6 main_c_1
  let main_v8 : IVec S_ 1 := andi main_v3 main_v7
  main_v8
-- ==== Pre_finite_q.lean ====
abbrev S8192x2048 : Shape := ⟨2, ![8192, 2048]⟩
abbrev S4x2048 : Shape := ⟨2, ![4, 2048]⟩
abbrev S2x2048x768 : Shape := ⟨3, ![2, 2048, 768]⟩
abbrev S2x768 : Shape := ⟨2, ![2, 768]⟩
abbrev S2x768x3072 : Shape := ⟨3, ![2, 768, 3072]⟩
abbrev S8192x32 : Shape := ⟨2, ![8192, 32]⟩
abbrev S_ : Shape := ⟨0, ![]⟩

class Facts : Prop where
  bcast_S_S2x768 : S_.BroadcastsInDim S2x768 (![] : Fin 0 → Fin S2x768.rank)
  reducesTo_S2x768_S_d0_1 : S2x768.ReducesTo [0, 1] S_
  h_S_ : 0 < S_.numel
  bcast_S_S2x768x3072 : S_.BroadcastsInDim S2x768x3072 (![] : Fin 0 → Fin S2x768x3072.rank)
  reducesTo_S2x768x3072_S_d0_1_2 : S2x768x3072.ReducesTo [0, 1, 2] S_

variable [Facts]

def fn {F : FTy → Type} [FloatOps F] (main_arg0 : FVec F S8192x2048 .f32) (main_arg1 : FVec F S4x2048 .f32) (main_arg2 : FVec F S2x2048x768 .f32) (main_arg3 : FVec F S2x768 .f32) (main_arg4 : FVec F S2x768x3072 .f32) (main_arg5 : FVec F S8192x32 .f32) (main_arg6 : FVec F S8192x32 .f32) : IVec S_ 1 :=
  let main_v0 : FVec F S2x768 .f32 := Host.absf main_arg3
  let main_cst : FVec F S_ .f32 := constant S_ .f32 0x7F800000#32
  let main_v1 : FVec F S2x768 .f32 := broadcastInDim S2x768 ![] bcast_S_S2x768 main_cst
  let main_v2 : IVec S2x768 1 := cmpf .olt main_v0 main_v1
  let main_c : IVec S_ 1 := constantI S_ 1 1#1
  let main_v3 : IVec S_ 1 := (fun x v => Host.reduce IntOp.andi x v reducesTo_S2x768_S_d0_1 h_S_) main_v2 main_c
  let main_v4 : FVec F S2x768x3072 .f32 := Host.absf main_arg4
  let main_cst_0 : FVec F S_ .f32 := constant S_ .f32 0x7F800000#32
  let main_v5 : FVec F S2x768x3072 .f32 := broadcastInDim S2x768x3072 ![] bcast_S_S2x768x3072 main_cst_0
  let main_v6 : IVec S2x768x3072 1 := cmpf .olt main_v4 main_v5
  let main_c_1 : IVec S_ 1 := constantI S_ 1 1#1
  let main_v7 : IVec S_ 1 := (fun x v => Host.reduce IntOp.andi x v reducesTo_S2x768x3072_S_d0_1_2 h_S_) main_v6 main_c_1
  let main_v8 : IVec S_ 1 := andi main_v3 main_v7
  main_v8
-- ==== Kernel.lean ====
abbrev S16x8192x192 : Shape := ⟨3, ![16, 8192, 192]⟩
abbrev S16x8192x128 : Shape := ⟨3, ![16, 8192, 128]⟩
abbrev S_ : Shape := ⟨0, ![]⟩
abbrev S16x8192x64 : Shape := ⟨3, ![16, 8192, 64]⟩
abbrev S16x8192x256 : Shape := ⟨3, ![16, 8192, 256]⟩
abbrev S8192x2048 : Shape := ⟨2, ![8192, 2048]⟩
abbrev S1x1024x256 : Shape := ⟨3, ![1, 1024, 256]⟩
abbrev S1x8192x256 : Shape := ⟨3, ![1, 8192, 256]⟩
abbrev S1x8192x128 : Shape := ⟨3, ![1, 8192, 128]⟩
abbrev S1024x128 : Shape := ⟨2, ![1024, 128]⟩
abbrev S8192x256 : Shape := ⟨2, ![8192, 256]⟩
abbrev S1024x512 : Shape := ⟨2, ![1024, 512]⟩
abbrev S1024x256 : Shape := ⟨2, ![1024, 256]⟩
abbrev S8192x128 : Shape := ⟨2, ![8192, 128]⟩
abbrev S1x512x256 : Shape := ⟨3, ![1, 512, 256]⟩
abbrev S512x256 : Shape := ⟨2, ![512, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S512x512 : Shape := ⟨2, ![512, 512]⟩

abbrev nBuf : Space → Nat
  | .hbm => 20
  | .vmem => 14
  | .smem => 0
  | _ => 0

abbrev bufTy : (tb : Table) → Fin (tcTables nBuf tb) → BufTy
  | .hbm, ⟨0, _⟩ => ⟨S16x8192x192, .f32⟩
  | .hbm, ⟨1, _⟩ => ⟨S16x8192x192, .f32⟩
  | .hbm, ⟨2, _⟩ => ⟨S16x8192x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x8192x64, .f32⟩
  | .hbm, ⟨12, _⟩ => ⟨S16x8192x256, .f32⟩
  | .hbm, ⟨13, _⟩ => ⟨S16x8192x256, .f32⟩
  | .hbm, ⟨14, _⟩ => ⟨S16x8192x256, .f32⟩
  | .hbm, ⟨15, _⟩ => ⟨S16x8192x256, .bf16⟩
  | .hbm, ⟨16, _⟩ => ⟨S16x8192x256, .f32⟩
  | .hbm, ⟨17, _⟩ => ⟨S16x8192x256, .bf16⟩
  | .hbm, ⟨18, _⟩ => ⟨S16x8192x128, .bf16⟩
  | .hbm, ⟨19, _⟩ => ⟨S8192x2048, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1024x128, .bf16⟩
  | .local _ .vmem, ⟨7, _⟩ => ⟨S1024x128, .bf16⟩
  | .local _ .vmem, ⟨8, _⟩ => ⟨S8192x256, .bf16⟩
  | .local _ .vmem, ⟨9, _⟩ => ⟨S1024x512, .f32⟩
  | .local _ .vmem, ⟨10, _⟩ => ⟨S1024x512, .f32⟩
  | .local _ .vmem, ⟨11, _⟩ => ⟨S1024x128, .f32⟩
  | .local _ .vmem, ⟨12, _⟩ => ⟨S1024x256, .f32⟩
  | .local _ .vmem, ⟨13, _⟩ => ⟨S1024x512, .bf16⟩
  | _, _ => ⟨S16x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_23 : BitVec 32 := 1#32
  ⟨c0_i32_21, v41, c1_i32_23⟩
def k0_mult1 (i : grid0.Coords) (k0_t1 : Fin (k0_t1_loop i).trips) : BitVec 32 :=
  let c2_i32_151 : BitVec 32 := 2#32
  let c2_i32_150 : BitVec 32 := 2#32
  let c0_i32_21 : BitVec 32 := 0#32
  let c1_i32_23 : BitVec 32 := 1#32
  let arg12 : BitVec 32 := Scf.iv c0_i32_21 c1_i32_23 k0_t1
  let v280 : BitVec 32 := Scalar.muli c2_i32_150 arg12
  let v281 : BitVec 32 := Scalar.muli c2_i32_151 v280
  let c512_i32_152 : BitVec 32 := 512#32
  let v282 : BitVec 32 := Scalar.muli v281 c512_i32_152
  v282
def k0_off1 (i : grid0.Coords) (k0_t1 : Fin (k0_t1_loop i).trips) : Fin 3 → Nat :=
  let c0_157 : Index := 0#32
  let c2_i32_151 : BitVec 32 := 2#32
  let c2_i32_150 : BitVec 32 := 2#32
  let c0_i32_21 : BitVec 32 := 0#32
  let c1_i32_23 : BitVec 32 := 1#32
  let arg12 : BitVec 32 := Scf.iv c0_i32_21 c1_i32_23 k0_t1
  let v280 : BitVec 32 := Scalar.muli c2_i32_150 arg12
  let v281 : BitVec 32 := Scalar.muli c2_i32_151 v280
  let c512_i32_152 : BitVec 32 := 512#32
  let v282 : BitVec 32 := Scalar.muli v281 c512_i32_152
  let v283 : BitVec 32 := v282
  let c512_i32_153 : BitVec 32 := 512#32
  let v284 : BitVec 32 := Scalar.addi v283 c512_i32_153
  let v287 : Index := Scalar.indexCast v284
  let c0_158 : Index := 0#32
  ![0, v287.toNat, 0]
def k0_off2 (i : grid0.Coords) (k0_t1 : Fin (k0_t1_loop i).trips) : Fin 2 → Nat :=
  let c2_i32_151 : BitVec 32 := 2#32
  let c2_i32_150 : BitVec 32 := 2#32
  let c0_i32_21 : BitVec 32 := 0#32
  let c1_i32_23 : BitVec 32 := 1#32
  let arg12 : BitVec 32 := Scf.iv c0_i32_21 c1_i32_23 k0_t1
  let v280 : BitVec 32 := Scalar.muli c2_i32_150 arg12
  let v281 : BitVec 32 := Scalar.muli c2_i32_151 v280
  let c512_i32_152 : BitVec 32 := 512#32
  let v282 : BitVec 32 := Scalar.muli v281 c512_i32_152
  let v283 : BitVec 32 := v282
  let v294 : Index := Scalar.indexCast v283
  let c0_162 : Index := 0#32
  ![v294.toNat, 0]
def k0_mult2 (i : grid0.Coords) (k0_t1 : Fin (k0_t1_loop i).trips) : BitVec 32 :=
  let c2_i32_222 : BitVec 32 := 2#32
  let c2_i32_150 : BitVec 32 := 2#32
  let c0_i32_21 : BitVec 32 := 0#32
  let c1_i32_23 : BitVec 32 := 1#32
  let arg12 : BitVec 32 := Scf.iv c0_i32_21 c1_i32_23 k0_t1
  let v280 : BitVec 32 := Scalar.muli c2_i32_150 arg12
  let v399 : BitVec 32 := Scalar.muli c2_i32_222 v280
  let c1_i32_223 : BitVec 32 := 1#32
  let v400 : BitVec 32 := Scalar.addi v399 c1_i32_223
  let c512_i32_224 : BitVec 32 := 512#32
  let v401 : BitVec 32 := Scalar.muli v400 c512_i32_224
  v401
def k0_off3 (i : grid0.Coords) (k0_t1 : Fin (k0_t1_loop i).trips) : Fin 3 → Nat :=
  let c0_229 : Index := 0#32
  let c2_i32_222 : BitVec 32 := 2#32
  let c2_i32_150 : BitVec 32 := 2#32
  let c0_i32_21 : BitVec 32 := 0#32
  let c1_i32_23 : BitVec 32 := 1#32
  let arg12 : BitVec 32 := Scf.iv c0_i32_21 c1_i32_23 k0_t1
  let v280 : BitVec 32 := Scalar.muli c2_i32_150 arg12
  let v399 : BitVec 32 := Scalar.muli c2_i32_222 v280
  let c1_i32_223 : BitVec 32 := 1#32
  let v400 : BitVec 32 := Scalar.addi v399 c1_i32_223
  let c512_i32_224 : BitVec 32 := 512#32
  let v401 : BitVec 32 := Scalar.muli v400 c512_i32_224
  let v402 : BitVec 32 := v401
  let c512_i32_225 : BitVec 32 := 512#32
  let v403 : BitVec 32 := Scalar.addi v402 c512_i32_225
  let v406 : Index := Scalar.indexCast v403
  let c0_230 : Index := 0#32
  ![0, v406.toNat, 0]
def k0_off4 (i : grid0.Coords) (k0_t1 : Fin (k0_t1_loop i).trips) : Fin 2 → Nat :=
  let c2_i32_222 : BitVec 32 := 2#32
  let c2_i32_150 : BitVec 32 := 2#32
  let c0_i32_21 : BitVec 32 := 0#32
  let c1_i32_23 : BitVec 32 := 1#32
  let arg12 : BitVec 32 := Scf.iv c0_i32_21 c1_i32_23 k0_t1
  let v280 : BitVec 32 := Scalar.muli c2_i32_150 arg12
  let v399 : BitVec 32 := Scalar.muli c2_i32_222 v280
  let c1_i32_223 : BitVec 32 := 1#32
  let v400 : BitVec 32 := Scalar.addi v399 c1_i32_223
  let c512_i32_224 : BitVec 32 := 512#32
  let v401 : BitVec 32 := Scalar.muli v400 c512_i32_224
  let v402 : BitVec 32 := v401
  let v413 : Index := Scalar.indexCast v402
  let c0_234 : Index := 0#32
  ![v413.toNat, 0]
def k0_mult3 (i : grid0.Coords) (k0_t1 : Fin (k0_t1_loop i).trips) : BitVec 32 :=
  let c2_i32_296 : BitVec 32 := 2#32
  let c2_i32_294 : BitVec 32 := 2#32
  let c0_i32_21 : BitVec 32 := 0#32
  let c1_i32_23 : BitVec 32 := 1#32
  let arg12 : BitVec 32 := Scf.iv c0_i32_21 c1_i32_23 k0_t1
  let v518 : BitVec 32 := Scalar.muli c2_i32_294 arg12
  let c1_i32_295 : BitVec 32 := 1#32
  let v519 : BitVec 32 := Scalar.addi v518 c1_i32_295
  let v520 : BitVec 32 := Scalar.muli c2_i32_296 v519
  let c512_i32_297 : BitVec 32 := 512#32
  let v521 : BitVec 32 := Scalar.muli v520 c512_i32_297
  v521
def k0_off5 (i : grid0.Coords) (k0_t1 : Fin (k0_t1_loop i).trips) : Fin 3 → Nat :=
  let c0_302 : Index := 0#32
  let c2_i32_296 : BitVec 32 := 2#32
  let c2_i32_294 : BitVec 32 := 2#32
  let c0_i32_21 : BitVec 32 := 0#32
  let c1_i32_23 : BitVec 32 := 1#32
  let arg12 : BitVec 32 := Scf.iv c0_i32_21 c1_i32_23 k0_t1
  let v518 : BitVec 32 := Scalar.muli c2_i32_294 arg12
  let c1_i32_295 : BitVec 32 := 1#32
  let v519 : BitVec 32 := Scalar.addi v518 c1_i32_295
  let v520 : BitVec 32 := Scalar.muli c2_i32_296 v519
  let c512_i32_297 : BitVec 32 := 512#32
  let v521 : BitVec 32 := Scalar.muli v520 c512_i32_297
  let v522 : BitVec 32 := v521
  let c512_i32_298 : BitVec 32 := 512#32
  let v523 : BitVec 32 := Scalar.addi v522 c512_i32_298
  let v526 : Index := Scalar.indexCast v523
  let c0_303 : Index := 0#32
  ![0, v526.toNat, 0]
def k0_off6 (i : grid0.Coords) (k0_t1 : Fin (k0_t1_loop i).trips) : Fin 2 → Nat :=
  let c2_i32_296 : BitVec 32 := 2#32
  let c2_i32_294 : BitVec 32 := 2#32
  let c0_i32_21 : BitVec 32 := 0#32
  let c1_i32_23 : BitVec 32 := 1#32
  let arg12 : BitVec 32 := Scf.iv c0_i32_21 c1_i32_23 k0_t1
  let v518 : BitVec 32 := Scalar.muli c2_i32_294 arg12
  let c1_i32_295 : BitVec 32 := 1#32
  let v519 : BitVec 32 := Scalar.addi v518 c1_i32_295
  let v520 : BitVec 32 := Scalar.muli c2_i32_296 v519
  let c512_i32_297 : BitVec 32 := 512#32
  let v521 : BitVec 32 := Scalar.muli v520 c512_i32_297
  let v522 : BitVec 32 := v521
  let v533 : Index := Scalar.indexCast v522
  let c0_307 : Index := 0#32
  ![v533.toNat, 0]
def k0_mult4 (i : grid0.Coords) (k0_t1 : Fin (k0_t1_loop i).trips) : BitVec 32 :=
  let c2_i32_367 : BitVec 32 := 2#32
  let c2_i32_294 : BitVec 32 := 2#32
  let c0_i32_21 : BitVec 32 := 0#32
  let c1_i32_23 : BitVec 32 := 1#32
  let arg12 : BitVec 32 := Scf.iv c0_i32_21 c1_i32_23 k0_t1
  let v518 : BitVec 32 := Scalar.muli c2_i32_294 arg12
  let c1_i32_295 : BitVec 32 := 1#32
  let v519 : BitVec 32 := Scalar.addi v518 c1_i32_295
  let v638 : BitVec 32 := Scalar.muli c2_i32_367 v519
  let c1_i32_368 : BitVec 32 := 1#32
  let v639 : BitVec 32 := Scalar.addi v638 c1_i32_368
  let c512_i32_369 : BitVec 32 := 512#32
  let v640 : BitVec 32 := Scalar.muli v639 c512_i32_369
  v640
def k0_off7 (i : grid0.Coords) (k0_t1 : Fin (k0_t1_loop i).trips) : Fin 3 → Nat :=
  let c0_374 : Index := 0#32
  let c2_i32_367 : BitVec 32 := 2#32
  let c2_i32_294 : BitVec 32 := 2#32
  let c0_i32_21 : BitVec 32 := 0#32
  let c1_i32_23 : BitVec 32 := 1#32
  let arg12 : BitVec 32 := Scf.iv c0_i32_21 c1_i32_23 k0_t1
  let v518 : BitVec 32 := Scalar.muli c2_i32_294 arg12
  let c1_i32_295 : BitVec 32 := 1#32
  let v519 : BitVec 32 := Scalar.addi v518 c1_i32_295
  let v638 : BitVec 32 := Scalar.muli c2_i32_367 v519
  let c1_i32_368 : BitVec 32 := 1#32
  let v639 : BitVec 32 := Scalar.addi v638 c1_i32_368
  let c512_i32_369 : BitVec 32 := 512#32
  let v640 : BitVec 32 := Scalar.muli v639 c512_i32_369
  let v641 : BitVec 32 := v640
  let c512_i32_370 : BitVec 32 := 512#32
  let v642 : BitVec 32 := Scalar.addi v641 c512_i32_370
  let v645 : Index := Scalar.indexCast v642
  let c0_375 : Index := 0#32
  ![0, v645.toNat, 0]
def k0_off8 (i : grid0.Coords) (k0_t1 : Fin (k0_t1_loop i).trips) : Fin 2 → Nat :=
  let c2_i32_367 : BitVec 32 := 2#32
  let c2_i32_294 : BitVec 32 := 2#32
  let c0_i32_21 : BitVec 32 := 0#32
  let c1_i32_23 : BitVec 32 := 1#32
  let arg12 : BitVec 32 := Scf.iv c0_i32_21 c1_i32_23 k0_t1
  let v518 : BitVec 32 := Scalar.muli c2_i32_294 arg12
  let c1_i32_295 : BitVec 32 := 1#32
  let v519 : BitVec 32 := Scalar.addi v518 c1_i32_295
  let v638 : BitVec 32 := Scalar.muli c2_i32_367 v519
  let c1_i32_368 : BitVec 32 := 1#32
  let v639 : BitVec 32 := Scalar.addi v638 c1_i32_368
  let c512_i32_369 : BitVec 32 := 512#32
  let v640 : BitVec 32 := Scalar.muli v639 c512_i32_369
  let v641 : BitVec 32 := v640
  let v652 : Index := Scalar.indexCast v641
  let c0_379 : Index := 0#32
  ![v652.toNat, 0]
@[reducible] def k0_t2_loop (i : grid0.Coords) : Scf.Loop 32 :=
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let v38 : BitVec 32 := Scalar.addi c0_i32_21 v37
  let c1_i32_24 : BitVec 32 := 1#32
  ⟨v41, v38, c1_i32_24⟩
def k0_mult5 (i : grid0.Coords) (k0_t2 : Fin (k0_t2_loop i).trips) : BitVec 32 :=
  let c2_i32_151 : BitVec 32 := 2#32
  let c2_i32_150 : BitVec 32 := 2#32
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg12 : BitVec 32 := Scf.iv v41 c1_i32_24 k0_t2
  let v280 : BitVec 32 := Scalar.muli c2_i32_150 arg12
  let v281 : BitVec 32 := Scalar.muli c2_i32_151 v280
  let c512_i32_152 : BitVec 32 := 512#32
  let v282 : BitVec 32 := Scalar.muli v281 c512_i32_152
  v282
def k0_off9 (i : grid0.Coords) (k0_t2 : Fin (k0_t2_loop i).trips) : Fin 3 → Nat :=
  let c0_157 : Index := 0#32
  let c2_i32_151 : BitVec 32 := 2#32
  let c2_i32_150 : BitVec 32 := 2#32
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg12 : BitVec 32 := Scf.iv v41 c1_i32_24 k0_t2
  let v280 : BitVec 32 := Scalar.muli c2_i32_150 arg12
  let v281 : BitVec 32 := Scalar.muli c2_i32_151 v280
  let c512_i32_152 : BitVec 32 := 512#32
  let v282 : BitVec 32 := Scalar.muli v281 c512_i32_152
  let v283 : BitVec 32 := v282
  let c512_i32_153 : BitVec 32 := 512#32
  let v284 : BitVec 32 := Scalar.addi v283 c512_i32_153
  let v287 : Index := Scalar.indexCast v284
  let c0_158 : Index := 0#32
  ![0, v287.toNat, 0]
def k0_off10 (i : grid0.Coords) (k0_t2 : Fin (k0_t2_loop i).trips) : Fin 2 → Nat :=
  let c2_i32_151 : BitVec 32 := 2#32
  let c2_i32_150 : BitVec 32 := 2#32
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg12 : BitVec 32 := Scf.iv v41 c1_i32_24 k0_t2
  let v280 : BitVec 32 := Scalar.muli c2_i32_150 arg12
  let v281 : BitVec 32 := Scalar.muli c2_i32_151 v280
  let c512_i32_152 : BitVec 32 := 512#32
  let v282 : BitVec 32 := Scalar.muli v281 c512_i32_152
  let v283 : BitVec 32 := v282
  let v294 : Index := Scalar.indexCast v283
  let c0_162 : Index := 0#32
  ![v294.toNat, 0]
def k0_mult6 (i : grid0.Coords) (k0_t2 : Fin (k0_t2_loop i).trips) : BitVec 32 :=
  let c2_i32_222 : BitVec 32 := 2#32
  let c2_i32_150 : BitVec 32 := 2#32
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg12 : BitVec 32 := Scf.iv v41 c1_i32_24 k0_t2
  let v280 : BitVec 32 := Scalar.muli c2_i32_150 arg12
  let v399 : BitVec 32 := Scalar.muli c2_i32_222 v280
  let c1_i32_223 : BitVec 32 := 1#32
  let v400 : BitVec 32 := Scalar.addi v399 c1_i32_223
  let c512_i32_224 : BitVec 32 := 512#32
  let v401 : BitVec 32 := Scalar.muli v400 c512_i32_224
  v401
def k0_off11 (i : grid0.Coords) (k0_t2 : Fin (k0_t2_loop i).trips) : Fin 3 → Nat :=
  let c0_229 : Index := 0#32
  let c2_i32_222 : BitVec 32 := 2#32
  let c2_i32_150 : BitVec 32 := 2#32
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg12 : BitVec 32 := Scf.iv v41 c1_i32_24 k0_t2
  let v280 : BitVec 32 := Scalar.muli c2_i32_150 arg12
  let v399 : BitVec 32 := Scalar.muli c2_i32_222 v280
  let c1_i32_223 : BitVec 32 := 1#32
  let v400 : BitVec 32 := Scalar.addi v399 c1_i32_223
  let c512_i32_224 : BitVec 32 := 512#32
  let v401 : BitVec 32 := Scalar.muli v400 c512_i32_224
  let v402 : BitVec 32 := v401
  let c512_i32_225 : BitVec 32 := 512#32
  let v403 : BitVec 32 := Scalar.addi v402 c512_i32_225
  let v406 : Index := Scalar.indexCast v403
  let c0_230 : Index := 0#32
  ![0, v406.toNat, 0]
def k0_off12 (i : grid0.Coords) (k0_t2 : Fin (k0_t2_loop i).trips) : Fin 2 → Nat :=
  let c2_i32_222 : BitVec 32 := 2#32
  let c2_i32_150 : BitVec 32 := 2#32
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg12 : BitVec 32 := Scf.iv v41 c1_i32_24 k0_t2
  let v280 : BitVec 32 := Scalar.muli c2_i32_150 arg12
  let v399 : BitVec 32 := Scalar.muli c2_i32_222 v280
  let c1_i32_223 : BitVec 32 := 1#32
  let v400 : BitVec 32 := Scalar.addi v399 c1_i32_223
  let c512_i32_224 : BitVec 32 := 512#32
  let v401 : BitVec 32 := Scalar.muli v400 c512_i32_224
  let v402 : BitVec 32 := v401
  let v413 : Index := Scalar.indexCast v402
  let c0_234 : Index := 0#32
  ![v413.toNat, 0]
def k0_mult7 (i : grid0.Coords) (k0_t2 : Fin (k0_t2_loop i).trips) : BitVec 32 :=
  let c2_i32_296 : BitVec 32 := 2#32
  let c2_i32_294 : BitVec 32 := 2#32
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg12 : BitVec 32 := Scf.iv v41 c1_i32_24 k0_t2
  let v518 : BitVec 32 := Scalar.muli c2_i32_294 arg12
  let c1_i32_295 : BitVec 32 := 1#32
  let v519 : BitVec 32 := Scalar.addi v518 c1_i32_295
  let v520 : BitVec 32 := Scalar.muli c2_i32_296 v519
  let c512_i32_297 : BitVec 32 := 512#32
  let v521 : BitVec 32 := Scalar.muli v520 c512_i32_297
  v521
def k0_off13 (i : grid0.Coords) (k0_t2 : Fin (k0_t2_loop i).trips) : Fin 3 → Nat :=
  let c0_302 : Index := 0#32
  let c2_i32_296 : BitVec 32 := 2#32
  let c2_i32_294 : BitVec 32 := 2#32
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg12 : BitVec 32 := Scf.iv v41 c1_i32_24 k0_t2
  let v518 : BitVec 32 := Scalar.muli c2_i32_294 arg12
  let c1_i32_295 : BitVec 32 := 1#32
  let v519 : BitVec 32 := Scalar.addi v518 c1_i32_295
  let v520 : BitVec 32 := Scalar.muli c2_i32_296 v519
  let c512_i32_297 : BitVec 32 := 512#32
  let v521 : BitVec 32 := Scalar.muli v520 c512_i32_297
  let v522 : BitVec 32 := v521
  let c512_i32_298 : BitVec 32 := 512#32
  let v523 : BitVec 32 := Scalar.addi v522 c512_i32_298
  let v526 : Index := Scalar.indexCast v523
  let c0_303 : Index := 0#32
  ![0, v526.toNat, 0]
def k0_off14 (i : grid0.Coords) (k0_t2 : Fin (k0_t2_loop i).trips) : Fin 2 → Nat :=
  let c2_i32_296 : BitVec 32 := 2#32
  let c2_i32_294 : BitVec 32 := 2#32
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg12 : BitVec 32 := Scf.iv v41 c1_i32_24 k0_t2
  let v518 : BitVec 32 := Scalar.muli c2_i32_294 arg12
  let c1_i32_295 : BitVec 32 := 1#32
  let v519 : BitVec 32 := Scalar.addi v518 c1_i32_295
  let v520 : BitVec 32 := Scalar.muli c2_i32_296 v519
  let c512_i32_297 : BitVec 32 := 512#32
  let v521 : BitVec 32 := Scalar.muli v520 c512_i32_297
  let v522 : BitVec 32 := v521
  let v533 : Index := Scalar.indexCast v522
  let c0_307 : Index := 0#32
  ![v533.toNat, 0]
def k0_mult8 (i : grid0.Coords) (k0_t2 : Fin (k0_t2_loop i).trips) : BitVec 32 :=
  let c2_i32_367 : BitVec 32 := 2#32
  let c2_i32_294 : BitVec 32 := 2#32
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg12 : BitVec 32 := Scf.iv v41 c1_i32_24 k0_t2
  let v518 : BitVec 32 := Scalar.muli c2_i32_294 arg12
  let c1_i32_295 : BitVec 32 := 1#32
  let v519 : BitVec 32 := Scalar.addi v518 c1_i32_295
  let v638 : BitVec 32 := Scalar.muli c2_i32_367 v519
  let c1_i32_368 : BitVec 32 := 1#32
  let v639 : BitVec 32 := Scalar.addi v638 c1_i32_368
  let c512_i32_369 : BitVec 32 := 512#32
  let v640 : BitVec 32 := Scalar.muli v639 c512_i32_369
  v640
def k0_off15 (i : grid0.Coords) (k0_t2 : Fin (k0_t2_loop i).trips) : Fin 3 → Nat :=
  let c0_374 : Index := 0#32
  let c2_i32_367 : BitVec 32 := 2#32
  let c2_i32_294 : BitVec 32 := 2#32
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg12 : BitVec 32 := Scf.iv v41 c1_i32_24 k0_t2
  let v518 : BitVec 32 := Scalar.muli c2_i32_294 arg12
  let c1_i32_295 : BitVec 32 := 1#32
  let v519 : BitVec 32 := Scalar.addi v518 c1_i32_295
  let v638 : BitVec 32 := Scalar.muli c2_i32_367 v519
  let c1_i32_368 : BitVec 32 := 1#32
  let v639 : BitVec 32 := Scalar.addi v638 c1_i32_368
  let c512_i32_369 : BitVec 32 := 512#32
  let v640 : BitVec 32 := Scalar.muli v639 c512_i32_369
  let v641 : BitVec 32 := v640
  let c512_i32_370 : BitVec 32 := 512#32
  let v642 : BitVec 32 := Scalar.addi v641 c512_i32_370
  let v645 : Index := Scalar.indexCast v642
  let c0_375 : Index := 0#32
  ![0, v645.toNat, 0]
def k0_off16 (i : grid0.Coords) (k0_t2 : Fin (k0_t2_loop i).trips) : Fin 2 → Nat :=
  let c2_i32_367 : BitVec 32 := 2#32
  let c2_i32_294 : BitVec 32 := 2#32
  let c0_i32_21 : BitVec 32 := 0#32
  let arg1 : BitVec 32 := BitVec.ofNat 32 (i 1).val
  let c1_i32 : BitVec 32 := 1#32
  let v19 : BitVec 32 := Scalar.muli arg1 c1_i32
  let c0_i32_14 : BitVec 32 := 0#32
  let v21 : BitVec 1 := Scalar.cmpi .sgt v19 c0_i32_14
  let v22 : BitVec 32 := Scalar.extui v21
  let c0_i32_15 : BitVec 32 := 0#32
  let v23 : BitVec 1 := Scalar.cmpi .slt v19 c0_i32_15
  let v24 : BitVec 32 := Scalar.extui v23
  let v25 : BitVec 32 := Scalar.subi v22 v24
  let c2_i32 : BitVec 32 := 2#32
  let c0_i32_16 : BitVec 32 := 0#32
  let v26 : BitVec 1 := Scalar.cmpi .sgt c2_i32 c0_i32_16
  let v27 : BitVec 32 := Scalar.extui v26
  let c0_i32_17 : BitVec 32 := 0#32
  let v28 : BitVec 1 := Scalar.cmpi .slt c2_i32 c0_i32_17
  let v29 : BitVec 32 := Scalar.extui v28
  let v30 : BitVec 32 := Scalar.subi v27 v29
  let v31 : BitVec 1 := Scalar.cmpi .ne v25 v30
  let v32 : BitVec 32 := Scalar.remsi v19 c2_i32
  let c0_i32_18 : BitVec 32 := 0#32
  let v33 : BitVec 1 := Scalar.cmpi .ne v32 c0_i32_18
  let v34 : BitVec 1 := Scalar.andi v31 v33
  let v20 : BitVec 32 := Scalar.divsi v19 c2_i32
  let c1_i32_19 : BitVec 32 := 1#32
  let v35 : BitVec 32 := Scalar.subi v20 c1_i32_19
  let v36 : BitVec 32 := Scalar.select v34 v35 v20
  let v37 : BitVec 32 := Scalar.subi v36 c0_i32_21
  let c1_i32_22 : BitVec 32 := 1#32
  let v39 : BitVec 32 := Scalar.divsi v37 c1_i32_22
  let v40 : BitVec 32 := Scalar.muli v39 c1_i32_22
  let v41 : BitVec 32 := Scalar.addi c0_i32_21 v40
  let c1_i32_24 : BitVec 32 := 1#32
  let arg12 : BitVec 32 := Scf.iv v41 c1_i32_24 k0_t2
  let v518 : BitVec 32 := Scalar.muli c2_i32_294 arg12
  let c1_i32_295 : BitVec 32 := 1#32
  let v519 : BitVec 32 := Scalar.addi v518 c1_i32_295
  let v638 : BitVec 32 := Scalar.muli c2_i32_367 v519
  let c1_i32_368 : BitVec 32 := 1#32
  let v639 : BitVec 32 := Scalar.addi v638 c1_i32_368
  let c512_i32_369 : BitVec 32 := 512#32
  let v640 : BitVec 32 := Scalar.muli v639 c512_i32_369
  let v641 : BitVec 32 := v640
  let v652 : Index := Scalar.indexCast v641
  let c0_379 : Index := 0#32
  ![v652.toNat, 0]
def k0_cond2 (i : grid0.Coords) : BitVec 1 :=
  let arg1 : BitVec 32 := BitVec.ofNat 32 (i 1).val
  let c1_i32 : BitVec 32 := 1#32
  let v19 : BitVec 32 := Scalar.muli arg1 c1_i32
  let c2_i32_25 : BitVec 32 := 2#32
  let c0_i32_26 : BitVec 32 := 0#32
  let v42 : BitVec 1 := Scalar.cmpi .eq c2_i32_25 c0_i32_26
  let c1_i32_27 : BitVec 32 := 1#32
  let v43 : BitVec 32 := Scalar.select v42 c1_i32_27 c2_i32_25
  let v44 : BitVec 32 := Scalar.remsi v19 v43
  let c0_i32_29 : BitVec 32 := 0#32
  let v46 : BitVec 1 := Scalar.cmpi .slt v44 c0_i32_29
  let c0_i32_30 : BitVec 32 := 0#32
  let v47 : BitVec 1 := Scalar.cmpi .slt v43 c0_i32_30
  let v48 : BitVec 1 := Scalar.xori v46 v47
  let c0_i32_28 : BitVec 32 := 0#32
  let v45 : BitVec 1 := Scalar.cmpi .ne v44 c0_i32_28
  let v49 : BitVec 1 := Scalar.andi v48 v45
  let v50 : BitVec 32 := Scalar.addi v44 v43
  let v51 : BitVec 32 := Scalar.select v49 v50 v44
  let c1_i32_31 : BitVec 32 := 1#32
  let v52 : BitVec 1 := Scalar.cmpi .eq v51 c1_i32_31
  let v53 : BitVec 32 := Scalar.extui v52
  let c0_i32_32 : BitVec 32 := 0#32
  let v54 : BitVec 1 := Scalar.cmpi .ne v53 c0_i32_32
  v54

def k0_mult9 (i : grid0.Coords) : BitVec 32 :=
  let c2_i32_151 : BitVec 32 := 2#32
  let arg1 : BitVec 32 := BitVec.ofNat 32 (i 1).val
  let c1_i32 : BitVec 32 := 1#32
  let v19 : BitVec 32 := Scalar.muli arg1 c1_i32
  let c1_i32_150 : BitVec 32 := 1#32
  let v280 : BitVec 32 := Scalar.subi v19 c1_i32_150
  let v281 : BitVec 32 := Scalar.muli c2_i32_151 v280
  let c512_i32_152 : BitVec 32 := 512#32
  let v282 : BitVec 32 := Scalar.muli v281 c512_i32_152
  v282
def k0_off17 (i : grid0.Coords) : Fin 3 → Nat :=
  let c0_157 : Index := 0#32
  let c2_i32_151 : BitVec 32 := 2#32
  let arg1 : BitVec 32 := BitVec.ofNat 32 (i 1).val
  let c1_i32 : BitVec 32 := 1#32
  let v19 : BitVec 32 := Scalar.muli arg1 c1_i32
  let c1_i32_150 : BitVec 32 := 1#32
  let v280 : BitVec 32 := Scalar.subi v19 c1_i32_150
  let v281 : BitVec 32 := Scalar.muli c2_i32_151 v280
  let c512_i32_152 : BitVec 32 := 512#32
  let v282 : BitVec 32 := Scalar.muli v281 c512_i32_152
  let v283 : BitVec 32 := v282
  let c512_i32_153 : BitVec 32 := 512#32
  let v284 : BitVec 32 := Scalar.addi v283 c512_i32_153
  let v287 : Index := Scalar.indexCast v284
  let c0_158 : Index := 0#32
  ![0, v287.toNat, 0]
def k0_off18 (i : grid0.Coords) : Fin 2 → Nat :=
  let c2_i32_151 : BitVec 32 := 2#32
  let arg1 : BitVec 32 := BitVec.ofNat 32 (i 1).val
  let c1_i32 : BitVec 32 := 1#32
  let v19 : BitVec 32 := Scalar.muli arg1 c1_i32
  let c1_i32_150 : BitVec 32 := 1#32
  let v280 : BitVec 32 := Scalar.subi v19 c1_i32_150
  let v281 : BitVec 32 := Scalar.muli c2_i32_151 v280
  let c512_i32_152 : BitVec 32 := 512#32
  let v282 : BitVec 32 := Scalar.muli v281 c512_i32_152
  let v283 : BitVec 32 := v282
  let v294 : Index := Scalar.indexCast v283
  let c0_162 : Index := 0#32
  ![v294.toNat, 0]
def k0_mult10 (i : grid0.Coords) : BitVec 32 :=
  let c2_i32_222 : BitVec 32 := 2#32
  let arg1 : BitVec 32 := BitVec.ofNat 32 (i 1).val
  let c1_i32 : BitVec 32 := 1#32
  let v19 : BitVec 32 := Scalar.muli arg1 c1_i32
  let c1_i32_150 : BitVec 32 := 1#32
  let v280 : BitVec 32 := Scalar.subi v19 c1_i32_150
  let v399 : BitVec 32 := Scalar.muli c2_i32_222 v280
  let c1_i32_223 : BitVec 32 := 1#32
  let v400 : BitVec 32 := Scalar.addi v399 c1_i32_223
  let c512_i32_224 : BitVec 32 := 512#32
  let v401 : BitVec 32 := Scalar.muli v400 c512_i32_224
  v401
def k0_off19 (i : grid0.Coords) : Fin 3 → Nat :=
  let c0_229 : Index := 0#32
  let c2_i32_222 : BitVec 32 := 2#32
  let arg1 : BitVec 32 := BitVec.ofNat 32 (i 1).val
  let c1_i32 : BitVec 32 := 1#32
  let v19 : BitVec 32 := Scalar.muli arg1 c1_i32
  let c1_i32_150 : BitVec 32 := 1#32
  let v280 : BitVec 32 := Scalar.subi v19 c1_i32_150
  let v399 : BitVec 32 := Scalar.muli c2_i32_222 v280
  let c1_i32_223 : BitVec 32 := 1#32
  let v400 : BitVec 32 := Scalar.addi v399 c1_i32_223
  let c512_i32_224 : BitVec 32 := 512#32
  let v401 : BitVec 32 := Scalar.muli v400 c512_i32_224
  let v402 : BitVec 32 := v401
  let c512_i32_225 : BitVec 32 := 512#32
  let v403 : BitVec 32 := Scalar.addi v402 c512_i32_225
  let v406 : Index := Scalar.indexCast v403
  let c0_230 : Index := 0#32
  ![0, v406.toNat, 0]
def k0_off20 (i : grid0.Coords) : Fin 2 → Nat :=
  let c2_i32_222 : BitVec 32 := 2#32
  let arg1 : BitVec 32 := BitVec.ofNat 32 (i 1).val
  let c1_i32 : BitVec 32 := 1#32
  let v19 : BitVec 32 := Scalar.muli arg1 c1_i32
  let c1_i32_150 : BitVec 32 := 1#32
  let v280 : BitVec 32 := Scalar.subi v19 c1_i32_150
  let v399 : BitVec 32 := Scalar.muli c2_i32_222 v280
  let c1_i32_223 : BitVec 32 := 1#32
  let v400 : BitVec 32 := Scalar.addi v399 c1_i32_223
  let c512_i32_224 : BitVec 32 := 512#32
  let v401 : BitVec 32 := Scalar.muli v400 c512_i32_224
  let v402 : BitVec 32 := v401
  let v413 : Index := Scalar.indexCast v402
  let c0_234 : Index := 0#32
  ![v413.toNat, 0]
def k0_mult11 (i : grid0.Coords) : BitVec 32 :=
  let arg1 : BitVec 32 := BitVec.ofNat 32 (i 1).val
  let c1024_i32 : BitVec 32 := 1024#32
  let v55 : BitVec 32 := Scalar.muli arg1 c1024_i32
  let c0_i32_33 : BitVec 32 := 0#32
  let v56 : BitVec 32 := Scalar.addi v55 c0_i32_33
  v56
def k0_off21 (i : grid0.Coords) : Fin 3 → Nat :=
  let c0_36 : Index := 0#32
  let arg1 : BitVec 32 := BitVec.ofNat 32 (i 1).val
  let c1024_i32 : BitVec 32 := 1024#32
  let v55 : BitVec 32 := Scalar.muli arg1 c1024_i32
  let c0_i32_33 : BitVec 32 := 0#32
  let v56 : BitVec 32 := Scalar.addi v55 c0_i32_33
  let v57 : BitVec 32 := v56
  let c512_i32 : BitVec 32 := 512#32
  let v58 : BitVec 32 := Scalar.addi v57 c512_i32
  let v61 : Index := Scalar.indexCast v58
  let c0_37 : Index := 0#32
  ![0, v61.toNat, 0]
def k0_off22 (i : grid0.Coords) (c0_i32_33 : BitVec 32) : Fin 2 → Nat :=
  let arg1 : BitVec 32 := BitVec.ofNat 32 (i 1).val
  let c1024_i32 : BitVec 32 := 1024#32
  let v55 : BitVec 32 := Scalar.muli arg1 c1024_i32
  let v56 : BitVec 32 := Scalar.addi v55 c0_i32_33
  let v57 : BitVec 32 := v56
  let v68 : Index := Scalar.indexCast v57
  let c0_41 : Index := 0#32
  ![v68.toNat, 0]
def k0_mult12 (i : grid0.Coords) : BitVec 32 :=
  let arg1 : BitVec 32 := BitVec.ofNat 32 (i 1).val
  let c1024_i32_105 : BitVec 32 := 1024#32
  let v201 : BitVec 32 := Scalar.muli arg1 c1024_i32_105
  let c512_i32_106 : BitVec 32 := 512#32
  let v202 : BitVec 32 := Scalar.addi v201 c512_i32_106
  v202
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x8192x192 : Shape := ⟨3, ![16, 8192, 192]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S8192x16x128 : Shape := ⟨3, ![8192, 16, 128]⟩
abbrev S8192x2048 : Shape := ⟨2, ![8192, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16x8192x192, .f32⟩
  | .hbm, ⟨1, _⟩ => ⟨S16x8192x192, .f32⟩
  | .hbm, ⟨2, _⟩ => ⟨S16x8192x128, .f32⟩
  | .hbm, ⟨3, _⟩ => ⟨S16x8192x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x8192x8192, .f32⟩
  | .hbm, ⟨9, _⟩ => ⟨S16x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S16x8192x8192, .i1⟩
  | .hbm, ⟨19, _⟩ => ⟨S16x8192x8192, .f32⟩
  | .hbm, ⟨20, _⟩ => ⟨S16x8192x8192, .f32⟩
  | .hbm, ⟨21, _⟩ => ⟨S_, .f32⟩
  | .hbm, ⟨22, _⟩ => ⟨S16x8192, .f32⟩
  | .hbm, ⟨23, _⟩ => ⟨S_, .f32⟩
  | .hbm, ⟨24, _⟩ => ⟨S16x8192, .f32⟩
  | .hbm, ⟨25, _⟩ => ⟨S16x8192, .f32⟩
  | .hbm, ⟨26, _⟩ => ⟨S16x8192x1, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S16x8192x8192, .f32⟩
  | .hbm, ⟨34, _⟩ => ⟨S16x8192x8192, .f32⟩
  | .hbm, ⟨35, _⟩ => ⟨S16x8192x128, .f32⟩
  | .hbm, ⟨36, _⟩ => ⟨S8192x16x128, .f32⟩
  | .hbm, ⟨37, _⟩ => ⟨S8192x2048, .f32⟩
  | .hbm, ⟨38, _⟩ => ⟨S8192x2048, .bf16⟩
  | _, _ => ⟨S16x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel2.lean ====
abbrev S8192x2048 : Shape := ⟨2, ![8192, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S4x1x2048 : Shape := ⟨3, ![4, 1, 2048]⟩
abbrev S1024x2048 : Shape := ⟨2, ![1024, 2048]⟩
abbrev S1x1x2048 : Shape := ⟨3, ![1, 1, 2048]⟩
abbrev S2x2048x256 : Shape := ⟨3, ![2, 2048, 256]⟩
abbrev S2x256x2048 : Shape := ⟨3, ![2, 256, 2048]⟩
abbrev S3x2 : Shape := ⟨2, ![3, 2]⟩
abbrev S1x1 : Shape := ⟨2, ![1, 1]⟩
abbrev S_ : Shape := ⟨0, ![]⟩
abbrev S1x2048x256 : Shape := ⟨3, ![1, 2048, 256]⟩
abbrev S2048x256 : Shape := ⟨2, ![2048, 256]⟩
abbrev S1x256x2048 : Shape := ⟨3, ![1, 256, 2048]⟩
abbrev S256x2048 : Shape := ⟨2, ![256, 2048]⟩
abbrev S1x2048 : Shape := ⟨2, ![1, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S4x1x2048, .f32⟩
  | .hbm, ⟨5, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .bf16⟩
  | .local _ .vmem, ⟨6, _⟩ => ⟨S2x2048x256, .f32⟩
  | .local _ .vmem, ⟨7, _⟩ => ⟨S2x2048x256, .f32⟩
  | .local _ .vmem, ⟨8, _⟩ => ⟨S2x256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_67 : BitVec 32 := 0#32
  let c10_i32 : BitVec 32 := 10#32
  let v78 : BitVec 32 := Scalar.addi c0_i32_67 c10_i32
  let c1_i32_68 : BitVec 32 := 1#32
  ⟨c0_i32_67, v78, c1_i32_68⟩
def k0_off1 (k0_t1 : Fin k0_t1_loop.trips) (c1_i32_114 : BitVec 32) : Fin 3 → Nat :=
  let c0_i32_117 : BitVec 32 := 0#32
  let c0_i32_123 : BitVec 32 := 0#32
  let c1_i32_113 : BitVec 32 := 1#32
  let c2_i32_112 : BitVec 32 := 2#32
  let c0_i32_67 : BitVec 32 := 0#32
  let c1_i32_68 : BitVec 32 := 1#32
  let arg11 : BitVec 32 := Scf.iv c0_i32_67 c1_i32_68 k0_t1
  let v124 : BitVec 32 := Scalar.muli c2_i32_112 arg11
  let v125 : BitVec 32 := Scalar.addi c1_i32_113 v124
  let v126 : BitVec 32 := Scalar.addi v125 c1_i32_114
  let c256_i32_115 : BitVec 32 := 256#32
  let v127 : BitVec 32 := Scalar.muli v126 c256_i32_115
  ![0, 0, v127.toNat]
def k0_off2 (k0_t1 : Fin k0_t1_loop.trips) (c1_i32_114 : BitVec 32) : Fin 3 → Nat :=
  let c0_i32_124 : BitVec 32 := 0#32
  let c0_i32_130 : BitVec 32 := 0#32
  let c5632_i32_116 : BitVec 32 := 5632#32
  let c1_i32_113 : BitVec 32 := 1#32
  let c2_i32_112 : BitVec 32 := 2#32
  let c0_i32_67 : BitVec 32 := 0#32
  let c1_i32_68 : BitVec 32 := 1#32
  let arg11 : BitVec 32 := Scf.iv c0_i32_67 c1_i32_68 k0_t1
  let v124 : BitVec 32 := Scalar.muli c2_i32_112 arg11
  let v125 : BitVec 32 := Scalar.addi c1_i32_113 v124
  let v126 : BitVec 32 := Scalar.addi v125 c1_i32_114
  let c256_i32_115 : BitVec 32 := 256#32
  let v127 : BitVec 32 := Scalar.muli v126 c256_i32_115
  let v128 : BitVec 32 := Scalar.addi c5632_i32_116 v127
  ![0, 0, v128.toNat]
def k0_off3 (k0_t1 : Fin k0_t1_loop.trips) (c1_i32_114 : BitVec 32) : Fin 3 → Nat :=
  let c0_i32_131 : BitVec 32 := 0#32
  let c1_i32_113 : BitVec 32 := 1#32
  let c2_i32_112 : BitVec 32 := 2#32
  let c0_i32_67 : BitVec 32 := 0#32
  let c1_i32_68 : BitVec 32 := 1#32
  let arg11 : BitVec 32 := Scf.iv c0_i32_67 c1_i32_68 k0_t1
  let v124 : BitVec 32 := Scalar.muli c2_i32_112 arg11
  let v125 : BitVec 32 := Scalar.addi c1_i32_113 v124
  let v126 : BitVec 32 := Scalar.addi v125 c1_i32_114
  let c256_i32_115 : BitVec 32 := 256#32
  let v127 : BitVec 32 := Scalar.muli v126 c256_i32_115
  let c0_i32_137 : BitVec 32 := 0#32
  ![0, v127.toNat, 0]
def k0_off4 (k0_t1 : Fin k0_t1_loop.trips) : Fin 3 → Nat :=
  let c0_i32_140 : BitVec 32 := 0#32
  let c0_i32_146 : BitVec 32 := 0#32
  let c1_i32_113 : BitVec 32 := 1#32
  let c2_i32_112 : BitVec 32 := 2#32
  let c0_i32_67 : BitVec 32 := 0#32
  let c1_i32_68 : BitVec 32 := 1#32
  let arg11 : BitVec 32 := Scf.iv c0_i32_67 c1_i32_68 k0_t1
  let v124 : BitVec 32 := Scalar.muli c2_i32_112 arg11
  let v125 : BitVec 32 := Scalar.addi c1_i32_113 v124
  let c256_i32_138 : BitVec 32 := 256#32
  let v147 : BitVec 32 := Scalar.muli v125 c256_i32_138
  ![0, 0, v147.toNat]
def k0_off5 (k0_t1 : Fin k0_t1_loop.trips) : Fin 3 → Nat :=
  let c0_i32_147 : BitVec 32 := 0#32
  let c0_i32_153 : BitVec 32 := 0#32
  let c5632_i32_139 : BitVec 32 := 5632#32
  let c1_i32_113 : BitVec 32 := 1#32
  let c2_i32_112 : BitVec 32 := 2#32
  let c0_i32_67 : BitVec 32 := 0#32
  let c1_i32_68 : BitVec 32 := 1#32
  let arg11 : BitVec 32 := Scf.iv c0_i32_67 c1_i32_68 k0_t1
  let v124 : BitVec 32 := Scalar.muli c2_i32_112 arg11
  let v125 : BitVec 32 := Scalar.addi c1_i32_113 v124
  let c256_i32_138 : BitVec 32 := 256#32
  let v147 : BitVec 32 := Scalar.muli v125 c256_i32_138
  let v148 : BitVec 32 := Scalar.addi c5632_i32_139 v147
  ![0, 0, v148.toNat]
def k0_off6 (k0_t1 : Fin k0_t1_loop.trips) : Fin 3 → Nat :=
  let c0_i32_154 : BitVec 32 := 0#32
  let c1_i32_113 : BitVec 32 := 1#32
  let c2_i32_112 : BitVec 32 := 2#32
  let c0_i32_67 : BitVec 32 := 0#32
  let c1_i32_68 : BitVec 32 := 1#32
  let arg11 : BitVec 32 := Scf.iv c0_i32_67 c1_i32_68 k0_t1
  let v124 : BitVec 32 := Scalar.muli c2_i32_112 arg11
  let v125 : BitVec 32 := Scalar.addi c1_i32_113 v124
  let c256_i32_138 : BitVec 32 := 256#32
  let v147 : BitVec 32 := Scalar.muli v125 c256_i32_138
  let c0_i32_160 : BitVec 32 := 0#32
  ![0, v147.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S8192x2048 : Shape := ⟨2, ![8192, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x11264, .f32⟩
  | .hbm, ⟨23, _⟩ => ⟨S2048x11264, .f32⟩
  | .hbm, ⟨24, _⟩ => ⟨S8192x11264, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S1x5632x2048, .f32⟩
  | .hbm, ⟨38, _⟩ => ⟨S5632x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel3.lean ====
abbrev S8192x2048 : Shape := ⟨2, ![8192, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S4x1x2048 : Shape := ⟨3, ![4, 1, 2048]⟩
abbrev S1x2048 : Shape := ⟨2, ![1, 2048]⟩
abbrev S1024x2048 : Shape := ⟨2, ![1024, 2048]⟩
abbrev S1x1x2048 : Shape := ⟨3, ![1, 1, 2048]⟩
abbrev S2x2048x256 : Shape := ⟨3, ![2, 2048, 256]⟩
abbrev S2x256x2048 : Shape := ⟨3, ![2, 256, 2048]⟩
abbrev S3x2 : Shape := ⟨2, ![3, 2]⟩
abbrev S1x1 : Shape := ⟨2, ![1, 1]⟩
abbrev S_ : Shape := ⟨0, ![]⟩
abbrev S1x2048x256 : Shape := ⟨3, ![1, 2048, 256]⟩
abbrev S2048x256 : Shape := ⟨2, ![2048, 256]⟩
abbrev S1x256x2048 : Shape := ⟨3, ![1, 256, 2048]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S4x1x2048, .f32⟩
  | .hbm, ⟨6, _⟩ => ⟨S1x2048, .f32⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S2x2048x256, .f32⟩
  | .local _ .vmem, ⟨8, _⟩ => ⟨S2x2048x256, .f32⟩
  | .local _ .vmem, ⟨9, _⟩ => ⟨S2x256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_66 : BitVec 32 := 0#32
  let c10_i32 : BitVec 32 := 10#32
  let v78 : BitVec 32 := Scalar.addi c0_i32_66 c10_i32
  let c1_i32_67 : BitVec 32 := 1#32
  ⟨c0_i32_66, v78, c1_i32_67⟩
def k0_off1 (k0_t1 : Fin k0_t1_loop.trips) (c1_i32_122 : BitVec 32) : Fin 3 → Nat :=
  let c3_i32_125 : BitVec 32 := 3#32
  let c0_i32_131 : BitVec 32 := 0#32
  let c1_i32_121 : BitVec 32 := 1#32
  let c2_i32_120 : BitVec 32 := 2#32
  let c0_i32_66 : BitVec 32 := 0#32
  let c1_i32_67 : BitVec 32 := 1#32
  let arg12 : BitVec 32 := Scf.iv c0_i32_66 c1_i32_67 k0_t1
  let v141 : BitVec 32 := Scalar.muli c2_i32_120 arg12
  let v142 : BitVec 32 := Scalar.addi c1_i32_121 v141
  let v143 : BitVec 32 := Scalar.addi v142 c1_i32_122
  let c256_i32_123 : BitVec 32 := 256#32
  let v144 : BitVec 32 := Scalar.muli v143 c256_i32_123
  ![3, 0, v144.toNat]
def k0_off2 (k0_t1 : Fin k0_t1_loop.trips) (c1_i32_122 : BitVec 32) : Fin 3 → Nat :=
  let c3_i32_132 : BitVec 32 := 3#32
  let c0_i32_138 : BitVec 32 := 0#32
  let c5632_i32_124 : BitVec 32 := 5632#32
  let c1_i32_121 : BitVec 32 := 1#32
  let c2_i32_120 : BitVec 32 := 2#32
  let c0_i32_66 : BitVec 32 := 0#32
  let c1_i32_67 : BitVec 32 := 1#32
  let arg12 : BitVec 32 := Scf.iv c0_i32_66 c1_i32_67 k0_t1
  let v141 : BitVec 32 := Scalar.muli c2_i32_120 arg12
  let v142 : BitVec 32 := Scalar.addi c1_i32_121 v141
  let v143 : BitVec 32 := Scalar.addi v142 c1_i32_122
  let c256_i32_123 : BitVec 32 := 256#32
  let v144 : BitVec 32 := Scalar.muli v143 c256_i32_123
  let v145 : BitVec 32 := Scalar.addi c5632_i32_124 v144
  ![3, 0, v145.toNat]
def k0_off3 (k0_t1 : Fin k0_t1_loop.trips) (c1_i32_122 : BitVec 32) : Fin 3 → Nat :=
  let c3_i32_139 : BitVec 32 := 3#32
  let c1_i32_121 : BitVec 32 := 1#32
  let c2_i32_120 : BitVec 32 := 2#32
  let c0_i32_66 : BitVec 32 := 0#32
  let c1_i32_67 : BitVec 32 := 1#32
  let arg12 : BitVec 32 := Scf.iv c0_i32_66 c1_i32_67 k0_t1
  let v141 : BitVec 32 := Scalar.muli c2_i32_120 arg12
  let v142 : BitVec 32 := Scalar.addi c1_i32_121 v141
  let v143 : BitVec 32 := Scalar.addi v142 c1_i32_122
  let c256_i32_123 : BitVec 32 := 256#32
  let v144 : BitVec 32 := Scalar.muli v143 c256_i32_123
  let c0_i32_145 : BitVec 32 := 0#32
  ![3, v144.toNat, 0]
def k0_off4 (k0_t1 : Fin k0_t1_loop.trips) : Fin 3 → Nat :=
  let c3_i32_148 : BitVec 32 := 3#32
  let c0_i32_154 : BitVec 32 := 0#32
  let c1_i32_121 : BitVec 32 := 1#32
  let c2_i32_120 : BitVec 32 := 2#32
  let c0_i32_66 : BitVec 32 := 0#32
  let c1_i32_67 : BitVec 32 := 1#32
  let arg12 : BitVec 32 := Scf.iv c0_i32_66 c1_i32_67 k0_t1
  let v141 : BitVec 32 := Scalar.muli c2_i32_120 arg12
  let v142 : BitVec 32 := Scalar.addi c1_i32_121 v141
  let c256_i32_146 : BitVec 32 := 256#32
  let v164 : BitVec 32 := Scalar.muli v142 c256_i32_146
  ![3, 0, v164.toNat]
def k0_off5 (k0_t1 : Fin k0_t1_loop.trips) : Fin 3 → Nat :=
  let c3_i32_155 : BitVec 32 := 3#32
  let c0_i32_161 : BitVec 32 := 0#32
  let c5632_i32_147 : BitVec 32 := 5632#32
  let c1_i32_121 : BitVec 32 := 1#32
  let c2_i32_120 : BitVec 32 := 2#32
  let c0_i32_66 : BitVec 32 := 0#32
  let c1_i32_67 : BitVec 32 := 1#32
  let arg12 : BitVec 32 := Scf.iv c0_i32_66 c1_i32_67 k0_t1
  let v141 : BitVec 32 := Scalar.muli c2_i32_120 arg12
  let v142 : BitVec 32 := Scalar.addi c1_i32_121 v141
  let c256_i32_146 : BitVec 32 := 256#32
  let v164 : BitVec 32 := Scalar.muli v142 c256_i32_146
  let v165 : BitVec 32 := Scalar.addi c5632_i32_147 v164
  ![3, 0, v165.toNat]
def k0_off6 (k0_t1 : Fin k0_t1_loop.trips) : Fin 3 → Nat :=
  let c3_i32_162 : BitVec 32 := 3#32
  let c1_i32_121 : BitVec 32 := 1#32
  let c2_i32_120 : BitVec 32 := 2#32
  let c0_i32_66 : BitVec 32 := 0#32
  let c1_i32_67 : BitVec 32 := 1#32
  let arg12 : BitVec 32 := Scf.iv c0_i32_66 c1_i32_67 k0_t1
  let v141 : BitVec 32 := Scalar.muli c2_i32_120 arg12
  let v142 : BitVec 32 := Scalar.addi c1_i32_121 v141
  let c256_i32_146 : BitVec 32 := 256#32
  let v164 : BitVec 32 := Scalar.muli v142 c256_i32_146
  let c0_i32_168 : BitVec 32 := 0#32
  ![3, v164.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x2048 : Shape := ⟨2, ![8192, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x11264, .f32⟩
  | .hbm, ⟨24, _⟩ => ⟨S2048x11264, .f32⟩
  | .hbm, ⟨25, _⟩ => ⟨S8192x11264, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S1x5632x2048, .f32⟩
  | .hbm, ⟨39, _⟩ => ⟨S5632x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel4.lean ====
abbrev S8192x2048 : Shape := ⟨2, ![8192, 2048]⟩
abbrev S4x2048 : Shape := ⟨2, ![4, 2048]⟩
abbrev S2x2048x6144 : Shape := ⟨3, ![2, 2048, 6144]⟩
abbrev S4x1x2048 : Shape := ⟨3, ![4, 1, 2048]⟩
abbrev S48x8192x128 : Shape := ⟨3, ![48, 8192, 128]⟩
abbrev S1024x2048 : Shape := ⟨2, ![1024, 2048]⟩
abbrev S1x1x2048 : Shape := ⟨3, ![1, 1, 2048]⟩
abbrev S1x2048x1024 : Shape := ⟨3, ![1, 2048, 1024]⟩
abbrev S8x1024x128 : Shape := ⟨3, ![8, 1024, 128]⟩
abbrev S1x2048 : Shape := ⟨2, ![1, 2048]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x6144, .f32⟩
  | .hbm, ⟨3, _⟩ => ⟨S4x1x2048, .f32⟩
  | .hbm, ⟨4, _⟩ => ⟨S48x8192x128, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S8x1024x128, .bf16⟩
  | .local _ .vmem, ⟨6, _⟩ => ⟨S8x1024x128, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
variable {F : FTy → Type} [FloatOps F] [Named F]
def κ : String → Option EReal := fun
  | "q_scale" => some ((((Real.log 2) * (Real.sqrt 128))⁻¹ : ℝ) : EReal)
  | _ => none
-- ==== Reference4Ideal.lean ====
abbrev S8192x2048 : Shape := ⟨2, ![8192, 2048]⟩
abbrev S4x2048 : Shape := ⟨2, ![4, 2048]⟩
abbrev S2x2048x6144 : Shape := ⟨3, ![2, 2048, 6144]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x6144 : Shape := ⟨3, ![1, 2048, 6144]⟩
abbrev S2048x6144 : Shape := ⟨2, ![2048, 6144]⟩
abbrev S8192x6144 : Shape := ⟨2, ![8192, 6144]⟩
abbrev S8192x16x128 : Shape := ⟨3, ![8192, 16, 128]⟩
abbrev S16x8192x128 : Shape := ⟨3, ![16, 8192, 128]⟩
abbrev S48x8192x128 : Shape := ⟨3, ![48, 8192, 128]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x6144, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x6144, .f32⟩
  | .hbm, ⟨22, _⟩ => ⟨S2048x6144, .f32⟩
  | .hbm, ⟨23, _⟩ => ⟨S8192x6144, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x16x128, .f32⟩
  | .hbm, ⟨37, _⟩ => ⟨S16x8192x128, .f32⟩
  | .hbm, ⟨38, _⟩ => ⟨S8192x16x128, .f32⟩
  | .hbm, ⟨39, _⟩ => ⟨S16x8192x128, .f32⟩
  | .hbm, ⟨40, _⟩ => ⟨S8192x16x128, .f32⟩
  | .hbm, ⟨41, _⟩ => ⟨S16x8192x128, .f32⟩
  | .hbm, ⟨42, _⟩ => ⟨S48x8192x128, .f32⟩
  | .hbm, ⟨43, _⟩ => ⟨S48x8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel5.lean ====
abbrev S8192x2048 : Shape := ⟨2, ![8192, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x2048, .f32⟩
  | .hbm, ⟨3, _⟩ => ⟨S2x2048x2048, .bf16⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2048 : Shape := ⟨2, ![8192, 2048]⟩
abbrev S4x2048 : Shape := ⟨2, ![4, 2048]⟩
abbrev S2x2048x768 : Shape := ⟨3, ![2, 2048, 768]⟩
abbrev S2x768 : Shape := ⟨2, ![2, 768]⟩
abbrev S2x768x3072 : Shape := ⟨3, ![2, 768, 3072]⟩
abbrev S8192x32 : Shape := ⟨2, ![8192, 32]⟩
abbrev S2x768x16x192 : Shape := ⟨4, ![2, 768, 16, 192]⟩
abbrev S2x768x16x64 : Shape := ⟨4, ![2, 768, 16, 64]⟩
abbrev S2x768x16x32 : Shape := ⟨4, ![2, 768, 16, 32]⟩
abbrev S2x768x16x256 : Shape := ⟨4, ![2, 768, 16, 256]⟩
abbrev S2x768x4096 : Shape := ⟨3, ![2, 768, 4096]⟩
abbrev S8192x128 : Shape := ⟨2, ![8192, 128]⟩
abbrev S4x1x2048 : Shape := ⟨3, ![4, 1, 2048]⟩
abbrev S2x1x768 : Shape := ⟨3, ![2, 1, 768]⟩
abbrev S16x8192x256 : Shape := ⟨3, ![16, 8192, 256]⟩
abbrev S512x2048 : Shape := ⟨2, ![512, 2048]⟩
abbrev S1x1x2048 : Shape := ⟨3, ![1, 1, 2048]⟩
abbrev S1x2048x768 : Shape := ⟨3, ![1, 2048, 768]⟩
abbrev S1x1x768 : Shape := ⟨3, ![1, 1, 768]⟩
abbrev S1x768x4096 : Shape := ⟨3, ![1, 768, 4096]⟩
abbrev S512x128 : Shape := ⟨2, ![512, 128]⟩
abbrev S16x512x256 : Shape := ⟨3, ![16, 512, 256]⟩
abbrev S1x2048 : Shape := ⟨2, ![1, 2048]⟩
abbrev S512 : Shape := ⟨1, ![512]⟩
abbrev S512x1 : Shape := ⟨2, ![512, 1]⟩
abbrev S2048x768 : Shape := ⟨2, ![2048, 768]⟩
abbrev S512x768 : Shape := ⟨2, ![512, 768]⟩
abbrev S1x768 : Shape := ⟨2, ![1, 768]⟩
abbrev S1x768x256 : Shape := ⟨3, ![1, 768, 256]⟩
abbrev S768x256 : Shape := ⟨2, ![768, 256]⟩
abbrev S512x256 : Shape := ⟨2, ![512, 256]⟩
abbrev S1x512x256 : Shape := ⟨3, ![1, 512, 256]⟩

abbrev nBuf : Space → Nat
  | .hbm => 21
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x768, .f32⟩
  | .hbm, ⟨3, _⟩ => ⟨S2x768, .f32⟩
  | .hbm, ⟨4, _⟩ => ⟨S2x768x3072, .f32⟩
  | .hbm, ⟨5, _⟩ => ⟨S8192x32, .f32⟩
  | .hbm, ⟨6, _⟩ => ⟨S8192x32, .f32⟩
  | .hbm, ⟨7, _⟩ => ⟨S2x768x16x192, .f32⟩
  | .hbm, ⟨8, _⟩ => ⟨S2x768x16x64, .f32⟩
  | .hbm, ⟨9, _⟩ => ⟨S2x768x16x32, .f32⟩
  | .hbm, ⟨10, _⟩ => ⟨S2x768x16x32, .f32⟩
  | .hbm, ⟨11, _⟩ => ⟨S2x768x16x32, .f32⟩
  | .hbm, ⟨12, _⟩ => ⟨S2x768x16x64, .f32⟩
  | .hbm, ⟨13, _⟩ => ⟨S2x768x16x256, .f32⟩
  | .hbm, ⟨14, _⟩ => ⟨S2x768x4096, .f32⟩
  | .hbm, ⟨15, _⟩ => ⟨S2x768x4096, .bf16⟩
  | .hbm, ⟨16, _⟩ => ⟨S8192x128, .f32⟩
  | .hbm, ⟨17, _⟩ => ⟨S4x1x2048, .f32⟩
  | .hbm, ⟨18, _⟩ => ⟨S2x2048x768, .bf16⟩
  | .hbm, ⟨19, _⟩ => ⟨S2x1x768, .f32⟩
  | .hbm, ⟨20, _⟩ => ⟨S16x8192x256, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x768, .bf16⟩
  | .local _ .vmem, ⟨4, _⟩ => ⟨S1x1x768, .f32⟩
  | .local _ .vmem, ⟨5, _⟩ => ⟨S1x768x4096, .bf16⟩
  | .local _ .vmem, ⟨6, _⟩ => ⟨S512x128, .f32⟩
  | .local _ .vmem, ⟨7, _⟩ => ⟨S512x128, .f32⟩
  | .local _ .vmem, ⟨8, _⟩ => ⟨S16x512x256, .bf16⟩
  | .local _ .vmem, ⟨9, _⟩ => ⟨S16x512x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel6Ideal.lean ====
variable {F : FTy → Type} [FloatOps F] [Named F]
def κ : String → Option EReal := fun
  | "mla_q_scale" => some ((((Real.log 2) * (Real.sqrt 192))⁻¹ : ℝ) : EReal)
  | _ => none
-- ==== Reference6Ideal.lean ====
abbrev S8192x2048 : Shape := ⟨2, ![8192, 2048]⟩
abbrev S4x2048 : Shape := ⟨2, ![4, 2048]⟩
abbrev S2x2048x768 : Shape := ⟨3, ![2, 2048, 768]⟩
abbrev S2x768 : Shape := ⟨2, ![2, 768]⟩
abbrev S2x768x3072 : Shape := ⟨3, ![2, 768, 3072]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x768 : Shape := ⟨3, ![1, 2048, 768]⟩
abbrev S2048x768 : Shape := ⟨2, ![2048, 768]⟩
abbrev S8192x768 : Shape := ⟨2, ![8192, 768]⟩
abbrev S1x768 : Shape := ⟨2, ![1, 768]⟩
abbrev S768 : Shape := ⟨1, ![768]⟩
abbrev S1x768x3072 : Shape := ⟨3, ![1, 768, 3072]⟩
abbrev S768x3072 : Shape := ⟨2, ![768, 3072]⟩
abbrev S8192x3072 : Shape := ⟨2, ![8192, 3072]⟩
abbrev S8192x16x192 : Shape := ⟨3, ![8192, 16, 192]⟩
abbrev S8192x16x128 : Shape := ⟨3, ![8192, 16, 128]⟩
abbrev S8192x16x32 : Shape := ⟨3, ![8192, 16, 32]⟩
abbrev S8192x1x32 : Shape := ⟨3, ![8192, 1, 32]⟩
abbrev S8192x16x64 : Shape := ⟨3, ![8192, 16, 64]⟩
abbrev S8192x16x256 : Shape := ⟨3, ![8192, 16, 256]⟩
abbrev S16x8192x256 : Shape := ⟨3, ![16, 8192, 256]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x768, .f32⟩
  | .hbm, ⟨3, _⟩ => ⟨S2x768, .f32⟩
  | .hbm, ⟨4, _⟩ => ⟨S2x768x3072, .f32⟩
  | .hbm, ⟨5, _⟩ => ⟨S8192x32, .f32⟩
  | .hbm, ⟨6, _⟩ => ⟨S8192x32, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S1x2048x768, .f32⟩
  | .hbm, ⟨26, _⟩ => ⟨S2048x768, .f32⟩
  | .hbm, ⟨27, _⟩ => ⟨S8192x768, .f32⟩
  | .hbm, ⟨28, _⟩ => ⟨S8192x768, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x768, .f32⟩
  | .hbm, ⟨40, _⟩ => ⟨S8192x768, .f32⟩
  | .hbm, ⟨41, _⟩ => ⟨S1x768, .f32⟩
  | .hbm, ⟨42, _⟩ => ⟨S768, .f32⟩
  | .hbm, ⟨43, _⟩ => ⟨S1x768, .f32⟩
  | .hbm, ⟨44, _⟩ => ⟨S8192x768, .f32⟩
  | .hbm, ⟨45, _⟩ => ⟨S8192x768, .f32⟩
  | .hbm, ⟨46, _⟩ => ⟨S1x768x3072, .f32⟩
  | .hbm, ⟨47, _⟩ => ⟨S768x3072, .f32⟩
  | .hbm, ⟨48, _⟩ => ⟨S8192x3072, .f32⟩
  | .hbm, ⟨49, _⟩ => ⟨S8192x16x192, .f32⟩
  | .hbm, ⟨50, _⟩ => ⟨S8192x16x128, .f32⟩
  | .hbm, ⟨51, _⟩ => ⟨S8192x16x32, .f32⟩
  | .hbm, ⟨52, _⟩ => ⟨S8192x16x32, .f32⟩
  | .hbm, ⟨53, _⟩ => ⟨S8192x1x32, .f32⟩
  | .hbm, ⟨54, _⟩ => ⟨S8192x1x32, .f32⟩
  | .hbm, ⟨55, _⟩ => ⟨S_, .f32⟩
  | .hbm, ⟨56, _⟩ => ⟨S8192x16x64, .f32⟩
  | .hbm, ⟨57, _⟩ => ⟨S8192x16x32, .f32⟩
  | .hbm, ⟨58, _⟩ => ⟨S8192x16x32, .f32⟩
  | .hbm, ⟨59, _⟩ => ⟨S8192x16x32, .f32⟩
  | .hbm, ⟨60, _⟩ => ⟨S8192x16x32, .f32⟩
  | .hbm, ⟨61, _⟩ => ⟨S8192x16x32, .f32⟩
  | .hbm, ⟨62, _⟩ => ⟨S8192x16x32, .f32⟩
  | .hbm, ⟨63, _⟩ => ⟨S8192x16x32, .f32⟩
  | .hbm, ⟨64, _⟩ => ⟨S8192x16x32, .f32⟩
  | .hbm, ⟨65, _⟩ => ⟨S8192x16x32, .f32⟩
  | .hbm, ⟨66, _⟩ => ⟨S8192x16x32, .f32⟩
  | .hbm, ⟨67, _⟩ => ⟨S8192x16x256, .f32⟩
  | .hbm, ⟨68, _⟩ => ⟨S16x8192x256, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S16x8192x256, .f32⟩
  | .hbm, ⟨77, _⟩ => ⟨S16x8192x256, .f32⟩
  | .hbm, ⟨78, _⟩ => ⟨S16x8192x256, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S2048x576 : Shape := ⟨2, ![2048, 576]⟩
abbrev S512 : Shape := ⟨1, ![512]⟩
abbrev S512x4096 : Shape := ⟨2, ![512, 4096]⟩
abbrev S8192x32 : Shape := ⟨2, ![8192, 32]⟩
abbrev S2048x64 : Shape := ⟨2, ![2048, 64]⟩
abbrev S2048x32 : Shape := ⟨2, ![2048, 32]⟩
abbrev S2048x640 : Shape := ⟨2, ![2048, 640]⟩
abbrev S8192x128 : Shape := ⟨2, ![8192, 128]⟩
abbrev S1x2048 : Shape := ⟨2, ![1, 2048]⟩
abbrev S1x512 : Shape := ⟨2, ![1, 512]⟩
abbrev S16x8192x256 : Shape := ⟨3, ![16, 8192, 256]⟩
abbrev S16x8192x128 : Shape := ⟨3, ![16, 8192, 128]⟩
abbrev S512x2048 : Shape := ⟨2, ![512, 2048]⟩
abbrev S512x128 : Shape := ⟨2, ![512, 128]⟩
abbrev S16x512x256 : Shape := ⟨3, ![16, 512, 256]⟩
abbrev S16x512x128 : Shape := ⟨3, ![16, 512, 128]⟩
abbrev S512x1 : Shape := ⟨2, ![512, 1]⟩
abbrev S512x640 : Shape := ⟨2, ![512, 640]⟩
abbrev S512x512 : Shape := ⟨2, ![512, 512]⟩
abbrev S512x256 : Shape := ⟨2, ![512, 256]⟩
abbrev S1x512x256 : Shape := ⟨3, ![1, 512, 256]⟩
abbrev S1x512x128 : Shape := ⟨3, ![1, 512, 128]⟩

abbrev nBuf : Space → Nat
  | .hbm => 20
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x576, .f32⟩
  | .hbm, ⟨3, _⟩ => ⟨S512, .f32⟩
  | .hbm, ⟨4, _⟩ => ⟨S512x4096, .f32⟩
  | .hbm, ⟨5, _⟩ => ⟨S8192x32, .f32⟩
  | .hbm, ⟨6, _⟩ => ⟨S8192x32, .f32⟩
  | .hbm, ⟨7, _⟩ => ⟨S2048x64, .f32⟩
  | .hbm, ⟨8, _⟩ => ⟨S2048x32, .f32⟩
  | .hbm, ⟨9, _⟩ => ⟨S2048x32, .f32⟩
  | .hbm, ⟨10, _⟩ => ⟨S2048x32, .f32⟩
  | .hbm, ⟨11, _⟩ => ⟨S2048x64, .f32⟩
  | .hbm, ⟨12, _⟩ => ⟨S2048x640, .f32⟩
  | .hbm, ⟨13, _⟩ => ⟨S2048x640, .bf16⟩
  | .hbm, ⟨14, _⟩ => ⟨S8192x128, .f32⟩
  | .hbm, ⟨15, _⟩ => ⟨S1x2048, .f32⟩
  | .hbm, ⟨16, _⟩ => ⟨S1x512, .f32⟩
  | .hbm, ⟨17, _⟩ => ⟨S512x4096, .bf16⟩
  | .hbm, ⟨18, _⟩ => ⟨S16x8192x256, .bf16⟩
  | .hbm, ⟨19, _⟩ => ⟨S16x8192x128, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x640, .bf16⟩
  | .local _ .vmem, ⟨4, _⟩ => ⟨S1x512, .f32⟩
  | .local _ .vmem, ⟨5, _⟩ => ⟨S512x4096, .bf16⟩
  | .local _ .vmem, ⟨6, _⟩ => ⟨S512x128, .f32⟩
  | .local _ .vmem, ⟨7, _⟩ => ⟨S512x128, .f32⟩
  | .local _ .vmem, ⟨8, _⟩ => ⟨S16x512x256, .bf16⟩
  | .local _ .vmem, ⟨9, _⟩ => ⟨S16x512x256, .bf16⟩
  | .local _ .vmem, ⟨10, _⟩ => ⟨S16x512x128, .bf16⟩
  | .local _ .vmem, ⟨11, _⟩ => ⟨S16x512x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8192x2048 : Shape := ⟨2, ![8192, 2048]⟩
abbrev S2048 : Shape := ⟨1, ![2048]⟩
abbrev S2048x576 : Shape := ⟨2, ![2048, 576]⟩
abbrev S512 : Shape := ⟨1, ![512]⟩
abbrev S512x4096 : Shape := ⟨2, ![512, 4096]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x576 : Shape := ⟨2, ![8192, 576]⟩
abbrev S8192x512 : Shape := ⟨2, ![8192, 512]⟩
abbrev S1x512 : Shape := ⟨2, ![1, 512]⟩
abbrev S8192x4096 : Shape := ⟨2, ![8192, 4096]⟩
abbrev S8192x16x256 : Shape := ⟨3, ![8192, 16, 256]⟩
abbrev S16x8192x256 : Shape := ⟨3, ![16, 8192, 256]⟩
abbrev S16x8192x128 : Shape := ⟨3, ![16, 8192, 128]⟩
abbrev S8192x64 : Shape := ⟨2, ![8192, 64]⟩
abbrev S8192x128 : Shape := ⟨2, ![8192, 128]⟩
abbrev S1x8192x128 : Shape := ⟨3, ![1, 8192, 128]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x576, .f32⟩
  | .hbm, ⟨3, _⟩ => ⟨S512, .f32⟩
  | .hbm, ⟨4, _⟩ => ⟨S512x4096, .f32⟩
  | .hbm, ⟨5, _⟩ => ⟨S8192x32, .f32⟩
  | .hbm, ⟨6, _⟩ => ⟨S8192x32, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x576, .f32⟩
  | .hbm, ⟨24, _⟩ => ⟨S8192x512, .f32⟩
  | .hbm, ⟨25, _⟩ => ⟨S8192x32, .f32⟩
  | .hbm, ⟨26, _⟩ => ⟨S8192x32, .f32⟩
  | .hbm, ⟨27, _⟩ => ⟨S8192x512, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x512, .f32⟩
  | .hbm, ⟨39, _⟩ => ⟨S8192x512, .f32⟩
  | .hbm, ⟨40, _⟩ => ⟨S1x512, .f32⟩
  | .hbm, ⟨41, _⟩ => ⟨S8192x512, .f32⟩
  | .hbm, ⟨42, _⟩ => ⟨S8192x512, .f32⟩
  | .hbm, ⟨43, _⟩ => ⟨S8192x4096, .f32⟩
  | .hbm, ⟨44, _⟩ => ⟨S8192x16x256, .f32⟩
  | .hbm, ⟨45, _⟩ => ⟨S16x8192x256, .f32⟩
  | .hbm, ⟨46, _⟩ => ⟨S16x8192x128, .f32⟩
  | .hbm, ⟨47, _⟩ => ⟨S16x8192x128, .f32⟩
  | .hbm, ⟨48, _⟩ => ⟨S_, .f32⟩
  | .hbm, ⟨49, _⟩ => ⟨S8192x64, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x32, .f32⟩
  | .hbm, ⟨55, _⟩ => ⟨S8192x32, .f32⟩
  | .hbm, ⟨56, _⟩ => ⟨S8192x128, .f32⟩
  | .hbm, ⟨57, _⟩ => ⟨S1x8192x128, .f32⟩
  | .hbm, ⟨58, _⟩ => ⟨S16x8192x128, .f32⟩
  | .hbm, ⟨59, _⟩ => ⟨S16x8192x256, .f32⟩
  | .hbm, ⟨60, _⟩ => ⟨S16x8192x256, .bf16⟩
  | .hbm, ⟨61, _⟩ => ⟨S16x8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Proof.Flash.Code.lean ====
/- The attention kernel's body, written as a composition of a few small programs: one row chunk of the running
   softmax, one tile of keys, the pair of tiles of a loop trip. -/
module

public import proofs.«01_k».proof.Proof.Gen.KernelIdeal.Skeleton

@[expose] public section

set_option maxRecDepth 16384

noncomputable section

namespace Cert.KernelIdeal.Flash

open Idealize.ShloMosaic Idealize.SL.Sem
open Cert.KernelIdeal Cert.KernelIdeal.Gen

variable {F : FTy → Type} [FloatOps F]

/-- One chunk of 256 query rows, from row `o` on: the scores `rd`, after `mask`, update the running maxima `mr`, the
    weights `pr` and the accumulator `ar`. -/
def chunk (rd : Memref sig .tc .vmem S1024x512 .f32) (mr : Memref sig .tc .vmem S1024x128 .f32)
    (ar : Memref sig .tc .vmem S1024x256 .f32) (pr : Memref sig .tc .vmem S1024x512 .bf16) (hp : pr.IsWhole) (o : ℕ)
    (hs : ∀ a, (![o, 0] : Fin 2 → ℕ) a + S256x512.size a ≤ S1024x512.size a)
    (hm : ∀ a, (![o, 0] : Fin 2 → ℕ) a + S256x128.size a ≤ S1024x128.size a)
    (ha : ∀ a, (![o, 0] : Fin 2 → ℕ) a + S256x256.size a ≤ S1024x256.size a)
    (hk : (Rect.unit (s := S1024x512) ![o, 0] S256x512.size hs).PackedRows (EltTy.packing .bf16))
    (mask : Vec F S256x512 .f32 → FVec F S256x512 .f32) : Prog (TpuEff nD τ sig (Elt F) Λ₀ .tc) Unit := do
  let s : Vec F S256x512 .f32 ← Prog.lift (.load rd (Rect.unit (s := S1024x512) ![o, 0] S256x512.size hs).toLoadRect (View.loadsAt_vmem h_S256x512))
  let m : Vec F S256x128 .f32 ← Prog.lift (.load mr (Rect.unit (s := S1024x128) ![o, 0] S256x128.size hm).toLoadRect (View.loadsAt_vmem h_S256x128))
  let _ : Vec F S256x128 .f32 ← Prog.lift (.load mr (Rect.unit (s := S1024x128) ![o, 0] S256x128.size hm).toLoadRect (View.loadsAt_vmem h_S256x128))
  Prog.lift (.store mr (Rect.unit (s := S1024x128) ![o, 0] S256x128.size hm) (k0_pay3 (mask s) m) Finset.univ (View.stores_vmem_bits_univ h_S256x128 rfl) (.inl rfl))
  let _ : Vec F S256x512 .bf16 ← Prog.lift (.load pr (Rect.unit (s := S1024x512) ![o, 0] S256x512.size hs).toLoadRect (View.loadsAt_vmem h_S256x512))
  Prog.lift (.store pr (Rect.unit (s := S1024x512) ![o, 0] S256x512.size hs) (k0_pay4 (mask s) m) Finset.univ (View.stores_vmem h_S256x512 (hp.storeExact_slice rfl _ hk) (fun _ => rfl)) (.inl rfl))
  let a : Vec F S256x256 .f32 ← Prog.lift (.load ar (Rect.unit (s := S1024x256) ![o, 0] S256x256.size ha).toLoadRect (View.loadsAt_vmem h_S256x256))
  let _ : Vec F S256x256 .f32 ← Prog.lift (.load ar (Rect.unit (s := S1024x256) ![o, 0] S256x256.size ha).toLoadRect (View.loadsAt_vmem h_S256x256))
  Prog.lift (.store ar (Rect.unit (s := S1024x256) ![o, 0] S256x256.size ha) (k0_pay6 (k0_pay5 (mask s) m) a) Finset.univ (View.stores_vmem_bits_univ h_S256x256 rfl) (.inl rfl))

/-- The four chunks of the 1024 query rows, each with its mask. -/
def chunks (rd : Memref sig .tc .vmem S1024x512 .f32) (mr : Memref sig .tc .vmem S1024x128 .f32)
    (ar : Memref sig .tc .vmem S1024x256 .f32) (pr : Memref sig .tc .vmem S1024x512 .bf16) (hp : pr.IsWhole)
    (m0 m1 m2 m3 : Vec F S256x512 .f32 → FVec F S256x512 .f32) : Prog (TpuEff nD τ sig (Elt F) Λ₀ .tc) Unit := do
  chunk rd mr ar pr hp 0 inb_S1024x512_S256x512_0_0 inb_S1024x128_S256x128_0_0 inb_S1024x256_S256x256_0_0 packedbf16_S1024x512_S256x512_0_0 m0
  chunk rd mr ar pr hp 256 inb_S1024x512_S256x512_256_0 inb_S1024x128_S256x128_256_0 inb_S1024x256_S256x256_256_0 packedbf16_S1024x512_S256x512_256_0 m1
  chunk rd mr ar pr hp 512 inb_S1024x512_S256x512_512_0 inb_S1024x128_S256x128_512_0 inb_S1024x256_S256x256_512_0 packedbf16_S1024x512_S256x512_512_0 m2
  chunk rd mr ar pr hp 768 inb_S1024x512_S256x512_768_0 inb_S1024x128_S256x128_768_0 inb_S1024x256_S256x256_768_0 packedbf16_S1024x512_S256x512_768_0 m3

/-- The two chunks of the last 512 query rows, each with its mask. -/
def chunksLow (rd : Memref sig .tc .vmem S1024x512 .f32) (mr : Memref sig .tc .vmem S1024x128 .f32)
    (ar : Memref sig .tc .vmem S1024x256 .f32) (pr : Memref sig .tc .vmem S1024x512 .bf16) (hp : pr.IsWhole)
    (m2 m3 : Vec F S256x512 .f32 → FVec F S256x512 .f32) : Prog (TpuEff nD τ sig (Elt F) Λ₀ .tc) Unit := do
  chunk rd mr ar pr hp 512 inb_S1024x512_S256x512_512_0 inb_S1024x128_S256x128_512_0 inb_S1024x256_S256x256_512_0 packedbf16_S1024x512_S256x512_512_0 m2
  chunk rd mr ar pr hp 768 inb_S1024x512_S256x512_768_0 inb_S1024x128_S256x128_768_0 inb_S1024x256_S256x256_768_0 packedbf16_S1024x512_S256x512_768_0 m3

/-- The scores of the next tile of keys, at `offk`, stored in `wr`. -/
def score (qr : Memref sig .tc .vmem S1x1024x256 .bf16) (kr : Memref sig .tc .vmem S1x8192x256 .bf16)
    (wr : Memref sig .tc .vmem S1024x512 .f32) (offk : Fin 3 → ℕ) (hk : ∀ a, offk a + S1x512x256.size a ≤ S1x8192x256.size a) : Prog (TpuEff nD τ sig (Elt F) Λ₀ .tc) Unit := do
  let q : Vec F S1x1024x256 .bf16 ← Prog.lift (.load qr (Rect.unit (s := S1x1024x256) ![0, 0, 0] S1x1024x256.size inb_S1x1024x256_S1x1024x256_0_0_0).toLoadRect (View.loadsAt_vmem h_S1x1024x256))
  let k : Vec F S1x512x256 .bf16 ← Prog.lift (.load kr (Rect.unit (s := S1x8192x256) offk S1x512x256.size hk).toLoadRect (View.loadsAt_vmem h_S1x512x256))
  let _ : Vec F S1024x512 .f32 ← Prog.lift (.load wr (Rect.unit (s := S1024x512) ![0, 0] S1024x512.size inb_S1024x512_S1024x512_0_0).toLoadRect (View.loadsAt_vmem h_S1024x512))
  Prog.lift (.store wr (Rect.unit (s := S1024x512) ![0, 0] S1024x512.size inb_S1024x512_S1024x512_0_0) (k0_pay1 q k) Finset.univ (View.stores_vmem_bits_univ h_S1024x512 rfl) (.inl rfl))

/-- The values of the tile, times the weights `pr`, added to the accumulator `ar`. -/
def accum (ar : Memref sig .tc .vmem S1024x256 .f32) (pr : Memref sig .tc .vmem S1024x512 .bf16) (v : Vec F S512x256 .bf16) : Prog (TpuEff nD τ sig (Elt F) Λ₀ .tc) Unit := do
  let a : Vec F S1024x256 .f32 ← Prog.lift (.load ar (Rect.unit (s := S1024x256) ![0, 0] S1024x256.size inb_S1024x256_S1024x256_0_0).toLoadRect (View.loadsAt_vmem h_S1024x256))
  let p : Vec F S1024x512 .bf16 ← Prog.lift (.load pr (Rect.unit (s := S1024x512) ![0, 0] S1024x512.size inb_S1024x512_S1024x512_0_0).toLoadRect (View.loadsAt_vmem h_S1024x512))
  let _ : Vec F S1024x256 .f32 ← Prog.lift (.load ar (Rect.unit (s := S1024x256) ![0, 0] S1024x256.size inb_S1024x256_S1024x256_0_0).toLoadRect (View.loadsAt_vmem h_S1024x256))
  Prog.lift (.store ar (Rect.unit (s := S1024x256) ![0, 0] S1024x256.size inb_S1024x256_S1024x256_0_0) (k0_pay21 v a p) Finset.univ (View.stores_vmem_bits_univ h_S1024x256 rfl) (.inl rfl))

/-- One tile of 512 keys: the next tile's scores go to `wr` while the scores in `rd` are consumed. -/
def tile (qr : Memref sig .tc .vmem S1x1024x256 .bf16) (kr : Memref sig .tc .vmem S1x8192x256 .bf16) (vr : Memref sig .tc .vmem S8192x256 .bf16)
    (rd wr : Memref sig .tc .vmem S1024x512 .f32) (mr : Memref sig .tc .vmem S1024x128 .f32)
    (ar : Memref sig .tc .vmem S1024x256 .f32) (pr : Memref sig .tc .vmem S1024x512 .bf16) (hp : pr.IsWhole)
    (offk : Fin 3 → ℕ) (hk : ∀ a, offk a + S1x512x256.size a ≤ S1x8192x256.size a)
    (offv : Fin 2 → ℕ) (hv : ∀ a, offv a + S512x256.size a ≤ S8192x256.size a) : Prog (TpuEff nD τ sig (Elt F) Λ₀ .tc) Unit := do
  score qr kr wr offk hk
  let v : Vec F S512x256 .bf16 ← Prog.lift (.load vr (Rect.unit (s := S8192x256) offv S512x256.size hv).toLoadRect (View.loadsAt_vmem h_S512x256))
  chunks rd mr ar pr hp (fun s => s) (fun s => s) (fun s => s) (fun s => s)
  accum ar pr v

/-- What one trip of the loop over pairs of query-block widths does: four tiles. -/
def trip (i : grid0.Coords) (t : Fin (k0_t1_loop i).trips)
    (qr : Memref sig .tc .vmem S1x1024x256 .bf16) (kr : Memref sig .tc .vmem S1x8192x256 .bf16) (vr : Memref sig .tc .vmem S8192x256 .bf16)
    (s0 s1 : Memref sig .tc .vmem S1024x512 .f32) (mr : Memref sig .tc .vmem S1024x128 .f32)
    (ar : Memref sig .tc .vmem S1024x256 .f32) (pr : Memref sig .tc .vmem S1024x512 .bf16) (hp : pr.IsWhole) : Prog (TpuEff nD τ sig (Elt F) Λ₀ .tc) Unit := do
  tile qr kr vr s0 s1 mr ar pr hp (k0_off1 i t) (k0_off1_inb i t) (k0_off2 i t) (k0_off2_inb i t)
  tile qr kr vr s1 s0 mr ar pr hp (k0_off3 i t) (k0_off3_inb i t) (k0_off4 i t) (k0_off4_inb i t)
  tile qr kr vr s0 s1 mr ar pr hp (k0_off5 i t) (k0_off5_inb i t) (k0_off6 i t) (k0_off6_inb i t)
  tile qr kr vr s1 s0 mr ar pr hp (k0_off7 i t) (k0_off7_inb i t) (k0_off8 i t) (k0_off8_inb i t)

/-- What the branch for an odd number of query-block widths does: two tiles. -/
def pair (i : grid0.Coords) (h : k0_cond2 i = 1#1)
    (qr : Memref sig .tc .vmem S1x1024x256 .bf16) (kr : Memref sig .tc .vmem S1x8192x256 .bf16) (vr : Memref sig .tc .vmem S8192x256 .bf16)
    (s0 s1 : Memref sig .tc .vmem S1024x512 .f32) (mr : Memref sig .tc .vmem S1024x128 .f32)
    (ar : Memref sig .tc .vmem S1024x256 .f32) (pr : Memref sig .tc .vmem S1024x512 .bf16) (hp : pr.IsWhole) : Prog (TpuEff nD τ sig (Elt F) Λ₀ .tc) Unit := do
  tile qr kr vr s0 s1 mr ar pr hp (k0_off17 i) (k0_off17_inb i h) (k0_off18 i) (k0_off18_inb i h)
  tile qr kr vr s1 s0 mr ar pr hp (k0_off19 i) (k0_off19_inb i h) (k0_off20 i) (k0_off20_inb i h)

/-- The causal mask of a chunk: of the scores `s`, whose row `r` is the query `r + c` of the tile, those of later keys are
    replaced by minus infinity. -/
def causal (c : BitVec 32) (s : Vec F S256x512 .f32) : FVec F S256x512 .f32 :=
  select (cmpi .sle (iota .tc S256x512 32 [1] iota_S256x512_d1_w32) (addi (iota .tc S256x512 32 [0] iota_S256x512_d0_w32) (broadcast S256x512 c)))
    s (broadcast S256x512 (Scalar.ofBits .f32 0xFF800000#32))

/-- The scores of the block's last 512 queries with its last 512 keys. -/
def scoreLow (i : grid0.Coords) (qr : Memref sig .tc .vmem S1x1024x256 .bf16) (kr : Memref sig .tc .vmem S1x8192x256 .bf16)
    (wr : Memref sig .tc .vmem S1024x512 .f32) : Prog (TpuEff nD τ sig (Elt F) Λ₀ .tc) Unit := do
  let q : Vec F S1x512x256 .bf16 ← Prog.lift (.load qr (Rect.unit (s := S1x1024x256) ![0, 512, 0] S1x512x256.size inb_S1x1024x256_S1x512x256_0_512_0).toLoadRect (View.loadsAt_vmem h_S1x512x256))
  let k : Vec F S1x512x256 .bf16 ← Prog.lift (.load kr (Rect.unit (s := S1x8192x256) (k0_off21 i) S1x512x256.size (k0_off21_inb i)).toLoadRect (View.loadsAt_vmem h_S1x512x256))
  let _ : Vec F S512x512 .f32 ← Prog.lift (.load wr (Rect.unit (s := S1024x512) ![512, 0] S512x512.size inb_S1024x512_S512x512_512_0).toLoadRect (View.loadsAt_vmem h_S512x512))
  Prog.lift (.store wr (Rect.unit (s := S1024x512) ![512, 0] S512x512.size inb_S1024x512_S512x512_512_0) (k0_pay206 (k0_pay204 q) (k0_pay205 k) (constant S512x512 .f32 0x00000000#32)) Finset.univ (View.stores_vmem_bits_univ h_S512x512 rfl) (.inl rfl))

/-- The values of the block's last 512 keys, times the weights of its last 512 queries, added to their accumulator. -/
def accumLow (ar : Memref sig .tc .vmem S1024x256 .f32) (pr : Memref sig .tc .vmem S1024x512 .bf16) (v : Vec F S512x256 .bf16) : Prog (TpuEff nD τ sig (Elt F) Λ₀ .tc) Unit := do
  let a : Vec F S512x256 .f32 ← Prog.lift (.load ar (Rect.unit (s := S1024x256) ![512, 0] S512x256.size inb_S1024x256_S512x256_512_0).toLoadRect (View.loadsAt_vmem h_S512x256))
  let p : Vec F S512x512 .bf16 ← Prog.lift (.load pr (Rect.unit (s := S1024x512) ![512, 0] S512x512.size inb_S1024x512_S512x512_512_0).toLoadRect (View.loadsAt_vmem h_S512x512))
  let _ : Vec F S512x256 .f32 ← Prog.lift (.load ar (Rect.unit (s := S1024x256) ![512, 0] S512x256.size inb_S1024x256_S512x256_512_0).toLoadRect (View.loadsAt_vmem h_S512x256))
  Prog.lift (.store ar (Rect.unit (s := S1024x256) ![512, 0] S512x256.size inb_S1024x256_S512x256_512_0) (k0_pay240 v a p) Finset.univ (View.stores_vmem_bits_univ h_S512x256 rfl) (.inl rfl))

/-- The diagonal block: its first 512 keys with all its queries, its last 512 keys with its last 512 queries, both under the
    causal mask. -/
def diag (i : grid0.Coords)
    (qr : Memref sig .tc .vmem S1x1024x256 .bf16) (kr : Memref sig .tc .vmem S1x8192x256 .bf16) (vr : Memref sig .tc .vmem S8192x256 .bf16)
    (s0 s1 : Memref sig .tc .vmem S1024x512 .f32) (mr : Memref sig .tc .vmem S1024x128 .f32)
    (ar : Memref sig .tc .vmem S1024x256 .f32) (pr : Memref sig .tc .vmem S1024x512 .bf16) (hp : pr.IsWhole) : Prog (TpuEff nD τ sig (Elt F) Λ₀ .tc) Unit := do
  scoreLow i qr kr s1
  let v : Vec F S512x256 .bf16 ← Prog.lift (.load vr (Rect.unit (s := S8192x256) (k0_off22 i 0#32) S512x256.size (k0_off22_inb i 0)).toLoadRect (View.loadsAt_vmem h_S512x256))
  chunks s0 mr ar pr hp (causal 0#32) (causal 256#32) (causal 512#32) (causal 768#32)
  accum ar pr v
  let w : Vec F S512x256 .bf16 ← Prog.lift (.load vr (Rect.unit (s := S8192x256) (k0_off22 i 512#32) S512x256.size (k0_off22_inb i 1)).toLoadRect (View.loadsAt_vmem h_S512x256))
  chunksLow s1 mr ar pr hp (causal 0#32) (causal 256#32)
  accumLow ar pr w

/-- The quotient of the accumulated values by the accumulated weights, stored in the output block. -/
def final (ar : Memref sig .tc .vmem S1024x256 .f32) (orr : Memref sig .tc .vmem S1024x128 .bf16) (ho : orr.IsWhole) : Prog (TpuEff nD τ sig (Elt F) Λ₀ .tc) Unit := do
  let a : Vec F S1024x128 .f32 ← Prog.lift (.load ar (Rect.unit (s := S1024x256) ![0, 0] S1024x128.size inb_S1024x256_S1024x128_0_0).toLoadRect (View.loadsAt_vmem h_S1024x128))
  let l : Vec F S1024x128 .f32 ← Prog.lift (.load ar (Rect.unit (s := S1024x256) ![0, 128] S1024x128.size inb_S1024x256_S1024x128_0_128).toLoadRect (View.loadsAt_vmem h_S1024x128))
  let _ : Vec F S1024x128 .bf16 ← Prog.lift (.load orr (Rect.unit (s := S1024x128) ![0, 0] S1024x128.size inb_S1024x128_S1024x128_0_0).toLoadRect (View.loadsAt_vmem h_S1024x128))
  Prog.lift (.store orr (Rect.unit (s := S1024x128) ![0, 0] S1024x128.size inb_S1024x128_S1024x128_0_0) (k0_pay241 a l) Finset.univ (View.stores_vmem h_S1024x128 (ho.storeExact_slice rfl _ packedbf16_S1024x128_S1024x128_0_0) (fun _ => rfl)) (.inl rfl))

/-- The values of the head beside a half of ones, written once per head. -/
def fill (vin : Memref sig .tc .vmem S1x8192x128 .bf16) (vr : Memref sig .tc .vmem S8192x256 .bf16) (hv : vr.IsWhole) : Prog (TpuEff nD τ sig (Elt F) Λ₀ .tc) Unit := do
  let v : Vec F S1x8192x128 .bf16 ← Prog.lift (.load vin (Rect.unit (s := S1x8192x128) ![0, 0, 0] S1x8192x128.size inb_S1x8192x128_S1x8192x128_0_0_0).toLoadRect (View.loadsAt_vmem h_S1x8192x128))
  let _ : Vec F S8192x128 .bf16 ← Prog.lift (.load vr (Rect.unit (s := S8192x256) ![0, 0] S8192x128.size inb_S8192x256_S8192x128_0_0).toLoadRect (View.loadsAt_vmem h_S8192x128))
  Prog.lift (.store vr (Rect.unit (s := S8192x256) ![0, 0] S8192x128.size inb_S8192x256_S8192x128_0_0) (k0_pay186 v) Finset.univ (View.stores_vmem h_S8192x128 (hv.storeExact_slice rfl _ packedbf16_S8192x256_S8192x128_0_0) (fun _ => rfl)) (.inl rfl))
  let _ : Vec F S8192x128 .bf16 ← Prog.lift (.load vr (Rect.unit (s := S8192x256) ![0, 128] S8192x128.size inb_S8192x256_S8192x128_0_128).toLoadRect (View.loadsAt_vmem h_S8192x128))
  Prog.lift (.store vr (Rect.unit (s := S8192x256) ![0, 128] S8192x128.size inb_S8192x256_S8192x128_0_128) (k0_pay187 (F := F)) Finset.univ (View.stores_vmem h_S8192x128 (hv.storeExact_slice rfl _ packedbf16_S8192x256_S8192x128_0_128) (fun _ => rfl)) (.inl rfl))

/-- The running maxima and the accumulator at their start. -/
def start (mr : Memref sig .tc .vmem S1024x128 .f32) (ar : Memref sig .tc .vmem S1024x256 .f32) : Prog (TpuEff nD τ sig (Elt F) Λ₀ .tc) Unit := do
  let _ : Vec F S1024x128 .f32 ← Prog.lift (.load mr (Rect.unit (s := S1024x128) ![0, 0] S1024x128.size inb_S1024x128_S1024x128_0_0).toLoadRect (View.loadsAt_vmem h_S1024x128))
  Prog.lift (.store mr (Rect.unit (s := S1024x128) ![0, 0] S1024x128.size inb_S1024x128_S1024x128_0_0) (k0_pay188 (F := F)) Finset.univ (View.stores_vmem_bits_univ h_S1024x128 rfl) (.inl rfl))
  let _ : Vec F S1024x256 .f32 ← Prog.lift (.load ar (Rect.unit (s := S1024x256) ![0, 0] S1024x256.size inb_S1024x256_S1024x256_0_0).toLoadRect (View.loadsAt_vmem h_S1024x256))
  Prog.lift (.store ar (Rect.unit (s := S1024x256) ![0, 0] S1024x256.size inb_S1024x256_S1024x256_0_0) (k0_pay189 (F := F)) Finset.univ (View.stores_vmem_bits_univ h_S1024x256 rfl) (.inl rfl))

/-- Whether the point is the first of its head. -/
def first (i : grid0.Coords) : BitVec 1 :=
  Scalar.cmpi .ne (Scalar.extui (Scalar.cmpi .eq (BitVec.ofNat 32 (i 1).val) 0#32) : BitVec 32) 0#32

/-- The body up to the first scores. -/
def pre (i : grid0.Coords) (arg2 : Memref sig .tc .vmem S1x1024x256 .bf16) (harg2 : arg2.IsWhole)
    (arg3 : Memref sig .tc .vmem S1x8192x256 .bf16) (harg3 : arg3.IsWhole)
    (arg4 : Memref sig .tc .vmem S1x8192x128 .bf16) (harg4 : arg4.IsWhole)
    (arg5 : Memref sig .tc .vmem S1024x128 .bf16) (harg5 : arg5.IsWhole)
    (arg6 : Memref sig .tc .vmem S8192x256 .bf16) (harg6 : arg6.IsWhole)
    (arg7 : Memref sig .tc .vmem S1024x512 .f32) (harg7 : arg7.IsWhole)
    (arg8 : Memref sig .tc .vmem S1024x512 .f32) (harg8 : arg8.IsWhole)
    (arg9 : Memref sig .tc .vmem S1024x128 .f32) (harg9 : arg9.IsWhole)
    (arg10 : Memref sig .tc .vmem S1024x256 .f32) (harg10 : arg10.IsWhole)
    (arg11 : Memref sig .tc .vmem S1024x512 .bf16) (harg11 : arg11.IsWhole) : Prog (TpuEff nD τ sig (Elt F) Λ₀ .tc) Unit := do
  if h1 : first i = 1#1 then fill arg4 arg6 harg6
  else pure ⟨⟩
  start arg9 arg10
  score arg2 arg3 arg7 ![0, 0, 0] inb_S1x8192x256_S1x512x256_0_0_0

/-- The tiles before the diagonal; `rest` is the region of the loop's remainder, which makes no trip. -/
def mid (i : grid0.Coords) (arg2 : Memref sig .tc .vmem S1x1024x256 .bf16) (harg2 : arg2.IsWhole)
    (arg3 : Memref sig .tc .vmem S1x8192x256 .bf16) (harg3 : arg3.IsWhole)
    (arg4 : Memref sig .tc .vmem S1x8192x128 .bf16) (harg4 : arg4.IsWhole)
    (arg5 : Memref sig .tc .vmem S1024x128 .bf16) (harg5 : arg5.IsWhole)
    (arg6 : Memref sig .tc .vmem S8192x256 .bf16) (harg6 : arg6.IsWhole)
    (arg7 : Memref sig .tc .vmem S1024x512 .f32) (harg7 : arg7.IsWhole)
    (arg8 : Memref sig .tc .vmem S1024x512 .f32) (harg8 : arg8.IsWhole)
    (arg9 : Memref sig .tc .vmem S1024x128 .f32) (harg9 : arg9.IsWhole)
    (arg10 : Memref sig .tc .vmem S1024x256 .f32) (harg10 : arg10.IsWhole)
    (arg11 : Memref sig .tc .vmem S1024x512 .bf16) (harg11 : arg11.IsWhole)
    (rest : Fin (k0_t2_loop i).trips → Unit → Prog (TpuEff nD τ sig (Elt F) Λ₀ .tc) Unit) : Prog (TpuEff nD τ sig (Elt F) Λ₀ .tc) Unit := do
  Scf.Loop.for (k0_t1_loop i) (k0_t1_ok i) ⟨⟩ (fun t _ => trip i t arg2 arg3 arg6 arg7 arg8 arg9 arg10 arg11 harg11)
  Scf.Loop.for (k0_t2_loop i) (k0_t2_ok i) ⟨⟩ rest
  if h2 : k0_cond2 i = 1#1 then pair i h2 arg2 arg3 arg6 arg7 arg8 arg9 arg10 arg11 harg11
  else pure ⟨⟩

/-- The body at the grid point `i`. -/
def body (i : grid0.Coords) (arg2 : Memref sig .tc .vmem S1x1024x256 .bf16) (harg2 : arg2.IsWhole)
    (arg3 : Memref sig .tc .vmem S1x8192x256 .bf16) (harg3 : arg3.IsWhole)
    (arg4 : Memref sig .tc .vmem S1x8192x128 .bf16) (harg4 : arg4.IsWhole)
    (arg5 : Memref sig .tc .vmem S1024x128 .bf16) (harg5 : arg5.IsWhole)
    (arg6 : Memref sig .tc .vmem S8192x256 .bf16) (harg6 : arg6.IsWhole)
    (arg7 : Memref sig .tc .vmem S1024x512 .f32) (harg7 : arg7.IsWhole)
    (arg8 : Memref sig .tc .vmem S1024x512 .f32) (harg8 : arg8.IsWhole)
    (arg9 : Memref sig .tc .vmem S1024x128 .f32) (harg9 : arg9.IsWhole)
    (arg10 : Memref sig .tc .vmem S1024x256 .f32) (harg10 : arg10.IsWhole)
    (arg11 : Memref sig .tc .vmem S1024x512 .bf16) (harg11 : arg11.IsWhole)
    (rest : Fin (k0_t2_loop i).trips → Unit → Prog (TpuEff nD τ sig (Elt F) Λ₀ .tc) Unit) : Prog (TpuEff nD τ sig (Elt F) Λ₀ .tc) Unit := do
  pre i arg2 harg2 arg3 harg3 arg4 harg4 arg5 harg5 arg6 harg6 arg7 harg7 arg8 harg8 arg9 harg9 arg10 harg10 arg11 harg11
  mid i arg2 harg2 arg3 harg3 arg4 harg4 arg5 harg5 arg6 harg6 arg7 harg7 arg8 harg8 arg9 harg9 arg10 harg10 arg11 harg11 rest
  diag i arg2 arg3 arg6 arg7 arg8 arg9 arg10 arg11 harg11
  final arg10 arg5 harg5

/-- The printed body up to the first scores is `pre`, followed by six words. -/
theorem part33_eq (i : grid0.Coords) (arg2 : Memref sig .tc .vmem S1x1024x256 .bf16) (harg2 : arg2.IsWhole)
    (arg3 : Memref sig .tc .vmem S1x8192x256 .bf16) (harg3 : arg3.IsWhole)
    (arg4 : Memref sig .tc .vmem S1x8192x128 .bf16) (harg4 : arg4.IsWhole)
    (arg5 : Memref sig .tc .vmem S1024x128 .bf16) (harg5 : arg5.IsWhole)
    (arg6 : Memref sig .tc .vmem S8192x256 .bf16) (harg6 : arg6.IsWhole)
    (arg7 : Memref sig .tc .vmem S1024x512 .f32) (harg7 : arg7.IsWhole)
    (arg8 : Memref sig .tc .vmem S1024x512 .f32) (harg8 : arg8.IsWhole)
    (arg9 : Memref sig .tc .vmem S1024x128 .f32) (harg9 : arg9.IsWhole)
    (arg10 : Memref sig .tc .vmem S1024x256 .f32) (harg10 : arg10.IsWhole)
    (arg11 : Memref sig .tc .vmem S1024x512 .bf16) (harg11 : arg11.IsWhole) :
    ∃ a b c d e f, k0_part33 (F := F) i arg2 harg2 arg3 harg3 arg4 harg4 arg5 harg5 arg6 harg6 arg7 harg7 arg8 harg8 arg9 harg9 arg10 harg10 arg11 harg11 = (pre i arg2 harg2 arg3 harg3 arg4 harg4 arg5 harg5 arg6 harg6 arg7 harg7 arg8 harg8 arg9 harg9 arg10 harg10 arg11 harg11 >>= fun _ => pure ⟨a, b, c, d, e, f⟩) := by
  rw [k0_part33_eq_skeleton]
  unfold k0_part33_skel pre
  refine ⟨BitVec.ofNat 32 (i 1).val, Scalar.muli (BitVec.ofNat 32 (i 1).val) 1#32, 2#32,
    Scalar.divsi (Scalar.muli (BitVec.ofNat 32 (i 1).val) 1#32) 2#32,
    Scalar.subi (Scalar.extui (Scalar.cmpi .sgt (Scalar.muli (BitVec.ofNat 32 (i 1).val) 1#32) 0#32))
      (Scalar.extui (Scalar.cmpi .slt (Scalar.muli (BitVec.ofNat 32 (i 1).val) 1#32) 0#32)),
    Scalar.subi (Scalar.extui (Scalar.cmpi .sgt 2#32 0#32)) (Scalar.extui (Scalar.cmpi .slt 2#32 0#32)), ?_⟩
  by_cases h : first i = 1#1
  · rw [dif_pos h]
    exact dif_pos h
  · rw [dif_neg h]
    exact dif_neg h

/-- Two programs that begin alike and go on alike are one. -/
theorem bind_eq {α β : Type} {x y : Prog (TpuEff nD τ sig (Elt F) Λ₀ .tc) α} {f g : α → Prog (TpuEff nD τ sig (Elt F) Λ₀ .tc) β}
    (h : x = y) (h' : ∀ a, f a = g a) : (x >>= f) = (y >>= g) := by
  rw [h, funext h']

/-- `mid` before a program, as one sequence. -/
theorem mid_bind {α : Type} (i : grid0.Coords) (arg2 : Memref sig .tc .vmem S1x1024x256 .bf16) (harg2 : arg2.IsWhole)
    (arg3 : Memref sig .tc .vmem S1x8192x256 .bf16) (harg3 : arg3.IsWhole)
    (arg4 : Memref sig .tc .vmem S1x8192x128 .bf16) (harg4 : arg4.IsWhole)
    (arg5 : Memref sig .tc .vmem S1024x128 .bf16) (harg5 : arg5.IsWhole)
    (arg6 : Memref sig .tc .vmem S8192x256 .bf16) (harg6 : arg6.IsWhole)
    (arg7 : Memref sig .tc .vmem S1024x512 .f32) (harg7 : arg7.IsWhole)
    (arg8 : Memref sig .tc .vmem S1024x512 .f32) (harg8 : arg8.IsWhole)
    (arg9 : Memref sig .tc .vmem S1024x128 .f32) (harg9 : arg9.IsWhole)
    (arg10 : Memref sig .tc .vmem S1024x256 .f32) (harg10 : arg10.IsWhole)
    (arg11 : Memref sig .tc .vmem S1024x512 .bf16) (harg11 : arg11.IsWhole)
    (rest : Fin (k0_t2_loop i).trips → Unit → Prog (TpuEff nD τ sig (Elt F) Λ₀ .tc) Unit) (k : Unit → Prog (TpuEff nD τ sig (Elt F) Λ₀ .tc) α) :
    (mid i arg2 harg2 arg3 harg3 arg4 harg4 arg5 harg5 arg6 harg6 arg7 harg7 arg8 harg8 arg9 harg9 arg10 harg10 arg11 harg11 rest >>= k) =
      ((Scf.Loop.for (k0_t1_loop i) (k0_t1_ok i) ⟨⟩ (fun t _ => trip i t arg2 arg3 arg6 arg7 arg8 arg9 arg10 arg11 harg11)) >>= fun _ =>
        (Scf.Loop.for (k0_t2_loop i) (k0_t2_ok i) ⟨⟩ rest) >>= fun _ =>
        (if h2 : k0_cond2 i = 1#1 then pair i h2 arg2 arg3 arg6 arg7 arg8 arg9 arg10 arg11 harg11 else pure ⟨⟩) >>= k) := by
  unfold mid
  simp only [bind_assoc]

/-- The printed tiles before the diagonal are `mid`, followed by the two loads of the diagonal's scores. -/
theorem part34_eq (i : grid0.Coords) (arg2 : Memref sig .tc .vmem S1x1024x256 .bf16) (harg2 : arg2.IsWhole)
    (arg3 : Memref sig .tc .vmem S1x8192x256 .bf16) (harg3 : arg3.IsWhole)
    (arg4 : Memref sig .tc .vmem S1x8192x128 .bf16) (harg4 : arg4.IsWhole)
    (arg5 : Memref sig .tc .vmem S1024x128 .bf16) (harg5 : arg5.IsWhole)
    (arg6 : Memref sig .tc .vmem S8192x256 .bf16) (harg6 : arg6.IsWhole)
    (arg7 : Memref sig .tc .vmem S1024x512 .f32) (harg7 : arg7.IsWhole)
    (arg8 : Memref sig .tc .vmem S1024x512 .f32) (harg8 : arg8.IsWhole)
    (arg9 : Memref sig .tc .vmem S1024x128 .f32) (harg9 : arg9.IsWhole)
    (arg10 : Memref sig .tc .vmem S1024x256 .f32) (harg10 : arg10.IsWhole)
    (arg11 : Memref sig .tc .vmem S1024x512 .bf16) (harg11 : arg11.IsWhole) (a b c d e f : BitVec 32) :
    ∃ rest w, k0_part34 (F := F) i arg2 harg2 arg3 harg3 arg4 harg4 arg5 harg5 arg6 harg6 arg7 harg7 arg8 harg8 arg9 harg9 arg10 harg10 arg11 harg11 a b c d e f = (mid i arg2 harg2 arg3 harg3 arg4 harg4 arg5 harg5 arg6 harg6 arg7 harg7 arg8 harg8 arg9 harg9 arg10 harg10 arg11 harg11 rest >>= fun _ => do
      let q : Vec F S1x512x256 .bf16 ← Prog.lift (.load arg2 (Rect.unit (s := S1x1024x256) ![0, 512, 0] S1x512x256.size inb_S1x1024x256_S1x512x256_0_512_0).toLoadRect (View.loadsAt_vmem h_S1x512x256))
      let k : Vec F S1x512x256 .bf16 ← Prog.lift (.load arg3 (Rect.unit (s := S1x8192x256) (k0_off21 i) S1x512x256.size (k0_off21_inb i)).toLoadRect (View.loadsAt_vmem h_S1x512x256))
      pure ⟨w, k0_pay204 q, k0_pay205 k, constant S512x512 .f32 0x00000000#32⟩) := by
  rw [k0_part34_eq_skeleton]
  unfold k0_part34_skel
  refine ⟨k0_t2_body i arg2 harg2 arg3 harg3 arg4 harg4 arg5 harg5 arg6 harg6 arg7 harg7 arg8 harg8 arg9 harg9 arg10 harg10 arg11 harg11 a b c d e f
    (Scalar.addi 0#32 (Scalar.muli (Scalar.divsi (Scalar.subi (Scalar.select (Scalar.andi (Scalar.cmpi .ne e f)
      (Scalar.cmpi .ne (Scalar.remsi b c) 0#32)) (Scalar.subi d 1#32) d) 0#32) 1#32) 1#32)),
    Scalar.addi (Scalar.muli a 1024#32) 0#32, Eq.trans ?_ (mid_bind ..).symm⟩
  refine bind_eq rfl fun _ => bind_eq rfl fun _ => ?_
  by_cases h : k0_cond2 i = 1#1
  · rw [dif_pos h, dif_pos h]
    rfl
  · rw [dif_neg h, dif_neg h]
    rfl

set_option maxRecDepth 65536 in
/-- The printed body is `body`. -/
theorem body_eq (i : grid0.Coords) (arg2 : Memref sig .tc .vmem S1x1024x256 .bf16) (harg2 : arg2.IsWhole)
    (arg3 : Memref sig .tc .vmem S1x8192x256 .bf16) (harg3 : arg3.IsWhole)
    (arg4 : Memref sig .tc .vmem S1x8192x128 .bf16) (harg4 : arg4.IsWhole)
    (arg5 : Memref sig .tc .vmem S1024x128 .bf16) (harg5 : arg5.IsWhole)
    (arg6 : Memref sig .tc .vmem S8192x256 .bf16) (harg6 : arg6.IsWhole)
    (arg7 : Memref sig .tc .vmem S1024x512 .f32) (harg7 : arg7.IsWhole)
    (arg8 : Memref sig .tc .vmem S1024x512 .f32) (harg8 : arg8.IsWhole)
    (arg9 : Memref sig .tc .vmem S1024x128 .f32) (harg9 : arg9.IsWhole)
    (arg10 : Memref sig .tc .vmem S1024x256 .f32) (harg10 : arg10.IsWhole)
    (arg11 : Memref sig .tc .vmem S1024x512 .bf16) (harg11 : arg11.IsWhole) :
    ∃ rest, cc0_mla_attn (F := F) i arg2 harg2 arg3 harg3 arg4 harg4 arg5 harg5 arg6 harg6 arg7 harg7 arg8 harg8 arg9 harg9 arg10 harg10 arg11 harg11 = body i arg2 harg2 arg3 harg3 arg4 harg4 arg5 harg5 arg6 harg6 arg7 harg7 arg8 harg8 arg9 harg9 arg10 harg10 arg11 harg11 rest := by
  obtain ⟨a, b, c, d, e, f, h33⟩ := part33_eq (F := F) i arg2 harg2 arg3 harg3 arg4 harg4 arg5 harg5 arg6 harg6 arg7 harg7 arg8 harg8 arg9 harg9 arg10 harg10 arg11 harg11
  obtain ⟨rest, w, h34⟩ := part34_eq (F := F) i arg2 harg2 arg3 harg3 arg4 harg4 arg5 harg5 arg6 harg6 arg7 harg7 arg8 harg8 arg9 harg9 arg10 harg10 arg11 harg11 a b c d e f
  refine ⟨rest, ?_⟩
  rw [cc0_mla_attn_eq_skeleton]
  unfold cc0_mla_attn_skel body
  rw [k0_part40_eq_skeleton]
  unfold k0_part40_skel
  rw [h33]
  simp only [bind_assoc, pure_bind]
  rw [h34]
  simp only [bind_assoc, pure_bind]
  rfl

end Cert.KernelIdeal.Flash
-- ==== Proof.Flash.Steps.lean ====
/- What the small programs of the attention kernel's body leave in the buffers that they name. -/
module

public import proofs.«01_k».proof.Proof.Flash.Code
public import proofs.«01_k».proof.Proof.Gen.KernelIdeal.Frame
public import Idealize.ShloMosaic.Lib.VecWindow
public import Idealize.ShloMosaic.Lib.Pipeline.TableIdle

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.VecWindow (window put)

variable {F : FTy → Type} [FloatOps F]

local notation "𝕄" => MT nD τ sig Unit (Elt F) ℕ (UR sig nD τ) ℕ

/-- One chunk: the running maxima, the weights and the accumulator change in its rows. -/
theorem chunk_run (c : Dev nD) (E : Set ℕ) (K : Unit → sProp 𝕄)
    (rd : Memref sig .tc .vmem S1024x512 .f32) (mr : Memref sig .tc .vmem S1024x128 .f32)
    (ar : Memref sig .tc .vmem S1024x256 .f32) (pr : Memref sig .tc .vmem S1024x512 .bf16) (hp : pr.IsWhole) (o : ℕ)
    (hs : ∀ a, (![o, 0] : Fin 2 → ℕ) a + S256x512.size a ≤ S1024x512.size a)
    (hm : ∀ a, (![o, 0] : Fin 2 → ℕ) a + S256x128.size a ≤ S1024x128.size a)
    (ha : ∀ a, (![o, 0] : Fin 2 → ℕ) a + S256x256.size a ≤ S1024x256.size a)
    (hk : (Rect.unit (s := S1024x512) ![o, 0] S256x512.size hs).PackedRows (EltTy.packing .bf16))
    (mask : Vec F S256x512 .f32 → FVec F S256x512 .f32)
    (s : Vec F S1024x512 .f32) (m : Vec F S1024x128 .f32) (a : Vec F S1024x256 .f32) (p : Vec F S1024x512 .bf16) :
    iprop(owns (c : Thread nD τ) rd fullShare s ∗ owns (c : Thread nD τ) mr fullShare m ∗ owns (c : Thread nD τ) ar fullShare a ∗ owns (c : Thread nD τ) pr fullShare p
        ∗ (iprop(owns (c : Thread nD τ) rd fullShare s
            ∗ owns (c : Thread nD τ) mr fullShare (put m ![o, 0] S256x128.size (k0_pay3 (mask (window s ![o, 0] S256x512.size hs)) (window m ![o, 0] S256x128.size hm)))
            ∗ owns (c : Thread nD τ) ar fullShare (put a ![o, 0] S256x256.size (k0_pay6 (k0_pay5 (mask (window s ![o, 0] S256x512.size hs)) (window m ![o, 0] S256x128.size hm)) (window a ![o, 0] S256x256.size ha)))
            ∗ owns (c : Thread nD τ) pr fullShare (put p ![o, 0] S256x512.size (k0_pay4 (mask (window s ![o, 0] S256x512.size hs)) (window m ![o, 0] S256x128.size hm)))) -∗ K ⟨⟩))
      ⊢ wp frame (wpE (defs₀ (F := F)) Variants.none c none) E (chunk rd mr ar pr hp o hs hm ha hk mask) K := by
  simp only [owns_eq_rep]
  iintro ⟨H0, H1, H2, H3, Hk⟩
  unfold chunk
  sl_exec
  sl_step
  iapply Hk
  isplitl [H0]; · iexact H0
  isplitl [H1]
  · iapply pointsTo_rep_of_read (c : Thread nD τ) mr _ fullShare _ ?_ $$ H1
    rw [View.read_writes_rep_unit mr.view _ hm _ rfl]
    rw [View.readAt_rep_unit rd.view _ _ rfl hs, View.readAt_rep_unit mr.view _ _ rfl hm]
  isplitl [H2]
  · iapply pointsTo_rep_of_read (c : Thread nD τ) ar _ fullShare _ ?_ $$ H2
    rw [View.read_writes_rep_unit ar.view _ ha _ rfl]
    rw [View.readAt_rep_unit rd.view _ _ rfl hs, View.readAt_rep_unit mr.view _ _ rfl hm, View.readAt_rep_unit ar.view _ _ rfl ha]
  · iapply pointsTo_rep_of_read (c : Thread nD τ) pr _ fullShare _ ?_ $$ H3
    rw [View.read_writes_rep_unit pr.view _ hs _ rfl]
    rw [View.readAt_rep_unit rd.view _ _ rfl hs, View.readAt_rep_unit mr.view _ _ rfl hm]

/-- The scores of a tile of keys land in `wr`. -/
theorem score_run (c : Dev nD) (E : Set ℕ) (K : Unit → sProp 𝕄)
    (qr : Memref sig .tc .vmem S1x1024x256 .bf16) (kr : Memref sig .tc .vmem S1x8192x256 .bf16) (wr : Memref sig .tc .vmem S1024x512 .f32)
    (offk : Fin 3 → ℕ) (hk : ∀ a, offk a + S1x512x256.size a ≤ S1x8192x256.size a)
    (q : Vec F S1x1024x256 .bf16) (k : Vec F S1x8192x256 .bf16) (w : Vec F S1024x512 .f32) :
    iprop(owns (c : Thread nD τ) qr fullShare q ∗ owns (c : Thread nD τ) kr fullShare k ∗ owns (c : Thread nD τ) wr fullShare w
        ∗ (iprop(owns (c : Thread nD τ) qr fullShare q
            ∗ owns (c : Thread nD τ) kr fullShare k
            ∗ owns (c : Thread nD τ) wr fullShare (k0_pay1 q (window k offk S1x512x256.size hk))) -∗ K ⟨⟩))
      ⊢ wp frame (wpE (defs₀ (F := F)) Variants.none c none) E (score qr kr wr offk hk) K := by
  simp only [owns_eq_rep]
  iintro ⟨H0, H1, H2, Hk⟩
  unfold score
  sl_exec
  sl_step
  iapply Hk
  isplitl [H0]
  · iexact H0
  isplitl [H1]
  · iexact H1
  · iapply pointsTo_rep_of_read (c : Thread nD τ) wr _ fullShare _ ?_ $$ H2
    rw [View.read_writes_full wr.view, View.readAt_rep_full qr.view, View.readAt_rep_unit kr.view _ _ rfl hk]

/-- The weights times a tile's values are added to the accumulator. -/
theorem accum_run (c : Dev nD) (E : Set ℕ) (K : Unit → sProp 𝕄)
    (ar : Memref sig .tc .vmem S1024x256 .f32) (pr : Memref sig .tc .vmem S1024x512 .bf16) (v : Vec F S512x256 .bf16) (a : Vec F S1024x256 .f32) (p : Vec F S1024x512 .bf16) :
    iprop(owns (c : Thread nD τ) ar fullShare a ∗ owns (c : Thread nD τ) pr fullShare p
        ∗ (iprop(owns (c : Thread nD τ) ar fullShare (k0_pay21 v a p)
            ∗ owns (c : Thread nD τ) pr fullShare p) -∗ K ⟨⟩))
      ⊢ wp frame (wpE (defs₀ (F := F)) Variants.none c none) E (accum ar pr v) K := by
  simp only [owns_eq_rep]
  iintro ⟨H0, H1, Hk⟩
  unfold accum
  sl_exec
  sl_step
  iapply Hk
  isplitl [H0]
  · iapply pointsTo_rep_of_read (c : Thread nD τ) ar _ fullShare _ ?_ $$ H0
    rw [View.read_writes_full ar.view, View.readAt_rep_full ar.view, View.readAt_rep_full pr.view]
  · iexact H1

/-- The scores of the last 512 queries land in the last 512 rows of `wr`. -/
theorem scoreLow_run (c : Dev nD) (E : Set ℕ) (K : Unit → sProp 𝕄)
    (i : grid0.Coords) (qr : Memref sig .tc .vmem S1x1024x256 .bf16) (kr : Memref sig .tc .vmem S1x8192x256 .bf16) (wr : Memref sig .tc .vmem S1024x512 .f32)
    (q : Vec F S1x1024x256 .bf16) (k : Vec F S1x8192x256 .bf16) (w : Vec F S1024x512 .f32) :
    iprop(owns (c : Thread nD τ) qr fullShare q ∗ owns (c : Thread nD τ) kr fullShare k ∗ owns (c : Thread nD τ) wr fullShare w
        ∗ (iprop(owns (c : Thread nD τ) qr fullShare q
            ∗ owns (c : Thread nD τ) kr fullShare k
            ∗ owns (c : Thread nD τ) wr fullShare (put w ![512, 0] S512x512.size (k0_pay206 (k0_pay204 (window q ![0, 512, 0] S1x512x256.size inb_S1x1024x256_S1x512x256_0_512_0)) (k0_pay205 (window k (k0_off21 i) S1x512x256.size (k0_off21_inb i))) (constant S512x512 .f32 0x00000000#32)))) -∗ K ⟨⟩))
      ⊢ wp frame (wpE (defs₀ (F := F)) Variants.none c none) E (scoreLow i qr kr wr) K := by
  simp only [owns_eq_rep]
  iintro ⟨H0, H1, H2, Hk⟩
  unfold scoreLow
  sl_exec
  sl_step
  iapply Hk
  isplitl [H0]
  · iexact H0
  isplitl [H1]
  · iexact H1
  · iapply pointsTo_rep_of_read (c : Thread nD τ) wr _ fullShare _ ?_ $$ H2
    rw [View.read_writes_rep_unit wr.view _ inb_S1024x512_S512x512_512_0 _ rfl, View.readAt_rep_unit qr.view _ _ rfl inb_S1x1024x256_S1x512x256_0_512_0, View.readAt_rep_unit kr.view _ _ rfl (k0_off21_inb i)]

/-- The weights of the last 512 queries times a tile's values are added to their accumulator. -/
theorem accumLow_run (c : Dev nD) (E : Set ℕ) (K : Unit → sProp 𝕄)
    (ar : Memref sig .tc .vmem S1024x256 .f32) (pr : Memref sig .tc .vmem S1024x512 .bf16) (v : Vec F S512x256 .bf16) (a : Vec F S1024x256 .f32) (p : Vec F S1024x512 .bf16) :
    iprop(owns (c : Thread nD τ) ar fullShare a ∗ owns (c : Thread nD τ) pr fullShare p
        ∗ (iprop(owns (c : Thread nD τ) ar fullShare (put a ![512, 0] S512x256.size (k0_pay240 v (window a ![512, 0] S512x256.size inb_S1024x256_S512x256_512_0) (window p ![512, 0] S512x512.size inb_S1024x512_S512x512_512_0)))
            ∗ owns (c : Thread nD τ) pr fullShare p) -∗ K ⟨⟩))
      ⊢ wp frame (wpE (defs₀ (F := F)) Variants.none c none) E (accumLow ar pr v) K := by
  simp only [owns_eq_rep]
  iintro ⟨H0, H1, Hk⟩
  unfold accumLow
  sl_exec
  sl_step
  iapply Hk
  isplitl [H0]
  · iapply pointsTo_rep_of_read (c : Thread nD τ) ar _ fullShare _ ?_ $$ H0
    rw [View.read_writes_rep_unit ar.view _ inb_S1024x256_S512x256_512_0 _ rfl, View.readAt_rep_unit ar.view _ _ rfl inb_S1024x256_S512x256_512_0, View.readAt_rep_unit pr.view _ _ rfl inb_S1024x512_S512x512_512_0]
  · iexact H1

/-- The quotient lands in the output block. -/
theorem final_run (c : Dev nD) (E : Set ℕ) (K : Unit → sProp 𝕄)
    (ar : Memref sig .tc .vmem S1024x256 .f32) (orr : Memref sig .tc .vmem S1024x128 .bf16) (ho : orr.IsWhole) (a : Vec F S1024x256 .f32) (o : Vec F S1024x128 .bf16) :
    iprop(owns (c : Thread nD τ) ar fullShare a ∗ owns (c : Thread nD τ) orr fullShare o
        ∗ (iprop(owns (c : Thread nD τ) ar fullShare a
            ∗ owns (c : Thread nD τ) orr fullShare (k0_pay241 (window a ![0, 0] S1024x128.size inb_S1024x256_S1024x128_0_0) (window a ![0, 128] S1024x128.size inb_S1024x256_S1024x128_0_128))) -∗ K ⟨⟩))
      ⊢ wp frame (wpE (defs₀ (F := F)) Variants.none c none) E (final ar orr ho) K := by
  simp only [owns_eq_rep]
  iintro ⟨H0, H1, Hk⟩
  unfold final
  sl_exec
  sl_step
  iapply Hk
  isplitl [H0]
  · iexact H0
  · iapply pointsTo_rep_of_read (c : Thread nD τ) orr _ fullShare _ ?_ $$ H1
    rw [View.read_writes_full orr.view, View.readAt_rep_unit ar.view _ _ rfl inb_S1024x256_S1024x128_0_0, View.readAt_rep_unit ar.view _ _ rfl inb_S1024x256_S1024x128_0_128]

/-- The values land beside a half of ones. -/
theorem fill_run (c : Dev nD) (E : Set ℕ) (K : Unit → sProp 𝕄)
    (vin : Memref sig .tc .vmem S1x8192x128 .bf16) (vr : Memref sig .tc .vmem S8192x256 .bf16) (hv : vr.IsWhole) (v : Vec F S1x8192x128 .bf16) (w : Vec F S8192x256 .bf16) :
    iprop(owns (c : Thread nD τ) vin fullShare v ∗ owns (c : Thread nD τ) vr fullShare w
        ∗ (iprop(owns (c : Thread nD τ) vin fullShare v
            ∗ owns (c : Thread nD τ) vr fullShare (put (put w ![0, 0] S8192x128.size (k0_pay186 v)) ![0, 128] S8192x128.size k0_pay187)) -∗ K ⟨⟩))
      ⊢ wp frame (wpE (defs₀ (F := F)) Variants.none c none) E (fill vin vr hv) K := by
  simp only [owns_eq_rep]
  iintro ⟨H0, H1, Hk⟩
  unfold fill
  sl_exec
  sl_step
  iapply Hk
  isplitl [H0]
  · iexact H0
  · iapply pointsTo_rep_of_read (c : Thread nD τ) vr _ fullShare _ ?_ $$ H1
    rw [View.read_writes_cons_put vr.view _ inb_S8192x256_S8192x128_0_128 _ _ rfl, View.read_writes_rep_unit vr.view _ inb_S8192x256_S8192x128_0_0 _ rfl, View.readAt_rep_full vin.view]

/-- The running maxima and the accumulator get their starting values. -/
theorem start_run (c : Dev nD) (E : Set ℕ) (K : Unit → sProp 𝕄)
    (mr : Memref sig .tc .vmem S1024x128 .f32) (ar : Memref sig .tc .vmem S1024x256 .f32) (m : Vec F S1024x128 .f32) (a : Vec F S1024x256 .f32) :
    iprop(owns (c : Thread nD τ) mr fullShare m ∗ owns (c : Thread nD τ) ar fullShare a
        ∗ (iprop(owns (c : Thread nD τ) mr fullShare k0_pay188
            ∗ owns (c : Thread nD τ) ar fullShare k0_pay189) -∗ K ⟨⟩))
      ⊢ wp frame (wpE (defs₀ (F := F)) Variants.none c none) E (start mr ar) K := by
  simp only [owns_eq_rep]
  iintro ⟨H0, H1, Hk⟩
  unfold start
  sl_exec
  sl_step
  iapply Hk
  isplitl [H0]
  · iapply pointsTo_rep_of_read (c : Thread nD τ) mr _ fullShare _ ?_ $$ H0
    rw [View.read_writes_full mr.view]
  · iapply pointsTo_rep_of_read (c : Thread nD τ) ar _ fullShare _ ?_ $$ H1
    rw [View.read_writes_full ar.view]

end Cert.KernelIdeal.Flash
-- ==== Proof.Flash.Pure.lean ====
/- What the attention kernel computes at one grid point, as functions of the arrays: the running maxima and the accumulator
   after each tile of keys, and the output block. -/
module

public import proofs.«01_k».proof.Proof.Flash.Code
public import Idealize.ShloMosaic.Lib.VecWindow

@[expose] public section

set_option maxRecDepth 16384

noncomputable section

namespace Cert.KernelIdeal.Flash

open Idealize.ShloMosaic
open Cert.KernelIdeal Cert.KernelIdeal.Gen
open Idealize.ShloMosaic.VecWindow (window put)

variable {F : FTy → Type} [FloatOps F]

/-- The running maxima, the accumulator and the weights. -/
abbrev Acc (F : FTy → Type) [FloatOps F] := Vec F S1024x128 .f32 × Vec F S1024x256 .f32 × Vec F S1024x512 .bf16

/-- A function of the scores of a chunk. -/
abbrev Mask (F : FTy → Type) [FloatOps F] := Vec F S256x512 .f32 → FVec F S256x512 .f32

/-- One chunk, from row `o` on. -/
def chunkF (o : ℕ)
    (hs : ∀ a, (![o, 0] : Fin 2 → ℕ) a + S256x512.size a ≤ S1024x512.size a)
    (hm : ∀ a, (![o, 0] : Fin 2 → ℕ) a + S256x128.size a ≤ S1024x128.size a)
    (ha : ∀ a, (![o, 0] : Fin 2 → ℕ) a + S256x256.size a ≤ S1024x256.size a)
    (mask : Mask F) (s : Vec F S1024x512 .f32) (x : Acc F) : Acc F :=
  (put x.1 ![o, 0] S256x128.size (k0_pay3 (mask (window s ![o, 0] S256x512.size hs)) (window x.1 ![o, 0] S256x128.size hm)),
   put x.2.1 ![o, 0] S256x256.size (k0_pay6 (k0_pay5 (mask (window s ![o, 0] S256x512.size hs)) (window x.1 ![o, 0] S256x128.size hm)) (window x.2.1 ![o, 0] S256x256.size ha)),
   put x.2.2 ![o, 0] S256x512.size (k0_pay4 (mask (window s ![o, 0] S256x512.size hs)) (window x.1 ![o, 0] S256x128.size hm)))

/-- The chunk of rows 0 to 255. -/
def chunk0 : Mask F → Vec F S1024x512 .f32 → Acc F → Acc F := chunkF 0 inb_S1024x512_S256x512_0_0 inb_S1024x128_S256x128_0_0 inb_S1024x256_S256x256_0_0
/-- The chunk of rows 256 to 511. -/
def chunk1 : Mask F → Vec F S1024x512 .f32 → Acc F → Acc F := chunkF 256 inb_S1024x512_S256x512_256_0 inb_S1024x128_S256x128_256_0 inb_S1024x256_S256x256_256_0
/-- The chunk of rows 512 to 767. -/
def chunk2 : Mask F → Vec F S1024x512 .f32 → Acc F → Acc F := chunkF 512 inb_S1024x512_S256x512_512_0 inb_S1024x128_S256x128_512_0 inb_S1024x256_S256x256_512_0
/-- The chunk of rows 768 to 1023. -/
def chunk3 : Mask F → Vec F S1024x512 .f32 → Acc F → Acc F := chunkF 768 inb_S1024x512_S256x512_768_0 inb_S1024x128_S256x128_768_0 inb_S1024x256_S256x256_768_0

/-- The four chunks. -/
def chunksF (m0 m1 m2 m3 : Mask F) (s : Vec F S1024x512 .f32) (x : Acc F) : Acc F :=
  chunk3 m3 s (chunk2 m2 s (chunk1 m1 s (chunk0 m0 s x)))

/-- The two chunks of the last 512 rows. -/
def chunksLowF (m2 m3 : Mask F) (s : Vec F S1024x512 .f32) (x : Acc F) : Acc F :=
  chunk3 m3 s (chunk2 m2 s x)

/-- Weights that nothing reads. -/
def pz : Vec F S1024x512 .bf16 := constant S1024x512 .bf16 0x0000#16
/-- Scores that nothing reads. -/
def sz : Vec F S1024x512 .f32 := constant S1024x512 .f32 0x00000000#32

/-- Four chunks written one after another leave no row of what was there. -/
theorem put4_indep (p p' : Vec F S1024x512 .bf16) (w0 w1 w2 w3 : Vec F S256x512 .bf16) :
    put (put (put (put p ![0, 0] S256x512.size w0) ![256, 0] S256x512.size w1) ![512, 0] S256x512.size w2) ![768, 0] S256x512.size w3
      = put (put (put (put p' ![0, 0] S256x512.size w0) ![256, 0] S256x512.size w1) ![512, 0] S256x512.size w2) ![768, 0] S256x512.size w3 := by
  funext y
  unfold put
  split
  · rfl
  split
  · rfl
  split
  · rfl
  split
  · rfl
  rename_i h3 h2 h1 h0
  exfalso
  have hy0 : (y 0).val < 1024 := (y 0).isLt
  have hy1 : (y 1).val < 512 := (y 1).isLt
  simp only [Fin.forall_fin_two, not_and_or, not_le, not_lt] at h0 h1 h2 h3
  simp at h0 h1 h2 h3
  omega

/-- What the four chunks leave does not depend on the weights that were there. -/
theorem chunksF_indep (m0 m1 m2 m3 : Mask F) (s : Vec F S1024x512 .f32) (m : Vec F S1024x128 .f32) (a : Vec F S1024x256 .f32)
    (p p' : Vec F S1024x512 .bf16) : chunksF m0 m1 m2 m3 s (m, a, p) = chunksF m0 m1 m2 m3 s (m, a, p') := by
  unfold chunksF chunk0 chunk1 chunk2 chunk3 chunkF
  refine Prod.ext rfl (Prod.ext rfl ?_)
  exact put4_indep p p' _ _ _ _

/-- A window inside what was put does not depend on the rest. -/
theorem window_put_indep {α : Type} {s : Shape} (x x' : s.Idx → α) (off size off' size' : Fin s.rank → ℕ) (w : ((a : Fin s.rank) → Fin (size a)) → α)
    (inb : ∀ a, off' a + size' a ≤ s.size a) (h : ∀ a, off a ≤ off' a ∧ off' a + size' a ≤ off a + size a) :
    window (put x off size w) off' size' inb = window (put x' off size w) off' size' inb := by
  funext y
  unfold window put
  have hh : ∀ a, off a ≤ ((Rect.unit off' size' inb).emb y a).val ∧ ((Rect.unit off' size' inb).emb y a).val < off a + size a := fun a => by
    have e : ((Rect.unit off' size' inb).emb y a).val = off' a + 1 * (y a).val := rfl
    have hy : (y a).val < size' a := (y a).isLt
    have := h a
    omega
  rw [dif_pos hh, dif_pos hh]

/-- The `t`-th tile of 512 keys. -/
def kt (k : Vec F S1x8192x256 .bf16) (t : ℕ) : Vec F S1x512x256 .bf16 :=
  window k ![0, t % 16 * 512, 0] S1x512x256.size (by
    have := Nat.mod_lt t (show 0 < 16 by decide)
    intro a; fin_cases a <;> simp <;> omega)

/-- The `t`-th tile of 512 values. -/
def vt (v : Vec F S8192x256 .bf16) (t : ℕ) : Vec F S512x256 .bf16 :=
  window v ![t % 16 * 512, 0] S512x256.size (by
    have := Nat.mod_lt t (show 0 < 16 by decide)
    intro a; fin_cases a <;> simp <;> omega)

/-- One tile before the diagonal. -/
def tileF (s : Vec F S1024x512 .f32) (v : Vec F S512x256 .bf16) (x : Vec F S1024x128 .f32 × Vec F S1024x256 .f32) :
    Vec F S1024x128 .f32 × Vec F S1024x256 .f32 :=
  ((chunksF (fun s => s) (fun s => s) (fun s => s) (fun s => s) s (x.1, x.2, pz)).1,
    k0_pay21 v (chunksF (fun s => s) (fun s => s) (fun s => s) (fun s => s) s (x.1, x.2, pz)).2.1
      (chunksF (fun s => s) (fun s => s) (fun s => s) (fun s => s) s (x.1, x.2, pz)).2.2)

/-- The running maxima and the accumulator after `t` tiles. -/
def stateAt (q : Vec F S1x1024x256 .bf16) (k : Vec F S1x8192x256 .bf16) (v : Vec F S8192x256 .bf16) :
    ℕ → Vec F S1024x128 .f32 × Vec F S1024x256 .f32
  | 0 => (k0_pay188, k0_pay189)
  | t + 1 => tileF (k0_pay1 q (kt k t)) (vt v t) (stateAt q k v t)

/-- The scores of the last 512 queries with the tile `k`, in the last 512 rows. -/
def lowS (q : Vec F S1x1024x256 .bf16) (k : Vec F S1x512x256 .bf16) (w : Vec F S1024x512 .f32) : Vec F S1024x512 .f32 :=
  put w ![512, 0] S512x512.size (k0_pay206 (k0_pay204 (window q ![0, 512, 0] S1x512x256.size inb_S1x1024x256_S1x512x256_0_512_0)) (k0_pay205 k)
    (constant S512x512 .f32 0x00000000#32))

/-- The first tile of the diagonal. -/
def diag0F (s : Vec F S1024x512 .f32) (v : Vec F S512x256 .bf16) (x : Vec F S1024x128 .f32 × Vec F S1024x256 .f32) : Acc F :=
  ((chunksF (causal 0#32) (causal 256#32) (causal 512#32) (causal 768#32) s (x.1, x.2, pz)).1,
    k0_pay21 v (chunksF (causal 0#32) (causal 256#32) (causal 512#32) (causal 768#32) s (x.1, x.2, pz)).2.1
      (chunksF (causal 0#32) (causal 256#32) (causal 512#32) (causal 768#32) s (x.1, x.2, pz)).2.2,
    (chunksF (causal 0#32) (causal 256#32) (causal 512#32) (causal 768#32) s (x.1, x.2, pz)).2.2)

/-- The accumulator after the last 512 rows met a tile under the weights `p`. -/
def accLow (v : Vec F S512x256 .bf16) (a : Vec F S1024x256 .f32) (p : Vec F S1024x512 .bf16) : Vec F S1024x256 .f32 :=
  put a ![512, 0] S512x256.size (k0_pay240 v (window a ![512, 0] S512x256.size inb_S1024x256_S512x256_512_0) (window p ![512, 0] S512x512.size inb_S1024x512_S512x512_512_0))

/-- The accumulator after the second tile of the diagonal. -/
def diag1F (s : Vec F S1024x512 .f32) (v : Vec F S512x256 .bf16) (x : Acc F) : Vec F S1024x256 .f32 :=
  accLow v (chunksLowF (causal 0#32) (causal 256#32) s x).2.1 (chunksLowF (causal 0#32) (causal 256#32) s x).2.2

/-- What the low chunks leave does not depend on the scores of the other rows. -/
theorem chunksLowF_indep (m2 m3 : Mask F) (q : Vec F S1x1024x256 .bf16) (k : Vec F S1x512x256 .bf16) (w w' : Vec F S1024x512 .f32) (x : Acc F) :
    chunksLowF m2 m3 (lowS q k w) x = chunksLowF m2 m3 (lowS q k w') x := by
  unfold chunksLowF chunk2 chunk3 chunkF lowS
  rw [window_put_indep w w' _ _ ![512, 0] _ _ _ (by intro a; fin_cases a <;> simp),
    window_put_indep w w' _ _ ![768, 0] _ _ _ (by intro a; fin_cases a <;> simp)]

/-- The accumulator at the end of the query block `n`. -/
def accEnd (n : ℕ) (q : Vec F S1x1024x256 .bf16) (k : Vec F S1x8192x256 .bf16) (v : Vec F S8192x256 .bf16) : Vec F S1024x256 .f32 :=
  diag1F (lowS q (kt k (2 * n + 1)) sz) (vt v (2 * n + 1)) (diag0F (k0_pay1 q (kt k (2 * n))) (vt v (2 * n)) (stateAt q k v (2 * n)))

/-- The output block of the query block `n`. -/
def outF (n : ℕ) (q : Vec F S1x1024x256 .bf16) (k : Vec F S1x8192x256 .bf16) (v : Vec F S8192x256 .bf16) : Vec F S1024x128 .bf16 :=
  k0_pay241 (window (accEnd n q k v) ![0, 0] S1024x128.size inb_S1024x256_S1024x128_0_0)
    (window (accEnd n q k v) ![0, 128] S1024x128.size inb_S1024x256_S1024x128_0_128)

/-- The values of a head beside a half of ones. -/
def fillF (v : Vec F S1x8192x128 .bf16) (w : Vec F S8192x256 .bf16) : Vec F S8192x256 .bf16 :=
  put (put w ![0, 0] S8192x128.size (k0_pay186 v)) ![0, 128] S8192x128.size k0_pay187

/-- Nothing of what was there is left. -/
theorem fillF_indep (v : Vec F S1x8192x128 .bf16) (w w' : Vec F S8192x256 .bf16) : fillF v w = fillF v w' := by
  funext y
  unfold fillF put
  split
  · rfl
  split
  · rfl
  rename_i h1 h0
  exfalso
  have hy0 : (y 0).val < 8192 := (y 0).isLt
  have hy1 : (y 1).val < 256 := (y 1).isLt
  simp only [Fin.forall_fin_two, not_and_or, not_le, not_lt] at h0 h1
  simp at h0 h1
  omega

/-- The values of a head beside a half of ones, whatever was there. -/
def fillV (v : Vec F S1x8192x128 .bf16) : Vec F S8192x256 .bf16 := fillF v (constant S8192x256 .bf16 0x0000#16)

end Cert.KernelIdeal.Flash
-- ==== Proof.Flash.Word.lean ====
/- The attention kernel's trip counts, conditions and tile offsets as numbers. -/
module

public import proofs.«01_k».proof.Proof.Flash.Code
public import Mathlib.Tactic.IntervalCases

@[expose] public section

set_option maxRecDepth 16384

noncomputable section

namespace Cert.KernelIdeal.Flash

open Idealize.ShloMosaic
open Cert.KernelIdeal Cert.KernelIdeal.Gen

theorem coord_lt (i : grid0.Coords) : (i 1).val < 8 := (i 1).isLt

/-- The loop makes a trip per two query blocks before the point's own. -/
theorem t1_trips (i : grid0.Coords) : (k0_t1_loop i).trips = (i 1).val / 2 := by
  have h := coord_lt i
  simp only [k0_t1_loop]
  generalize (i 1).val = n at h ⊢
  interval_cases n <;> decide

/-- The loop's remainder makes no trip. -/
theorem t2_trips (i : grid0.Coords) : (k0_t2_loop i).trips = 0 := by
  have h := coord_lt i
  simp only [k0_t2_loop]
  generalize (i 1).val = n at h ⊢
  interval_cases n <;> decide

/-- The branch after the loop is taken for an odd query block. -/
theorem cond2_iff (i : grid0.Coords) : k0_cond2 i = 1#1 ↔ (i 1).val % 2 = 1 := by
  have h := coord_lt i
  unfold k0_cond2
  generalize (i 1).val = n at h ⊢
  interval_cases n <;> decide

/-- The values are written at a head's first query block. -/
theorem first_iff (i : grid0.Coords) : first i = 1#1 ↔ (i 1).val = 0 := by
  have h := coord_lt i
  unfold first
  generalize (i 1).val = n at h ⊢
  interval_cases n <;> decide

theorem off1_eq (i : grid0.Coords) (t : Fin (k0_t1_loop i).trips) : k0_off1 i t = ![0, (4 * t.val + 1) % 16 * 512, 0] := by
  have h := coord_lt i
  have ht : t.val < 3 := by have := t.isLt; have := t1_trips i; omega
  unfold k0_off1 Scf.iv
  generalize t.val = n at ht ⊢
  interval_cases n <;> rfl

theorem off2_eq (i : grid0.Coords) (t : Fin (k0_t1_loop i).trips) : k0_off2 i t = ![(4 * t.val) % 16 * 512, 0] := by
  have h := coord_lt i
  have ht : t.val < 3 := by have := t.isLt; have := t1_trips i; omega
  unfold k0_off2 Scf.iv
  generalize t.val = n at ht ⊢
  interval_cases n <;> rfl

theorem off3_eq (i : grid0.Coords) (t : Fin (k0_t1_loop i).trips) : k0_off3 i t = ![0, (4 * t.val + 2) % 16 * 512, 0] := by
  have h := coord_lt i
  have ht : t.val < 3 := by have := t.isLt; have := t1_trips i; omega
  unfold k0_off3 Scf.iv
  generalize t.val = n at ht ⊢
  interval_cases n <;> rfl

theorem off4_eq (i : grid0.Coords) (t : Fin (k0_t1_loop i).trips) : k0_off4 i t = ![(4 * t.val + 1) % 16 * 512, 0] := by
  have h := coord_lt i
  have ht : t.val < 3 := by have := t.isLt; have := t1_trips i; omega
  unfold k0_off4 Scf.iv
  generalize t.val = n at ht ⊢
  interval_cases n <;> rfl

theorem off5_eq (i : grid0.Coords) (t : Fin (k0_t1_loop i).trips) : k0_off5 i t = ![0, (4 * t.val + 3) % 16 * 512, 0] := by
  have h := coord_lt i
  have ht : t.val < 3 := by have := t.isLt; have := t1_trips i; omega
  unfold k0_off5 Scf.iv
  generalize t.val = n at ht ⊢
  interval_cases n <;> rfl

theorem off6_eq (i : grid0.Coords) (t : Fin (k0_t1_loop i).trips) : k0_off6 i t = ![(4 * t.val + 2) % 16 * 512, 0] := by
  have h := coord_lt i
  have ht : t.val < 3 := by have := t.isLt; have := t1_trips i; omega
  unfold k0_off6 Scf.iv
  generalize t.val = n at ht ⊢
  interval_cases n <;> rfl

theorem off7_eq (i : grid0.Coords) (t : Fin (k0_t1_loop i).trips) : k0_off7 i t = ![0, (4 * t.val + 4) % 16 * 512, 0] := by
  have h := coord_lt i
  have ht : t.val < 3 := by have := t.isLt; have := t1_trips i; omega
  unfold k0_off7 Scf.iv
  generalize t.val = n at ht ⊢
  interval_cases n <;> rfl

theorem off8_eq (i : grid0.Coords) (t : Fin (k0_t1_loop i).trips) : k0_off8 i t = ![(4 * t.val + 3) % 16 * 512, 0] := by
  have h := coord_lt i
  have ht : t.val < 3 := by have := t.isLt; have := t1_trips i; omega
  unfold k0_off8 Scf.iv
  generalize t.val = n at ht ⊢
  interval_cases n <;> rfl

theorem off17_eq (i : grid0.Coords) (hc : (i 1).val % 2 = 1) : k0_off17 i = ![0, (2 * ((i 1).val - 1) + 1) % 16 * 512, 0] := by
  have h := coord_lt i
  unfold k0_off17
  generalize (i 1).val = n at h hc ⊢
  interval_cases n <;> first | rfl | omega

theorem off18_eq (i : grid0.Coords) (hc : (i 1).val % 2 = 1) : k0_off18 i = ![(2 * ((i 1).val - 1)) % 16 * 512, 0] := by
  have h := coord_lt i
  unfold k0_off18
  generalize (i 1).val = n at h hc ⊢
  interval_cases n <;> first | rfl | omega

theorem off19_eq (i : grid0.Coords) (hc : (i 1).val % 2 = 1) : k0_off19 i = ![0, (2 * ((i 1).val - 1) + 2) % 16 * 512, 0] := by
  have h := coord_lt i
  unfold k0_off19
  generalize (i 1).val = n at h hc ⊢
  interval_cases n <;> first | rfl | omega

theorem off20_eq (i : grid0.Coords) (hc : (i 1).val % 2 = 1) : k0_off20 i = ![(2 * ((i 1).val - 1) + 1) % 16 * 512, 0] := by
  have h := coord_lt i
  unfold k0_off20
  generalize (i 1).val = n at h hc ⊢
  interval_cases n <;> first | rfl | omega

theorem off21_eq (i : grid0.Coords) : k0_off21 i = ![0, (2 * (i 1).val + 1) % 16 * 512, 0] := by
  have h := coord_lt i
  unfold k0_off21
  generalize (i 1).val = n at h ⊢
  interval_cases n <;> rfl

theorem off22_eq0 (i : grid0.Coords) : k0_off22 i 0#32 = ![(2 * (i 1).val) % 16 * 512, 0] := by
  have h := coord_lt i
  unfold k0_off22
  generalize (i 1).val = n at h ⊢
  interval_cases n <;> rfl

theorem off22_eq1 (i : grid0.Coords) : k0_off22 i 512#32 = ![(2 * (i 1).val + 1) % 16 * 512, 0] := by
  have h := coord_lt i
  unfold k0_off22
  generalize (i 1).val = n at h ⊢
  interval_cases n <;> rfl

end Cert.KernelIdeal.Flash
-- ==== Proof.Flash.Run.lean ====
/- What the attention kernel's body leaves in the buffers. -/
module

public import proofs.«01_k».proof.Proof.Flash.Steps
public import proofs.«01_k».proof.Proof.Flash.Pure
public import proofs.«01_k».proof.Proof.Flash.Word

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.VecWindow (window put)

variable {F : FTy → Type} [FloatOps F]

local notation "𝕄" => MT nD τ sig Unit (Elt F) ℕ (UR sig nD τ) ℕ

/-- The maxima, the accumulator and the weights, in their buffers. -/
def accAt (c : Dev nD) (mr : Memref sig .tc .vmem S1024x128 .f32) (ar : Memref sig .tc .vmem S1024x256 .f32) (pr : Memref sig .tc .vmem S1024x512 .bf16)
    (x : Acc F) : sProp 𝕄 :=
  iprop(owns (c : Thread nD τ) mr fullShare x.1 ∗ owns (c : Thread nD τ) ar fullShare x.2.1 ∗ owns (c : Thread nD τ) pr fullShare x.2.2)

/-- The chunk that starts at row `o`. -/
theorem chunk_acc (c : Dev nD) (E : Set ℕ) (K : Unit → sProp 𝕄)
    (rd : Memref sig .tc .vmem S1024x512 .f32) (mr : Memref sig .tc .vmem S1024x128 .f32)
    (ar : Memref sig .tc .vmem S1024x256 .f32) (pr : Memref sig .tc .vmem S1024x512 .bf16) (hp : pr.IsWhole) (o : ℕ)
    (hs : ∀ a, (![o, 0] : Fin 2 → ℕ) a + S256x512.size a ≤ S1024x512.size a)
    (hm : ∀ a, (![o, 0] : Fin 2 → ℕ) a + S256x128.size a ≤ S1024x128.size a)
    (ha : ∀ a, (![o, 0] : Fin 2 → ℕ) a + S256x256.size a ≤ S1024x256.size a)
    (hk : (Rect.unit (s := S1024x512) ![o, 0] S256x512.size hs).PackedRows (EltTy.packing .bf16))
    (mask : Vec F S256x512 .f32 → FVec F S256x512 .f32) (s : Vec F S1024x512 .f32) (x : Acc F) :
    iprop((owns (c : Thread nD τ) rd fullShare s ∗ accAt c mr ar pr x)
        ∗ (iprop(owns (c : Thread nD τ) rd fullShare s ∗ accAt c mr ar pr (chunkF o hs hm ha mask s x)) -∗ K ⟨⟩))
      ⊢ wp frame (wpE (defs₀ (F := F)) Variants.none c none) E (chunk rd mr ar pr hp o hs hm ha hk mask) K := by
  unfold accAt chunkF
  iintro ⟨⟨H0, H1, H2, H3⟩, Hk⟩
  iapply (chunk_run c E K rd mr ar pr hp o hs hm ha hk mask s x.1 x.2.1 x.2.2)
  isplitl [H0]; · iexact H0
  isplitl [H1]; · iexact H1
  isplitl [H2]; · iexact H2
  isplitl [H3]; · iexact H3
  iexact Hk

/-- The four chunks. -/
theorem chunks_acc (c : Dev nD) (E : Set ℕ) (K : Unit → sProp 𝕄)
    (rd : Memref sig .tc .vmem S1024x512 .f32) (mr : Memref sig .tc .vmem S1024x128 .f32)
    (ar : Memref sig .tc .vmem S1024x256 .f32) (pr : Memref sig .tc .vmem S1024x512 .bf16) (hp : pr.IsWhole)
    (m0 m1 m2 m3 : Vec F S256x512 .f32 → FVec F S256x512 .f32) (s : Vec F S1024x512 .f32) (x : Acc F) :
    iprop((owns (c : Thread nD τ) rd fullShare s ∗ accAt c mr ar pr x)
        ∗ (iprop(owns (c : Thread nD τ) rd fullShare s ∗ accAt c mr ar pr (chunksF m0 m1 m2 m3 s x)) -∗ K ⟨⟩))
      ⊢ wp frame (wpE (defs₀ (F := F)) Variants.none c none) E (chunks rd mr ar pr hp m0 m1 m2 m3) K := by
  unfold chunks chunksF chunk0 chunk1 chunk2 chunk3
  iintro ⟨H, Hk⟩
  rw [wp_bind]
  iapply chunk_acc
  isplitl [H]; · iexact H
  iintro H
  rw [wp_bind]
  iapply chunk_acc
  isplitl [H]; · iexact H
  iintro H
  rw [wp_bind]
  iapply chunk_acc
  isplitl [H]; · iexact H
  iintro H
  iapply chunk_acc
  isplitl [H]; · iexact H
  iexact Hk

/-- The two chunks of the last rows. -/
theorem chunksLow_acc (c : Dev nD) (E : Set ℕ) (K : Unit → sProp 𝕄)
    (rd : Memref sig .tc .vmem S1024x512 .f32) (mr : Memref sig .tc .vmem S1024x128 .f32)
    (ar : Memref sig .tc .vmem S1024x256 .f32) (pr : Memref sig .tc .vmem S1024x512 .bf16) (hp : pr.IsWhole)
    (m2 m3 : Vec F S256x512 .f32 → FVec F S256x512 .f32) (s : Vec F S1024x512 .f32) (x : Acc F) :
    iprop((owns (c : Thread nD τ) rd fullShare s ∗ accAt c mr ar pr x)
        ∗ (iprop(owns (c : Thread nD τ) rd fullShare s ∗ accAt c mr ar pr (chunksLowF m2 m3 s x)) -∗ K ⟨⟩))
      ⊢ wp frame (wpE (defs₀ (F := F)) Variants.none c none) E (chunksLow rd mr ar pr hp m2 m3) K := by
  unfold chunksLow chunksLowF chunk2 chunk3
  iintro ⟨H, Hk⟩
  rw [wp_bind]
  iapply chunk_acc
  isplitl [H]; · iexact H
  iintro H
  iapply chunk_acc
  isplitl [H]; · iexact H
  iexact Hk

/-- A tile of values is read. -/
theorem loadv_run (c : Dev nD) (E : Set ℕ) (K : Vec F S512x256 .bf16 → sProp 𝕄) (vr : Memref sig .tc .vmem S8192x256 .bf16)
    (offv : Fin 2 → ℕ) (hv : ∀ a, offv a + S512x256.size a ≤ S8192x256.size a) (v : Vec F S8192x256 .bf16) :
    iprop(owns (c : Thread nD τ) vr fullShare v
        ∗ (owns (c : Thread nD τ) vr fullShare v -∗ K (window v offv S512x256.size hv)))
      ⊢ wp frame (wpE (defs₀ (F := F)) Variants.none c none) E
          (Prog.lift (.load vr (Rect.unit (s := S8192x256) offv S512x256.size hv).toLoadRect (View.loadsAt_vmem h_S512x256))) K := by
  simp only [owns_eq_rep]
  iintro ⟨H0, Hk⟩
  unfold Prog.lift
  sl_step
  sl_step
  rw [View.readAt_rep_unit vr.view _ _ rfl hv]
  iapply Hk
  iexact H0

/-- What a tile reads and changes: the queries, the keys, the values, the scores `s` of the tile, the buffer of the next
    tile's scores, the maxima and the accumulator `x`, and the weights. -/
def bufs (c : Dev nD) (qr : Memref sig .tc .vmem S1x1024x256 .bf16) (kr : Memref sig .tc .vmem S1x8192x256 .bf16) (vr : Memref sig .tc .vmem S8192x256 .bf16)
    (rd wr : Memref sig .tc .vmem S1024x512 .f32) (mr : Memref sig .tc .vmem S1024x128 .f32)
    (ar : Memref sig .tc .vmem S1024x256 .f32) (pr : Memref sig .tc .vmem S1024x512 .bf16)
    (q : Vec F S1x1024x256 .bf16) (k : Vec F S1x8192x256 .bf16) (v : Vec F S8192x256 .bf16) (s : Vec F S1024x512 .f32)
    (x : Vec F S1024x128 .f32 × Vec F S1024x256 .f32) : sProp 𝕄 :=
  iprop(owns (c : Thread nD τ) qr fullShare q ∗ owns (c : Thread nD τ) kr fullShare k ∗ owns (c : Thread nD τ) vr fullShare v
    ∗ owns (c : Thread nD τ) rd fullShare s ∗ (∃ w, owns (c : Thread nD τ) wr fullShare w)
    ∗ owns (c : Thread nD τ) mr fullShare x.1 ∗ owns (c : Thread nD τ) ar fullShare x.2 ∗ (∃ p, owns (c : Thread nD τ) pr fullShare p))

/-- One tile. -/
theorem tile_run (c : Dev nD) (E : Set ℕ) (K : Unit → sProp 𝕄)
    (qr : Memref sig .tc .vmem S1x1024x256 .bf16) (kr : Memref sig .tc .vmem S1x8192x256 .bf16) (vr : Memref sig .tc .vmem S8192x256 .bf16)
    (rd wr : Memref sig .tc .vmem S1024x512 .f32) (mr : Memref sig .tc .vmem S1024x128 .f32)
    (ar : Memref sig .tc .vmem S1024x256 .f32) (pr : Memref sig .tc .vmem S1024x512 .bf16) (hp : pr.IsWhole)
    (q : Vec F S1x1024x256 .bf16) (k : Vec F S1x8192x256 .bf16) (v : Vec F S8192x256 .bf16)
    (offk : Fin 3 → ℕ) (hk : ∀ a, offk a + S1x512x256.size a ≤ S1x8192x256.size a)
    (offv : Fin 2 → ℕ) (hv : ∀ a, offv a + S512x256.size a ≤ S8192x256.size a)
    (t : ℕ) (ek : offk = ![0, (t + 1) % 16 * 512, 0]) (ev : offv = ![t % 16 * 512, 0]) :
    iprop(bufs c qr kr vr rd wr mr ar pr q k v (k0_pay1 q (kt k t)) (stateAt q k v t)
        ∗ (bufs c qr kr vr wr rd mr ar pr q k v (k0_pay1 q (kt k (t + 1))) (stateAt q k v (t + 1)) -∗ K ⟨⟩))
      ⊢ wp frame (wpE (defs₀ (F := F)) Variants.none c none) E (tile qr kr vr rd wr mr ar pr hp offk hk offv hv) K := by
  subst ek ev
  unfold bufs tile
  iintro ⟨⟨H0, H1, H2, H3, ⟨%w, H4⟩, H5, H6, ⟨%p, H7⟩⟩, Hk⟩
  rw [wp_bind]
  iapply (score_run c E _ qr kr wr _ hk q k w)
  isplitl [H0]; · iexact H0
  isplitl [H1]; · iexact H1
  isplitl [H4]; · iexact H4
  iintro ⟨H0, H1, H4⟩
  rw [wp_bind]
  iapply (loadv_run c E _ vr _ hv v)
  isplitl [H2]; · iexact H2
  iintro H2
  rw [wp_bind]
  iapply (chunks_acc c E _ rd mr ar pr hp _ _ _ _ _ ((stateAt q k v t).1, (stateAt q k v t).2, p))
  isplitl [H3 H5 H6 H7]
  · unfold accAt
    isplitl [H3]; · iexact H3
    isplitl [H5]; · iexact H5
    isplitl [H6]; · iexact H6
    iexact H7
  iintro ⟨H3, H⟩
  rw [chunksF_indep _ _ _ _ _ _ _ p pz]
  unfold accAt
  icases H with ⟨H5, H6, H7⟩
  iapply (accum_run c E _ ar pr)
  isplitl [H6]; · iexact H6
  isplitl [H7]; · iexact H7
  iintro ⟨H6, H7⟩
  iapply Hk
  isplitl [H0]; · iexact H0
  isplitl [H1]; · iexact H1
  isplitl [H2]; · iexact H2
  isplitl [H4]; · iexact H4
  isplitl [H3]; · iexists _; iexact H3
  isplitl [H5]; · iexact H5
  isplitl [H6]; · iexact H6
  iexists _; iexact H7

/-- One trip of the loop: four tiles. -/
theorem trip_run (c : Dev nD) (E : Set ℕ) (K : Unit → sProp 𝕄) (i : grid0.Coords) (t : Fin (k0_t1_loop i).trips)
    (qr : Memref sig .tc .vmem S1x1024x256 .bf16) (kr : Memref sig .tc .vmem S1x8192x256 .bf16) (vr : Memref sig .tc .vmem S8192x256 .bf16)
    (s0 s1 : Memref sig .tc .vmem S1024x512 .f32) (mr : Memref sig .tc .vmem S1024x128 .f32)
    (ar : Memref sig .tc .vmem S1024x256 .f32) (pr : Memref sig .tc .vmem S1024x512 .bf16) (hp : pr.IsWhole)
    (q : Vec F S1x1024x256 .bf16) (k : Vec F S1x8192x256 .bf16) (v : Vec F S8192x256 .bf16) :
    iprop(bufs c qr kr vr s0 s1 mr ar pr q k v (k0_pay1 q (kt k (4 * t.val))) (stateAt q k v (4 * t.val))
        ∗ (bufs c qr kr vr s0 s1 mr ar pr q k v (k0_pay1 q (kt k (4 * t.val + 4))) (stateAt q k v (4 * t.val + 4)) -∗ K ⟨⟩))
      ⊢ wp frame (wpE (defs₀ (F := F)) Variants.none c none) E (trip i t qr kr vr s0 s1 mr ar pr hp) K := by
  unfold trip
  iintro ⟨H, Hk⟩
  rw [wp_bind]
  iapply (tile_run c E _ qr kr vr s0 s1 mr ar pr hp q k v _ _ _ _ (4 * t.val) (off1_eq i t) (off2_eq i t))
  isplitl [H]; · iexact H
  iintro H
  rw [wp_bind]
  iapply (tile_run c E _ qr kr vr s1 s0 mr ar pr hp q k v _ _ _ _ (4 * t.val + 1) (off3_eq i t) (off4_eq i t))
  isplitl [H]; · iexact H
  iintro H
  rw [wp_bind]
  iapply (tile_run c E _ qr kr vr s0 s1 mr ar pr hp q k v _ _ _ _ (4 * t.val + 2) (off5_eq i t) (off6_eq i t))
  isplitl [H]; · iexact H
  iintro H
  iapply (tile_run c E _ qr kr vr s1 s0 mr ar pr hp q k v _ _ _ _ (4 * t.val + 3) (off7_eq i t) (off8_eq i t))
  isplitl [H]; · iexact H
  iexact Hk

/-- The two tiles that the loop leaves for an odd query block. -/
theorem pair_run (c : Dev nD) (E : Set ℕ) (K : Unit → sProp 𝕄) (i : grid0.Coords) (h : k0_cond2 i = 1#1)
    (qr : Memref sig .tc .vmem S1x1024x256 .bf16) (kr : Memref sig .tc .vmem S1x8192x256 .bf16) (vr : Memref sig .tc .vmem S8192x256 .bf16)
    (s0 s1 : Memref sig .tc .vmem S1024x512 .f32) (mr : Memref sig .tc .vmem S1024x128 .f32)
    (ar : Memref sig .tc .vmem S1024x256 .f32) (pr : Memref sig .tc .vmem S1024x512 .bf16) (hp : pr.IsWhole)
    (q : Vec F S1x1024x256 .bf16) (k : Vec F S1x8192x256 .bf16) (v : Vec F S8192x256 .bf16) :
    iprop(bufs c qr kr vr s0 s1 mr ar pr q k v (k0_pay1 q (kt k (2 * ((i 1).val - 1)))) (stateAt q k v (2 * ((i 1).val - 1)))
        ∗ (bufs c qr kr vr s0 s1 mr ar pr q k v (k0_pay1 q (kt k (2 * ((i 1).val - 1) + 2))) (stateAt q k v (2 * ((i 1).val - 1) + 2)) -∗ K ⟨⟩))
      ⊢ wp frame (wpE (defs₀ (F := F)) Variants.none c none) E (pair i h qr kr vr s0 s1 mr ar pr hp) K := by
  have hc := (cond2_iff i).1 h
  unfold pair
  iintro ⟨H, Hk⟩
  rw [wp_bind]
  iapply (tile_run c E _ qr kr vr s0 s1 mr ar pr hp q k v _ _ _ _ (2 * ((i 1).val - 1)) (off17_eq i hc) (off18_eq i hc))
  isplitl [H]; · iexact H
  iintro H
  iapply (tile_run c E _ qr kr vr s1 s0 mr ar pr hp q k v _ _ _ _ (2 * ((i 1).val - 1) + 1) (off19_eq i hc) (off20_eq i hc))
  isplitl [H]; · iexact H
  iexact Hk

/-- The tiles before the diagonal. -/
theorem mid_run (c : Dev nD) (E : Set ℕ) (K : Unit → sProp 𝕄) (i : grid0.Coords)
    (arg2 : Memref sig .tc .vmem S1x1024x256 .bf16) (harg2 : arg2.IsWhole)
    (arg3 : Memref sig .tc .vmem S1x8192x256 .bf16) (harg3 : arg3.IsWhole)
    (arg4 : Memref sig .tc .vmem S1x8192x128 .bf16) (harg4 : arg4.IsWhole)
    (arg5 : Memref sig .tc .vmem S1024x128 .bf16) (harg5 : arg5.IsWhole)
    (arg6 : Memref sig .tc .vmem S8192x256 .bf16) (harg6 : arg6.IsWhole)
    (arg7 : Memref sig .tc .vmem S1024x512 .f32) (harg7 : arg7.IsWhole)
    (arg8 : Memref sig .tc .vmem S1024x512 .f32) (harg8 : arg8.IsWhole)
    (arg9 : Memref sig .tc .vmem S1024x128 .f32) (harg9 : arg9.IsWhole)
    (arg10 : Memref sig .tc .vmem S1024x256 .f32) (harg10 : arg10.IsWhole)
    (arg11 : Memref sig .tc .vmem S1024x512 .bf16) (harg11 : arg11.IsWhole)
    (rest : Fin (k0_t2_loop i).trips → Unit → Prog (TpuEff nD τ sig (Elt F) Λ₀ .tc) Unit)
    (q : Vec F S1x1024x256 .bf16) (k : Vec F S1x8192x256 .bf16) (v : Vec F S8192x256 .bf16) :
    iprop(bufs c arg2 arg3 arg6 arg7 arg8 arg9 arg10 arg11 q k v (k0_pay1 q (kt k (0))) (stateAt q k v (0))
        ∗ (bufs c arg2 arg3 arg6 arg7 arg8 arg9 arg10 arg11 q k v (k0_pay1 q (kt k (2 * (i 1).val))) (stateAt q k v (2 * (i 1).val)) -∗ K ⟨⟩))
      ⊢ wp frame (wpE (defs₀ (F := F)) Variants.none c none) E (mid i arg2 harg2 arg3 harg3 arg4 harg4 arg5 harg5 arg6 harg6 arg7 harg7 arg8 harg8 arg9 harg9 arg10 harg10 arg11 harg11 rest) K := by
  have h8 := coord_lt i
  unfold mid
  iintro ⟨H, Hk⟩
  rw [wp_bind]
  iapply (Scf.wp_for frame (wpE (defs₀ (F := F)) Variants.none c none) E (k0_t1_loop i).lb (k0_t1_loop i).ub (k0_t1_loop i).st (k0_t1_ok i) ⟨⟩
    (fun t _ => trip i t arg2 arg3 arg6 arg7 arg8 arg9 arg10 arg11 harg11)
    (fun n _ => bufs c arg2 arg3 arg6 arg7 arg8 arg9 arg10 arg11 q k v (k0_pay1 q (kt k (4 * n))) (stateAt q k v (4 * n)))
    (fun t _ => by
      iintro H
      iapply (trip_run c E _ i t arg2 arg3 arg6 arg7 arg8 arg9 arg10 arg11 harg11 q k v)
      isplitl [H]; · iexact H
      iintro H
      iexact H))
  isplitl [H]; · iexact H
  iintro %_ H
  rw [wp_bind]
  iapply (Scf.wp_for frame (wpE (defs₀ (F := F)) Variants.none c none) E (k0_t2_loop i).lb (k0_t2_loop i).ub (k0_t2_loop i).st (k0_t2_ok i) ⟨⟩
    rest (fun _ _ => bufs c arg2 arg3 arg6 arg7 arg8 arg9 arg10 arg11 q k v (k0_pay1 q (kt k (4 * ((i 1).val / 2)))) (stateAt q k v (4 * ((i 1).val / 2))))
    (fun t _ => absurd (show t.val < 0 from (t2_trips i) ▸ t.isLt) (Nat.not_lt_zero _)))
  isplitl [H]
  · have e : Scf.trips (k0_t1_loop i).lb (k0_t1_loop i).ub (k0_t1_loop i).st = (i 1).val / 2 := t1_trips i
    rw [e]
    iexact H
  iintro %_ H
  by_cases h : k0_cond2 i = 1#1
  · have hc := (cond2_iff i).1 h
    rw [dif_pos h]
    iapply (pair_run c E _ i h arg2 arg3 arg6 arg7 arg8 arg9 arg10 arg11 harg11 q k v)
    rw [show 4 * ((i 1).val / 2) = 2 * ((i 1).val - 1) by omega, show 2 * (i 1).val = 2 * ((i 1).val - 1) + 2 by omega]
    isplitl [H]; · iexact H
    iexact Hk
  · have hc : ¬ (i 1).val % 2 = 1 := fun e => h ((cond2_iff i).2 e)
    rw [dif_neg h]
    rw [show 4 * ((i 1).val / 2) = 2 * (i 1).val by omega]
    rw [wp_pure]
    imodintro
    iapply Hk
    iexact H

/-- A tile read at the offset that a number gives. -/
theorem window_kt (k : Vec F S1x8192x256 .bf16) (off : Fin 3 → ℕ) (h : ∀ a, off a + S1x512x256.size a ≤ S1x8192x256.size a) (t : ℕ)
    (e : off = ![0, t % 16 * 512, 0]) : window k off S1x512x256.size h = kt k t := by
  subst e; rfl

/-- A tile read at the offset that a number gives. -/
theorem window_vt (v : Vec F S8192x256 .bf16) (off : Fin 2 → ℕ) (h : ∀ a, off a + S512x256.size a ≤ S8192x256.size a) (t : ℕ)
    (e : off = ![t % 16 * 512, 0]) : window v off S512x256.size h = vt v t := by
  subst e; rfl

/-- The diagonal. -/
theorem diag_run (c : Dev nD) (E : Set ℕ) (K : Unit → sProp 𝕄) (i : grid0.Coords)
    (qr : Memref sig .tc .vmem S1x1024x256 .bf16) (kr : Memref sig .tc .vmem S1x8192x256 .bf16) (vr : Memref sig .tc .vmem S8192x256 .bf16)
    (s0 s1 : Memref sig .tc .vmem S1024x512 .f32) (mr : Memref sig .tc .vmem S1024x128 .f32)
    (ar : Memref sig .tc .vmem S1024x256 .f32) (pr : Memref sig .tc .vmem S1024x512 .bf16) (hp : pr.IsWhole)
    (q : Vec F S1x1024x256 .bf16) (k : Vec F S1x8192x256 .bf16) (v : Vec F S8192x256 .bf16) :
    iprop(bufs c qr kr vr s0 s1 mr ar pr q k v (k0_pay1 q (kt k (2 * (i 1).val))) (stateAt q k v (2 * (i 1).val))
        ∗ (iprop(owns (c : Thread nD τ) qr fullShare q ∗ owns (c : Thread nD τ) kr fullShare k ∗ owns (c : Thread nD τ) vr fullShare v
            ∗ (∃ w, owns (c : Thread nD τ) s0 fullShare w) ∗ (∃ w, owns (c : Thread nD τ) s1 fullShare w)
            ∗ (∃ w, owns (c : Thread nD τ) mr fullShare w) ∗ owns (c : Thread nD τ) ar fullShare (accEnd (i 1).val q k v)
            ∗ (∃ w, owns (c : Thread nD τ) pr fullShare w)) -∗ K ⟨⟩))
      ⊢ wp frame (wpE (defs₀ (F := F)) Variants.none c none) E (diag i qr kr vr s0 s1 mr ar pr hp) K := by
  unfold bufs diag
  iintro ⟨⟨H0, H1, H2, H3, ⟨%w, H4⟩, H5, H6, ⟨%p, H7⟩⟩, Hk⟩
  rw [wp_bind]
  iapply (scoreLow_run c E _ i qr kr s1 q k w)
  rw [window_kt k _ _ _ (off21_eq i)]
  isplitl [H0]; · iexact H0
  isplitl [H1]; · iexact H1
  isplitl [H4]; · iexact H4
  iintro ⟨H0, H1, H4⟩
  rw [wp_bind]
  iapply (loadv_run c E _ vr _ _ v)
  rw [window_vt v _ _ _ (off22_eq0 i)]
  isplitl [H2]; · iexact H2
  iintro H2
  rw [wp_bind]
  iapply (chunks_acc c E _ s0 mr ar pr hp _ _ _ _ _ ((stateAt q k v (2 * (i 1).val)).1, (stateAt q k v (2 * (i 1).val)).2, p))
  isplitl [H3 H5 H6 H7]
  · unfold accAt
    isplitl [H3]; · iexact H3
    isplitl [H5]; · iexact H5
    isplitl [H6]; · iexact H6
    iexact H7
  iintro ⟨H3, H⟩
  rw [chunksF_indep _ _ _ _ _ _ _ p pz]
  unfold accAt
  icases H with ⟨H5, H6, H7⟩
  rw [wp_bind]
  iapply (accum_run c E _ ar pr)
  isplitl [H6]; · iexact H6
  isplitl [H7]; · iexact H7
  iintro ⟨H6, H7⟩
  rw [wp_bind]
  iapply (loadv_run c E _ vr _ _ v)
  rw [window_vt v _ _ _ (off22_eq1 i)]
  isplitl [H2]; · iexact H2
  iintro H2
  rw [wp_bind]
  iapply (chunksLow_acc c E _ s1 mr ar pr hp _ _ (lowS q (kt k (2 * (i 1).val + 1)) w)
    (diag0F (k0_pay1 q (kt k (2 * (i 1).val))) (vt v (2 * (i 1).val)) (stateAt q k v (2 * (i 1).val))))
  isplitl [H4 H5 H6 H7]
  · unfold accAt
    isplitl [H4]; · iexact H4
    isplitl [H5]; · iexact H5
    isplitl [H6]; · iexact H6
    iexact H7
  iintro ⟨H4, H⟩
  rw [chunksLowF_indep _ _ _ _ w sz]
  unfold accAt
  icases H with ⟨H5, H6, H7⟩
  iapply (accumLow_run c E _ ar pr)
  isplitl [H6]; · iexact H6
  isplitl [H7]; · iexact H7
  iintro ⟨H6, H7⟩
  iapply Hk
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  iexists _; iexact H7

/-- The start of the maxima and of the accumulator, and the first scores. -/
theorem start_score_run (c : Dev nD) (E : Set ℕ) (K : Unit → sProp 𝕄)
    (arg2 : Memref sig .tc .vmem S1x1024x256 .bf16) (arg3 : Memref sig .tc .vmem S1x8192x256 .bf16)
    (arg7 : Memref sig .tc .vmem S1024x512 .f32) (arg9 : Memref sig .tc .vmem S1024x128 .f32) (arg10 : Memref sig .tc .vmem S1024x256 .f32)
    (q : Vec F S1x1024x256 .bf16) (k : Vec F S1x8192x256 .bf16)
    (w7 : Vec F S1024x512 .f32) (w9 : Vec F S1024x128 .f32) (w10 : Vec F S1024x256 .f32) :
    iprop((owns (c : Thread nD τ) arg2 fullShare q ∗ owns (c : Thread nD τ) arg3 fullShare k
        ∗ owns (c : Thread nD τ) arg7 fullShare w7 ∗ owns (c : Thread nD τ) arg9 fullShare w9 ∗ owns (c : Thread nD τ) arg10 fullShare w10)
        ∗ (iprop(owns (c : Thread nD τ) arg2 fullShare q ∗ owns (c : Thread nD τ) arg3 fullShare k
            ∗ owns (c : Thread nD τ) arg7 fullShare (k0_pay1 q (kt k 0))
            ∗ owns (c : Thread nD τ) arg9 fullShare k0_pay188 ∗ owns (c : Thread nD τ) arg10 fullShare k0_pay189) -∗ K ⟨⟩))
      ⊢ wp frame (wpE (defs₀ (F := F)) Variants.none c none) E (start arg9 arg10 >>= fun _ => score arg2 arg3 arg7 ![0, 0, 0] inb_S1x8192x256_S1x512x256_0_0_0) K := by
  iintro ⟨⟨H2, H3, H7, H9, H10⟩, Hk⟩
  rw [wp_bind]
  iapply (start_run c E _ arg9 arg10 w9 w10)
  isplitl [H9]; · iexact H9
  isplitl [H10]; · iexact H10
  iintro ⟨H9, H10⟩
  iapply (score_run c E _ arg2 arg3 arg7 _ _ q k w7)
  isplitl [H2]; · iexact H2
  isplitl [H3]; · iexact H3
  isplitl [H7]; · iexact H7
  iintro ⟨H2, H3, H7⟩
  iapply Hk
  isplitl [H2]; · iexact H2
  isplitl [H3]; · iexact H3
  isplitl [H7]; · iexact H7
  isplitl [H9]; · iexact H9
  iexact H10

/-- The body up to the first scores. -/
theorem pre_run (c : Dev nD) (E : Set ℕ) (K : Unit → sProp 𝕄) (i : grid0.Coords)
    (arg2 : Memref sig .tc .vmem S1x1024x256 .bf16) (harg2 : arg2.IsWhole)
    (arg3 : Memref sig .tc .vmem S1x8192x256 .bf16) (harg3 : arg3.IsWhole)
    (arg4 : Memref sig .tc .vmem S1x8192x128 .bf16) (harg4 : arg4.IsWhole)
    (arg5 : Memref sig .tc .vmem S1024x128 .bf16) (harg5 : arg5.IsWhole)
    (arg6 : Memref sig .tc .vmem S8192x256 .bf16) (harg6 : arg6.IsWhole)
    (arg7 : Memref sig .tc .vmem S1024x512 .f32) (harg7 : arg7.IsWhole)
    (arg8 : Memref sig .tc .vmem S1024x512 .f32) (harg8 : arg8.IsWhole)
    (arg9 : Memref sig .tc .vmem S1024x128 .f32) (harg9 : arg9.IsWhole)
    (arg10 : Memref sig .tc .vmem S1024x256 .f32) (harg10 : arg10.IsWhole)
    (arg11 : Memref sig .tc .vmem S1024x512 .bf16) (harg11 : arg11.IsWhole)
    (q : Vec F S1x1024x256 .bf16) (k : Vec F S1x8192x256 .bf16) (v : Vec F S1x8192x128 .bf16) (va : Vec F S8192x256 .bf16)
    (hva : (i 1).val ≠ 0 → va = fillV v)
    (w7 : Vec F S1024x512 .f32) (w9 : Vec F S1024x128 .f32) (w10 : Vec F S1024x256 .f32) :
    iprop((owns (c : Thread nD τ) arg2 fullShare q ∗ owns (c : Thread nD τ) arg3 fullShare k
        ∗ owns (c : Thread nD τ) arg4 fullShare v ∗ owns (c : Thread nD τ) arg6 fullShare va
        ∗ owns (c : Thread nD τ) arg7 fullShare w7 ∗ owns (c : Thread nD τ) arg9 fullShare w9 ∗ owns (c : Thread nD τ) arg10 fullShare w10)
        ∗ (iprop(owns (c : Thread nD τ) arg4 fullShare v ∗ owns (c : Thread nD τ) arg6 fullShare (fillV v)
            ∗ owns (c : Thread nD τ) arg2 fullShare q ∗ owns (c : Thread nD τ) arg3 fullShare k
            ∗ owns (c : Thread nD τ) arg7 fullShare (k0_pay1 q (kt k 0))
            ∗ owns (c : Thread nD τ) arg9 fullShare k0_pay188 ∗ owns (c : Thread nD τ) arg10 fullShare k0_pay189) -∗ K ⟨⟩))
      ⊢ wp frame (wpE (defs₀ (F := F)) Variants.none c none) E (pre (F := F) i arg2 harg2 arg3 harg3 arg4 harg4 arg5 harg5 arg6 harg6 arg7 harg7 arg8 harg8 arg9 harg9 arg10 harg10 arg11 harg11) K := by
  unfold pre
  iintro ⟨⟨H2, H3, H4, H6, H7, H9, H10⟩, Hk⟩
  by_cases h : first i = 1#1
  · rw [dif_pos h, wp_bind]
    iapply (fill_run c E _ arg4 arg6 harg6 v va)
    isplitl [H4]; · iexact H4
    isplitl [H6]; · iexact H6
    iintro ⟨H4, H6⟩
    iapply (start_score_run c E _ arg2 arg3 arg7 arg9 arg10 q k w7 w9 w10)
    isplitl [H2 H3 H7 H9 H10]
    · isplitl [H2]; · iexact H2
      isplitl [H3]; · iexact H3
      isplitl [H7]; · iexact H7
      isplitl [H9]; · iexact H9
      iexact H10
    iintro H
    iapply Hk
    isplitl [H4]; · iexact H4
    rw [fillV, fillF_indep v _ va]
    isplitl [H6]; · iexact H6
    iexact H
  · rw [dif_neg h, hva (fun e => h ((first_iff i).2 e))]
    iapply (start_score_run c E _ arg2 arg3 arg7 arg9 arg10 q k w7 w9 w10)
    isplitl [H2 H3 H7 H9 H10]
    · isplitl [H2]; · iexact H2
      isplitl [H3]; · iexact H3
      isplitl [H7]; · iexact H7
      isplitl [H9]; · iexact H9
      iexact H10
    iintro H
    iapply Hk
    isplitl [H4]; · iexact H4
    isplitl [H6]; · iexact H6
    iexact H

/-- The body at a grid point: the output block is that of the point's queries, of the head's keys and values; the values
    are in their buffer beside a half of ones, from the head's first point on. -/
theorem body_run (c : Dev nD) (E : Set ℕ) (K : Unit → sProp 𝕄) (i : grid0.Coords)
    (arg2 : Memref sig .tc .vmem S1x1024x256 .bf16) (harg2 : arg2.IsWhole)
    (arg3 : Memref sig .tc .vmem S1x8192x256 .bf16) (harg3 : arg3.IsWhole)
    (arg4 : Memref sig .tc .vmem S1x8192x128 .bf16) (harg4 : arg4.IsWhole)
    (arg5 : Memref sig .tc .vmem S1024x128 .bf16) (harg5 : arg5.IsWhole)
    (arg6 : Memref sig .tc .vmem S8192x256 .bf16) (harg6 : arg6.IsWhole)
    (arg7 : Memref sig .tc .vmem S1024x512 .f32) (harg7 : arg7.IsWhole)
    (arg8 : Memref sig .tc .vmem S1024x512 .f32) (harg8 : arg8.IsWhole)
    (arg9 : Memref sig .tc .vmem S1024x128 .f32) (harg9 : arg9.IsWhole)
    (arg10 : Memref sig .tc .vmem S1024x256 .f32) (harg10 : arg10.IsWhole)
    (arg11 : Memref sig .tc .vmem S1024x512 .bf16) (harg11 : arg11.IsWhole)
    (q : Vec F S1x1024x256 .bf16) (k : Vec F S1x8192x256 .bf16) (v : Vec F S1x8192x128 .bf16) (va : Vec F S8192x256 .bf16)
    (hva : (i 1).val ≠ 0 → va = fillV v) :
    iprop((owns (c : Thread nD τ) arg2 fullShare q ∗ owns (c : Thread nD τ) arg3 fullShare k ∗ owns (c : Thread nD τ) arg4 fullShare v
        ∗ (∃ w, owns (c : Thread nD τ) arg5 fullShare w) ∗ owns (c : Thread nD τ) arg6 fullShare va
        ∗ (∃ w, owns (c : Thread nD τ) arg7 fullShare w) ∗ (∃ w, owns (c : Thread nD τ) arg8 fullShare w)
        ∗ (∃ w, owns (c : Thread nD τ) arg9 fullShare w) ∗ (∃ w, owns (c : Thread nD τ) arg10 fullShare w)
        ∗ (∃ w, owns (c : Thread nD τ) arg11 fullShare w))
      ∗ (iprop(owns (c : Thread nD τ) arg2 fullShare q ∗ owns (c : Thread nD τ) arg3 fullShare k ∗ owns (c : Thread nD τ) arg4 fullShare v
        ∗ owns (c : Thread nD τ) arg5 fullShare (outF (i 1).val q k (fillV v)) ∗ owns (c : Thread nD τ) arg6 fullShare (fillV v)
        ∗ (∃ w, owns (c : Thread nD τ) arg7 fullShare w) ∗ (∃ w, owns (c : Thread nD τ) arg8 fullShare w)
        ∗ (∃ w, owns (c : Thread nD τ) arg9 fullShare w) ∗ (∃ w, owns (c : Thread nD τ) arg10 fullShare w)
        ∗ (∃ w, owns (c : Thread nD τ) arg11 fullShare w)) -∗ K ⟨⟩))
      ⊢ wp frame (wpE (defs₀ (F := F)) Variants.none c none) E (cc0_mla_attn (F := F) i arg2 harg2 arg3 harg3 arg4 harg4 arg5 harg5 arg6 harg6 arg7 harg7 arg8 harg8 arg9 harg9 arg10 harg10 arg11 harg11) K := by
  obtain ⟨rest, e⟩ := body_eq (F := F) i arg2 harg2 arg3 harg3 arg4 harg4 arg5 harg5 arg6 harg6 arg7 harg7 arg8 harg8 arg9 harg9 arg10 harg10 arg11 harg11
  rw [e]
  unfold body
  iintro ⟨⟨H2, H3, H4, ⟨%w5, H5⟩, H6, ⟨%w7, H7⟩, H8, ⟨%w9, H9⟩, ⟨%w10, H10⟩, H11⟩, Hk⟩
  rw [wp_bind]
  iapply (pre_run c E _ i arg2 harg2 arg3 harg3 arg4 harg4 arg5 harg5 arg6 harg6 arg7 harg7 arg8 harg8 arg9 harg9 arg10 harg10 arg11 harg11 q k v va hva w7 w9 w10)
  isplitl [H2 H3 H4 H6 H7 H9 H10]
  · isplitl [H2]; · iexact H2
    isplitl [H3]; · iexact H3
    isplitl [H4]; · iexact H4
    isplitl [H6]; · iexact H6
    isplitl [H7]; · iexact H7
    isplitl [H9]; · iexact H9
    iexact H10
  iintro ⟨H4, H6, H2, H3, H7, H9, H10⟩
  rw [wp_bind]
  iapply (mid_run c E _ i arg2 harg2 arg3 harg3 arg4 harg4 arg5 harg5 arg6 harg6 arg7 harg7 arg8 harg8 arg9 harg9 arg10 harg10 arg11 harg11 rest q k (fillV v))
  isplitl [H2 H3 H6 H7 H8 H9 H10 H11]
  · unfold bufs
    isplitl [H2]; · iexact H2
    isplitl [H3]; · iexact H3
    isplitl [H6]; · iexact H6
    isplitl [H7]; · iexact H7
    isplitl [H8]; · iexact H8
    isplitl [H9]; · iexact H9
    isplitl [H10]; · iexact H10
    iexact H11
  iintro H
  rw [wp_bind]
  iapply (diag_run c E _ i arg2 arg3 arg6 arg7 arg8 arg9 arg10 arg11 harg11 q k (fillV v))
  isplitl [H]; · iexact H
  iintro ⟨H2, H3, H6, H7, H8, H9, H10, H11⟩
  iapply (final_run c E _ arg10 arg5 harg5 _ w5)
  isplitl [H10]; · iexact H10
  isplitl [H5]; · iexact H5
  iintro ⟨H10, H5⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iexact H11

end Cert.KernelIdeal.Flash
-- ==== Proof.Flash.Frame.lean ====
/- The run of the attention kernel: what its output array holds at the end, and its frame. -/
module

public import proofs.«01_k».proof.Proof.Flash.Run
public import proofs.«01_k».proof.Proof.Gen.KernelIdeal.Points
public import Idealize.ShloMosaic.Lib.Pipeline.FrameBody
public import Idealize.ShloMosaic.Lib.Claim
public import Idealize.ShloMosaic.Lib.WordCmp

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The query block of a point. -/
theorem coord1 (t : Fin cfg0.N) : (grid0.coords t 1).val = t.val % 8 := by
  have e : (grid0.coords t 1).val = t.val / 1 % 8 := Pipeline.Grid.coords_val t 1 (by decide) rfl
  rw [e, Nat.div_one]

/-- The blocks of the queries, the keys and the values at a point, with their shapes. -/
def qb (c : Dev nD) (t : Fin cfg0.N) : Vec F S1x1024x256 .bf16 := iblk m c 0 t
def kb (c : Dev nD) (t : Fin cfg0.N) : Vec F S1x8192x256 .bf16 := iblk m c 1 t
def vb (c : Dev nD) (t : Fin cfg0.N) : Vec F S1x8192x128 .bf16 := iblk m c 2 t

/-- The output block of a point. -/
def ob (c : Dev nD) (t : Fin cfg0.N) : Vec F S1024x128 .bf16 := outF (t.val % 8) (qb m c t) (kb m c t) (fillV (vb m c t))

/-- The scratch buffers: the values beside ones at `va`, the others at anything. -/
def scr (c : Dev nD) (va : Vec F S8192x256 .bf16) : sProp 𝕄 :=
  iprop(owns (c : Thread nD τ) (Memref.whole cc0_scratch0) fullShare va
    ∗ (∃ w, owns (c : Thread nD τ) (Memref.whole cc0_scratch1) fullShare w) ∗ (∃ w, owns (c : Thread nD τ) (Memref.whole cc0_scratch2) fullShare w)
    ∗ (∃ w, owns (c : Thread nD τ) (Memref.whole cc0_scratch3) fullShare w) ∗ (∃ w, owns (c : Thread nD τ) (Memref.whole cc0_scratch4) fullShare w)
    ∗ (∃ w, owns (c : Thread nD τ) (Memref.whole cc0_scratch5) fullShare w))

/-- At the region's entry the scratch buffers hold anything. -/
theorem PhiA_eq (c : Dev nD) :
    (Pipeline.ΦA spec0 c : sProp 𝕄)
      = iprop(iprop((∃ w, owns (c : Thread nD τ) (Memref.whole cc0_scratch0) fullShare w)
        ∗ (∃ w, owns (c : Thread nD τ) (Memref.whole cc0_scratch1) fullShare w) ∗ (∃ w, owns (c : Thread nD τ) (Memref.whole cc0_scratch2) fullShare w)
        ∗ (∃ w, owns (c : Thread nD τ) (Memref.whole cc0_scratch3) fullShare w) ∗ (∃ w, owns (c : Thread nD τ) (Memref.whole cc0_scratch4) fullShare w)
        ∗ (∃ w, owns (c : Thread nD τ) (Memref.whole cc0_scratch5) fullShare w)) ∗ (∃ r, prngReg c r)) := by
  unfold Pipeline.ΦA; rw [scopedRest0_eq]; simp only [owns_whole]; try rfl

/-- The invariant before the point `n`: after a point, its head's values lie beside ones. -/
def PhiS (c : Dev nD) : (n : ℕ) → n ≤ cfg0.N → sProp 𝕄
  | 0, _ => Pipeline.ΦA spec0 c
  | n + 1, hn => iprop(scr c (fillV (vb m c ⟨n, hn⟩)) ∗ (∃ r, prngReg c r))

theorem PhiS_pos (c : Dev nD) (n : ℕ) (h : n ≤ cfg0.N) (hz : n ≠ 0) :
    PhiS m c n h = iprop(scr c (fillV (vb m c ⟨n - 1, by omega⟩)) ∗ (∃ r, prngReg c r)) := by
  cases n with
  | zero => exact absurd rfl hz
  | succ n => rfl

/-- The proof data: the blocks of the three inputs, and the point's output block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ob m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = ob m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What a fetch of the values puts in place is the point's block. -/
theorem fetched_2 (c : Dev nD) (t : Fin cfg0.N) (d) : (dats m 0 c).fetched 2 t d = iblk m c 2 t := by
  unfold Dat.fetched Dat.blockOf iblk; rw [A_eq]; try rfl

/-- Within a head the block of the values stays. -/
theorem vb_eq (c : Dev nD) (t : Fin cfg0.N) (h : ¬ t.val % 8 = 0) (h' : t.val - 1 < cfg0.N) : vb m c ⟨t.val - 1, h'⟩ = vb m c t := by
  have hf : (cfg0.win 2).fetch t = false := by
    rw [← Bool.not_eq_true, fetch0_2]; exact h
  obtain ⟨ht, hix⟩ := (cfg0.win 2).index_eq_of_fetch rfl t hf
  have d : (cfg0.win 2).block.Idx → Elt F (cfg0.win 2).elt := fun _ => Classical.arbitrary _
  unfold vb
  rw [← fetched_2 m c t d, ← fetched_2 m c ⟨t.val - 1, h'⟩ d]
  exact Dat.fetched_congr (dats m 0 c) 2 hix.symm rfl d

/-- What the body is called with at the point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

/-- Before a point the scratch buffers hold something, and the values' buffer the head's values beside ones unless
    the point is the head's first. -/
theorem Phi_in (c : Dev nD) (t : Fin cfg0.N) :
    (dats m 0 c).Φ t.castSucc ⊢ iprop(∃ va, ⌜(grid0.coords t 1).val ≠ 0 → va = fillV (vb m c t)⌝ ∗ scr c va ∗ (∃ r, prngReg c r)) := by
  rw [PhiS_castSucc m c t]
  by_cases hz : t.val = 0
  · have e : PhiS m c t.val (Nat.le_of_lt t.isLt) = Pipeline.ΦA spec0 c := by
      obtain ⟨n, hn⟩ := t; dsimp only at hz; subst hz; rfl
    rw [e, PhiA_eq]
    iintro ⟨⟨⟨%va, H0⟩, H⟩, Hg⟩
    iexists va
    isplitr
    · ipureintro; intro h; rw [coord1, hz] at h; exact absurd rfl h
    isplitl [H0 H]
    · unfold scr
      isplitl [H0]; · iexact H0
      iexact H
    iexact Hg
  · rw [PhiS_pos m c _ _ hz]
    iintro ⟨H, Hg⟩
    iexists _
    isplitr
    swap
    · isplitl [H]; · iexact H
      iexact Hg
    ipureintro
    intro h
    rw [coord1] at h
    rw [vb_eq m c t h]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2, after_3]
  rw [show (dats m 0 c).Φ t.succ = iprop(scr c (fillV (vb m c t)) ∗ (∃ r, prngReg c r)) from rfl]
  iintro ⟨HΦ, Ho, ⟨%d0, H0⟩, ⟨%d1, H1⟩, ⟨%d2, H2⟩, ⟨%d3, H3⟩⟩
  ihave HΦ := (Phi_in m c t) $$ HΦ
  icases HΦ with ⟨%va, %hva, HS, Hg⟩
  unfold scr
  icases HS with ⟨HS0, HS1, HS2, HS3, HS4, HS5⟩
  iapply (body_run c Set.univ _ (grid0.coords t) _ _ _ _ _ _ _ _ _ _ _ _ _ _ _ _ _ _ _ _ (qb m c t) (kb m c t) (vb m c t) va hva)
  isplitl [H0 H1 H2 H3 HS0 HS1 HS2 HS3 HS4 HS5]
  · isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    iexact HS5
  iintro ⟨H0, H1, H2, H3, HS0, HS1, HS2, HS3, HS4, HS5⟩
  isplitl [HS0 HS1 HS2 HS3 HS4 HS5 Hg]
  · isplitr [Hg]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  rw [coord1]
  iexact H3

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  have h : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ h, PhiA_eq]
  unfold scr
  iintro ⟨⟨H0, H⟩, Hg⟩
  isplitr [Hg]
  · isplitl [H0]; · iexists _; iexact H0
    iexact H
  iexact Hg

set_option backward.isDefEq.respectTransparency.types false in
/-- The run: the output array holds the points' output blocks, and every counter is at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := fun r => Pipeline.FramePost cfgs (dats m) 0 (V m) r ∧ r.2.sem = fun _ => 0) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Flash
-- ==== Proof.Frames.lean ====
/- The frames: the kernel's at both instances from one run, the reference's from its printed list of operations. -/
module

public import proofs.«01_k».proof.Defs
public import proofs.«01_k».proof.Proof.Flash.Frame
public import proofs.«01_k».proof.Proof.Gen.Kernel
public import proofs.«01_k».proof.Proof.Gen.ReferenceIdeal
public import proofs.«01_k».proof.Proof.Gen.ReferenceIdeal.Run
public import proofs.«01_k».proof.Proof.Gen.Pre_finite
public import Idealize.ShloMosaic.Init

@[expose] public section

noncomputable section

namespace Cert.Proof

open Idealize.ShloMosaic Idealize.SL.Sem

/-- The two programs' bodies are one text. -/
theorem body_same : @Cert.Kernel.defs₀ Bits _ Cert.Kernel.Gen.facts = @Cert.KernelIdeal.defs₀ Bits _ Cert.KernelIdeal.Gen.facts := by
  refine congrArg Defs.onTc ?_
  funext l x
  match l, x with
  | 0, (t, s) => exact rfl

theorem defs_same : @Cert.Kernel.defs Bits _ Cert.Kernel.Gen.facts = @Cert.KernelIdeal.defs Bits _ Cert.KernelIdeal.Gen.facts := by
  unfold Cert.Kernel.defs Cert.KernelIdeal.defs
  exact congrArg (Pipeline.defs _) body_same

/-- The kernel on words: its text is the one the run is proved for. -/
theorem frame_kernel : Cert.quiescent_Kernel (hKernel := Cert.Kernel.Gen.facts) := fun m ρ _ => by
  have h := Cert.KernelIdeal.Flash.frame_run (F := Bits) m ρ
  rw [← defs_same] at h
  exact h

/-- The kernel on extended reals. -/
theorem frame_ideal : Cert.quiescent_KernelIdeal (hKernelIdeal := Cert.KernelIdeal.Gen.facts) := fun m ρ _ =>
  Cert.KernelIdeal.Flash.frame_run (F := Ideal) m ρ

theorem frame_ideal_pre : Cert.quiescent_KernelIdeal_pre_finite (hKernelIdeal := Cert.KernelIdeal.Gen.facts)
    (hPre_finite := Cert.Pre_finite.Gen.facts) := fun m ρ _ =>
  Cert.KernelIdeal.Flash.frame_run (F := Ideal) m ρ

/-- The reference: its operations write no argument, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite (hReferenceIdeal := Cert.ReferenceIdeal.Gen.facts)
    (hPre_finite := Cert.Pre_finite.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Attn.Finite.lean ====
/- The precondition of the claim: every query, key and value is a real number. -/
module

public import proofs.«01_k».proof.Defs
public import Idealize.ShloMosaic.Lib.ReduceAll
public import Idealize.ShloMosaic.Lib.Pointwise
public import Idealize.ShloMosaic.PureOps.Ideal

@[expose] public section

noncomputable section

namespace Cert.Attn

open Idealize.ShloMosaic

/-- A number of absolute value below infinity is a real. -/
theorem real_of_abs_lt (x : EReal) (h : max x (-x) < ⊤) : ∃ r : ℝ, x = r := by
  induction x using EReal.rec with
  | bot => simp at h
  | coe r => exact ⟨r, rfl⟩
  | top => simp at h

/-- An array whose elements all compare below infinity holds reals. -/
theorem reals_of_all {s t u : Shape} {axes : List (Fin s.rank)} (x b : FVec Ideal s .f32) (hb : ∀ i, b i = (⊤ : EReal))
    (init : IVec u 1) (h : s.ReducesTo axes t) (hu : 0 < u.numel) [Subsingleton t.Idx] (j : t.Idx)
    (e : Host.reduce IntOp.andi (cmpf .olt (Host.absf x) b) init h hu j = 1#1) (i : s.Idx) : ∃ r : ℝ, x i = (r : EReal) := by
  have h1 : cmpf .olt (Host.absf x) b i = 1#1 := Host.reduce_andi_all _ init h hu j e i
  have h2 : BitVec.ofBool (decide (max (x i) (-x i) < b i)) = 1#1 := h1
  rw [hb] at h2
  refine real_of_abs_lt _ ?_
  by_contra hn
  rw [decide_eq_false hn] at h2
  exact absurd h2 (by decide)

theorem ofBits_inf : Ideal.ofBits .f32 0x7F800000#32 = ⊤ := by simp [Ideal.ofBits, Ideal.ieee]

/-- Under the precondition the three arrays hold reals. -/
theorem finite_args [Cert.Pre_finite.Facts] (q k : FVec Ideal Pre_finite.S16x8192x192 .f32) (v : FVec Ideal Pre_finite.S16x8192x128 .f32)
    (h : Pre_finite.fn (F := Ideal) q k v = fun _ => 1#1) :
    (∀ i, ∃ r : ℝ, q i = (r : EReal)) ∧ (∀ i, ∃ r : ℝ, k i = (r : EReal)) ∧ ∀ i, ∃ r : ℝ, v i = (r : EReal) := by
  haveI : Subsingleton Pre_finite.S_.Idx := ⟨fun a b => funext fun i => i.elim0⟩
  have h0 := congrFun h (fun i => i.elim0)
  unfold Pre_finite.fn at h0
  have e := IntOp.andi_eq_one.mp h0
  have e1 := IntOp.andi_eq_one.mp e.1
  exact ⟨reals_of_all q _ (fun _ => ofBits_inf) _ _ _ _ e1.1, reals_of_all k _ (fun _ => ofBits_inf) _ _ _ _ e1.2,
    reals_of_all v _ (fun _ => ofBits_inf) _ _ _ _ e.2⟩

end Cert.Attn

end
-- ==== Proof.Attn.Arrays.lean ====
/- What the attention kernel's blocks hold of the arguments: a head's scaled queries, its keys and its values. -/
module

public import proofs.«01_k».proof.Proof.Flash.Frame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Flash

open Idealize.ShloMosaic Idealize.ShloMosaic.TcCoe
open Idealize.ShloMosaic.Pipeline (Dat Cfg Window)
open Cert.KernelIdeal Cert.KernelIdeal.Gen

theorem idx0_0 : ∀ t : Fin cfg0.N, win0_0.index t = ![t.val / 8, t.val % 8, 0] := (by decide +kernel : ∀ t : Fin grid0.N, _)
theorem idx0_1 : ∀ t : Fin cfg0.N, win0_1.index t = ![t.val / 8, 0, 0] := (by decide +kernel : ∀ t : Fin grid0.N, _)
theorem idx0_2 : ∀ t : Fin cfg0.N, win0_2.index t = ![t.val / 8, 0, 0] := (by decide +kernel : ∀ t : Fin grid0.N, _)
theorem idx0_3 : ∀ t : Fin cfg0.N, win0_3.index t = ![t.val % 8, t.val / 8] := (by decide +kernel : ∀ t : Fin grid0.N, _)

section Reads
variable {F : FTy → Type} [FloatOps F] (m : (ℓ : Loc nD τ sig) → Buf (Elt F) ℓ) (c : Dev nD) (t : Fin cfg0.N)

/-- The head of a point. -/
def hd (t : Fin cfg0.N) : Fin 16 := ⟨t.val / 8, by have : t.val < 128 := t.isLt; omega⟩

theorem qb_at (r : Fin 1024) (d : Fin 256) :
    qb m c t (ix3 0 r d) = V m c main_v8 (ix3 (hd t) (⟨1024 * (t.val % 8) + r.val, by omega⟩ : Fin 8192) d) := by
  unfold qb
  blk_simp [iblk]
  refine congrArg _ ?_
  blk_ext [idx0_0 t, hd]

theorem kb_at (r : Fin 8192) (d : Fin 256) : kb m c t (ix3 0 r d) = V m c main_v10 (ix3 (hd t) r d) := by
  unfold kb
  blk_simp [iblk]
  refine congrArg _ ?_
  blk_ext [idx0_1 t, hd]

theorem vb_at (r : Fin 8192) (d : Fin 128) : vb m c t (ix3 0 r d) = V m c main_v11 (ix3 (hd t) r d) := by
  unfold vb
  blk_simp [iblk]
  refine congrArg _ ?_
  blk_ext [idx0_2 t, hd]
end Reads

section Host
variable (m : (ℓ : Loc nD τ sig) → Buf (Elt Ideal) ℓ) (c : Dev nD)

/-- The factor the queries are multiplied by. -/
def qscale : ℝ := 1 / (Real.log 2 * √192)

theorem qscale_eq : Ideal.div 1 (Ideal.log (Ideal.ofBits .f32 0x40000000#32) * Ideal.sqrt (Ideal.ofBits .f32 0x43400000#32)) = (qscale : EReal) := by
  have e2 : Ideal.ofBits .f32 0x40000000#32 = ((2 : ℝ) : EReal) := by
    simp [Ideal.ofBits, Ideal.ieee, -EReal.coe_mul]; norm_num
  have e192 : Ideal.ofBits .f32 0x43400000#32 = ((192 : ℝ) : EReal) := by
    simp [Ideal.ofBits, Ideal.ieee, -EReal.coe_mul]; norm_num
  rw [e2, e192, Ideal.log_coe, if_neg (by norm_num), Ideal.sqrt_coe, if_neg (by norm_num), ← EReal.coe_mul,
    Ideal.div_coe (mul_ne_zero (ne_of_gt (Real.log_pos (by norm_num))) (ne_of_gt (Real.sqrt_pos.mpr (by norm_num)))), one_mul]
  rfl

/-- A row of a head filled by zeros to 256. -/
def padded (x : Fin 192 → ℝ) (d : Fin 256) : ℝ := if h : d.val < 192 then x ⟨d.val, h⟩ else 0

theorem queries_at (h : Fin 16) (r : Fin 8192) (x : Fin 192 → ℝ)
    (hx : ∀ d, m ((c : Thread nD τ).loc main_arg0) (ix3 h r d) = (x d : EReal)) (d : Fin 256) :
    V m c main_v8 (ix3 h r d) = ((padded x d * qscale : ℝ) : EReal) := by
  entry_read
  pointwise []
  rw [qscale_eq, EReal.coe_mul]
  unfold padded
  split
  · rw [← hx]
  · rfl

theorem keys_at (h : Fin 16) (r : Fin 8192) (x : Fin 192 → ℝ)
    (hx : ∀ d, m ((c : Thread nD τ).loc main_arg1) (ix3 h r d) = (x d : EReal)) (d : Fin 256) :
    V m c main_v10 (ix3 h r d) = ((padded x d : ℝ) : EReal) := by
  entry_read
  pointwise []
  unfold padded
  split
  · rw [← hx]
  · rfl

theorem values_at (h : Fin 16) (r : Fin 8192) (d : Fin 128) :
    V m c main_v11 (ix3 h r d) = m ((c : Thread nD τ).loc main_arg2) (ix3 h r d) := by
  entry_read
  pointwise []

end Host

end Cert.KernelIdeal.Flash

end
-- ==== Proof.Flash.Points.lean ====
/- The attention kernel's vector steps on extended reals, read at one index. -/
module

public import proofs.«01_k».proof.Proof.Flash.Pure
public import Idealize.ShloMosaic.Lib.Pointwise

@[expose] public section

set_option maxRecDepth 16384

noncomputable section

namespace Cert.KernelIdeal.Flash

open Idealize.ShloMosaic
open Cert.KernelIdeal Cert.KernelIdeal.Gen
open Idealize.ShloMosaic.VecWindow (window put)

/-- The largest of a row of scores. -/
def rowMax {n : ℕ} (f : Fin n → EReal) : EReal := Finset.univ.fold max ⊥ f

theorem ofBits_negInf : Ideal.ofBits .f32 0xFF800000#32 = ⊥ := by simp [Ideal.ofBits, Ideal.ieee]

theorem pay2_at (s : Vec Ideal S256x512 .f32) (m : Vec Ideal S256x128 .f32) (r : Fin 256) (l : Fin 128) :
    k0_pay2 s m (ix2 r l) = max (m (ix2 r l)) (rowMax fun j : Fin 512 => s (ix2 r j)) := by
  pointwise [k0_pay2]
  rw [ofBits_negInf]
  rfl

theorem pay3_at (s : Vec Ideal S256x512 .f32) (m : Vec Ideal S256x128 .f32) (r : Fin 256) (l : Fin 128) :
    k0_pay3 s m (ix2 r l) = max (m (ix2 r l)) (rowMax fun j : Fin 512 => s (ix2 r j)) := by
  rw [← pay2_at]; pointwise [k0_pay3]

theorem pay5_at (s : Vec Ideal S256x512 .f32) (m : Vec Ideal S256x128 .f32) (r : Fin 256) (l : Fin 128) :
    k0_pay5 s m (ix2 r l) = Ideal.exp2 (m (ix2 r l) - max (m (ix2 r l)) (rowMax fun j : Fin 512 => s (ix2 r j))) := by
  rw [← pay2_at]; pointwise [k0_pay5]; rfl

theorem pay4_at (s : Vec Ideal S256x512 .f32) (m : Vec Ideal S256x128 .f32) (M : Fin 256 → EReal) (hm : ∀ r l, m (ix2 r l) = M r)
    (r : Fin 256) (j : Fin 512) :
    k0_pay4 s m (ix2 r j) = Ideal.exp2 (s (ix2 r j) - max (M r) (rowMax fun j : Fin 512 => s (ix2 r j))) := by
  have h : ∀ l, k0_pay2 s m (ix2 r l) = max (M r) (rowMax fun j : Fin 512 => s (ix2 r j)) := fun l => by rw [pay2_at, hm]
  pointwise [k0_pay4]
  simp only [h, dite_eq_ite, ite_self]
  rfl

theorem pay6_at (a : FVec Ideal S256x128 .f32) (x : Vec Ideal S256x256 .f32) (A : Fin 256 → EReal) (ha : ∀ r l, a (ix2 r l) = A r)
    (r : Fin 256) (d : Fin 256) : k0_pay6 a x (ix2 r d) = A r * x (ix2 r d) := by
  pointwise [k0_pay6]
  simp only [ha, dite_eq_ite, ite_self]

theorem pay1_at (q : Vec Ideal S1x1024x256 .bf16) (k : Vec Ideal S1x512x256 .bf16) (r : Fin 1024) (j : Fin 512) :
    k0_pay1 q k (ix2 r j) = ∑ d : Fin 256, q (ix3 0 r d) * k (ix3 0 j d) := by
  pointwise [k0_pay1]

theorem pay206_at (q : Vec Ideal S1x512x256 .bf16) (k : Vec Ideal S1x512x256 .bf16) (r : Fin 512) (j : Fin 512) :
    k0_pay206 (k0_pay204 q) (k0_pay205 k) (constant (F := Ideal) S512x512 .f32 0x00000000#32) (ix2 r j) = ∑ d : Fin 256, q (ix3 0 r d) * k (ix3 0 j d) := by
  pointwise [k0_pay206, k0_pay205, k0_pay204]

theorem pay21_at (v : Vec Ideal S512x256 .bf16) (a : Vec Ideal S1024x256 .f32) (p : Vec Ideal S1024x512 .bf16) (r : Fin 1024) (d : Fin 256) :
    k0_pay21 v a p (ix2 r d) = a (ix2 r d) + ∑ j : Fin 512, p (ix2 r j) * v (ix2 j d) := by
  pointwise [k0_pay21]

theorem pay240_at (v : Vec Ideal S512x256 .bf16) (a : Vec Ideal S512x256 .f32) (p : Vec Ideal S512x512 .bf16) (r : Fin 512) (d : Fin 256) :
    k0_pay240 v a p (ix2 r d) = a (ix2 r d) + ∑ j : Fin 512, p (ix2 r j) * v (ix2 j d) := by
  pointwise [k0_pay240]

theorem pay241_at (a l : Vec Ideal S1024x128 .f32) (r : Fin 1024) (d : Fin 128) :
    k0_pay241 a l (ix2 r d) = Ideal.div (a (ix2 r d)) (l (ix2 r d)) := by
  pointwise [k0_pay241]

theorem pay186_at (v : Vec Ideal S1x8192x128 .bf16) (r : Fin 8192) (d : Fin 128) : k0_pay186 v (ix2 r d) = v (ix3 0 r d) := by
  pointwise [k0_pay186]

theorem pay187_at (r : Fin 8192) (d : Fin 128) : k0_pay187 (F := Ideal) (ix2 r d) = 1 := by
  pointwise [k0_pay187]

theorem pay189_at (r : Fin 1024) (d : Fin 256) : k0_pay189 (F := Ideal) (ix2 r d) = 0 := by
  pointwise [k0_pay189]

theorem pay188_at (r : Fin 1024) (d : Fin 128) : ∃ x : ℝ, k0_pay188 (F := Ideal) (ix2 r d) = x := by
  pointwise [k0_pay188]
  rw [show Ideal.ofBits .f32 0xF149F2CA#32 = Ideal.ieee 8 23 0xF149F2CA#32 from rfl]
  unfold Ideal.ieee
  simp
  exact ⟨_, rfl⟩

/-- A row of a masked chunk keeps its scores up to the diagonal. -/
theorem causal_at (c : ℕ) (hc : c ≤ 768) (s : Vec Ideal S256x512 .f32) (r : Fin 256) (j : Fin 512) :
    causal (BitVec.ofNat 32 c) s (ix2 r j) = if j.val ≤ r.val + c then s (ix2 r j) else ⊥ := by
  have hj := j.isLt
  have hr := r.isLt
  pointwise [causal]
  rw [ofBits_negInf]
  have h : IntOp.cmpi .sle (BitVec.ofNat 32 j.val) (IntOp.addi (BitVec.ofNat 32 r.val) (BitVec.ofNat 32 c)) = BitVec.ofBool (decide (j.val ≤ r.val + c)) := by
    have e : (BitVec.ofNat 32 r.val + BitVec.ofNat 32 c) = BitVec.ofNat 32 (r.val + c) := by rw [BitVec.ofNat_add]
    show BitVec.ofBool (BitVec.sle _ (BitVec.ofNat 32 r.val + BitVec.ofNat 32 c)) = _
    rw [e, BitVec.sle_eq_decide]
    congr 2
    simp only [BitVec.toInt_eq_toNat_cond, BitVec.toNat_ofNat]
    rw [Nat.mod_eq_of_lt (by omega), Nat.mod_eq_of_lt (by omega), if_pos (by omega), if_pos (by omega)]
    exact propext Nat.cast_le
  rw [h]
  by_cases hle : j.val ≤ r.val + c
  · rw [if_pos hle, decide_eq_true hle]; rfl
  · rw [if_neg hle, decide_eq_false hle]; rfl

end Cert.KernelIdeal.Flash
-- ==== Proof.Attn.RefTerms.lean ====
/- The reference's attention at an element: the scores, their exponentials and the result. -/
module

public import proofs.«01_k».proof.Proof.Gen.ReferenceIdeal.Run
public import proofs.«01_k».proof.Proof.Flash.Points
public import Idealize.ShloMosaic.Lib.Pointwise
public import Idealize.ShloMosaic.Lib.WordCmp

@[expose] public section

set_option maxRecDepth 16384

noncomputable section

namespace Cert.ReferenceIdeal.Attn

open Idealize.ShloMosaic Idealize.ShloMosaic.TcCoe
open Cert.ReferenceIdeal Cert.ReferenceIdeal.Gen
open Cert.KernelIdeal.Flash (rowMax ofBits_negInf)

variable {F : FTy → Type} [FloatOps F]

/-- The scores of every head, those of later keys at negative infinity. -/
def scores (q k : FVec F S16x8192x192 .f32) : FVec F S16x8192x8192 .f32 :=
  select (broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (Host.dotGeneral dot_S16x8192x192_S16x8192x192_S16x8192x8192_2_2_1_1_0_0 none q k) (broadcastInDim S16x8192x8192 ![] bcast_S_S16x8192x8192 (Host.divf (constant S_ .f32 0x3F800000#32) (Host.sqrt (constant S_ .f32 0x43400000#32))))) (broadcastInDim S16x8192x8192 ![] bcast_S_S16x8192x8192 (id (constant S_ .f32 0xFF800000#32)))

/-- The greatest score of a row. -/
def rowMaxes (s : FVec F S16x8192x8192 .f32) : FVec F S16x8192 .f32 :=
  Host.reduce FloatOps.maximumf s (constant S_ .f32 0xFF800000#32) reducesTo_S16x8192x8192_S16x8192_d2 h_S_

/-- The exponentials of the scores less their row's greatest. -/
def exps (s : FVec F S16x8192x8192 .f32) : FVec F S16x8192x8192 .f32 :=
  Host.exp (subf s (broadcastInDim S16x8192x8192 ![0, 1, 2] bcast_S16x8192x1_S16x8192x8192_0_1_2 (broadcastInDim S16x8192x1 ![0, 1] bcast_S16x8192_S16x8192x1_0_1 (maximumf (broadcastInDim S16x8192 ![] bcast_S_S16x8192 (constant S_ .f32 0xFF800000#32)) (rowMaxes s)))))

/-- The normalised exponentials against the values, heads side by side. -/
def result (e : FVec F S16x8192x8192 .f32) (v : FVec F S16x8192x128 .f32) : FVec F S8192x2048 .bf16 :=
  truncf .bf16 (shapeCast S8192x2048 (transpose S8192x16x128 [1, 0, 2] (Host.dotGeneral dot_S16x8192x8192_S16x8192x128_S16x8192x128_2_1_1_2_0_0 none (Host.divf e (broadcastInDim S16x8192x8192 ![0, 1, 2] bcast_S16x8192x1_S16x8192x8192_0_1_2 (broadcastInDim S16x8192x1 ![0, 1] bcast_S16x8192_S16x8192x1_0_1 (Host.reduceAdd e (constant S_ .f32 0x00000000#32) reducesTo_S16x8192x8192_S16x8192_d2 h_S_)))) v) transposes_S16x8192x128_S8192x16x128_1_0_2) shapeCasts_S8192x16x128_S8192x2048) bitsLt_bf16_f32

theorem res_eq (m : (ℓ : Loc nD τ sig) → Buf (Elt F) ℓ) (c : Dev nD) :
    Value.res_main_v26 m c = result (exps (scores (m ((c.tc : Thread nD τ).loc main_arg0)) (m ((c.tc : Thread nD τ).loc main_arg1)))) (m ((c.tc : Thread nD τ).loc main_arg2)) := rfl

theorem ofBits_192 : Ideal.ofBits .f32 0x43400000#32 = 192 := by
  simp [Ideal.ofBits, Ideal.ieee, -EReal.coe_mul]; norm_num
  rfl

theorem scores_at (q k : FVec Ideal S16x8192x192 .f32) (h : Fin 16) (r t : Fin 8192) :
    scores q k (ix3 h r t) = if t.val ≤ r.val then (∑ d : Fin 192, q (ix3 h r d) * k (ix3 h t d)) * Ideal.div 1 (Ideal.sqrt 192) else ⊥ := by
  pointwise [scores]
  have hr := r.isLt
  have ht := t.isLt
  rw [id, constant_apply, Ideal.ofBits_def, ofBits_negInf, ofBits_192, WordCmp.cmpi_sle_ofNat (by omega) (by omega)]
  unfold Scalar.select
  by_cases h : t.val ≤ r.val <;> simp [h]

theorem reduce_max_at {A B C : ℕ} (s : FVec Ideal ⟨3, ![A, B, C]⟩ .f32) (init : FVec Ideal S_ .f32)
    (h : (⟨3, ![A, B, C]⟩ : Shape).ReducesTo [2] ⟨2, ![A, B]⟩) (hu : 0 < S_.numel) (a : Fin A) (b : Fin B) :
    Host.reduce FloatOps.maximumf s init h hu (ix2 a b) = Finset.univ.fold max (init ix0) fun t : Fin C => s (ix3 a b t) := by
  pointwise []
  exact congrArg (fun i => Finset.fold max (init i) _ _) (funext fun a => a.elim0)

theorem rowMaxes_at (s : FVec Ideal S16x8192x8192 .f32) (h : Fin 16) (r : Fin 8192) :
    rowMaxes s (ix2 h r) = rowMax fun t : Fin 8192 => s (ix3 h r t) := by
  unfold rowMaxes rowMax
  rw [reduce_max_at, constant_apply]
  rw [← ofBits_negInf]; rfl

theorem bcast_at (x : FVec Ideal S16x8192 .f32) (h : Fin 16) (r t : Fin 8192) :
    broadcastInDim S16x8192x8192 ![0, 1, 2] bcast_S16x8192x1_S16x8192x8192_0_1_2 (broadcastInDim S16x8192x1 ![0, 1] bcast_S16x8192_S16x8192x1_0_1 x) (ix3 h r t) = x (ix2 h r) := by
  pointwise []

theorem top_at (x : FVec Ideal S16x8192 .f32) (h : Fin 16) (r : Fin 8192) :
    maximumf (broadcastInDim S16x8192 ![] bcast_S_S16x8192 (constant S_ .f32 0xFF800000#32)) x (ix2 h r) = x (ix2 h r) := by
  pointwise []
  rw [ofBits_negInf, bot_sup_eq]

theorem exps_at (s : FVec Ideal S16x8192x8192 .f32) (h : Fin 16) (r t : Fin 8192) :
    exps s (ix3 h r t) = Ideal.exp (s (ix3 h r t) - rowMax fun t : Fin 8192 => s (ix3 h r t)) := by
  rw [← rowMaxes_at, ← top_at (rowMaxes s), ← bcast_at (maximumf (broadcastInDim S16x8192 ![] bcast_S_S16x8192 (constant S_ .f32 0xFF800000#32)) (rowMaxes s)) h r t]
  generalize hx : (maximumf (broadcastInDim S16x8192 ![] bcast_S_S16x8192 (constant S_ .f32 0xFF800000#32)) (rowMaxes s)) = x
  unfold exps
  rw [hx]
  rfl

theorem result_at (e : FVec Ideal S16x8192x8192 .f32) (v : FVec Ideal S16x8192x128 .f32) (r : Fin 8192) (h : Fin 16) (d : Fin 128) :
    result e v (ix2 r ⟨h.val * 128 + d.val, by omega⟩) = ∑ t : Fin 8192, Ideal.div (e (ix3 h r t)) (∑ t : Fin 8192, e (ix3 h r t)) * v (ix3 h t d) := by
  pointwise [result]

end Cert.ReferenceIdeal.Attn

end
-- ==== Proof.Flash.Rows.lean ====
/- The four chunks of a tile, row by row: maxima, accumulator and weights of every row from its masked scores. -/
module

public import proofs.«01_k».proof.Proof.Flash.Points

@[expose] public section

set_option maxRecDepth 16384

noncomputable section

namespace Cert.KernelIdeal.Flash

open Idealize.ShloMosaic
open Cert.KernelIdeal Cert.KernelIdeal.Gen
open Idealize.ShloMosaic.VecWindow (window put)

/-! ## Parts of a matrix, read at an index -/

theorem window_at {α : Type} {N C R K : ℕ} (x : (⟨2, ![N, C]⟩ : Shape).Idx → α) (o p : ℕ)
    (inb : ∀ a, (![o, p] : Fin 2 → ℕ) a + (![R, K] : Fin 2 → ℕ) a ≤ (![N, C] : Fin 2 → ℕ) a) (r : Fin R) (c : Fin K)
    (hr : o + r.val < N) (hc : p + c.val < C) :
    window (s := ⟨2, ![N, C]⟩) x ![o, p] ![R, K] inb (ix2 r c) = x (ix2 ⟨o + r.val, hr⟩ ⟨p + c.val, hc⟩) := by
  unfold window
  refine congrArg x (funext fun a => Fin.ext ?_)
  fin_cases a
  · show o + 1 * r.val = o + r.val; omega
  · show p + 1 * c.val = p + c.val; omega

theorem window3_at {α : Type} {N C D R K L : ℕ} (x : (⟨3, ![N, C, D]⟩ : Shape).Idx → α) (o p q : ℕ)
    (inb : ∀ a, (![o, p, q] : Fin 3 → ℕ) a + (![R, K, L] : Fin 3 → ℕ) a ≤ (![N, C, D] : Fin 3 → ℕ) a) (r : Fin R) (c : Fin K) (d : Fin L)
    (hr : o + r.val < N) (hc : p + c.val < C) (hd : q + d.val < D) :
    window (s := ⟨3, ![N, C, D]⟩) x ![o, p, q] ![R, K, L] inb (ix3 r c d) = x (ix3 ⟨o + r.val, hr⟩ ⟨p + c.val, hc⟩ ⟨q + d.val, hd⟩) := by
  unfold window
  refine congrArg x (funext fun a => Fin.ext ?_)
  fin_cases a
  · show o + 1 * r.val = o + r.val; omega
  · show p + 1 * c.val = p + c.val; omega
  · show q + 1 * d.val = q + d.val; omega

theorem put_at_in {α : Type} {N C R K : ℕ} (x : (⟨2, ![N, C]⟩ : Shape).Idx → α) (o p : ℕ) (w : (⟨2, ![R, K]⟩ : Shape).Idx → α)
    (r : Fin N) (c : Fin C) (r' : Fin R) (c' : Fin K) (hr : r.val = o + r'.val) (hc : c.val = p + c'.val) :
    put (s := ⟨2, ![N, C]⟩) x ![o, p] ![R, K] w (ix2 r c) = w (ix2 r' c') := by
  unfold put
  rw [dif_pos (by
    intro a
    fin_cases a
    · show o ≤ r.val ∧ r.val < o + R; omega
    · show p ≤ c.val ∧ c.val < p + K; omega)]
  refine congrArg w (funext fun a => Fin.ext ?_)
  fin_cases a
  · show r.val - o = r'.val; omega
  · show c.val - p = c'.val; omega

theorem put_at_row {α : Type} {N C R K : ℕ} (x : (⟨2, ![N, C]⟩ : Shape).Idx → α) (o p : ℕ) (w : (⟨2, ![R, K]⟩ : Shape).Idx → α)
    (r : Fin N) (c : Fin C) (hr : r.val < o ∨ o + R ≤ r.val) :
    put (s := ⟨2, ![N, C]⟩) x ![o, p] ![R, K] w (ix2 r c) = x (ix2 r c) := by
  unfold put
  rw [dif_neg (fun h => by
    have h0 : o ≤ r.val ∧ r.val < o + R := h 0
    omega)]

theorem put_at_col {α : Type} {N C R K : ℕ} (x : (⟨2, ![N, C]⟩ : Shape).Idx → α) (o p : ℕ) (w : (⟨2, ![R, K]⟩ : Shape).Idx → α)
    (r : Fin N) (c : Fin C) (hc : c.val < p ∨ p + K ≤ c.val) :
    put (s := ⟨2, ![N, C]⟩) x ![o, p] ![R, K] w (ix2 r c) = x (ix2 r c) := by
  unfold put
  rw [dif_neg (fun h => by
    have h0 : p ≤ c.val ∧ c.val < p + K := h 1
    omega)]

/-! ## A row's step -/

/-- The maximum of a row after its scores `w`. -/
def upd (m : EReal) (w : Fin 512 → EReal) : EReal := max m (rowMax w)

/-- An accumulator state row by row: maxima the same in every lane, accumulator, weights. -/
structure IsAcc (x : Acc Ideal) (M : Fin 1024 → EReal) (A : Fin 1024 → Fin 256 → EReal) (P : Fin 1024 → Fin 512 → EReal) : Prop where
  m : ∀ r l, x.1 (ix2 r l) = M r
  a : ∀ r d, x.2.1 (ix2 r d) = A r d
  p : ∀ r j, x.2.2 (ix2 r j) = P r j

/-- One chunk moves its own 256 rows. -/
theorem chunkF_rows {o : ℕ} (ho : o + 256 ≤ 1024)
    (hs : ∀ a, (![o, 0] : Fin 2 → ℕ) a + S256x512.size a ≤ S1024x512.size a)
    (hm : ∀ a, (![o, 0] : Fin 2 → ℕ) a + S256x128.size a ≤ S1024x128.size a)
    (ha : ∀ a, (![o, 0] : Fin 2 → ℕ) a + S256x256.size a ≤ S1024x256.size a)
    (mask : Mask Ideal) (s : Vec Ideal S1024x512 .f32) (x : Acc Ideal)
    {M : Fin 1024 → EReal} {A : Fin 1024 → Fin 256 → EReal} {P : Fin 1024 → Fin 512 → EReal} (hx : IsAcc x M A P)
    (W : Fin 1024 → Fin 512 → EReal)
    (hW : ∀ (r : Fin 256) (j : Fin 512), mask (window s ![o, 0] S256x512.size hs) (ix2 r j) = W ⟨o + r.val, by omega⟩ j) :
    IsAcc (chunkF o hs hm ha mask s x)
      (fun r => if o ≤ r.val ∧ r.val < o + 256 then upd (M r) (W r) else M r)
      (fun r d => if o ≤ r.val ∧ r.val < o + 256 then Ideal.exp2 (M r - upd (M r) (W r)) * A r d else A r d)
      (fun r j => if o ≤ r.val ∧ r.val < o + 256 then Ideal.exp2 (W r j - upd (M r) (W r)) else P r j) := by
  have hmw : ∀ (r : Fin 256) (l : Fin 128), window x.1 ![o, 0] S256x128.size hm (ix2 r l) = M ⟨o + r.val, by omega⟩ := fun r l => by
    refine Eq.trans (window_at (N := 1024) (C := 128) (R := 256) (K := 128) x.1 o 0 hm r l (by omega) (by omega)) (hx.m _ _)
  have haw : ∀ (r : Fin 256) (d : Fin 256), window x.2.1 ![o, 0] S256x256.size ha (ix2 r d) = A ⟨o + r.val, by omega⟩ d := fun r d => by
    refine Eq.trans (window_at (N := 1024) (C := 256) (R := 256) (K := 256) x.2.1 o 0 ha r d (by omega) (by omega)) (Eq.trans (hx.a _ _) ?_)
    congr 1; exact Fin.ext (Nat.zero_add _)
  have hb : ∀ r : Fin 256, o + r.val < 1024 := fun r => by omega
  have e : ∀ r : Fin 1024, (h : o ≤ r.val ∧ r.val < o + 256) → ∃ r' : Fin 256, r = ⟨o + r'.val, hb r'⟩ := fun r h =>
    ⟨⟨r.val - o, by omega⟩, Fin.ext (by show r.val = o + (r.val - o); omega)⟩
  refine ⟨fun r l => ?_, fun r d => ?_, fun r j => ?_⟩
  · by_cases h : o ≤ r.val ∧ r.val < o + 256
    · obtain ⟨r', rfl⟩ := e r h
      rw [if_pos h]
      refine Eq.trans (put_at_in (N := 1024) (C := 128) (R := 256) (K := 128) x.1 o 0 _ _ _ r' l rfl (by omega)) ?_
      rw [pay3_at, hmw]
      simp only [hW]; rfl
    · rw [if_neg h]
      exact Eq.trans (put_at_row (N := 1024) (C := 128) (R := 256) (K := 128) x.1 o 0 _ _ _ (by omega)) (hx.m r l)
  · by_cases h : o ≤ r.val ∧ r.val < o + 256
    · obtain ⟨r', rfl⟩ := e r h
      rw [if_pos h]
      refine Eq.trans (put_at_in (N := 1024) (C := 256) (R := 256) (K := 256) x.2.1 o 0 _ _ _ r' d rfl (by omega)) ?_
      rw [pay6_at _ _ (fun r : Fin 256 => Ideal.exp2 (M ⟨o + r.val, by omega⟩ - upd (M ⟨o + r.val, by omega⟩) (W ⟨o + r.val, by omega⟩))), haw]
      intro r l
      rw [pay5_at, hmw]
      simp only [hW]; rfl
    · rw [if_neg h]
      exact Eq.trans (put_at_row (N := 1024) (C := 256) (R := 256) (K := 256) x.2.1 o 0 _ _ _ (by omega)) (hx.a r d)
  · by_cases h : o ≤ r.val ∧ r.val < o + 256
    · obtain ⟨r', rfl⟩ := e r h
      rw [if_pos h]
      refine Eq.trans (put_at_in (N := 1024) (C := 512) (R := 256) (K := 512) x.2.2 o 0 _ _ _ r' j rfl (by omega)) ?_
      rw [pay4_at _ _ (fun r : Fin 256 => M ⟨o + r.val, by omega⟩) hmw]
      simp only [hW]; rfl
    · rw [if_neg h]
      exact Eq.trans (put_at_row (N := 1024) (C := 512) (R := 256) (K := 512) x.2.2 o 0 _ _ _ (by omega)) (hx.p r j)

/-- The scores of a chunk after its mask. -/
def Masked (o : ℕ) (ho : o + 256 ≤ 1024) (mask : Mask Ideal) (s : Vec Ideal S1024x512 .f32) (W : Fin 1024 → Fin 512 → EReal) : Prop :=
  ∀ (hs : ∀ a, (![o, 0] : Fin 2 → ℕ) a + S256x512.size a ≤ S1024x512.size a) (r : Fin 256) (j : Fin 512),
    mask (window s ![o, 0] S256x512.size hs) (ix2 r j) = W ⟨o + r.val, by omega⟩ j

theorem IsAcc.congr {x : Acc Ideal} {M M' : Fin 1024 → EReal} {A A' : Fin 1024 → Fin 256 → EReal} {P P' : Fin 1024 → Fin 512 → EReal}
    (h : IsAcc x M A P) (hM : ∀ r, M r = M' r) (hA : ∀ r d, A r d = A' r d) (hP : ∀ r j, P r j = P' r j) : IsAcc x M' A' P' :=
  ⟨fun r l => (h.m r l).trans (hM r), fun r d => (h.a r d).trans (hA r d), fun r j => (h.p r j).trans (hP r j)⟩

/-- The two last chunks move the rows from 512 on. -/
theorem chunksLowF_rows (m2 m3 : Mask Ideal) (s : Vec Ideal S1024x512 .f32) (x : Acc Ideal)
    {M : Fin 1024 → EReal} {A : Fin 1024 → Fin 256 → EReal} {P : Fin 1024 → Fin 512 → EReal} (hx : IsAcc x M A P)
    (W : Fin 1024 → Fin 512 → EReal) (h2 : Masked 512 (by omega) m2 s W) (h3 : Masked 768 (by omega) m3 s W) :
    IsAcc (chunksLowF m2 m3 s x)
      (fun r => if 512 ≤ r.val then upd (M r) (W r) else M r)
      (fun r d => if 512 ≤ r.val then Ideal.exp2 (M r - upd (M r) (W r)) * A r d else A r d)
      (fun r j => if 512 ≤ r.val then Ideal.exp2 (W r j - upd (M r) (W r)) else P r j) := by
  have c2 := chunkF_rows (by omega) inb_S1024x512_S256x512_512_0 inb_S1024x128_S256x128_512_0 inb_S1024x256_S256x256_512_0 m2 s x hx W (h2 _)
  have c3 := chunkF_rows (by omega) inb_S1024x512_S256x512_768_0 inb_S1024x128_S256x128_768_0 inb_S1024x256_S256x256_768_0 m3 s _ c2 W (h3 _)
  refine IsAcc.congr (x := chunksLowF m2 m3 s x) c3 (fun r => ?_) (fun r d => ?_) (fun r j => ?_) <;>
  · have := r.isLt
    rcases (by omega : r.val < 512 ∨ (512 ≤ r.val ∧ r.val < 768) ∨ 768 ≤ r.val) with h | h | h
    · simp [show ¬ 512 ≤ r.val by omega, show ¬ 768 ≤ r.val by omega]
    · simp [show 512 ≤ r.val by omega, show r.val < 768 by omega, show ¬ 768 ≤ r.val by omega]
    · simp [show 512 ≤ r.val by omega, show ¬ r.val < 768 by omega, show 768 ≤ r.val by omega, this]

/-- The four chunks move every row. -/
theorem chunksF_rows (m0 m1 m2 m3 : Mask Ideal) (s : Vec Ideal S1024x512 .f32) (x : Acc Ideal)
    {M : Fin 1024 → EReal} {A : Fin 1024 → Fin 256 → EReal} {P : Fin 1024 → Fin 512 → EReal} (hx : IsAcc x M A P)
    (W : Fin 1024 → Fin 512 → EReal) (h0 : Masked 0 (by omega) m0 s W) (h1 : Masked 256 (by omega) m1 s W)
    (h2 : Masked 512 (by omega) m2 s W) (h3 : Masked 768 (by omega) m3 s W) :
    IsAcc (chunksF m0 m1 m2 m3 s x) (fun r => upd (M r) (W r)) (fun r d => Ideal.exp2 (M r - upd (M r) (W r)) * A r d)
      (fun r j => Ideal.exp2 (W r j - upd (M r) (W r))) := by
  have c0 := chunkF_rows (by omega) inb_S1024x512_S256x512_0_0 inb_S1024x128_S256x128_0_0 inb_S1024x256_S256x256_0_0 m0 s x hx W (h0 _)
  have c1 := chunkF_rows (by omega) inb_S1024x512_S256x512_256_0 inb_S1024x128_S256x128_256_0 inb_S1024x256_S256x256_256_0 m1 s _ c0 W (h1 _)
  refine IsAcc.congr (x := chunksF m0 m1 m2 m3 s x) (chunksLowF_rows m2 m3 s _ c1 W h2 h3) (fun r => ?_) (fun r d => ?_) (fun r j => ?_) <;>
  · rcases (by omega : r.val < 256 ∨ (256 ≤ r.val ∧ r.val < 512) ∨ 512 ≤ r.val) with h | h | h
    · simp [show ¬ 512 ≤ r.val by omega, show ¬ 256 ≤ r.val by omega, h]
    · simp [show ¬ 512 ≤ r.val by omega, show ¬ r.val < 256 by omega, h]
    · simp [show ¬ r.val < 512 by omega, show ¬ r.val < 256 by omega, h]

end Cert.KernelIdeal.Flash
-- ==== Proof.Flash.Softmax.lean ====
/- The running softmax of one row over the reals: whatever the maxima are, the accumulator times two to the maximum is the sum
   of the values under the weights two to the score. -/
module

public import proofs.«01_k».proof.Proof.Flash.Rows
public import Mathlib.Analysis.SpecialFunctions.Pow.Real

@[expose] public section

noncomputable section

namespace Cert.KernelIdeal.Flash

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a score, zero where the score is masked. -/
def wt (w : EReal) : ℝ := (Ideal.exp2 w).toReal

@[simp] theorem wt_bot : wt ⊥ = 0 := by simp [wt]
theorem wt_coe (x : ℝ) : wt x = (2 : ℝ) ^ x := by simp only [wt, Ideal.exp2_coe, EReal.toReal_coe]; rfl

theorem exp2_sub {w : EReal} (h : w ≠ ⊤) (μ : ℝ) : Ideal.exp2 (w - μ) = ((wt w * (2 : ℝ) ^ (-μ) : ℝ) : EReal) := by
  induction w with
  | bot => rw [EReal.bot_sub, Ideal.exp2_bot, wt_bot, zero_mul]; rfl
  | top => exact absurd rfl h
  | coe x =>
    rw [← EReal.coe_sub, Ideal.exp2_coe, wt_coe, sub_eq_add_neg]
    exact congrArg _ (Real.rpow_add two_pos x (-μ))

theorem rowMax_ne_top {n : ℕ} (w : Fin n → EReal) (h : ∀ j, w j ≠ ⊤) : rowMax w ≠ ⊤ :=
  ne_of_lt ((Finset.sup_lt_iff (s := Finset.univ) (f := w) bot_lt_top).2 fun j _ => lt_top_iff_ne_top.2 (h j))

theorem upd_real (μ : ℝ) (w : Fin 512 → EReal) (h : ∀ j, w j ≠ ⊤) : ∃ μ' : ℝ, upd μ w = μ' := by
  have h1 : upd μ w ≠ ⊤ := by
    unfold upd
    rcases max_choice (μ : EReal) (rowMax w) with e | e <;> rw [e]
    · exact EReal.coe_ne_top μ
    · exact rowMax_ne_top w h
  have h2 : upd μ w ≠ ⊥ := ne_of_gt (lt_of_lt_of_le (EReal.bot_lt_coe μ) (le_max_left _ _))
  exact ⟨(upd μ w).toReal, (EReal.coe_toReal h1 h2).symm⟩

/-- A row's maximum is some real, and its accumulator is `u` over two to that. -/
def RowInv (m : EReal) (a : Fin 256 → EReal) (u : Fin 256 → ℝ) : Prop :=
  ∃ μ : ℝ, m = μ ∧ ∀ d, a d = ((u d * (2 : ℝ) ^ (-μ) : ℝ) : EReal)

/-- A tile adds its values under their weights. -/
theorem row_step {m : EReal} {a : Fin 256 → EReal} {u : Fin 256 → ℝ} (h : RowInv m a u) (w : Fin 512 → EReal) (hw : ∀ j, w j ≠ ⊤)
    (ν : Fin 512 → Fin 256 → ℝ) :
    RowInv (upd m w) (fun d => Ideal.exp2 (m - upd m w) * a d + ∑ j : Fin 512, Ideal.exp2 (w j - upd m w) * (ν j d : EReal))
      (fun d => u d + ∑ j : Fin 512, wt (w j) * ν j d) := by
  obtain ⟨μ, rfl, ha⟩ := h
  obtain ⟨μ', e⟩ := upd_real μ w hw
  refine ⟨μ', e, fun d => ?_⟩
  beta_reduce
  rw [e, ha, exp2_sub (EReal.coe_ne_top μ), wt_coe]
  simp only [exp2_sub (hw _), ← EReal.coe_mul, ← coe_sum, ← EReal.coe_add]
  congr 1
  rw [add_mul, Finset.sum_mul]
  congr 1
  · have : (2 : ℝ) ^ μ * (2 : ℝ) ^ (-μ) = 1 := by rw [← Real.rpow_add two_pos]; simp
    linear_combination (u d * (2 : ℝ) ^ (-μ')) * this
  · exact Finset.sum_congr rfl fun j _ => by ring

/-- The quotient of two lanes of the accumulator does not depend on the maximum. -/
theorem row_quotient {m : EReal} {a : Fin 256 → EReal} {u : Fin 256 → ℝ} (h : RowInv m a u) (d e : Fin 256) (hu : u e ≠ 0) :
    Ideal.div (a d) (a e) = ((u d / u e : ℝ) : EReal) := by
  obtain ⟨μ, rfl, ha⟩ := h
  have hp : (2 : ℝ) ^ (-μ) ≠ 0 := (Real.rpow_pos_of_pos two_pos _).ne'
  rw [ha, ha, Ideal.div_coe (mul_ne_zero hu hp), ← EReal.coe_mul]
  congr 1
  field_simp

end Cert.KernelIdeal.Flash
-- ==== Proof.Flash.Tiles.lean ====
/- The attention kernel's output block on real queries, keys and values: after the tiles before the diagonal and the two tiles
   of the diagonal, every row's accumulator is the sum of the values of the keys it sees under the weights two to the score. -/
module

public import proofs.«01_k».proof.Proof.Flash.Softmax

@[expose] public section

set_option maxRecDepth 16384

noncomputable section

namespace Cert.KernelIdeal.Flash

open Idealize.ShloMosaic
open Cert.KernelIdeal Cert.KernelIdeal.Gen
open Idealize.ShloMosaic.VecWindow (window put)

/-- Every row of the maxima and the accumulator is `u` over two to some real. -/
def StateInv (x : Vec Ideal S1024x128 .f32 × Vec Ideal S1024x256 .f32) (u : Fin 1024 → Fin 256 → ℝ) : Prop :=
  ∀ r : Fin 1024, ∃ m : EReal, (∀ l, x.1 (ix2 r l) = m) ∧ RowInv m (fun d => x.2 (ix2 r d)) (u r)

theorem StateInv.isAcc {x : Vec Ideal S1024x128 .f32 × Vec Ideal S1024x256 .f32} {u : Fin 1024 → Fin 256 → ℝ} (h : StateInv x u)
    (p : Vec Ideal S1024x512 .bf16) : ∃ M : Fin 1024 → EReal, IsAcc (x.1, x.2, p) M (fun r d => x.2 (ix2 r d)) (fun r j => p (ix2 r j))
      ∧ ∀ r, RowInv (M r) (fun d => x.2 (ix2 r d)) (u r) := by
  choose M hM hr using h
  exact ⟨M, ⟨hM, fun _ _ => rfl, fun _ _ => rfl⟩, hr⟩

/-- The chunks and the product with the values, from masked scores none of which is positive infinity. -/
theorem acc_inv {y : Acc Ideal} {M : Fin 1024 → EReal} {A : Fin 1024 → Fin 256 → EReal} {u : Fin 1024 → Fin 256 → ℝ}
    {W : Fin 1024 → Fin 512 → EReal} (hW : ∀ r j, W r j ≠ ⊤)
    (hy : IsAcc y (fun r => upd (M r) (W r)) (fun r d => Ideal.exp2 (M r - upd (M r) (W r)) * A r d) (fun r j => Ideal.exp2 (W r j - upd (M r) (W r))))
    (hr : ∀ r, RowInv (M r) (A r) (u r)) (v : Vec Ideal S512x256 .bf16) (ν : Fin 512 → Fin 256 → ℝ) (hv : ∀ j d, v (ix2 j d) = ν j d) :
    StateInv (y.1, k0_pay21 v y.2.1 y.2.2) (fun r d => u r d + ∑ j : Fin 512, wt (W r j) * ν j d) := by
  intro r
  refine ⟨upd (M r) (W r), hy.m r, ?_⟩
  have h := row_step (hr r) (W r) (hW r) ν
  refine cast (congrArg (fun a => RowInv _ a _) (funext fun d => ?_)) h
  refine Eq.symm (Eq.trans (pay21_at v _ _ r d) ?_)
  rw [hy.a]
  simp only [hy.p, hv]

/-- The scores of row `r` with the key `t`. -/
def sc (qr : Fin 1024 → Fin 256 → ℝ) (kr : ℕ → Fin 256 → ℝ) (r : Fin 1024) (t : ℕ) : ℝ := ∑ d : Fin 256, qr r d * kr t d

theorem masked_id (o : ℕ) (ho : o + 256 ≤ 1024) (s : Vec Ideal S1024x512 .f32) : Masked o ho (fun s => s) s (fun r j => s (ix2 r j)) := by
  intro hs r j
  refine Eq.trans (window_at (N := 1024) (C := 512) (R := 256) (K := 512) s o 0 hs r j (by omega) (by omega)) ?_
  congr 2; exact Fin.ext (Nat.zero_add _)

theorem masked_causal (o c b : ℕ) (ho : o + 256 ≤ 1024) (hc : c ≤ 768) (hb : o = b + c) (s : Vec Ideal S1024x512 .f32) :
    Masked o ho (causal (BitVec.ofNat 32 c)) s (fun r j => if b + j.val ≤ r.val then s (ix2 r j) else ⊥) := by
  intro hs r j
  rw [causal_at c hc]
  have e : window s ![o, 0] S256x512.size hs (ix2 r j) = s (ix2 ⟨o + r.val, by omega⟩ j) := masked_id o ho s hs r j
  rw [e]
  refine if_congr ?_ rfl rfl
  show j.val ≤ r.val + c ↔ b + j.val ≤ o + r.val
  omega

section
variable (q : Vec Ideal S1x1024x256 .bf16) (k : Vec Ideal S1x8192x256 .bf16) (v : Vec Ideal S8192x256 .bf16)
  (qr : Fin 1024 → Fin 256 → ℝ) (kr vr : ℕ → Fin 256 → ℝ)
  (hq : ∀ r d, q (ix3 0 r d) = qr r d) (hk : ∀ (t : Fin 8192) d, k (ix3 0 t d) = kr t.val d) (hv : ∀ (t : Fin 8192) d, v (ix2 t d) = vr t.val d)

include hk in
theorem kt_at (t : ℕ) (ht : t < 16) (j : Fin 512) (d : Fin 256) : kt k t (ix3 0 j d) = kr (512 * t + j.val) d := by
  have e : t % 16 = t := Nat.mod_eq_of_lt ht
  refine Eq.trans (window3_at (N := 1) (C := 8192) (D := 256) (R := 1) (K := 512) (L := 256) k 0 (t % 16 * 512) 0 _ 0 j d (by decide) (by omega) (by omega)) ?_
  refine Eq.trans ?_ (Eq.trans (hk ⟨512 * t + j.val, by omega⟩ d) rfl)
  refine congrArg k ?_
  congr 1
  · exact Fin.ext (by show t % 16 * 512 + j.val = 512 * t + j.val; omega)
  · exact Fin.ext (Nat.zero_add _)

include hv in
theorem vt_at (t : ℕ) (ht : t < 16) (j : Fin 512) (d : Fin 256) : vt v t (ix2 j d) = vr (512 * t + j.val) d := by
  have e : t % 16 = t := Nat.mod_eq_of_lt ht
  refine Eq.trans (window_at (N := 8192) (C := 256) (R := 512) (K := 256) v (t % 16 * 512) 0 _ j d (by omega) (by omega)) ?_
  refine Eq.trans ?_ (Eq.trans (hv ⟨512 * t + j.val, by omega⟩ d) rfl)
  refine congrArg v ?_
  congr 1
  · exact Fin.ext (by show t % 16 * 512 + j.val = 512 * t + j.val; omega)
  · exact Fin.ext (Nat.zero_add _)

include hq hk in
theorem score_at (t : ℕ) (ht : t < 16) (r : Fin 1024) (j : Fin 512) : k0_pay1 q (kt k t) (ix2 r j) = sc qr kr r (512 * t + j.val) := by
  rw [pay1_at]
  simp only [hq, kt_at k kr hk t ht, ← EReal.coe_mul, ← coe_sum]
  rfl

/-- The state before the tiles. -/
theorem start_inv : StateInv (k0_pay188 (F := Ideal), k0_pay189 (F := Ideal)) (fun _ _ => 0) := fun r => by
  obtain ⟨x, hx⟩ := pay188_at r 0
  have h : ∀ l : Fin 128, k0_pay188 (F := Ideal) (ix2 r l) = k0_pay188 (F := Ideal) (ix2 r 0) := fun l => by pointwise [k0_pay188]
  refine ⟨x, fun l => (h l).trans hx, x, rfl, fun d => ?_⟩
  show k0_pay189 (F := Ideal) (ix2 r d) = _
  rw [pay189_at, zero_mul]; rfl

include hq hk hv in
/-- After `T` tiles a row holds the sum over the keys of those tiles. -/
theorem stateAt_inv (T : ℕ) (hT : T ≤ 16) :
    StateInv (stateAt q k v T) (fun r d => ∑ t ∈ Finset.range (512 * T), (2 : ℝ) ^ sc qr kr r t * vr t d) := by
  induction T with
  | zero => exact start_inv
  | succ T ih =>
    obtain ⟨M, hx, hr⟩ := (ih (by omega)).isAcc pz
    have hy := chunksF_rows (fun s => s) (fun s => s) (fun s => s) (fun s => s) (k0_pay1 q (kt k T)) _ hx (fun r j => k0_pay1 q (kt k T) (ix2 r j))
      (masked_id _ _ _) (masked_id _ _ _) (masked_id _ _ _) (masked_id _ _ _)
    have h := acc_inv (fun r j => by rw [score_at q k qr kr hq hk T (by omega)]; exact EReal.coe_ne_top _) hy hr (vt v T)
      (fun j d => vr (512 * T + j.val) d) (fun j d => vt_at v vr hv T (by omega) j d)
    intro r
    obtain ⟨m, h1, h2⟩ := h r
    refine ⟨m, h1, cast (congrArg (RowInv _ _) (funext fun d => ?_)) h2⟩
    beta_reduce
    rw [Nat.mul_succ, Finset.sum_range_add]
    simp only [score_at q k qr kr hq hk T (by omega), wt_coe]
    exact congrArg _ (Finset.sum_range fun j => (2 : ℝ) ^ sc qr kr r (512 * T + j) * vr (512 * T + j) d).symm

/-- What the two tiles of the diagonal add to a row. -/
def diagSum (n : ℕ) (r : Fin 1024) (d : Fin 256) : ℝ :=
  (∑ j : Fin 512, if 0 + j.val ≤ r.val then (2 : ℝ) ^ sc qr kr r (512 * (2 * n) + j.val) * vr (512 * (2 * n) + j.val) d else 0)
    + ∑ j : Fin 512, if 512 + j.val ≤ r.val then (2 : ℝ) ^ sc qr kr r (512 * (2 * n + 1) + j.val) * vr (512 * (2 * n + 1) + j.val) d else 0

include hq in
theorem low_at (kk : Vec Ideal S1x512x256 .bf16) (σ : ℕ → Fin 256 → ℝ) (hkk : ∀ (j : Fin 512) d, kk (ix3 0 j d) = σ j.val d)
    (w : Vec Ideal S1024x512 .f32) (r : Fin 1024) (hr : 512 ≤ r.val) (j : Fin 512) : lowS q kk w (ix2 r j) = sc qr σ r j.val := by
  refine Eq.trans (put_at_in (N := 1024) (C := 512) (R := 512) (K := 512) w 512 0 _ r j ⟨r.val - 512, by omega⟩ j (by show r.val = 512 + (r.val - 512); omega) (by omega)) ?_
  rw [pay206_at]
  have e : ∀ d : Fin 256, window q ![0, 512, 0] S1x512x256.size inb_S1x1024x256_S1x512x256_0_512_0 (ix3 0 ⟨r.val - 512, by omega⟩ d) = qr r d := fun d => by
    refine Eq.trans (window3_at (N := 1) (C := 1024) (D := 256) (R := 1) (K := 512) (L := 256) q 0 512 0 _ 0 ⟨r.val - 512, by omega⟩ d (by decide) (by show 512 + (r.val - 512) < 1024; omega) (by omega)) ?_
    refine Eq.trans ?_ (hq r d)
    refine congrArg q ?_
    congr 1
    · exact Fin.ext (by show 512 + (r.val - 512) = r.val; omega)
    · exact Fin.ext (Nat.zero_add _)
  simp only [e, hkk, ← EReal.coe_mul, ← coe_sum]
  rfl

include hq hk hv in
/-- The accumulator at the end of query block `n`, row by row. -/
theorem accEnd_inv (n : ℕ) (hn : n < 8) (r : Fin 1024) : ∃ m : EReal, RowInv m (fun d => accEnd n q k v (ix2 r d))
    (fun d => (∑ t ∈ Finset.range (512 * (2 * n)), (2 : ℝ) ^ sc qr kr r t * vr t d) + diagSum qr kr vr n r d) := by
  obtain ⟨M, hx, hr⟩ := (stateAt_inv q k v qr kr vr hq hk hv (2 * n) (by omega)).isAcc pz
  -- the first tile of the diagonal
  have hs0 : ∀ r j, k0_pay1 q (kt k (2 * n)) (ix2 r j) = sc qr kr r (512 * (2 * n) + j.val) := fun r j => score_at q k qr kr hq hk (2 * n) (by omega) r j
  have hy := chunksF_rows (causal 0#32) (causal 256#32) (causal 512#32) (causal 768#32) (k0_pay1 q (kt k (2 * n))) _ hx
    (fun r j => if 0 + j.val ≤ r.val then k0_pay1 q (kt k (2 * n)) (ix2 r j) else ⊥)
    (masked_causal 0 0 0 _ (by omega) rfl _) (masked_causal 256 256 0 _ (by omega) rfl _)
    (masked_causal 512 512 0 _ (by omega) rfl _) (masked_causal 768 768 0 _ (by omega) rfl _)
  have h0 := acc_inv (fun r j => by split; · rw [hs0]; exact EReal.coe_ne_top _
                                    exact bot_ne_top) hy hr (vt v (2 * n))
    (fun j d => vr (512 * (2 * n) + j.val) d) (fun j d => vt_at v vr hv (2 * n) (by omega) j d)
  have h0' : StateInv _ (fun r d => (∑ t ∈ Finset.range (512 * (2 * n)), (2 : ℝ) ^ sc qr kr r t * vr t d)
      + ∑ j : Fin 512, if 0 + j.val ≤ r.val then (2 : ℝ) ^ sc qr kr r (512 * (2 * n) + j.val) * vr (512 * (2 * n) + j.val) d else 0) := fun r => by
    obtain ⟨m, h1, h2⟩ := h0 r
    refine ⟨m, h1, cast (congrArg (RowInv _ _) (funext fun d => ?_)) h2⟩
    beta_reduce
    congr 1
    refine Finset.sum_congr rfl fun j _ => ?_
    split
    · rw [hs0, wt_coe]
    · rw [wt_bot, zero_mul]
  -- the second
  obtain ⟨M1, hx1, hr1⟩ := h0'.isAcc (diag0F (k0_pay1 q (kt k (2 * n))) (vt v (2 * n)) (stateAt q k v (2 * n))).2.2
  have hs1 : ∀ (r : Fin 1024) (j : Fin 512), 512 ≤ r.val → lowS q (kt k (2 * n + 1)) sz (ix2 r j) = sc qr kr r (512 * (2 * n + 1) + j.val) := fun r j h =>
    low_at q qr hq (kt k (2 * n + 1)) (fun j d => kr (512 * (2 * n + 1) + j) d) (fun j d => kt_at k kr hk (2 * n + 1) (by omega) j d) sz r h j
  have hy1 := chunksLowF_rows (causal 0#32) (causal 256#32) (lowS q (kt k (2 * n + 1)) sz)
    (diag0F (k0_pay1 q (kt k (2 * n))) (vt v (2 * n)) (stateAt q k v (2 * n))) hx1
    (fun r j => if 512 + j.val ≤ r.val then lowS q (kt k (2 * n + 1)) sz (ix2 r j) else ⊥)
    (masked_causal 512 0 512 _ (by omega) rfl _) (masked_causal 768 256 512 _ (by omega) rfl _)
  unfold accEnd diag1F accLow
  by_cases hlt : r.val < 512
  · refine ⟨M1 r, ?_⟩
    have e : ∀ (w : Vec Ideal S512x256 .f32) (d : Fin 256), put (chunksLowF (causal 0#32) (causal 256#32) (lowS q (kt k (2 * n + 1)) sz) (diag0F (k0_pay1 q (kt k (2 * n))) (vt v (2 * n)) (stateAt q k v (2 * n)))).2.1 ![512, 0] S512x256.size w (ix2 r d) = _ := fun w d =>
      Eq.trans (put_at_row (N := 1024) (C := 256) (R := 512) (K := 256) _ 512 0 _ r d (Or.inl hlt)) ((hy1.a r d).trans (if_neg (by omega)))
    refine cast (congrArg₂ (RowInv _) (funext fun d => (e _ d).symm) (funext fun d => ?_)) (hr1 r)
    unfold diagSum
    rw [Finset.sum_eq_zero (s := Finset.univ) (f := fun j : Fin 512 => if 512 + j.val ≤ r.val then _ else (0:ℝ)) (fun j _ => if_neg (by omega)), add_zero]
  · have h := row_step (hr1 r) (fun j : Fin 512 => if 512 + j.val ≤ r.val then lowS q (kt k (2 * n + 1)) sz (ix2 r j) else ⊥)
      (fun j => by split; · rw [hs1 r j (by omega)]; exact EReal.coe_ne_top _
                   exact bot_ne_top) (fun j d => vr (512 * (2 * n + 1) + j.val) d)
    refine ⟨_, cast (congrArg₂ (RowInv _) (funext fun d => Eq.symm ?_) (funext fun d => ?_)) h⟩
    · refine Eq.trans (put_at_in (N := 1024) (C := 256) (R := 512) (K := 256) _ 512 0 _ r d ⟨r.val - 512, by omega⟩ d (by show r.val = 512 + (r.val - 512); omega) (by omega)) ?_
      have er : (⟨512 + (r.val - 512), by omega⟩ : Fin 1024) = r := Fin.ext (by show 512 + (r.val - 512) = r.val; omega)
      rw [pay240_at]
      congr 1
      · refine Eq.trans (window_at (N := 1024) (C := 256) (R := 512) (K := 256) _ 512 0 _ ⟨r.val - 512, by omega⟩ d (by show 512 + (r.val - 512) < 1024; omega) (by omega)) ?_
        refine Eq.trans ?_ ((hy1.a r d).trans (if_pos (by omega)))
        exact congrArg₂ (fun (a : Fin 1024) (b : Fin 256) => (chunksLowF (causal 0#32) (causal 256#32) (lowS q (kt k (2 * n + 1)) sz) (diag0F (k0_pay1 q (kt k (2 * n))) (vt v (2 * n)) (stateAt q k v (2 * n)))).2.1 (ix2 a b)) er (Fin.ext (Nat.zero_add _))
      · refine Finset.sum_congr rfl fun j _ => ?_
        rw [vt_at v vr hv (2 * n + 1) (by omega)]
        congr 1
        refine Eq.trans (window_at (N := 1024) (C := 512) (R := 512) (K := 512) _ 512 0 _ ⟨r.val - 512, by omega⟩ j (by show 512 + (r.val - 512) < 1024; omega) (by omega)) ?_
        refine Eq.trans ?_ ((hy1.p r j).trans (if_pos (by omega)))
        exact congrArg₂ (fun (a : Fin 1024) (b : Fin 512) => (chunksLowF (causal 0#32) (causal 256#32) (lowS q (kt k (2 * n + 1)) sz) (diag0F (k0_pay1 q (kt k (2 * n))) (vt v (2 * n)) (stateAt q k v (2 * n)))).2.2 (ix2 a b)) er (Fin.ext (Nat.zero_add _))
    · unfold diagSum
      rw [← add_assoc]
      congr 1
      refine Finset.sum_congr rfl fun j _ => ?_
      split
      · rw [hs1 r j (by omega), wt_coe]
      · rw [wt_bot, zero_mul]

end

end Cert.KernelIdeal.Flash
-- ==== Proof.Flash.Block.lean ====
/- The attention kernel's output block on real queries, keys and values: every element is the mean of the values of the keys
   its row sees, weighted by two to the score. -/
module

public import proofs.«01_k».proof.Proof.Flash.Tiles

@[expose] public section

set_option maxRecDepth 16384

noncomputable section

namespace Cert.KernelIdeal.Flash

open Idealize.ShloMosaic
open Cert.KernelIdeal Cert.KernelIdeal.Gen
open Idealize.ShloMosaic.VecWindow (window put)

/-- A sum of the terms up to `r` among `n`. -/
theorem sum_upto (f : ℕ → ℝ) (n r : ℕ) (h : r < n) :
    (∑ j ∈ Finset.range n, if j ≤ r then f j else 0) = ∑ j ∈ Finset.range (r + 1), f j := by
  rw [← Finset.sum_filter]
  refine Finset.sum_congr (Finset.ext fun j => ?_) fun _ _ => rfl
  simp only [Finset.mem_filter, Finset.mem_range]
  omega

/-- The tiles before the diagonal with the two tiles of the diagonal: the keys a row sees. -/
theorem seen_sum (qr : Fin 1024 → Fin 256 → ℝ) (kr vr : ℕ → Fin 256 → ℝ) (n : ℕ) (r : Fin 1024) (d : Fin 256) :
    (∑ t ∈ Finset.range (512 * (2 * n)), (2:ℝ) ^ sc qr kr r t * vr t d) + diagSum qr kr vr n r d
      = ∑ t ∈ Finset.range (1024 * n + r.val + 1), (2:ℝ) ^ sc qr kr r t * vr t d := by
  have hr := r.isLt
  have e : 1024 * n + r.val + 1 = 512 * (2 * n) + (r.val + 1) := by omega
  rw [e, Finset.sum_range_add, ← sum_upto (fun j => (2:ℝ) ^ sc qr kr r (512 * (2 * n) + j) * vr (512 * (2 * n) + j) d) (512 + 512) r.val (by omega),
    Finset.sum_range_add]
  unfold diagSum
  refine congrArg₂ (· + ·) rfl (congrArg₂ (· + ·) (Eq.trans (Finset.sum_congr rfl fun j _ => ?_) (Finset.sum_range _).symm)
    (Eq.trans (Finset.sum_congr rfl fun j _ => ?_) (Finset.sum_range _).symm))
  · simp only [Nat.zero_add]
  · rw [show 512 * (2 * n + 1) + j.val = 512 * (2 * n) + (512 + j.val) by omega]

/-- The values beside ones, at an element. -/
theorem fillV_at (v : Vec Ideal S1x8192x128 .bf16) (vv : ℕ → Fin 128 → ℝ) (hv : ∀ (t : Fin 8192) d, v (ix3 0 t d) = vv t.val d)
    (t : Fin 8192) (d : Fin 256) : fillV v (ix2 t d) = ((if h : d.val < 128 then vv t.val ⟨d.val, h⟩ else 1 : ℝ) : EReal) := by
  have hd := d.isLt
  unfold fillV fillF
  by_cases h : d.val < 128
  · rw [dif_pos h, ← hv t ⟨d.val, h⟩, ← pay186_at v t ⟨d.val, h⟩]
    exact Eq.trans (put_at_col (N := 8192) (C := 256) (R := 8192) (K := 128) _ 0 128 _ t d (Or.inl h))
      (put_at_in (N := 8192) (C := 256) (R := 8192) (K := 128) _ 0 0 _ t d t ⟨d.val, h⟩ (by omega) (by show d.val = 0 + d.val; omega))
  · rw [dif_neg h, EReal.coe_one]
    exact Eq.trans (put_at_in (N := 8192) (C := 256) (R := 8192) (K := 128) _ 0 128 _ t d t ⟨d.val - 128, by omega⟩ (by omega)
      (by show d.val = 128 + (d.val - 128); omega)) (pay187_at _ _)

/-- An element of the output block. -/
theorem outF_at (q : Vec Ideal S1x1024x256 .bf16) (k : Vec Ideal S1x8192x256 .bf16) (v : Vec Ideal S1x8192x128 .bf16)
    (qr : Fin 1024 → Fin 256 → ℝ) (kr : ℕ → Fin 256 → ℝ) (vv : ℕ → Fin 128 → ℝ)
    (hq : ∀ r d, q (ix3 0 r d) = qr r d) (hk : ∀ (t : Fin 8192) d, k (ix3 0 t d) = kr t.val d)
    (hv : ∀ (t : Fin 8192) d, v (ix3 0 t d) = vv t.val d) (n : ℕ) (hn : n < 8) (r : Fin 1024) (d : Fin 128) :
    outF n q k (fillV v) (ix2 r d)
      = (((∑ t ∈ Finset.range (1024 * n + r.val + 1), (2:ℝ) ^ sc qr kr r t * vv t d)
          / ∑ t ∈ Finset.range (1024 * n + r.val + 1), (2:ℝ) ^ sc qr kr r t : ℝ) : EReal) := by
  have hd := d.isLt
  obtain ⟨m, hm⟩ := accEnd_inv q k (fillV v) qr kr (fun t d => if h : d.val < 128 then vv t ⟨d.val, h⟩ else 1) hq hk
    (fillV_at v vv hv) n hn r
  have hm' := cast (congrArg (RowInv m _) (funext fun e => seen_sum qr kr (fun t d => if h : d.val < 128 then vv t ⟨d.val, h⟩ else 1) n r e)) hm
  have h := row_quotient hm' ⟨d.val, by omega⟩ ⟨128 + d.val, by omega⟩ (by
    refine ne_of_gt (Finset.sum_pos (fun t _ => ?_) ⟨0, Finset.mem_range.mpr (by omega)⟩)
    rw [dif_neg (by show ¬ 128 + d.val < 128; omega), mul_one]
    exact Real.rpow_pos_of_pos two_pos _)
  unfold outF
  rw [pay241_at]
  refine Eq.trans ?_ (h.trans (congrArg _ (congrArg₂ (· / ·) (Finset.sum_congr rfl fun t _ => ?_) (Finset.sum_congr rfl fun t _ => ?_))))
  · refine congrArg₂ Ideal.div ?_ ?_
    · refine Eq.trans (window_at (N := 1024) (C := 256) (R := 1024) (K := 128) _ 0 0 _ r d (by omega) (by omega)) ?_
      exact congrArg₂ (fun (a : Fin 1024) (b : Fin 256) => accEnd n q k (fillV v) (ix2 a b)) (Fin.ext (Nat.zero_add _)) (Fin.ext (Nat.zero_add _))
    · refine Eq.trans (window_at (N := 1024) (C := 256) (R := 1024) (K := 128) _ 0 128 _ r d (by omega) (by omega)) ?_
      exact congrArg₂ (fun (a : Fin 1024) (b : Fin 256) => accEnd n q k (fillV v) (ix2 a b)) (Fin.ext (Nat.zero_add _)) rfl
  · rw [dif_pos hd]
  · rw [dif_neg (by show ¬ 128 + d.val < 128; omega), mul_one]

end Cert.KernelIdeal.Flash
-- ==== Proof.Attn.RefValue.lean ====
/- The reference's attention on real queries, keys and values: every element is the mean of the values of the keys its row
   sees, weighted by the exponential of the score. -/
module

public import proofs.«01_k».proof.Proof.Attn.RefTerms
public import proofs.«01_k».proof.Proof.Flash.Block

@[expose] public section

set_option maxRecDepth 16384

noncomputable section

namespace Cert.ReferenceIdeal.Attn

open Idealize.ShloMosaic Idealize.ShloMosaic.TcCoe
open Cert.ReferenceIdeal Cert.ReferenceIdeal.Gen
open Cert.KernelIdeal.Flash (rowMax rowMax_ne_top coe_sum sum_upto)

/-- The score of a query with a key. -/
def score (qr kr : ℕ → Fin 192 → ℝ) (r t : ℕ) : ℝ := (∑ d : Fin 192, qr r d * kr t d) * (1 / √192)

/-- The masked scores of a row. -/
def masked (x : ℕ → ℝ) (r : ℕ) (t : Fin 8192) : EReal := if t.val ≤ r then (x t.val : EReal) else ⊥

theorem scores_real (q k : FVec Ideal S16x8192x192 .f32) (qr kr : ℕ → Fin 192 → ℝ) (h : Fin 16)
    (hq : ∀ (r : Fin 8192) d, q (ix3 h r d) = (qr r.val d : EReal)) (hk : ∀ (r : Fin 8192) d, k (ix3 h r d) = (kr r.val d : EReal)) (r t : Fin 8192) :
    scores q k (ix3 h r t) = masked (score qr kr r.val) r.val t := by
  rw [scores_at]
  unfold masked
  split
  · simp only [hq, hk, ← EReal.coe_mul]
    rw [← coe_sum]
    have e : Ideal.div 1 (Ideal.sqrt 192) = ((1 / √192 : ℝ) : EReal) := by
      rw [show (192 : EReal) = ((192 : ℝ) : EReal) from rfl, Ideal.sqrt_coe, if_neg (by norm_num),
        Ideal.div_coe (ne_of_gt (Real.sqrt_pos.mpr (by norm_num))), one_mul]
    rw [e, ← EReal.coe_mul]
    rfl
  · rfl

/-- The greatest masked score of a row is a real. -/
theorem rowMax_masked (x : ℕ → ℝ) (r : ℕ) : ∃ μ : ℝ, rowMax (masked x r) = μ := by
  have h1 : rowMax (masked x r) ≠ ⊤ := rowMax_ne_top _ fun j => by
    unfold masked; split
    · exact EReal.coe_ne_top _
    · exact bot_ne_top
  have h2 : rowMax (masked x r) ≠ ⊥ := by
    have hle : masked x r 0 ≤ rowMax (masked x r) := Finset.le_sup (f := masked x r) (Finset.mem_univ 0)
    intro e
    rw [e, le_bot_iff] at hle
    unfold masked at hle
    rw [if_pos (show ((0 : Fin 8192) : ℕ) ≤ r from Nat.zero_le _)] at hle
    exact EReal.coe_ne_bot _ hle
  exact ⟨_, (EReal.coe_toReal h1 h2).symm⟩

/-- The mean of the values under the exponentials of the scores. -/
theorem ref_at (q k : FVec Ideal S16x8192x192 .f32) (v : FVec Ideal S16x8192x128 .f32) (qr kr : ℕ → Fin 192 → ℝ) (vr : ℕ → Fin 128 → ℝ) (h : Fin 16)
    (hq : ∀ (r : Fin 8192) d, q (ix3 h r d) = (qr r.val d : EReal)) (hk : ∀ (r : Fin 8192) d, k (ix3 h r d) = (kr r.val d : EReal))
    (hv : ∀ (r : Fin 8192) d, v (ix3 h r d) = (vr r.val d : EReal)) (r : Fin 8192) (d : Fin 128) :
    result (exps (scores q k)) v (ix2 r ⟨h.val * 128 + d.val, by omega⟩)
      = (((∑ t ∈ Finset.range (r.val + 1), Real.exp (score qr kr r.val t) * vr t d)
          / ∑ t ∈ Finset.range (r.val + 1), Real.exp (score qr kr r.val t) : ℝ) : EReal) := by
  obtain ⟨μ, hμ⟩ := rowMax_masked (score qr kr r.val) r.val
  have he : ∀ t : Fin 8192, exps (scores q k) (ix3 h r t)
      = ((if t.val ≤ r.val then Real.exp (score qr kr r.val t.val) * Real.exp (-μ) else 0 : ℝ) : EReal) := fun t => by
    rw [exps_at]
    simp only [scores_real q k qr kr h hq hk]
    rw [show (rowMax fun t => masked (score qr kr r.val) r.val t) = μ from hμ]
    unfold masked
    split
    · rw [← EReal.coe_sub, Ideal.exp_coe, ← Real.exp_add, sub_eq_add_neg]
    · rw [EReal.bot_sub, Ideal.exp_bot, EReal.coe_zero]
  have hden : (∑ t : Fin 8192, (if t.val ≤ r.val then Real.exp (score qr kr r.val t.val) * Real.exp (-μ) else 0))
      = (∑ t ∈ Finset.range (r.val + 1), Real.exp (score qr kr r.val t)) * Real.exp (-μ) := by
    rw [Finset.sum_mul, ← sum_upto _ 8192 r.val r.isLt, Finset.sum_range]
  have hnum : (∑ t : Fin 8192, (if t.val ≤ r.val then Real.exp (score qr kr r.val t.val) * Real.exp (-μ) else 0) * vr t.val d)
      = (∑ t ∈ Finset.range (r.val + 1), Real.exp (score qr kr r.val t) * vr t d) * Real.exp (-μ) := by
    rw [Finset.sum_mul, ← sum_upto _ 8192 r.val r.isLt, Finset.sum_range]
    refine Finset.sum_congr rfl fun t _ => ?_
    split
    · ring
    · rw [zero_mul]
  have hpos : 0 < ∑ t ∈ Finset.range (r.val + 1), Real.exp (score qr kr r.val t) :=
    Finset.sum_pos (fun t _ => Real.exp_pos _) ⟨0, Finset.mem_range.mpr (by omega)⟩
  have hμp := Real.exp_pos (-μ)
  rw [result_at]
  simp only [he, hv]
  rw [← coe_sum, hden]
  simp only [Ideal.div_coe (ne_of_gt (mul_pos hpos hμp)), ← EReal.coe_mul]
  rw [← coe_sum]
  refine congrArg _ ?_
  rw [Finset.sum_congr rfl (fun (t : Fin 8192) _ => show _ = ((if t.val ≤ r.val then Real.exp (score qr kr r.val t.val) * Real.exp (-μ) else 0) * vr t.val d)
      * (1 / ((∑ t ∈ Finset.range (r.val + 1), Real.exp (score qr kr r.val t)) * Real.exp (-μ))) by ring), ← Finset.sum_mul, hnum]
  field_simp

end Cert.ReferenceIdeal.Attn

end
-- ==== Proof.Attn.Value.lean ====
/- The attention kernel's array is the reference's result. -/
module

public import proofs.«01_k».proof.Proof.Attn.Arrays
public import proofs.«01_k».proof.Proof.Attn.RefValue

@[expose] public section

set_option maxRecDepth 16384

noncomputable section

namespace Cert.KernelIdeal.Flash

open Idealize.ShloMosaic Idealize.ShloMosaic.TcCoe
open Idealize.ShloMosaic.Pipeline (Dat Cfg Window)
open Cert.KernelIdeal Cert.KernelIdeal.Gen
open Cert.ReferenceIdeal.Attn (result exps scores ref_at)

/-- Scores over the filled heads are scores over the heads. -/
theorem padded_sum (x y : Fin 192 → ℝ) (a : ℝ) : (∑ d : Fin 256, padded x d * a * padded y d) = (∑ d : Fin 192, x d * y d) * a := by
  have e := Fin.sum_univ_add (a := 192) (b := 64) fun d : Fin 256 => padded x d * a * padded y d
  refine e.trans ?_
  rw [Finset.sum_eq_zero (s := Finset.univ) (f := fun i : Fin 64 => padded x (Fin.natAdd 192 i) * a * padded y (Fin.natAdd 192 i)) (fun i _ => by
    unfold padded
    rw [dif_neg (by show ¬ 192 + i.val < 192; omega)]
    ring), add_zero, Finset.sum_mul]
  refine Finset.sum_congr rfl fun i _ => ?_
  unfold padded
  rw [dif_pos (show (Fin.castAdd 64 i).val < 192 from i.isLt), dif_pos (show (Fin.castAdd 64 i).val < 192 from i.isLt)]
  show x i * a * y i = _
  ring

/-- Two to the kernel's score is the exponential of the reference's. -/
theorem two_pow_sc (qf kf : ℕ → Fin 192 → ℝ) (n : ℕ) (r : Fin 1024) (t : ℕ) :
    (2 : ℝ) ^ sc (fun r d => padded (qf (1024 * n + r.val)) d * qscale) (fun t d => padded (kf t) d) r t = Real.exp (Cert.ReferenceIdeal.Attn.score qf kf (1024 * n + r.val) t) := by
  unfold sc Cert.ReferenceIdeal.Attn.score
  rw [padded_sum, Real.rpow_def_of_pos two_pos]
  congr 1
  unfold qscale
  have h2 : Real.log 2 ≠ 0 := ne_of_gt (Real.log_pos (by norm_num))
  have h192 : √192 ≠ 0 := ne_of_gt (Real.sqrt_pos.mpr (by norm_num))
  field_simp

variable (m : (ℓ : Loc nD τ sig) → Buf (Elt Ideal) ℓ) (c : Dev nD)

/-- The reference's result of the arguments. -/
def G : Buf (Elt Ideal) ((c : Thread nD τ).loc main_v12) :=
  result (F := Ideal) (exps (F := Ideal) (scores (F := Ideal) (m ((c : Thread nD τ).loc main_arg0)) (m ((c : Thread nD τ).loc main_arg1)))) (m ((c : Thread nD τ).loc main_arg2))

/-- A point's block is its block of the reference's result. -/
theorem ob_at (hq : ∀ i, ∃ r : ℝ, m ((c : Thread nD τ).loc main_arg0) i = (r : EReal))
    (hk : ∀ i, ∃ r : ℝ, m ((c : Thread nD τ).loc main_arg1) i = (r : EReal))
    (hv : ∀ i, ∃ r : ℝ, m ((c : Thread nD τ).loc main_arg2) i = (r : EReal)) (t : Fin cfg0.N) (r : Fin 1024) (d : Fin 128) :
    ob m c t (ix2 r d) = G m c (ix2 (⟨1024 * (t.val % 8) + r.val, by omega⟩ : Fin 8192) (⟨(hd t).val * 128 + d.val, by omega⟩ : Fin 2048)) := by
  choose qf hqf using hq
  choose kf hkf using hk
  choose vf hvf using hv
  have rd {C : ℕ} (f : Fin 8192 → Fin C → ℝ) : ∃ g : ℕ → Fin C → ℝ, ∀ (r : Fin 8192) d, g r.val d = f r d :=
    ⟨fun n d => if h : n < 8192 then f ⟨n, h⟩ d else 0, fun r d => dif_pos r.isLt⟩
  obtain ⟨qr, hqr⟩ := rd fun r (d : Fin 192) => qf (ix3 (hd t) r d)
  obtain ⟨kr, hkr⟩ := rd fun r (d : Fin 192) => kf (ix3 (hd t) r d)
  obtain ⟨vr, hvr⟩ := rd fun r (d : Fin 128) => vf (ix3 (hd t) r d)
  have hq' : ∀ (r : Fin 8192) d, m ((c : Thread nD τ).loc main_arg0) (ix3 (hd t) r d) = (qr r.val d : EReal) := fun r d => by rw [hqf, hqr]
  have hk' : ∀ (r : Fin 8192) d, m ((c : Thread nD τ).loc main_arg1) (ix3 (hd t) r d) = (kr r.val d : EReal) := fun r d => by rw [hkf, hkr]
  have hv' : ∀ (r : Fin 8192) d, m ((c : Thread nD τ).loc main_arg2) (ix3 (hd t) r d) = (vr r.val d : EReal) := fun r d => by rw [hvf, hvr]
  have hn : t.val % 8 < 8 := Nat.mod_lt _ (by norm_num)
  have e := outF_at (qb m c t) (kb m c t) (vb m c t) (fun r d => padded (qr (1024 * (t.val % 8) + r.val)) d * qscale) (fun t d => padded (kr t) d) vr
    (fun r d => by rw [qb_at]; exact queries_at m c _ _ _ (hq' _) d) (fun s d => by rw [kb_at]; exact keys_at m c _ _ _ (hk' _) d)
    (fun s d => by rw [vb_at, values_at]; exact hv' s d) (t.val % 8) hn r d
  refine e.trans ?_
  simp only [two_pow_sc]
  exact (ref_at _ _ _ qr kr vr (hd t) hq' hk' hv' ⟨1024 * (t.val % 8) + r.val, by omega⟩ d).symm

/-- The array after the run. -/
theorem array_eq (hq : ∀ i, ∃ r : ℝ, m ((c : Thread nD τ).loc main_arg0) i = (r : EReal))
    (hk : ∀ i, ∃ r : ℝ, m ((c : Thread nD τ).loc main_arg1) i = (r : EReal))
    (hv : ∀ i, ∃ r : ℝ, m ((c : Thread nD τ).loc main_arg2) i = (r : EReal)) :
    (dats m 0 c).arrAt 3 (cfgs 0).N = G m c := by
  refine (dats m 0 c).arrAt_eq_of_covers 3 _ (by decide +kernel) fun t hf y => ?_
  blk_simp
  rw [after_3]
  idx_vars y
  refine (ob_at m c hq hk hv t _ _).trans ?_
  refine congrArg _ ?_
  blk_ext [idx0_3 t, hd]

end Cert.KernelIdeal.Flash

end
-- ==== Proof.Ffn.Code.lean ====
/- The feed-forward kernel's body, written as a composition of a few small programs: the request of a tile of the weights,
   the wait for it, the tile's product added to the output block, the pair of tiles of a loop trip. -/
module

public import proofs.«01_k».proof.Proof.Gen.Kernel2Ideal.Skeleton

@[expose] public section

set_option maxRecDepth 65536

noncomputable section

namespace Cert.Kernel2Ideal.Ffn

open Idealize.ShloMosaic Idealize.SL.Sem
open Cert.Kernel2Ideal Cert.Kernel2Ideal.Gen

variable {F : FTy → Type} [FloatOps F]

/-- 256 columns of the gate's and up projection's weights, from `off` on. -/
abbrev colsAt (m : Memref sig .tc .hbm S4x2048x11264 .f32) (off : Fin 3 → ℕ) (h : ∀ a, off a + S1x2048x256.size a ≤ S4x2048x11264.size a) :
    Memref sig .tc .hbm S2048x256 .f32 :=
  (m.slice (Rect.unit (s := S4x2048x11264) off S1x2048x256.size h) (fun _ => rfl)).squeeze S2048x256 squeezes_S1x2048x256_S2048x256

/-- 256 rows of the down projection's weights, from `off` on. -/
abbrev rowsAt (m : Memref sig .tc .hbm S4x5632x2048 .f32) (off : Fin 3 → ℕ) (h : ∀ a, off a + S1x256x2048.size a ≤ S4x5632x2048.size a) :
    Memref sig .tc .hbm S256x2048 .f32 :=
  (m.slice (Rect.unit (s := S4x5632x2048) off S1x256x2048.size h) (fun _ => rfl)).squeeze S256x2048 squeezes_S1x256x2048_S256x2048

/-- A slot of a ring of two tiles of columns, and of a ring of two tiles of rows. -/
abbrev slotC (m : Memref sig .tc .vmem S2x2048x256 .f32) (s : ℕ) (h : ∀ a, (![s, 0, 0] : Fin 3 → ℕ) a + S1x2048x256.size a ≤ S2x2048x256.size a) :
    Memref sig .tc .vmem S2048x256 .f32 :=
  (m.slice (Rect.unit (s := S2x2048x256) ![s, 0, 0] S1x2048x256.size h) (fun _ => rfl)).squeeze S2048x256 squeezes_S1x2048x256_S2048x256

abbrev slotR (m : Memref sig .tc .vmem S2x256x2048 .f32) (s : ℕ) (h : ∀ a, (![s, 0, 0] : Fin 3 → ℕ) a + S1x256x2048.size a ≤ S2x256x2048.size a) :
    Memref sig .tc .vmem S256x2048 .f32 :=
  (m.slice (Rect.unit (s := S2x256x2048) ![s, 0, 0] S1x256x2048.size h) (fun _ => rfl)).squeeze S256x2048 squeezes_S1x256x2048_S256x2048

/-- The counter of a ring's slot. -/
abbrev cellAt (m : DmaSems sig S3x2) (k s : ℕ) (h : ∀ a, (![k, s] : Fin 2 → ℕ) a + S1x1.size a ≤ S3x2.size a) : DmaSem sig :=
  ((m.slice (Rect.unit (s := S3x2) ![k, s] S1x1.size h)).squeeze S_ squeezes_S1x1_S_).sem

/-- The request of a tile: three transfers, each on its counter. -/
def request (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) :
    Prog (TpuEff nD τ sig (Elt F) Λ₀ .tc) PUnit := do
  Prog.lift (.enqueueDma g (.here g') (.dma q0) (View.wordExact_bits rfl) (View.wordExact_bits rfl) ⟨Or.inl rfl, trivial⟩)
  Prog.lift (.enqueueDma u (.here u') (.dma q1) (View.wordExact_bits rfl) (View.wordExact_bits rfl) ⟨Or.inl rfl, trivial⟩)
  Prog.lift (.enqueueDma d (.here d') (.dma q2) (View.wordExact_bits rfl) (View.wordExact_bits rfl) ⟨Or.inl rfl, trivial⟩)

/-- The wait for a tile's three transfers. -/
def arrive (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) :
    Prog (TpuEff nD τ sig (Elt F) Λ₀ .tc) PUnit := do
  Prog.lift (.waitDma2 q0 g g' (View.wordExact_bits rfl) (View.wordExact_bits rfl))
  Prog.lift (.waitDma2 q1 u u' (View.wordExact_bits rfl) (View.wordExact_bits rfl))
  Prog.lift (.waitDma2 q2 d d' (View.wordExact_bits rfl) (View.wordExact_bits rfl))

/-- The tile in slot `s`, applied to the normalised rows and added to the output block. -/
def half (orf : Memref sig .tc .vmem S1024x2048 .f32) (xr : Memref sig .tc .vmem S1024x2048 .bf16)
    (gr ur : Memref sig .tc .vmem S2x2048x256 .f32) (dr : Memref sig .tc .vmem S2x256x2048 .f32) (s : ℕ)
    (hc : ∀ a, (![s, 0, 0] : Fin 3 → ℕ) a + S1x2048x256.size a ≤ S2x2048x256.size a)
    (hr : ∀ a, (![s, 0, 0] : Fin 3 → ℕ) a + S1x256x2048.size a ≤ S2x256x2048.size a) :
    Prog (TpuEff nD τ sig (Elt F) Λ₀ .tc) PUnit := do
  let o : Vec F S1024x2048 .f32 ← Prog.lift (.load orf (Rect.unit (s := S1024x2048) ![0, 0] S1024x2048.size inb_S1024x2048_S1024x2048_0_0).toLoadRect (View.loadsAt_vmem h_S1024x2048))
  let x : Vec F S1024x2048 .bf16 ← Prog.lift (.load xr (Rect.unit (s := S1024x2048) ![0, 0] S1024x2048.size inb_S1024x2048_S1024x2048_0_0).toLoadRect (View.loadsAt_vmem h_S1024x2048))
  let g : Vec F S1x2048x256 .f32 ← Prog.lift (.load gr (Rect.unit (s := S2x2048x256) ![s, 0, 0] S1x2048x256.size hc).toLoadRect (View.loadsAt_vmem h_S1x2048x256))
  let u : Vec F S1x2048x256 .f32 ← Prog.lift (.load ur (Rect.unit (s := S2x2048x256) ![s, 0, 0] S1x2048x256.size hc).toLoadRect (View.loadsAt_vmem h_S1x2048x256))
  let d : Vec F S1x256x2048 .f32 ← Prog.lift (.load dr (Rect.unit (s := S2x256x2048) ![s, 0, 0] S1x256x2048.size hr).toLoadRect (View.loadsAt_vmem h_S1x256x2048))
  let _ : Vec F S1024x2048 .f32 ← Prog.lift (.load orf (Rect.unit (s := S1024x2048) ![0, 0] S1024x2048.size inb_S1024x2048_S1024x2048_0_0).toLoadRect (View.loadsAt_vmem h_S1024x2048))
  Prog.lift (.store orf (Rect.unit (s := S1024x2048) ![0, 0] S1024x2048.size inb_S1024x2048_S1024x2048_0_0) (k0_pay10 o x g u d) Finset.univ (View.stores_vmem_bits_univ h_S1024x2048 rfl) (.inl rfl))

/-- The rows, normalised, and the first tile in slot 0. -/
def start (hrf : Memref sig .tc .vmem S1024x2048 .f32) (nr : Memref sig .tc .vmem S1x1x2048 .f32)
    (orf : Memref sig .tc .vmem S1024x2048 .f32) (xr : Memref sig .tc .vmem S1024x2048 .bf16) (hx : xr.IsWhole)
    (gr ur : Memref sig .tc .vmem S2x2048x256 .f32) (dr : Memref sig .tc .vmem S2x256x2048 .f32) :
    Prog (TpuEff nD τ sig (Elt F) Λ₀ .tc) PUnit := do
  let h : Vec F S1024x2048 .f32 ← Prog.lift (.load hrf (Rect.unit (s := S1024x2048) ![0, 0] S1024x2048.size inb_S1024x2048_S1024x2048_0_0).toLoadRect (View.loadsAt_vmem h_S1024x2048))
  let n : Vec F S1x1x2048 .f32 ← Prog.lift (.load nr (Rect.unit (s := S1x1x2048) ![0, 0, 0] S1x1x2048.size inb_S1x1x2048_S1x1x2048_0_0_0).toLoadRect (View.loadsAt_vmem h_S1x1x2048))
  let _ : Vec F S1024x2048 .bf16 ← Prog.lift (.load xr (Rect.unit (s := S1024x2048) ![0, 0] S1024x2048.size inb_S1024x2048_S1024x2048_0_0).toLoadRect (View.loadsAt_vmem h_S1024x2048))
  Prog.lift (.store xr (Rect.unit (s := S1024x2048) ![0, 0] S1024x2048.size inb_S1024x2048_S1024x2048_0_0) (k0_pay8 (k0_pay6 h n)) Finset.univ (View.stores_vmem h_S1024x2048 (hx.storeExact_slice rfl _ packedbf16_S1024x2048_S1024x2048_0_0) (fun _ => rfl)) (.inl rfl))
  let g : Vec F S1x2048x256 .f32 ← Prog.lift (.load gr (Rect.unit (s := S2x2048x256) ![0, 0, 0] S1x2048x256.size inb_S2x2048x256_S1x2048x256_0_0_0).toLoadRect (View.loadsAt_vmem h_S1x2048x256))
  let u : Vec F S1x2048x256 .f32 ← Prog.lift (.load ur (Rect.unit (s := S2x2048x256) ![0, 0, 0] S1x2048x256.size inb_S2x2048x256_S1x2048x256_0_0_0).toLoadRect (View.loadsAt_vmem h_S1x2048x256))
  let d : Vec F S1x256x2048 .f32 ← Prog.lift (.load dr (Rect.unit (s := S2x256x2048) ![0, 0, 0] S1x256x2048.size inb_S2x256x2048_S1x256x2048_0_0_0).toLoadRect (View.loadsAt_vmem h_S1x256x2048))
  let _ : Vec F S1024x2048 .f32 ← Prog.lift (.load orf (Rect.unit (s := S1024x2048) ![0, 0] S1024x2048.size inb_S1024x2048_S1024x2048_0_0).toLoadRect (View.loadsAt_vmem h_S1024x2048))
  Prog.lift (.store orf (Rect.unit (s := S1024x2048) ![0, 0] S1024x2048.size inb_S1024x2048_S1024x2048_0_0) (k0_pay9 h (k0_pay6 h n) g u d) Finset.univ (View.stores_vmem_bits_univ h_S1024x2048 rfl) (.inl rfl))

section

variable (i : grid0.Coords) (arg1 : Memref sig .tc .vmem S1024x2048 .f32) (harg1 : arg1.IsWhole) (arg2 : Memref sig .tc .vmem S1x1x2048 .f32) (harg2 : arg2.IsWhole)
  (arg3 : Memref sig .tc .hbm S4x2048x11264 .f32) (harg3 : arg3.IsWhole) (arg4 : Memref sig .tc .hbm S4x5632x2048 .f32) (harg4 : arg4.IsWhole)
  (arg5 : Memref sig .tc .vmem S1024x2048 .f32) (harg5 : arg5.IsWhole) (arg6 : Memref sig .tc .vmem S1024x2048 .bf16) (harg6 : arg6.IsWhole)
  (arg7 : Memref sig .tc .vmem S2x2048x256 .f32) (harg7 : arg7.IsWhole) (arg8 : Memref sig .tc .vmem S2x2048x256 .f32) (harg8 : arg8.IsWhole)
  (arg9 : Memref sig .tc .vmem S2x256x2048 .f32) (harg9 : arg9.IsWhole) (arg10 : DmaSems sig S3x2)

/-- The request into slot 0, the wait for it, and the same for slot 1. -/
def req0 (og ou od : Fin 3 → ℕ) (hg : ∀ a, og a + S1x2048x256.size a ≤ S4x2048x11264.size a) (hu : ∀ a, ou a + S1x2048x256.size a ≤ S4x2048x11264.size a)
    (hd : ∀ a, od a + S1x256x2048.size a ≤ S4x5632x2048.size a) : Prog (TpuEff nD τ sig (Elt F) Λ₀ .tc) PUnit :=
  request (colsAt arg3 og hg) (colsAt arg3 ou hu) (rowsAt arg4 od hd)
    (slotC arg7 0 inb_S2x2048x256_S1x2048x256_0_0_0) (slotC arg8 0 inb_S2x2048x256_S1x2048x256_0_0_0) (slotR arg9 0 inb_S2x256x2048_S1x256x2048_0_0_0)
    (cellAt arg10 0 0 inb_S3x2_S1x1_0_0) (cellAt arg10 1 0 inb_S3x2_S1x1_1_0) (cellAt arg10 2 0 inb_S3x2_S1x1_2_0)

def arr0 (og ou od : Fin 3 → ℕ) (hg : ∀ a, og a + S1x2048x256.size a ≤ S4x2048x11264.size a) (hu : ∀ a, ou a + S1x2048x256.size a ≤ S4x2048x11264.size a)
    (hd : ∀ a, od a + S1x256x2048.size a ≤ S4x5632x2048.size a) : Prog (TpuEff nD τ sig (Elt F) Λ₀ .tc) PUnit :=
  arrive (colsAt arg3 og hg) (colsAt arg3 ou hu) (rowsAt arg4 od hd)
    (slotC arg7 0 inb_S2x2048x256_S1x2048x256_0_0_0) (slotC arg8 0 inb_S2x2048x256_S1x2048x256_0_0_0) (slotR arg9 0 inb_S2x256x2048_S1x256x2048_0_0_0)
    (cellAt arg10 0 0 inb_S3x2_S1x1_0_0) (cellAt arg10 1 0 inb_S3x2_S1x1_1_0) (cellAt arg10 2 0 inb_S3x2_S1x1_2_0)

def req1 (og ou od : Fin 3 → ℕ) (hg : ∀ a, og a + S1x2048x256.size a ≤ S4x2048x11264.size a) (hu : ∀ a, ou a + S1x2048x256.size a ≤ S4x2048x11264.size a)
    (hd : ∀ a, od a + S1x256x2048.size a ≤ S4x5632x2048.size a) : Prog (TpuEff nD τ sig (Elt F) Λ₀ .tc) PUnit :=
  request (colsAt arg3 og hg) (colsAt arg3 ou hu) (rowsAt arg4 od hd)
    (slotC arg7 1 inb_S2x2048x256_S1x2048x256_1_0_0) (slotC arg8 1 inb_S2x2048x256_S1x2048x256_1_0_0) (slotR arg9 1 inb_S2x256x2048_S1x256x2048_1_0_0)
    (cellAt arg10 0 1 inb_S3x2_S1x1_0_1) (cellAt arg10 1 1 inb_S3x2_S1x1_1_1) (cellAt arg10 2 1 inb_S3x2_S1x1_2_1)

def arr1 (og ou od : Fin 3 → ℕ) (hg : ∀ a, og a + S1x2048x256.size a ≤ S4x2048x11264.size a) (hu : ∀ a, ou a + S1x2048x256.size a ≤ S4x2048x11264.size a)
    (hd : ∀ a, od a + S1x256x2048.size a ≤ S4x5632x2048.size a) : Prog (TpuEff nD τ sig (Elt F) Λ₀ .tc) PUnit :=
  arrive (colsAt arg3 og hg) (colsAt arg3 ou hu) (rowsAt arg4 od hd)
    (slotC arg7 1 inb_S2x2048x256_S1x2048x256_1_0_0) (slotC arg8 1 inb_S2x2048x256_S1x2048x256_1_0_0) (slotR arg9 1 inb_S2x256x2048_S1x256x2048_1_0_0)
    (cellAt arg10 0 1 inb_S3x2_S1x1_0_1) (cellAt arg10 1 1 inb_S3x2_S1x1_1_1) (cellAt arg10 2 1 inb_S3x2_S1x1_2_1)

/-- The tiles in slot 0 and in slot 1, added to the output block. -/
def half0 : Prog (TpuEff nD τ sig (Elt F) Λ₀ .tc) PUnit :=
  half arg5 arg6 arg7 arg8 arg9 0 inb_S2x2048x256_S1x2048x256_0_0_0 inb_S2x256x2048_S1x256x2048_0_0_0
def half1 : Prog (TpuEff nD τ sig (Elt F) Λ₀ .tc) PUnit :=
  half arg5 arg6 arg7 arg8 arg9 1 inb_S2x2048x256_S1x2048x256_1_0_0 inb_S2x256x2048_S1x256x2048_1_0_0

/-- A trip of the loop: the odd tile is consumed while the next is fetched, then the even one. -/
def trip (t : Fin k0_t1_loop.trips) : Prog (TpuEff nD τ sig (Elt F) Λ₀ .tc) PUnit := do
  req0 arg3 arg4 arg7 arg8 arg9 arg10 (k0_off1 t 1#32) (k0_off2 t 1#32) (k0_off3 t 1#32) (k0_off1_inb t 0) (k0_off2_inb t 0) (k0_off3_inb t 0)
  arr1 arg3 arg4 arg7 arg8 arg9 arg10 (k0_off4 t) (k0_off5 t) (k0_off6 t) (k0_off4_inb t) (k0_off5_inb t) (k0_off6_inb t)
  half1 arg5 arg6 arg7 arg8 arg9
  req1 arg3 arg4 arg7 arg8 arg9 arg10 (k0_off1 t 2#32) (k0_off2 t 2#32) (k0_off3 t 2#32) (k0_off1_inb t 1) (k0_off2_inb t 1) (k0_off3_inb t 1)
  arr0 arg3 arg4 arg7 arg8 arg9 arg10 (k0_off1 t 1#32) (k0_off2 t 1#32) (k0_off3 t 1#32) (k0_off1_inb t 0) (k0_off2_inb t 0) (k0_off3_inb t 0)
  half0 arg5 arg6 arg7 arg8 arg9

/-- Whether the point is the first, and whether another follows, as the kernel asks. -/
def isFirst : BitVec 1 := Scalar.cmpi .ne (Scalar.extui (Scalar.cmpi .eq (BitVec.ofNat 32 (i 0).val) 0#32) : BitVec 32) 0#32
def hasNext : BitVec 1 := Scalar.cmpi .ne (Scalar.extui (Scalar.cmpi .slt (Scalar.addi (BitVec.ofNat 32 (i 0).val) 1#32) 8#32) : BitVec 32) 0#32

/-- The request of the first tile, if the condition holds. -/
def reqIf (b : BitVec 1) : Prog (TpuEff nD τ sig (Elt F) Λ₀ .tc) PUnit :=
  if h : b = 1#1 then
    req0 arg3 arg4 arg7 arg8 arg9 arg10 ![0, 0, 0] ![0, 0, 5632] ![0, 0, 0] inb_S4x2048x11264_S1x2048x256_0_0_0 inb_S4x2048x11264_S1x2048x256_0_0_5632 inb_S4x5632x2048_S1x256x2048_0_0_0
  else pure ⟨⟩

/-- The kernel's body. -/
def body : Prog (TpuEff nD τ sig (Elt F) Λ₀ .tc) PUnit := do
  reqIf arg3 arg4 arg7 arg8 arg9 arg10 (isFirst i)
  req1 arg3 arg4 arg7 arg8 arg9 arg10 ![0, 0, 256] ![0, 0, 5888] ![0, 256, 0] inb_S4x2048x11264_S1x2048x256_0_0_256 inb_S4x2048x11264_S1x2048x256_0_0_5888 inb_S4x5632x2048_S1x256x2048_0_256_0
  arr0 arg3 arg4 arg7 arg8 arg9 arg10 ![0, 0, 0] ![0, 0, 5632] ![0, 0, 0] inb_S4x2048x11264_S1x2048x256_0_0_0 inb_S4x2048x11264_S1x2048x256_0_0_5632 inb_S4x5632x2048_S1x256x2048_0_0_0
  start arg1 arg2 arg5 arg6 harg6 arg7 arg8 arg9
  Scf.Loop.for k0_t1_loop k0_t1_ok ⟨⟩ fun t _ => trip arg3 arg4 arg5 arg6 arg7 arg8 arg9 arg10 t
  reqIf arg3 arg4 arg7 arg8 arg9 arg10 (hasNext i)
  arr1 arg3 arg4 arg7 arg8 arg9 arg10 ![0, 0, 5376] ![0, 0, 11008] ![0, 5376, 0] inb_S4x2048x11264_S1x2048x256_0_0_5376 inb_S4x2048x11264_S1x2048x256_0_0_11008 inb_S4x5632x2048_S1x256x2048_0_5376_0
  half1 arg5 arg6 arg7 arg8 arg9

theorem bind_eq {α β : Type} {x y : Prog (TpuEff nD τ sig (Elt F) Λ₀ .tc) α} {f g : α → Prog (TpuEff nD τ sig (Elt F) Λ₀ .tc) β}
    (hx : x = y) (hf : ∀ a, f a = g a) : (x >>= f) = (y >>= g) := by
  rw [hx, show f = g from funext hf]

theorem trip_eq (v0 : BitVec 32) (v39 : Vec F S1024x2048 .f32) (v53 : FVec F S1024x2048 .f32) (t : Fin k0_t1_loop.trips) :
    k0_t1_body i arg1 harg1 arg2 harg2 arg3 harg3 arg4 harg4 arg5 harg5 arg6 harg6 arg7 harg7 arg8 harg8 arg9 harg9 arg10 v0 v39 v53 t ⟨⟩
      = trip (F := F) arg3 arg4 arg5 arg6 arg7 arg8 arg9 arg10 t := rfl

theorem reqIf_pos {b : BitVec 1} (h : b = 1#1) :
    reqIf (F := F) arg3 arg4 arg7 arg8 arg9 arg10 b
      = req0 arg3 arg4 arg7 arg8 arg9 arg10 ![0, 0, 0] ![0, 0, 5632] ![0, 0, 0] inb_S4x2048x11264_S1x2048x256_0_0_0 inb_S4x2048x11264_S1x2048x256_0_0_5632 inb_S4x5632x2048_S1x256x2048_0_0_0 := by
  unfold reqIf
  rw [dif_pos h]

theorem reqIf_neg {b : BitVec 1} (h : ¬ b = 1#1) : reqIf (F := F) arg3 arg4 arg7 arg8 arg9 arg10 b = pure ⟨⟩ := by
  unfold reqIf
  rw [dif_neg h]

/-- The printed body is the composition. -/
theorem body_eq :
    cc0_ffn (F := F) i arg1 harg1 arg2 harg2 arg3 harg3 arg4 harg4 arg5 harg5 arg6 harg6 arg7 harg7 arg8 harg8 arg9 harg9 arg10
      = body i arg1 arg2 arg3 arg4 arg5 arg6 harg6 arg7 arg8 arg9 arg10 := by
  rw [cc0_ffn_eq_skeleton]
  unfold cc0_ffn_skel
  rw [k0_part5_eq_skeleton, k0_part6_eq_skeleton, k0_part7_eq_skeleton, k0_part8_eq_skeleton]
  unfold k0_part5_skel k0_part6_skel k0_part7_skel k0_part8_skel body
  by_cases h1 : isFirst i = 1#1 <;> by_cases h2 : hasNext i = 1#1
  · rw [reqIf_pos arg3 arg4 arg7 arg8 arg9 arg10 h1, reqIf_pos arg3 arg4 arg7 arg8 arg9 arg10 h2]
    unfold isFirst at h1
    unfold hasNext at h2
    unfold req0 req1 arr0 arr1 half1 request arrive half start
    simp only [h1, h2, dif_pos, dif_neg, not_false_eq_true, bind_assoc, pure_bind]
    repeat' refine bind_eq (F := F) ?_ fun _ => ?_
    all_goals rfl
  · rw [reqIf_pos arg3 arg4 arg7 arg8 arg9 arg10 h1, reqIf_neg arg3 arg4 arg7 arg8 arg9 arg10 h2]
    unfold isFirst at h1
    unfold hasNext at h2
    unfold req0 req1 arr0 arr1 half1 request arrive half start
    simp only [h1, h2, dif_pos, dif_neg, not_false_eq_true, bind_assoc, pure_bind]
    repeat' refine bind_eq (F := F) ?_ fun _ => ?_
    all_goals rfl
  · rw [reqIf_neg arg3 arg4 arg7 arg8 arg9 arg10 h1, reqIf_pos arg3 arg4 arg7 arg8 arg9 arg10 h2]
    unfold isFirst at h1
    unfold hasNext at h2
    unfold req0 req1 arr0 arr1 half1 request arrive half start
    simp only [h1, h2, dif_pos, dif_neg, not_false_eq_true, bind_assoc, pure_bind]
    repeat' refine bind_eq (F := F) ?_ fun _ => ?_
    all_goals rfl
  · rw [reqIf_neg arg3 arg4 arg7 arg8 arg9 arg10 h1, reqIf_neg arg3 arg4 arg7 arg8 arg9 arg10 h2]
    unfold isFirst at h1
    unfold hasNext at h2
    unfold req1 arr0 arr1 half1 request arrive half start
    simp only [h1, h2, dif_pos, dif_neg, not_false_eq_true, bind_assoc, pure_bind]
    repeat' refine bind_eq (F := F) ?_ fun _ => ?_
    all_goals rfl

end

end Cert.Kernel2Ideal.Ffn
-- ==== Proof.Ffn.Dma.lean ====
/- A transfer of the feed-forward kernel, issued and waited for: what the core holds of its source and destination before,
   while it is in flight, and after. -/
module

public import proofs.«01_k».proof.Proof.Ffn.Code
public import proofs.«01_k».proof.Proof.Gen.Kernel2Ideal.Frame
public import Idealize.ShloMosaic.Lib.Pipeline.Frame
public import Idealize.ShloMosaic.Lib.Tactic
public import Idealize.ShloMosaic.Lib.Transfers
public import Idealize.ShloMosaic.Lib.VecWindow

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (Pipeline.UD sig nD τ) ℕ

variable {s : Shape}

/-- Nothing in flight: a share of the source, the destination at anything, the counter at zero. -/
def idle (c : Dev nD) (src : Memref sig .tc .hbm s .f32) (dst : Memref sig .tc .vmem s .f32) (q : DmaSem sig)
    (π : PosShare TreeShare) (A : Buf (Elt F) (src.view.loc (c : Thread nD τ))) : sProp 𝕄 :=
  iprop((src.view.loc (c : Thread nD τ) ↦{π} A) ∗ (∃ w, owns (c : Thread nD τ) dst fullShare w) ∗ semVal ((c : Thread nD τ), SemLoc.dma q) 0)

/-- In flight: the transfer, and what it left of the share of the source. -/
def busy (c : Dev nD) (src : Memref sig .tc .hbm s .f32) (dst : Memref sig .tc .vmem s .f32) (q : DmaSem sig)
    (π : PosShare TreeShare) (A : Buf (Elt F) (src.view.loc (c : Thread nD τ))) : sProp 𝕄 :=
  iprop(Transfers.Flight (countersEmb (U := Pipeline.UD sig nD τ)) (c : Thread nD τ) (.dma q) () (dst.view.amount (.dma q))
      iprop(owns (c : Thread nD τ) dst fullShare (src.view.read (Elt F) A) ∗ (src.view.loc (c : Thread nD τ) ↦[src.view.set]{π} A))
    ∗ (src.view.loc (c : Thread nD τ) ↦[Finset.univ \ src.view.set]{π} A))

/-- Landed: the destination holds what the source does. -/
def landed (c : Dev nD) (src : Memref sig .tc .hbm s .f32) (dst : Memref sig .tc .vmem s .f32) (q : DmaSem sig)
    (π : PosShare TreeShare) (A : Buf (Elt F) (src.view.loc (c : Thread nD τ))) : sProp 𝕄 :=
  iprop((src.view.loc (c : Thread nD τ) ↦{π} A) ∗ owns (c : Thread nD τ) dst fullShare (src.view.read (Elt F) A) ∗ semVal ((c : Thread nD τ), SemLoc.dma q) 0)

theorem landed_idle (c : Dev nD) (src : Memref sig .tc .hbm s .f32) (dst : Memref sig .tc .vmem s .f32) (q : DmaSem sig)
    (π : PosShare TreeShare) (A : Buf (Elt F) (src.view.loc (c : Thread nD τ))) :
    landed c src dst q π A ⊢ idle c src dst q π A := by
  unfold landed idle
  iintro ⟨HA, HD, HV⟩
  isplitl [HA]; · iexact HA
  isplitl [HD]; · iexists _; iexact HD
  iexact HV

/-- The issue of a transfer. -/
theorem issue_run (c : Dev nD) (E : Set ℕ) (K : PUnit → sProp 𝕄) (src : Memref sig .tc .hbm s .f32) (dst : Memref sig .tc .vmem s .f32) (q : DmaSem sig)
    (π : PosShare TreeShare) (A : Buf (Elt F) (src.view.loc (c : Thread nD τ))) (hs : 0 < s.numel)
    (h1 : src.view.WordExact) (h2 : dst.view.WordExact) (h3 : (DmaTarget.here dst : DmaTarget nD τ sig (.tc : Proc τ) .vmem s .f32).Typed .hbm (.dma q)) :
    iprop(idle c src dst q π A ∗ (busy c src dst q π A -∗ K ⟨⟩))
      ⊢ wp frame (wpE (defs₀ (F := F)) Variants.none c none) Set.univ
          (Prog.lift (.enqueueDma src (.here dst) (.dma q) h1 h2 h3)) K := by
  unfold idle busy
  iintro ⟨⟨HA, ⟨%w, HD⟩, HV⟩, Hk⟩
  ihave HA := (pointsTo_split_subset (I := src.view.set) (Finset.subset_univ _)).1 $$ HA
  icases HA with ⟨HS, HR⟩
  unfold owns
  icases HD with ⟨%f, -, HD⟩
  iapply (Transfers.wp_dmaLocal countersEmb Variants.none (c : Thread nD τ) none (via := .same) () (dst.view.amount (.dma q)) rfl
    (dst.view.amount_pos (.dma q) hs) (Finset.Subset.refl _)) $$ [HS HD HV]
  · isplitl [HS]; · iexact HS
    isplitl [HD]; · iexact HD
    iexact HV
  iintro HF
  rw [wp_ret]
  imodintro
  iapply Hk
  isplitl [HF]
  · iapply (Transfers.Flight_mono countersEmb (c : Thread nD τ) ?_) $$ HF
    iintro ⟨HD, HS⟩
    isplitl [HD]
    · iexists _
      isplitr; swap; · iexact HD
      ipureintro
      exact View.read_write_univ _ _
    iexact HS
  iexact HR

/-- The wait for a transfer. -/
theorem collect_run (c : Dev nD) (E : Set ℕ) (K : PUnit → sProp 𝕄) (src : Memref sig .tc .hbm s .f32) (dst : Memref sig .tc .vmem s .f32) (q : DmaSem sig)
    (π : PosShare TreeShare) (A : Buf (Elt F) (src.view.loc (c : Thread nD τ)))
    (h1 : src.view.WordExact) (h2 : dst.view.WordExact) :
    iprop(busy c src dst q π A ∗ (∃ W, owes (c : Thread nD τ) 0 W) ∗ (iprop(landed c src dst q π A ∗ (∃ W, owes (c : Thread nD τ) 0 W)) -∗ K ⟨⟩))
      ⊢ wp frame (wpE (defs₀ (F := F)) Variants.none c none) Set.univ (Prog.lift (.waitDma2 q src dst h1 h2)) K := by
  unfold landed busy
  iintro ⟨⟨HF, HR⟩, ⟨%W, HO⟩, Hk⟩
  iapply (Transfers.wp_waitLocal countersEmb Variants.none (c : Thread nD τ) none () rfl) $$ [HF HO]
  · isplitl [HF]; · iexact HF
    iexact HO
  iintro ⟨⟨HD, HS⟩, HV, HO⟩
  rw [wp_ret]
  imodintro
  iapply Hk
  isplitr [HO]
  · isplitl [HS HR]
    · iapply (pointsTo_split_subset (I := src.view.set) (Finset.subset_univ _)).2
      isplitl [HS]; · iexact HS
      iexact HR
    isplitl [HD]; · iexact HD
    iexact HV
  iexists _; iexact HO

/-- A load of a slot of a ring, of which the core holds the slot alone. -/
theorem load_slot (c : Dev nD) (E : Set ℕ) {s₀ s' : Shape} {e : EltTy} (m : Memref sig .tc .vmem s₀ e) (r : Rect s₀) (hr : ∀ a, r.stride a = 1) (hq : r.shape.Squeezes s')
    (hl : m.view.LoadsAt r.toLoadRect) (X : s'.Idx → Elt F e) (K : (r.shape.Idx → Elt F e) → sProp 𝕄) :
    iprop(owns (c : Thread nD τ) ((m.slice r hr).squeeze s' hq) fullShare X
        ∗ (owns (c : Thread nD τ) ((m.slice r hr).squeeze s' hq) fullShare X -∗ K fun y => X ((Shape.reshapeEquiv hq.numel_eq).symm y)))
      ⊢ wp frame (wpE (defs₀ (F := F)) Variants.none c none) Set.univ (Prog.lift (.load m r.toLoadRect hl)) K := by
  unfold owns
  iintro ⟨⟨%f, %hf, HD⟩, Hk⟩
  have hS : ((m.slice r hr).squeeze s' hq).view.set = (m.access r).set := View.set_reshape _ _
  iapply (wp_load_rect (c := (c : Thread nD τ)) Variants.none none Set.univ (m := m) (r := r) (S := ((m.slice r hr).squeeze s' hq).view.set) (by rw [hS])) $$ [HD]
  · iexact HD
  iintro HD
  rw [wp_ret]
  imodintro
  have e : (m.access r).read (Elt F) f = fun y => X ((Shape.reshapeEquiv hq.numel_eq).symm y) := by
    subst hf
    funext y
    show _ = View.read (Elt F) (m.access r) f (Shape.reshapeEquiv hq.numel_eq ((Shape.reshapeEquiv hq.numel_eq).symm y))
    rw [Equiv.apply_symm_apply]
  rw [e]
  iapply Hk
  iexists f
  isplitr; · ipureintro; exact hf
  iexact HD

end Cert.Kernel2Ideal.Ffn
-- ==== Proof.Ffn.Steps.lean ====
/- The steps of a point of the feed-forward kernel: the request of a tile, the wait for it, its product with the normalised
   rows added to the output block, and the beginning of a block of rows. -/
module

public import proofs.«01_k».proof.Proof.Ffn.Dma
public import Idealize.ShloMosaic.Lib.Pipeline.TableIdle

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (Pipeline.UD sig nD τ) ℕ

/-- The three transfers of a tile, none of them in flight. -/
def idle3 (c : Dev nD) (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) (π0 π1 π2 : PosShare TreeShare)
    (A0 : Buf (Elt F) (g.view.loc (c : Thread nD τ))) (A1 : Buf (Elt F) (u.view.loc (c : Thread nD τ))) (A2 : Buf (Elt F) (d.view.loc (c : Thread nD τ))) : sProp 𝕄 :=
  iprop(idle c g g' q0 π0 A0 ∗ idle c u u' q1 π1 A1 ∗ idle c d d' q2 π2 A2)

/-- All three in flight. -/
def busy3 (c : Dev nD) (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) (π0 π1 π2 : PosShare TreeShare)
    (A0 : Buf (Elt F) (g.view.loc (c : Thread nD τ))) (A1 : Buf (Elt F) (u.view.loc (c : Thread nD τ))) (A2 : Buf (Elt F) (d.view.loc (c : Thread nD τ))) : sProp 𝕄 :=
  iprop(busy c g g' q0 π0 A0 ∗ busy c u u' q1 π1 A1 ∗ busy c d d' q2 π2 A2)

/-- All three landed: the slots, and what else the core holds again. -/
def landed3 (c : Dev nD) (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) (π0 π1 π2 : PosShare TreeShare)
    (A0 : Buf (Elt F) (g.view.loc (c : Thread nD τ))) (A1 : Buf (Elt F) (u.view.loc (c : Thread nD τ))) (A2 : Buf (Elt F) (d.view.loc (c : Thread nD τ))) : sProp 𝕄 :=
  iprop(landed c g g' q0 π0 A0 ∗ landed c u u' q1 π1 A1 ∗ landed c d d' q2 π2 A2)

theorem request_run (c : Dev nD) (K : PUnit → sProp 𝕄) (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) (π0 π1 π2 : PosShare TreeShare)
    (A0 : Buf (Elt F) (g.view.loc (c : Thread nD τ))) (A1 : Buf (Elt F) (u.view.loc (c : Thread nD τ))) (A2 : Buf (Elt F) (d.view.loc (c : Thread nD τ))) :
    iprop(idle3 c g u d g' u' d' q0 q1 q2 π0 π1 π2 A0 A1 A2 ∗ (busy3 c g u d g' u' d' q0 q1 q2 π0 π1 π2 A0 A1 A2 -∗ K ⟨⟩))
      ⊢ wp frame (wpE (defs₀ (F := F)) Variants.none c none) Set.univ (request g u d g' u' d' q0 q1 q2) K := by
  unfold idle3 busy3 request
  iintro ⟨⟨H0, H1, H2⟩, Hk⟩
  rw [wp_bind]
  iapply (issue_run c Set.univ _ g g' q0 π0 A0 (by decide))
  isplitl [H0]; · iexact H0
  iintro H0
  rw [wp_bind]
  iapply (issue_run c Set.univ _ u u' q1 π1 A1 (by decide))
  isplitl [H1]; · iexact H1
  iintro H1
  iapply (issue_run c Set.univ _ d d' q2 π2 A2 (by decide))
  isplitl [H2]; · iexact H2
  iintro H2
  iapply Hk
  isplitl [H0]; · iexact H0
  isplitl [H1]; · iexact H1
  iexact H2

theorem arrive_run (c : Dev nD) (K : PUnit → sProp 𝕄) (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) (π0 π1 π2 : PosShare TreeShare)
    (A0 : Buf (Elt F) (g.view.loc (c : Thread nD τ))) (A1 : Buf (Elt F) (u.view.loc (c : Thread nD τ))) (A2 : Buf (Elt F) (d.view.loc (c : Thread nD τ))) :
    iprop(busy3 c g u d g' u' d' q0 q1 q2 π0 π1 π2 A0 A1 A2 ∗ (∃ W, owes (c : Thread nD τ) 0 W)
        ∗ (iprop(landed3 c g u d g' u' d' q0 q1 q2 π0 π1 π2 A0 A1 A2 ∗ (∃ W, owes (c : Thread nD τ) 0 W)) -∗ K ⟨⟩))
      ⊢ wp frame (wpE (defs₀ (F := F)) Variants.none c none) Set.univ (arrive g u d g' u' d' q0 q1 q2) K := by
  unfold busy3 landed3 arrive
  iintro ⟨⟨H0, H1, H2⟩, HO, Hk⟩
  rw [wp_bind]
  iapply (collect_run c Set.univ _ g g' q0 π0 A0)
  isplitl [H0]; · iexact H0
  isplitl [HO]; · iexact HO
  iintro ⟨H0, HO⟩
  rw [wp_bind]
  iapply (collect_run c Set.univ _ u u' q1 π1 A1)
  isplitl [H1]; · iexact H1
  isplitl [HO]; · iexact HO
  iintro ⟨H1, HO⟩
  iapply (collect_run c Set.univ _ d d' q2 π2 A2)
  isplitl [H2]; · iexact H2
  isplitl [HO]; · iexact HO
  iintro ⟨H2, HO⟩
  iapply Hk
  isplitr [HO]
  · isplitl [H0]; · iexact H0
    isplitl [H1]; · iexact H1
    iexact H2
  iexact HO

/-- A load of a whole buffer. -/
theorem load_full (c : Dev nD) {s : Shape} {e : EltTy} (m : Memref sig .tc .vmem s e) (off : Fin s.rank → ℕ) (hoff : ∀ a, off a + s.size a ≤ s.size a)
    (hl : m.view.LoadsAt (Rect.unit (s := s) off s.size hoff).toLoadRect) (X : s.Idx → Elt F e) (K : (s.Idx → Elt F e) → sProp 𝕄) :
    iprop(owns (c : Thread nD τ) m fullShare X ∗ (owns (c : Thread nD τ) m fullShare X -∗ K X))
      ⊢ wp frame (wpE (defs₀ (F := F)) Variants.none c none) Set.univ (Prog.lift (.load m (Rect.unit (s := s) off s.size hoff).toLoadRect hl)) K := by
  simp only [owns_eq_rep]
  iintro ⟨H0, Hk⟩
  sl_exec
  sl_step
  rw [View.readAt_rep_full m.view]
  iapply Hk
  iexact H0

/-- A store of a whole buffer. -/
theorem store_full (c : Dev nD) {s : Shape} {e : EltTy} (m : Memref sig .tc .vmem s e) (off : Fin s.rank → ℕ) (hoff : ∀ a, off a + s.size a ≤ s.size a)
    (v w : s.Idx → Elt F e) (hs) (hf) (K : PUnit → sProp 𝕄) :
    iprop(owns (c : Thread nD τ) m fullShare v ∗ (owns (c : Thread nD τ) m fullShare w -∗ K ⟨⟩))
      ⊢ wp frame (wpE (defs₀ (F := F)) Variants.none c none) Set.univ (Prog.lift (.store m (Rect.unit (s := s) off s.size hoff) w Finset.univ hs hf)) K := by
  simp only [owns_eq_rep]
  iintro ⟨H0, Hk⟩
  sl_exec
  sl_step
  iapply Hk
  iapply pointsTo_rep_of_read (c : Thread nD τ) m _ fullShare _ ?_ $$ H0
  rw [View.read_writes_full m.view]

/-- A tile of columns, and of rows, as a ring's slot gives it. -/
def colV (g : S2048x256.Idx → Elt F .f32) : Vec F S1x2048x256 .f32 := fun y => g ((Shape.reshapeEquiv squeezes_S1x2048x256_S2048x256.numel_eq).symm y)
def rowV (d : S256x2048.Idx → Elt F .f32) : Vec F S1x256x2048 .f32 := fun y => d ((Shape.reshapeEquiv squeezes_S1x256x2048_S256x2048.numel_eq).symm y)

/-- A tile's product, added to the output block. -/
theorem half_run (c : Dev nD) (K : PUnit → sProp 𝕄) (orf : Memref sig .tc .vmem S1024x2048 .f32) (xr : Memref sig .tc .vmem S1024x2048 .bf16)
    (gr ur : Memref sig .tc .vmem S2x2048x256 .f32) (dr : Memref sig .tc .vmem S2x256x2048 .f32) (s : ℕ)
    (hc : ∀ a, (![s, 0, 0] : Fin 3 → ℕ) a + S1x2048x256.size a ≤ S2x2048x256.size a)
    (hr : ∀ a, (![s, 0, 0] : Fin 3 → ℕ) a + S1x256x2048.size a ≤ S2x256x2048.size a)
    (o : Vec F S1024x2048 .f32) (x : Vec F S1024x2048 .bf16) (g u : S2048x256.Idx → Elt F .f32) (d : S256x2048.Idx → Elt F .f32) :
    iprop(owns (c : Thread nD τ) orf fullShare o ∗ owns (c : Thread nD τ) xr fullShare x
        ∗ owns (c : Thread nD τ) (slotC gr s hc) fullShare g ∗ owns (c : Thread nD τ) (slotC ur s hc) fullShare u ∗ owns (c : Thread nD τ) (slotR dr s hr) fullShare d
        ∗ (iprop(owns (c : Thread nD τ) orf fullShare (k0_pay10 o x (colV g) (colV u) (rowV d)) ∗ owns (c : Thread nD τ) xr fullShare x
            ∗ owns (c : Thread nD τ) (slotC gr s hc) fullShare g ∗ owns (c : Thread nD τ) (slotC ur s hc) fullShare u ∗ owns (c : Thread nD τ) (slotR dr s hr) fullShare d) -∗ K ⟨⟩))
      ⊢ wp frame (wpE (defs₀ (F := F)) Variants.none c none) Set.univ (half orf xr gr ur dr s hc hr) K := by
  unfold half
  iintro ⟨HO, HX, HG, HU, HD, Hk⟩
  rw [wp_bind]
  iapply (load_full c orf _ _ _ o)
  isplitl [HO]; · iexact HO
  iintro HO
  rw [wp_bind]
  iapply (load_full c xr _ _ _ x)
  isplitl [HX]; · iexact HX
  iintro HX
  rw [wp_bind]
  iapply (load_slot c Set.univ gr _ _ squeezes_S1x2048x256_S2048x256 _ g)
  isplitl [HG]; · iexact HG
  iintro HG
  rw [wp_bind]
  iapply (load_slot c Set.univ ur _ _ squeezes_S1x2048x256_S2048x256 _ u)
  isplitl [HU]; · iexact HU
  iintro HU
  rw [wp_bind]
  iapply (load_slot c Set.univ dr _ _ squeezes_S1x256x2048_S256x2048 _ d)
  isplitl [HD]; · iexact HD
  iintro HD
  rw [wp_bind]
  iapply (load_full c orf _ _ _ o)
  isplitl [HO]; · iexact HO
  iintro HO
  iapply (store_full c orf _ _ o)
  isplitl [HO]; · iexact HO
  iintro HO
  iapply Hk
  isplitl [HO]; · iexact HO
  isplitl [HX]; · iexact HX
  isplitl [HG]; · iexact HG
  isplitl [HU]; · iexact HU
  iexact HD

/-- The beginning of a block of rows: the rows normalised, and the first tile. -/
theorem start_run (c : Dev nD) (K : PUnit → sProp 𝕄) (hrf : Memref sig .tc .vmem S1024x2048 .f32) (nr : Memref sig .tc .vmem S1x1x2048 .f32)
    (orf : Memref sig .tc .vmem S1024x2048 .f32) (xr : Memref sig .tc .vmem S1024x2048 .bf16) (hx : xr.IsWhole)
    (gr ur : Memref sig .tc .vmem S2x2048x256 .f32) (dr : Memref sig .tc .vmem S2x256x2048 .f32)
    (h : Vec F S1024x2048 .f32) (n : Vec F S1x1x2048 .f32) (o : Vec F S1024x2048 .f32) (x : Vec F S1024x2048 .bf16)
    (g u : S2048x256.Idx → Elt F .f32) (d : S256x2048.Idx → Elt F .f32) :
    iprop(owns (c : Thread nD τ) hrf fullShare h ∗ owns (c : Thread nD τ) nr fullShare n ∗ owns (c : Thread nD τ) orf fullShare o ∗ owns (c : Thread nD τ) xr fullShare x
        ∗ owns (c : Thread nD τ) (slotC gr 0 inb_S2x2048x256_S1x2048x256_0_0_0) fullShare g ∗ owns (c : Thread nD τ) (slotC ur 0 inb_S2x2048x256_S1x2048x256_0_0_0) fullShare u ∗ owns (c : Thread nD τ) (slotR dr 0 inb_S2x256x2048_S1x256x2048_0_0_0) fullShare d
        ∗ (iprop(owns (c : Thread nD τ) hrf fullShare h ∗ owns (c : Thread nD τ) nr fullShare n
            ∗ owns (c : Thread nD τ) orf fullShare (k0_pay9 h (k0_pay6 h n) (colV g) (colV u) (rowV d)) ∗ owns (c : Thread nD τ) xr fullShare (k0_pay8 (k0_pay6 h n))
            ∗ owns (c : Thread nD τ) (slotC gr 0 inb_S2x2048x256_S1x2048x256_0_0_0) fullShare g ∗ owns (c : Thread nD τ) (slotC ur 0 inb_S2x2048x256_S1x2048x256_0_0_0) fullShare u ∗ owns (c : Thread nD τ) (slotR dr 0 inb_S2x256x2048_S1x256x2048_0_0_0) fullShare d) -∗ K ⟨⟩))
      ⊢ wp frame (wpE (defs₀ (F := F)) Variants.none c none) Set.univ (start hrf nr orf xr hx gr ur dr) K := by
  unfold start
  iintro ⟨HH, HN, HO, HX, HG, HU, HD, Hk⟩
  rw [wp_bind]
  iapply (load_full c hrf _ _ _ h)
  isplitl [HH]; · iexact HH
  iintro HH
  rw [wp_bind]
  iapply (load_full c nr _ _ _ n)
  isplitl [HN]; · iexact HN
  iintro HN
  rw [wp_bind]
  iapply (load_full c xr _ _ _ x)
  isplitl [HX]; · iexact HX
  iintro HX
  rw [wp_bind]
  iapply (store_full c xr _ _ x)
  isplitl [HX]; · iexact HX
  iintro HX
  rw [wp_bind]
  iapply (load_slot c Set.univ gr _ _ squeezes_S1x2048x256_S2048x256 _ g)
  isplitl [HG]; · iexact HG
  iintro HG
  rw [wp_bind]
  iapply (load_slot c Set.univ ur _ _ squeezes_S1x2048x256_S2048x256 _ u)
  isplitl [HU]; · iexact HU
  iintro HU
  rw [wp_bind]
  iapply (load_slot c Set.univ dr _ _ squeezes_S1x256x2048_S256x2048 _ d)
  isplitl [HD]; · iexact HD
  iintro HD
  rw [wp_bind]
  iapply (load_full c orf _ _ _ o)
  isplitl [HO]; · iexact HO
  iintro HO
  iapply (store_full c orf _ _ o)
  isplitl [HO]; · iexact HO
  iintro HO
  iapply Hk
  isplitl [HH]; · iexact HH
  isplitl [HN]; · iexact HN
  isplitl [HO]; · iexact HO
  isplitl [HX]; · iexact HX
  isplitl [HG]; · iexact HG
  isplitl [HU]; · iexact HU
  iexact HD

end Cert.Kernel2Ideal.Ffn
-- ==== Proof.Ffn.Tiles.lean ====
/- The tiles of the weights, and a slot of the rings: free, filling with a tile, or filled with it. -/
module

public import proofs.«01_k».proof.Proof.Ffn.Steps

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

/-- Where tile `f` of the gate, of the up projection and of the down projection begins. -/
def gT (f : ℕ) : Fin 3 → ℕ := ![0, 0, 256 * (f % 22)]
def uT (f : ℕ) : Fin 3 → ℕ := ![0, 0, 5632 + 256 * (f % 22)]
def dT (f : ℕ) : Fin 3 → ℕ := ![0, 256 * (f % 22), 0]

theorem gT_inb (f : ℕ) (a : Fin 3) : gT f a + S1x2048x256.size a ≤ S4x2048x11264.size a := by
  have := Nat.mod_lt f (show 0 < 22 by decide)
  fin_cases a
  · show 0 + 1 ≤ 4; omega
  · show 0 + 2048 ≤ 2048; omega
  · show 256 * (f % 22) + 256 ≤ 11264; omega

theorem uT_inb (f : ℕ) (a : Fin 3) : uT f a + S1x2048x256.size a ≤ S4x2048x11264.size a := by
  have := Nat.mod_lt f (show 0 < 22 by decide)
  fin_cases a
  · show 0 + 1 ≤ 4; omega
  · show 0 + 2048 ≤ 2048; omega
  · show 5632 + 256 * (f % 22) + 256 ≤ 11264; omega

theorem dT_inb (f : ℕ) (a : Fin 3) : dT f a + S1x256x2048.size a ≤ S4x5632x2048.size a := by
  have := Nat.mod_lt f (show 0 < 22 by decide)
  fin_cases a
  · show 0 + 1 ≤ 4; omega
  · show 256 * (f % 22) + 256 ≤ 5632; omega
  · show 0 + 2048 ≤ 2048; omega

theorem off1_one (t : Fin k0_t1_loop.trips) : k0_off1 t 1#32 = gT (2 * t.val + 2) := by revert t; decide
theorem off1_two (t : Fin k0_t1_loop.trips) : k0_off1 t 2#32 = gT (2 * t.val + 3) := by revert t; decide
theorem off2_one (t : Fin k0_t1_loop.trips) : k0_off2 t 1#32 = uT (2 * t.val + 2) := by revert t; decide
theorem off2_two (t : Fin k0_t1_loop.trips) : k0_off2 t 2#32 = uT (2 * t.val + 3) := by revert t; decide
theorem off3_one (t : Fin k0_t1_loop.trips) : k0_off3 t 1#32 = dT (2 * t.val + 2) := by revert t; decide
theorem off3_two (t : Fin k0_t1_loop.trips) : k0_off3 t 2#32 = dT (2 * t.val + 3) := by revert t; decide
theorem off4_eq (t : Fin k0_t1_loop.trips) : k0_off4 t = gT (2 * t.val + 1) := by revert t; decide
theorem off5_eq (t : Fin k0_t1_loop.trips) : k0_off5 t = uT (2 * t.val + 1) := by revert t; decide
theorem off6_eq (t : Fin k0_t1_loop.trips) : k0_off6 t = dT (2 * t.val + 1) := by revert t; decide

theorem isFirst_iff (i : grid0.Coords) : isFirst i = 1#1 ↔ (i 0).val = 0 := by
  unfold isFirst
  generalize i 0 = j
  revert j; decide

theorem hasNext_iff (i : grid0.Coords) : hasNext i = 1#1 ↔ (i 0).val + 1 < 8 := by
  unfold hasNext
  generalize i 0 = j
  revert j; decide

variable {F : FTy → Type} [FloatOps F]

local notation "𝕄" => MT nD τ sig Unit (Elt F) ℕ (Pipeline.UD sig nD τ) ℕ

section

variable (c : Dev nD) (arg3 : Memref sig .tc .hbm S4x2048x11264 .f32) (arg4 : Memref sig .tc .hbm S4x5632x2048 .f32)
  (arg5 : Memref sig .tc .vmem S1024x2048 .f32) (arg6 : Memref sig .tc .vmem S1024x2048 .bf16)
  (arg7 arg8 : Memref sig .tc .vmem S2x2048x256 .f32) (arg9 : Memref sig .tc .vmem S2x256x2048 .f32) (arg10 : DmaSems sig S3x2)
  (π : Fin 6 → PosShare TreeShare) (A : Buf (Elt F) (arg3.view.loc (c : Thread nD τ))) (B : Buf (Elt F) (arg4.view.loc (c : Thread nD τ)))

/-- Tile `f` of each of the weights. -/
def gV (f : ℕ) : S2048x256.Idx → Elt F .f32 := (colsAt arg3 (gT f) (gT_inb f)).view.read (Elt F) A
def uV (f : ℕ) : S2048x256.Idx → Elt F .f32 := (colsAt arg3 (uT f) (uT_inb f)).view.read (Elt F) A
def dV (f : ℕ) : S256x2048.Idx → Elt F .f32 := (rowsAt arg4 (dT f) (dT_inb f)).view.read (Elt F) B

/-- Slot 0: nothing in flight; tile `f` in flight; tile `f` landed. -/
def idle0 : sProp 𝕄 :=
  idle3 c (colsAt arg3 (gT 0) (gT_inb 0)) (colsAt arg3 (uT 0) (uT_inb 0)) (rowsAt arg4 (dT 0) (dT_inb 0))
    (slotC arg7 0 inb_S2x2048x256_S1x2048x256_0_0_0) (slotC arg8 0 inb_S2x2048x256_S1x2048x256_0_0_0) (slotR arg9 0 inb_S2x256x2048_S1x256x2048_0_0_0)
    (cellAt arg10 0 0 inb_S3x2_S1x1_0_0) (cellAt arg10 1 0 inb_S3x2_S1x1_1_0) (cellAt arg10 2 0 inb_S3x2_S1x1_2_0) (π 0) (π 1) (π 2) A A B

def busy0 (f : ℕ) : sProp 𝕄 :=
  busy3 c (colsAt arg3 (gT f) (gT_inb f)) (colsAt arg3 (uT f) (uT_inb f)) (rowsAt arg4 (dT f) (dT_inb f))
    (slotC arg7 0 inb_S2x2048x256_S1x2048x256_0_0_0) (slotC arg8 0 inb_S2x2048x256_S1x2048x256_0_0_0) (slotR arg9 0 inb_S2x256x2048_S1x256x2048_0_0_0)
    (cellAt arg10 0 0 inb_S3x2_S1x1_0_0) (cellAt arg10 1 0 inb_S3x2_S1x1_1_0) (cellAt arg10 2 0 inb_S3x2_S1x1_2_0) (π 0) (π 1) (π 2) A A B

def landed0 (f : ℕ) : sProp 𝕄 :=
  landed3 c (colsAt arg3 (gT f) (gT_inb f)) (colsAt arg3 (uT f) (uT_inb f)) (rowsAt arg4 (dT f) (dT_inb f))
    (slotC arg7 0 inb_S2x2048x256_S1x2048x256_0_0_0) (slotC arg8 0 inb_S2x2048x256_S1x2048x256_0_0_0) (slotR arg9 0 inb_S2x256x2048_S1x256x2048_0_0_0)
    (cellAt arg10 0 0 inb_S3x2_S1x1_0_0) (cellAt arg10 1 0 inb_S3x2_S1x1_1_0) (cellAt arg10 2 0 inb_S3x2_S1x1_2_0) (π 0) (π 1) (π 2) A A B

/-- Slot 1, the same. -/
def idle1 : sProp 𝕄 :=
  idle3 c (colsAt arg3 (gT 0) (gT_inb 0)) (colsAt arg3 (uT 0) (uT_inb 0)) (rowsAt arg4 (dT 0) (dT_inb 0))
    (slotC arg7 1 inb_S2x2048x256_S1x2048x256_1_0_0) (slotC arg8 1 inb_S2x2048x256_S1x2048x256_1_0_0) (slotR arg9 1 inb_S2x256x2048_S1x256x2048_1_0_0)
    (cellAt arg10 0 1 inb_S3x2_S1x1_0_1) (cellAt arg10 1 1 inb_S3x2_S1x1_1_1) (cellAt arg10 2 1 inb_S3x2_S1x1_2_1) (π 3) (π 4) (π 5) A A B

def busy1 (f : ℕ) : sProp 𝕄 :=
  busy3 c (colsAt arg3 (gT f) (gT_inb f)) (colsAt arg3 (uT f) (uT_inb f)) (rowsAt arg4 (dT f) (dT_inb f))
    (slotC arg7 1 inb_S2x2048x256_S1x2048x256_1_0_0) (slotC arg8 1 inb_S2x2048x256_S1x2048x256_1_0_0) (slotR arg9 1 inb_S2x256x2048_S1x256x2048_1_0_0)
    (cellAt arg10 0 1 inb_S3x2_S1x1_0_1) (cellAt arg10 1 1 inb_S3x2_S1x1_1_1) (cellAt arg10 2 1 inb_S3x2_S1x1_2_1) (π 3) (π 4) (π 5) A A B

def landed1 (f : ℕ) : sProp 𝕄 :=
  landed3 c (colsAt arg3 (gT f) (gT_inb f)) (colsAt arg3 (uT f) (uT_inb f)) (rowsAt arg4 (dT f) (dT_inb f))
    (slotC arg7 1 inb_S2x2048x256_S1x2048x256_1_0_0) (slotC arg8 1 inb_S2x2048x256_S1x2048x256_1_0_0) (slotR arg9 1 inb_S2x256x2048_S1x256x2048_1_0_0)
    (cellAt arg10 0 1 inb_S3x2_S1x1_0_1) (cellAt arg10 1 1 inb_S3x2_S1x1_1_1) (cellAt arg10 2 1 inb_S3x2_S1x1_2_1) (π 3) (π 4) (π 5) A A B

theorem landed0_idle (f : ℕ) : landed0 c arg3 arg4 arg7 arg8 arg9 arg10 π A B f ⊢ idle0 c arg3 arg4 arg7 arg8 arg9 arg10 π A B := by
  unfold landed0 idle0 landed3 idle3
  iintro ⟨H0, H1, H2⟩
  isplitl [H0]
  · iapply (landed_idle c (colsAt arg3 (gT f) (gT_inb f)) _ _ (π 0) A) $$ H0
  isplitl [H1]
  · iapply (landed_idle c (colsAt arg3 (uT f) (uT_inb f)) _ _ (π 1) A) $$ H1
  · iapply (landed_idle c (rowsAt arg4 (dT f) (dT_inb f)) _ _ (π 2) B) $$ H2

theorem landed1_idle (f : ℕ) : landed1 c arg3 arg4 arg7 arg8 arg9 arg10 π A B f ⊢ idle1 c arg3 arg4 arg7 arg8 arg9 arg10 π A B := by
  unfold landed1 idle1 landed3 idle3
  iintro ⟨H0, H1, H2⟩
  isplitl [H0]
  · iapply (landed_idle c (colsAt arg3 (gT f) (gT_inb f)) _ _ (π 3) A) $$ H0
  isplitl [H1]
  · iapply (landed_idle c (colsAt arg3 (uT f) (uT_inb f)) _ _ (π 4) A) $$ H1
  · iapply (landed_idle c (rowsAt arg4 (dT f) (dT_inb f)) _ _ (π 5) B) $$ H2

theorem req0_run (K : PUnit → sProp 𝕄) (og ou od : Fin 3 → ℕ) (hg hu hd) (f : ℕ) (e0 : og = gT f) (e1 : ou = uT f) (e2 : od = dT f) :
    iprop(idle0 c arg3 arg4 arg7 arg8 arg9 arg10 π A B ∗ (busy0 c arg3 arg4 arg7 arg8 arg9 arg10 π A B f -∗ K ⟨⟩))
      ⊢ wp frame (wpE (defs₀ (F := F)) Variants.none c none) Set.univ (req0 arg3 arg4 arg7 arg8 arg9 arg10 og ou od hg hu hd) K := by
  subst e0 e1 e2
  exact request_run c K (colsAt arg3 (gT f) (gT_inb f)) (colsAt arg3 (uT f) (uT_inb f)) (rowsAt arg4 (dT f) (dT_inb f)) _ _ _ _ _ _ (π 0) (π 1) (π 2) A A B

theorem req1_run (K : PUnit → sProp 𝕄) (og ou od : Fin 3 → ℕ) (hg hu hd) (f : ℕ) (e0 : og = gT f) (e1 : ou = uT f) (e2 : od = dT f) :
    iprop(idle1 c arg3 arg4 arg7 arg8 arg9 arg10 π A B ∗ (busy1 c arg3 arg4 arg7 arg8 arg9 arg10 π A B f -∗ K ⟨⟩))
      ⊢ wp frame (wpE (defs₀ (F := F)) Variants.none c none) Set.univ (req1 arg3 arg4 arg7 arg8 arg9 arg10 og ou od hg hu hd) K := by
  subst e0 e1 e2
  exact request_run c K (colsAt arg3 (gT f) (gT_inb f)) (colsAt arg3 (uT f) (uT_inb f)) (rowsAt arg4 (dT f) (dT_inb f)) _ _ _ _ _ _ (π 3) (π 4) (π 5) A A B

theorem arr0_run (K : PUnit → sProp 𝕄) (og ou od : Fin 3 → ℕ) (hg hu hd) (f : ℕ) (e0 : og = gT f) (e1 : ou = uT f) (e2 : od = dT f) :
    iprop(busy0 c arg3 arg4 arg7 arg8 arg9 arg10 π A B f ∗ (∃ W, owes (c : Thread nD τ) 0 W)
        ∗ (iprop(landed0 c arg3 arg4 arg7 arg8 arg9 arg10 π A B f ∗ (∃ W, owes (c : Thread nD τ) 0 W)) -∗ K ⟨⟩))
      ⊢ wp frame (wpE (defs₀ (F := F)) Variants.none c none) Set.univ (arr0 arg3 arg4 arg7 arg8 arg9 arg10 og ou od hg hu hd) K := by
  subst e0 e1 e2
  exact arrive_run c K (colsAt arg3 (gT f) (gT_inb f)) (colsAt arg3 (uT f) (uT_inb f)) (rowsAt arg4 (dT f) (dT_inb f)) _ _ _ _ _ _ (π 0) (π 1) (π 2) A A B

theorem arr1_run (K : PUnit → sProp 𝕄) (og ou od : Fin 3 → ℕ) (hg hu hd) (f : ℕ) (e0 : og = gT f) (e1 : ou = uT f) (e2 : od = dT f) :
    iprop(busy1 c arg3 arg4 arg7 arg8 arg9 arg10 π A B f ∗ (∃ W, owes (c : Thread nD τ) 0 W)
        ∗ (iprop(landed1 c arg3 arg4 arg7 arg8 arg9 arg10 π A B f ∗ (∃ W, owes (c : Thread nD τ) 0 W)) -∗ K ⟨⟩))
      ⊢ wp frame (wpE (defs₀ (F := F)) Variants.none c none) Set.univ (arr1 arg3 arg4 arg7 arg8 arg9 arg10 og ou od hg hu hd) K := by
  subst e0 e1 e2
  exact arrive_run c K (colsAt arg3 (gT f) (gT_inb f)) (colsAt arg3 (uT f) (uT_inb f)) (rowsAt arg4 (dT f) (dT_inb f)) _ _ _ _ _ _ (π 3) (π 4) (π 5) A A B

theorem half0_run (K : PUnit → sProp 𝕄) (o : Vec F S1024x2048 .f32) (x : Vec F S1024x2048 .bf16) (f : ℕ) :
    iprop(owns (c : Thread nD τ) arg5 fullShare o ∗ owns (c : Thread nD τ) arg6 fullShare x ∗ landed0 c arg3 arg4 arg7 arg8 arg9 arg10 π A B f
        ∗ (iprop(owns (c : Thread nD τ) arg5 fullShare (k0_pay10 o x (colV (gV c arg3 A f)) (colV (uV c arg3 A f)) (rowV (dV c arg4 B f)))
            ∗ owns (c : Thread nD τ) arg6 fullShare x ∗ idle0 c arg3 arg4 arg7 arg8 arg9 arg10 π A B) -∗ K ⟨⟩))
      ⊢ wp frame (wpE (defs₀ (F := F)) Variants.none c none) Set.univ (half0 arg5 arg6 arg7 arg8 arg9) K := by
  iintro ⟨HO, HX, HL, Hk⟩
  unfold landed0 landed3 landed half0
  icases HL with ⟨⟨HA0, HD0, HV0⟩, ⟨HA1, HD1, HV1⟩, ⟨HA2, HD2, HV2⟩⟩
  iapply (half_run c K arg5 arg6 arg7 arg8 arg9 0 _ _ o x (gV c arg3 A f) (uV c arg3 A f) (dV c arg4 B f))
  isplitl [HO]; · iexact HO
  isplitl [HX]; · iexact HX
  isplitl [HD0]; · iexact HD0
  isplitl [HD1]; · iexact HD1
  isplitl [HD2]; · iexact HD2
  iintro ⟨HO, HX, HD0, HD1, HD2⟩
  iapply Hk
  isplitl [HO]; · iexact HO
  isplitl [HX]; · iexact HX
  iapply (landed0_idle c arg3 arg4 arg7 arg8 arg9 arg10 π A B f)
  unfold landed0 landed3 landed
  isplitl [HA0 HD0 HV0]
  · isplitl [HA0]; · iexact HA0
    isplitl [HD0]; · iexact HD0
    iexact HV0
  isplitl [HA1 HD1 HV1]
  · isplitl [HA1]; · iexact HA1
    isplitl [HD1]; · iexact HD1
    iexact HV1
  · isplitl [HA2]; · iexact HA2
    isplitl [HD2]; · iexact HD2
    iexact HV2

theorem half1_run (K : PUnit → sProp 𝕄) (o : Vec F S1024x2048 .f32) (x : Vec F S1024x2048 .bf16) (f : ℕ) :
    iprop(owns (c : Thread nD τ) arg5 fullShare o ∗ owns (c : Thread nD τ) arg6 fullShare x ∗ landed1 c arg3 arg4 arg7 arg8 arg9 arg10 π A B f
        ∗ (iprop(owns (c : Thread nD τ) arg5 fullShare (k0_pay10 o x (colV (gV c arg3 A f)) (colV (uV c arg3 A f)) (rowV (dV c arg4 B f)))
            ∗ owns (c : Thread nD τ) arg6 fullShare x ∗ idle1 c arg3 arg4 arg7 arg8 arg9 arg10 π A B) -∗ K ⟨⟩))
      ⊢ wp frame (wpE (defs₀ (F := F)) Variants.none c none) Set.univ (half1 arg5 arg6 arg7 arg8 arg9) K := by
  iintro ⟨HO, HX, HL, Hk⟩
  unfold landed1 landed3 landed half1
  icases HL with ⟨⟨HA0, HD0, HV0⟩, ⟨HA1, HD1, HV1⟩, ⟨HA2, HD2, HV2⟩⟩
  iapply (half_run c K arg5 arg6 arg7 arg8 arg9 1 _ _ o x (gV c arg3 A f) (uV c arg3 A f) (dV c arg4 B f))
  isplitl [HO]; · iexact HO
  isplitl [HX]; · iexact HX
  isplitl [HD0]; · iexact HD0
  isplitl [HD1]; · iexact HD1
  isplitl [HD2]; · iexact HD2
  iintro ⟨HO, HX, HD0, HD1, HD2⟩
  iapply Hk
  isplitl [HO]; · iexact HO
  isplitl [HX]; · iexact HX
  iapply (landed1_idle c arg3 arg4 arg7 arg8 arg9 arg10 π A B f)
  unfold landed1 landed3 landed
  isplitl [HA0 HD0 HV0]
  · isplitl [HA0]; · iexact HA0
    isplitl [HD0]; · iexact HD0
    iexact HV0
  isplitl [HA1 HD1 HV1]
  · isplitl [HA1]; · iexact HA1
    isplitl [HD1]; · iexact HD1
    iexact HV1
  · isplitl [HA2]; · iexact HA2
    isplitl [HD2]; · iexact HD2
    iexact HV2

end

end Cert.Kernel2Ideal.Ffn
-- ==== Proof.Ffn.Run.lean ====
/- A point of the feed-forward kernel's grid: what it leaves in the output block is the rows with the 22 tiles' products
   added one after another. -/
module

public import proofs.«01_k».proof.Proof.Ffn.Tiles

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (Pipeline.UD sig nD τ) ℕ

section

variable (c : Dev nD) (i : grid0.Coords) (arg1 : Memref sig .tc .vmem S1024x2048 .f32) (harg1 : arg1.IsWhole) (arg2 : Memref sig .tc .vmem S1x1x2048 .f32) (harg2 : arg2.IsWhole)
  (arg3 : Memref sig .tc .hbm S4x2048x11264 .f32) (harg3 : arg3.IsWhole) (arg4 : Memref sig .tc .hbm S4x5632x2048 .f32) (harg4 : arg4.IsWhole)
  (arg5 : Memref sig .tc .vmem S1024x2048 .f32) (harg5 : arg5.IsWhole) (arg6 : Memref sig .tc .vmem S1024x2048 .bf16) (harg6 : arg6.IsWhole)
  (arg7 : Memref sig .tc .vmem S2x2048x256 .f32) (harg7 : arg7.IsWhole) (arg8 : Memref sig .tc .vmem S2x2048x256 .f32) (harg8 : arg8.IsWhole)
  (arg9 : Memref sig .tc .vmem S2x256x2048 .f32) (harg9 : arg9.IsWhole) (arg10 : DmaSems sig S3x2)
  (π : Fin 6 → PosShare TreeShare) (A : Buf (Elt F) (arg3.view.loc (c : Thread nD τ))) (B : Buf (Elt F) (arg4.view.loc (c : Thread nD τ)))
  (h : Vec F S1024x2048 .f32) (n : Vec F S1x1x2048 .f32)

/-- The output block after tile `f`. -/
def acc : ℕ → Vec F S1024x2048 .f32
  | 0 => k0_pay9 h (k0_pay6 h n) (colV (gV c arg3 A 0)) (colV (uV c arg3 A 0)) (rowV (dV c arg4 B 0))
  | f + 1 => k0_pay10 (acc f) (k0_pay8 (k0_pay6 h n)) (colV (gV c arg3 A (f + 1))) (colV (uV c arg3 A (f + 1))) (rowV (dV c arg4 B (f + 1)))

/-- Slot 0 between two points: free before the first and after the last, filling with the first tile otherwise. -/
def slot0 (b : Prop) [Decidable b] : sProp 𝕄 :=
  if b then busy0 c arg3 arg4 arg7 arg8 arg9 arg10 π A B 0 else idle0 c arg3 arg4 arg7 arg8 arg9 arg10 π A B

theorem slot0_pos (p : Prop) [Decidable p] (hp : p) : slot0 c arg3 arg4 arg7 arg8 arg9 arg10 π A B p ⊢ busy0 c arg3 arg4 arg7 arg8 arg9 arg10 π A B 0 := by
  unfold slot0
  rw [if_pos hp]

theorem idle_slot0 (p : Prop) [Decidable p] (hp : ¬ p) : idle0 c arg3 arg4 arg7 arg8 arg9 arg10 π A B ⊢ slot0 c arg3 arg4 arg7 arg8 arg9 arg10 π A B p := by
  unfold slot0
  rw [if_neg hp]

theorem slot0_neg (p : Prop) [Decidable p] (hp : ¬ p) : slot0 c arg3 arg4 arg7 arg8 arg9 arg10 π A B p ⊢ idle0 c arg3 arg4 arg7 arg8 arg9 arg10 π A B := by
  unfold slot0
  rw [if_neg hp]

theorem reqIf_run (K : PUnit → sProp 𝕄) (b : BitVec 1) (p q : Prop) [Decidable p] [Decidable q] (hp : p → ¬ b = 1#1) (hq : q ↔ (p ∨ b = 1#1)) :
    iprop(slot0 c arg3 arg4 arg7 arg8 arg9 arg10 π A B p ∗ (slot0 c arg3 arg4 arg7 arg8 arg9 arg10 π A B q -∗ K ⟨⟩))
      ⊢ wp frame (wpE (defs₀ (F := F)) Variants.none c none) Set.univ (reqIf arg3 arg4 arg7 arg8 arg9 arg10 b) K := by
  by_cases hb : b = 1#1
  · rw [reqIf_pos _ _ _ _ _ _ hb]
    have h1 : ¬ p := fun x => hp x hb
    have h2 : q := hq.2 (Or.inr hb)
    unfold slot0
    rw [if_neg h1, if_pos h2]
    exact req0_run c arg3 arg4 arg7 arg8 arg9 arg10 π A B K _ _ _ _ _ _ 0 rfl rfl rfl
  · rw [reqIf_neg _ _ _ _ _ _ hb]
    have e : (p ↔ q) := ⟨fun x => hq.2 (Or.inl x), fun x => (hq.1 x).resolve_right hb⟩
    have e' : slot0 c arg3 arg4 arg7 arg8 arg9 arg10 π A B p = slot0 c arg3 arg4 arg7 arg8 arg9 arg10 π A B q := by
      unfold slot0
      by_cases x : p
      · rw [if_pos x, if_pos (e.1 x)]
      · rw [if_neg x, if_neg (fun y => x (e.2 y))]
    rw [e']
    iintro ⟨H, Hk⟩
    rw [wp_pure]
    imodintro
    iapply Hk
    iexact H

/-- The state that the loop keeps. -/
def mid (t : ℕ) : sProp 𝕄 :=
  iprop(owns (c : Thread nD τ) arg5 fullShare (acc c arg3 arg4 A B h n (2 * t)) ∗ owns (c : Thread nD τ) arg6 fullShare (k0_pay8 (k0_pay6 h n))
    ∗ idle0 c arg3 arg4 arg7 arg8 arg9 arg10 π A B ∗ busy1 c arg3 arg4 arg7 arg8 arg9 arg10 π A B (2 * t + 1) ∗ (∃ W, owes (c : Thread nD τ) 0 W))

theorem trip_run (K : PUnit → sProp 𝕄) (t : Fin k0_t1_loop.trips) :
    iprop(mid c arg3 arg4 arg5 arg6 arg7 arg8 arg9 arg10 π A B h n t.val ∗ (mid c arg3 arg4 arg5 arg6 arg7 arg8 arg9 arg10 π A B h n (t.val + 1) -∗ K ⟨⟩))
      ⊢ wp frame (wpE (defs₀ (F := F)) Variants.none c none) Set.univ (trip arg3 arg4 arg5 arg6 arg7 arg8 arg9 arg10 t) K := by
  unfold mid trip
  iintro ⟨⟨HO, HX, H0, H1, HW⟩, Hk⟩
  rw [wp_bind]
  iapply (req0_run c arg3 arg4 arg7 arg8 arg9 arg10 π A B _ _ _ _ _ _ _ (2 * t.val + 2) (off1_one t) (off2_one t) (off3_one t))
  isplitl [H0]; · iexact H0
  iintro H0
  rw [wp_bind]
  iapply (arr1_run c arg3 arg4 arg7 arg8 arg9 arg10 π A B _ _ _ _ _ _ _ (2 * t.val + 1) (off4_eq t) (off5_eq t) (off6_eq t))
  isplitl [H1]; · iexact H1
  isplitl [HW]; · iexact HW
  iintro ⟨H1, HW⟩
  rw [wp_bind]
  iapply (half1_run c arg3 arg4 arg5 arg6 arg7 arg8 arg9 arg10 π A B _ _ _ (2 * t.val + 1))
  isplitl [HO]; · iexact HO
  isplitl [HX]; · iexact HX
  isplitl [H1]; · iexact H1
  iintro ⟨HO, HX, H1⟩
  rw [wp_bind]
  iapply (req1_run c arg3 arg4 arg7 arg8 arg9 arg10 π A B _ _ _ _ _ _ _ (2 * t.val + 3) (off1_two t) (off2_two t) (off3_two t))
  isplitl [H1]; · iexact H1
  iintro H1
  rw [wp_bind]
  iapply (arr0_run c arg3 arg4 arg7 arg8 arg9 arg10 π A B _ _ _ _ _ _ _ (2 * t.val + 2) (off1_one t) (off2_one t) (off3_one t))
  isplitl [H0]; · iexact H0
  isplitl [HW]; · iexact HW
  iintro ⟨H0, HW⟩
  iapply (half0_run c arg3 arg4 arg5 arg6 arg7 arg8 arg9 arg10 π A B _ _ _ (2 * t.val + 2))
  isplitl [HO]; · iexact HO
  isplitl [HX]; · iexact HX
  isplitl [H0]; · iexact H0
  iintro ⟨HO, HX, H0⟩
  iapply Hk
  rw [show 2 * (t.val + 1) = 2 * t.val + 1 + 1 by omega]
  isplitl [HO]; · iexact HO
  isplitl [HX]; · iexact HX
  isplitl [H0]; · iexact H0
  isplitl [H1]; · iexact H1
  iexact HW

theorem body_run (K : PUnit → sProp 𝕄) (o : Vec F S1024x2048 .f32) (x : Vec F S1024x2048 .bf16) :
    iprop(owns (c : Thread nD τ) arg1 fullShare h ∗ owns (c : Thread nD τ) arg2 fullShare n ∗ owns (c : Thread nD τ) arg5 fullShare o ∗ owns (c : Thread nD τ) arg6 fullShare x
        ∗ slot0 c arg3 arg4 arg7 arg8 arg9 arg10 π A B (0 < (i 0).val ∧ (i 0).val < 8) ∗ idle1 c arg3 arg4 arg7 arg8 arg9 arg10 π A B ∗ (∃ W, owes (c : Thread nD τ) 0 W)
        ∗ (iprop(owns (c : Thread nD τ) arg1 fullShare h ∗ owns (c : Thread nD τ) arg2 fullShare n ∗ owns (c : Thread nD τ) arg5 fullShare (acc c arg3 arg4 A B h n 21)
            ∗ owns (c : Thread nD τ) arg6 fullShare (k0_pay8 (k0_pay6 h n))
            ∗ slot0 c arg3 arg4 arg7 arg8 arg9 arg10 π A B (0 < (i 0).val + 1 ∧ (i 0).val + 1 < 8) ∗ idle1 c arg3 arg4 arg7 arg8 arg9 arg10 π A B ∗ (∃ W, owes (c : Thread nD τ) 0 W)) -∗ K ⟨⟩))
      ⊢ wp frame (wpE (defs₀ (F := F)) Variants.none c none) Set.univ (body i arg1 arg2 arg3 arg4 arg5 arg6 harg6 arg7 arg8 arg9 arg10) K := by
  unfold body
  have hi : (i 0).val < 8 := (i 0).isLt
  iintro ⟨HH, HN, HO, HX, H0, H1, HW, Hk⟩
  rw [wp_bind]
  iapply (reqIf_run c arg3 arg4 arg7 arg8 arg9 arg10 π A B _ (isFirst i) (0 < (i 0).val ∧ (i 0).val < 8) True
    (fun p q => by have := (isFirst_iff i).1 q; omega) (by rw [isFirst_iff]; exact ⟨fun _ => by omega, fun _ => trivial⟩))
  isplitl [H0]; · iexact H0
  iintro H0
  ihave H0 := (slot0_pos c arg3 arg4 arg7 arg8 arg9 arg10 π A B True trivial) $$ H0
  rw [wp_bind]
  iapply (req1_run c arg3 arg4 arg7 arg8 arg9 arg10 π A B _ _ _ _ _ _ _ 1 rfl rfl rfl)
  isplitl [H1]; · iexact H1
  iintro H1
  rw [wp_bind]
  iapply (arr0_run c arg3 arg4 arg7 arg8 arg9 arg10 π A B _ _ _ _ _ _ _ 0 rfl rfl rfl)
  isplitl [H0]; · iexact H0
  isplitl [HW]; · iexact HW
  iintro ⟨H0, HW⟩
  rw [wp_bind]
  unfold landed0 landed3 landed
  icases H0 with ⟨⟨HA0, HD0, HV0⟩, ⟨HA1, HD1, HV1⟩, ⟨HA2, HD2, HV2⟩⟩
  iapply (start_run c _ arg1 arg2 arg5 arg6 harg6 arg7 arg8 arg9 h n o x (gV c arg3 A 0) (uV c arg3 A 0) (dV c arg4 B 0))
  isplitl [HH]; · iexact HH
  isplitl [HN]; · iexact HN
  isplitl [HO]; · iexact HO
  isplitl [HX]; · iexact HX
  isplitl [HD0]; · iexact HD0
  isplitl [HD1]; · iexact HD1
  isplitl [HD2]; · iexact HD2
  iintro ⟨HH, HN, HO, HX, HD0, HD1, HD2⟩
  ihave H0 := (landed0_idle c arg3 arg4 arg7 arg8 arg9 arg10 π A B 0) $$ [HA0 HD0 HV0 HA1 HD1 HV1 HA2 HD2 HV2]
  · unfold landed0 landed3 landed
    isplitl [HA0 HD0 HV0]
    · isplitl [HA0]; · iexact HA0
      isplitl [HD0]; · iexact HD0
      iexact HV0
    isplitl [HA1 HD1 HV1]
    · isplitl [HA1]; · iexact HA1
      isplitl [HD1]; · iexact HD1
      iexact HV1
    · isplitl [HA2]; · iexact HA2
      isplitl [HD2]; · iexact HD2
      iexact HV2
  rw [wp_bind]
  iapply (Scf.wp_for frame (wpE (defs₀ (F := F)) Variants.none c none) Set.univ k0_t1_loop.lb k0_t1_loop.ub k0_t1_loop.st k0_t1_ok ⟨⟩
    (fun t _ => trip arg3 arg4 arg5 arg6 arg7 arg8 arg9 arg10 t)
    (fun m _ => mid c arg3 arg4 arg5 arg6 arg7 arg8 arg9 arg10 π A B h n m)
    (fun t _ => by
      iintro H
      iapply (trip_run c arg3 arg4 arg5 arg6 arg7 arg8 arg9 arg10 π A B h n)
      isplitl [H]; · iexact H
      iintro H
      iexact H))
  isplitl [HO HX H0 H1 HW]
  · unfold mid
    isplitl [HO]; · iexact HO
    isplitl [HX]; · iexact HX
    isplitl [H0]; · iexact H0
    isplitl [H1]; · iexact H1
    iexact HW
  iintro %_ H
  rw [show Scf.trips k0_t1_loop.lb k0_t1_loop.ub k0_t1_loop.st = 10 from by decide]
  unfold mid
  icases H with ⟨HO, HX, H0, H1, HW⟩
  rw [wp_bind]
  iapply (reqIf_run c arg3 arg4 arg7 arg8 arg9 arg10 π A B _ (hasNext i) False (0 < (i 0).val + 1 ∧ (i 0).val + 1 < 8)
    (fun p => p.elim) (by rw [hasNext_iff]; exact ⟨fun x => Or.inr x.2, fun x => ⟨Nat.succ_pos _, x.resolve_left (fun y => y)⟩⟩))
  isplitl [H0]
  · iapply (idle_slot0 c arg3 arg4 arg7 arg8 arg9 arg10 π A B False (fun x => x)) $$ H0
  iintro H0
  rw [wp_bind]
  iapply (arr1_run c arg3 arg4 arg7 arg8 arg9 arg10 π A B _ _ _ _ _ _ _ 21 rfl rfl rfl)
  isplitl [H1]; · iexact H1
  isplitl [HW]; · iexact HW
  iintro ⟨H1, HW⟩
  iapply (half1_run c arg3 arg4 arg5 arg6 arg7 arg8 arg9 arg10 π A B _ _ _ 21)
  isplitl [HO]; · iexact HO
  isplitl [HX]; · iexact HX
  isplitl [H1]; · iexact H1
  iintro ⟨HO, HX, H1⟩
  iapply Hk
  isplitl [HH]; · iexact HH
  isplitl [HN]; · iexact HN
  isplitl [HO]; · iexact HO
  isplitl [HX]; · iexact HX
  isplitl [H0]; · iexact H0
  isplitl [H1]; · iexact H1
  iexact HW

end

end Cert.Kernel2Ideal.Ffn
-- ==== Proof.Ffn.Ring.lean ====
/- The two slots of each ring buffer of the feed-forward kernel, and the shares of the weights the six transfers read through:
   what the core holds whole when the kernel starts is what its idle transfers hold. -/
module

public import proofs.«01_k».proof.Proof.Ffn.Run

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (Pipeline.UD sig nD τ) ℕ

/-- A buffer at anything is its two halves at anything. -/
theorem split2 (ℓ : Loc nD τ sig) (I J : Finset (Idx ℓ)) (hd : Disjoint I J) (hu : I ∪ J = Finset.univ) :
    iprop(∃ f : Buf (Elt F) ℓ, ℓ ↦{fullShare} f) ⊢ (iprop((∃ f : Buf (Elt F) ℓ, ℓ ↦[I]{fullShare} f) ∗ (∃ f : Buf (Elt F) ℓ, ℓ ↦[J]{fullShare} f)) : sProp 𝕄) := by
  rw [← hu]
  iintro ⟨%f, H⟩
  ihave H := (pointsTo_union hd).1 $$ H
  icases H with ⟨H0, H1⟩
  isplitl [H0]
  · iexists f; iexact H0
  · iexists f; iexact H1

theorem join2 (ℓ : Loc nD τ sig) (I J : Finset (Idx ℓ)) (hd : Disjoint I J) (hu : I ∪ J = Finset.univ) :
    (iprop((∃ f : Buf (Elt F) ℓ, ℓ ↦[I]{fullShare} f) ∗ (∃ f : Buf (Elt F) ℓ, ℓ ↦[J]{fullShare} f)) : sProp 𝕄) ⊢ iprop(∃ f : Buf (Elt F) ℓ, ℓ ↦{fullShare} f) := by
  rw [← hu]
  iintro ⟨⟨%f, H0⟩, ⟨%g, H1⟩⟩
  iexists _
  iapply (pointsTo_join hd)
  isplitl [H0]
  · iexact H0
  · iexact H1

theorem owns_any {s : Shape} {e : EltTy} {sp : Space} (c : Dev nD) (d : Memref sig .tc sp s e) :
    (iprop(∃ w, owns (c : Thread nD τ) d fullShare w) : sProp 𝕄) ⊣⊢ iprop(∃ f : Buf (Elt F) (d.view.loc (c : Thread nD τ)), d.view.loc (c : Thread nD τ) ↦[d.view.set]{fullShare} f) := by
  unfold owns
  constructor
  · iintro ⟨%w, %f, %h, H⟩
    iexists f; iexact H
  · iintro ⟨%f, H⟩
    iexists _, f
    isplitr
    · ipureintro; rfl
    · iexact H

theorem mem_slot10 (i : S2x2048x256.Idx) :
    i ∈ (slotC (Memref.whole cc0_scratch1) 0 inb_S2x2048x256_S1x2048x256_0_0_0).view.set ↔ (i 0).val = 0 := by
  refine (Iff.of_eq (congrArg (fun S : Finset S2x2048x256.Idx => i ∈ S)
    ((View.set_reshape _ _).trans (View.set_slice_whole cc0_scratch1 (Rect.unit (s := S2x2048x256) ![0, 0, 0] S1x2048x256.size inb_S2x2048x256_S1x2048x256_0_0_0))))).trans ?_
  refine Rect.mem_set_unit.trans ⟨fun h => ?_, fun h a => ?_⟩
  · have h0 : 0 ≤ (i 0).val ∧ (i 0).val < 0 + 1 := h 0
    omega
  · have h1 : (i 1).val < 2048 := (i 1).isLt
    have h2 : (i 2).val < 256 := (i 2).isLt
    match a with
    | ⟨0, _⟩ => exact show 0 ≤ (i 0).val ∧ (i 0).val < 0 + 1 by omega
    | ⟨1, _⟩ => exact show 0 ≤ (i 1).val ∧ (i 1).val < 0 + 2048 by omega
    | ⟨2, _⟩ => exact show 0 ≤ (i 2).val ∧ (i 2).val < 0 + 256 by omega

theorem mem_slot11 (i : S2x2048x256.Idx) :
    i ∈ (slotC (Memref.whole cc0_scratch1) 1 inb_S2x2048x256_S1x2048x256_1_0_0).view.set ↔ (i 0).val = 1 := by
  refine (Iff.of_eq (congrArg (fun S : Finset S2x2048x256.Idx => i ∈ S)
    ((View.set_reshape _ _).trans (View.set_slice_whole cc0_scratch1 (Rect.unit (s := S2x2048x256) ![1, 0, 0] S1x2048x256.size inb_S2x2048x256_S1x2048x256_1_0_0))))).trans ?_
  refine Rect.mem_set_unit.trans ⟨fun h => ?_, fun h a => ?_⟩
  · have h0 : 1 ≤ (i 0).val ∧ (i 0).val < 1 + 1 := h 0
    omega
  · have h1 : (i 1).val < 2048 := (i 1).isLt
    have h2 : (i 2).val < 256 := (i 2).isLt
    match a with
    | ⟨0, _⟩ => exact show 1 ≤ (i 0).val ∧ (i 0).val < 1 + 1 by omega
    | ⟨1, _⟩ => exact show 0 ≤ (i 1).val ∧ (i 1).val < 0 + 2048 by omega
    | ⟨2, _⟩ => exact show 0 ≤ (i 2).val ∧ (i 2).val < 0 + 256 by omega

theorem slots1_disjoint : Disjoint (slotC (Memref.whole cc0_scratch1) 0 inb_S2x2048x256_S1x2048x256_0_0_0).view.set
    (slotC (Memref.whole cc0_scratch1) 1 inb_S2x2048x256_S1x2048x256_1_0_0).view.set := by
  rw [Finset.disjoint_left]
  intro i h0 h1
  have e0 := (mem_slot10 i).1 h0
  have e1 := (mem_slot11 i).1 h1
  omega

theorem slots1_union : (slotC (Memref.whole cc0_scratch1) 0 inb_S2x2048x256_S1x2048x256_0_0_0).view.set
    ∪ (slotC (Memref.whole cc0_scratch1) 1 inb_S2x2048x256_S1x2048x256_1_0_0).view.set = Finset.univ := by
  ext i
  have hi : (i 0).val < 2 := (i 0).isLt
  constructor
  · intro _; exact Finset.mem_univ _
  · intro _
    rw [Finset.mem_union]
    rcases (show (i 0).val = 0 ∨ (i 0).val = 1 by omega) with e | e
    · exact Or.inl ((mem_slot10 i).2 e)
    · exact Or.inr ((mem_slot11 i).2 e)

/-- A ring at anything is its two slots at anything. -/
theorem ring1 (c : Dev nD) :
    (iprop(∃ w, owns (c : Thread nD τ) (Memref.whole cc0_scratch1) fullShare w) : sProp 𝕄)
      ⊣⊢ iprop((∃ w, owns (c : Thread nD τ) (slotC (Memref.whole cc0_scratch1) 0 inb_S2x2048x256_S1x2048x256_0_0_0) fullShare w)
        ∗ (∃ w, owns (c : Thread nD τ) (slotC (Memref.whole cc0_scratch1) 1 inb_S2x2048x256_S1x2048x256_1_0_0) fullShare w)) := by
  simp only [owns_whole]
  constructor
  · refine (split2 ((c : Thread nD τ).loc cc0_scratch1) _ _ slots1_disjoint slots1_union).trans ?_
    iintro ⟨H0, H1⟩
    isplitl [H0]
    · iapply (owns_any c (slotC (Memref.whole cc0_scratch1) 0 inb_S2x2048x256_S1x2048x256_0_0_0)).2 $$ H0
    · iapply (owns_any c (slotC (Memref.whole cc0_scratch1) 1 inb_S2x2048x256_S1x2048x256_1_0_0)).2 $$ H1
  · refine .trans ?_ (join2 ((c : Thread nD τ).loc cc0_scratch1) _ _ slots1_disjoint slots1_union)
    iintro ⟨H0, H1⟩
    isplitl [H0]
    · iapply (owns_any c (slotC (Memref.whole cc0_scratch1) 0 inb_S2x2048x256_S1x2048x256_0_0_0)).1 $$ H0
    · iapply (owns_any c (slotC (Memref.whole cc0_scratch1) 1 inb_S2x2048x256_S1x2048x256_1_0_0)).1 $$ H1

theorem mem_slot20 (i : S2x2048x256.Idx) :
    i ∈ (slotC (Memref.whole cc0_scratch2) 0 inb_S2x2048x256_S1x2048x256_0_0_0).view.set ↔ (i 0).val = 0 := by
  refine (Iff.of_eq (congrArg (fun S : Finset S2x2048x256.Idx => i ∈ S)
    ((View.set_reshape _ _).trans (View.set_slice_whole cc0_scratch2 (Rect.unit (s := S2x2048x256) ![0, 0, 0] S1x2048x256.size inb_S2x2048x256_S1x2048x256_0_0_0))))).trans ?_
  refine Rect.mem_set_unit.trans ⟨fun h => ?_, fun h a => ?_⟩
  · have h0 : 0 ≤ (i 0).val ∧ (i 0).val < 0 + 1 := h 0
    omega
  · have h1 : (i 1).val < 2048 := (i 1).isLt
    have h2 : (i 2).val < 256 := (i 2).isLt
    match a with
    | ⟨0, _⟩ => exact show 0 ≤ (i 0).val ∧ (i 0).val < 0 + 1 by omega
    | ⟨1, _⟩ => exact show 0 ≤ (i 1).val ∧ (i 1).val < 0 + 2048 by omega
    | ⟨2, _⟩ => exact show 0 ≤ (i 2).val ∧ (i 2).val < 0 + 256 by omega

theorem mem_slot21 (i : S2x2048x256.Idx) :
    i ∈ (slotC (Memref.whole cc0_scratch2) 1 inb_S2x2048x256_S1x2048x256_1_0_0).view.set ↔ (i 0).val = 1 := by
  refine (Iff.of_eq (congrArg (fun S : Finset S2x2048x256.Idx => i ∈ S)
    ((View.set_reshape _ _).trans (View.set_slice_whole cc0_scratch2 (Rect.unit (s := S2x2048x256) ![1, 0, 0] S1x2048x256.size inb_S2x2048x256_S1x2048x256_1_0_0))))).trans ?_
  refine Rect.mem_set_unit.trans ⟨fun h => ?_, fun h a => ?_⟩
  · have h0 : 1 ≤ (i 0).val ∧ (i 0).val < 1 + 1 := h 0
    omega
  · have h1 : (i 1).val < 2048 := (i 1).isLt
    have h2 : (i 2).val < 256 := (i 2).isLt
    match a with
    | ⟨0, _⟩ => exact show 1 ≤ (i 0).val ∧ (i 0).val < 1 + 1 by omega
    | ⟨1, _⟩ => exact show 0 ≤ (i 1).val ∧ (i 1).val < 0 + 2048 by omega
    | ⟨2, _⟩ => exact show 0 ≤ (i 2).val ∧ (i 2).val < 0 + 256 by omega

theorem slots2_disjoint : Disjoint (slotC (Memref.whole cc0_scratch2) 0 inb_S2x2048x256_S1x2048x256_0_0_0).view.set
    (slotC (Memref.whole cc0_scratch2) 1 inb_S2x2048x256_S1x2048x256_1_0_0).view.set := by
  rw [Finset.disjoint_left]
  intro i h0 h1
  have e0 := (mem_slot20 i).1 h0
  have e1 := (mem_slot21 i).1 h1
  omega

theorem slots2_union : (slotC (Memref.whole cc0_scratch2) 0 inb_S2x2048x256_S1x2048x256_0_0_0).view.set
    ∪ (slotC (Memref.whole cc0_scratch2) 1 inb_S2x2048x256_S1x2048x256_1_0_0).view.set = Finset.univ := by
  ext i
  have hi : (i 0).val < 2 := (i 0).isLt
  constructor
  · intro _; exact Finset.mem_univ _
  · intro _
    rw [Finset.mem_union]
    rcases (show (i 0).val = 0 ∨ (i 0).val = 1 by omega) with e | e
    · exact Or.inl ((mem_slot20 i).2 e)
    · exact Or.inr ((mem_slot21 i).2 e)

/-- A ring at anything is its two slots at anything. -/
theorem ring2 (c : Dev nD) :
    (iprop(∃ w, owns (c : Thread nD τ) (Memref.whole cc0_scratch2) fullShare w) : sProp 𝕄)
      ⊣⊢ iprop((∃ w, owns (c : Thread nD τ) (slotC (Memref.whole cc0_scratch2) 0 inb_S2x2048x256_S1x2048x256_0_0_0) fullShare w)
        ∗ (∃ w, owns (c : Thread nD τ) (slotC (Memref.whole cc0_scratch2) 1 inb_S2x2048x256_S1x2048x256_1_0_0) fullShare w)) := by
  simp only [owns_whole]
  constructor
  · refine (split2 ((c : Thread nD τ).loc cc0_scratch2) _ _ slots2_disjoint slots2_union).trans ?_
    iintro ⟨H0, H1⟩
    isplitl [H0]
    · iapply (owns_any c (slotC (Memref.whole cc0_scratch2) 0 inb_S2x2048x256_S1x2048x256_0_0_0)).2 $$ H0
    · iapply (owns_any c (slotC (Memref.whole cc0_scratch2) 1 inb_S2x2048x256_S1x2048x256_1_0_0)).2 $$ H1
  · refine .trans ?_ (join2 ((c : Thread nD τ).loc cc0_scratch2) _ _ slots2_disjoint slots2_union)
    iintro ⟨H0, H1⟩
    isplitl [H0]
    · iapply (owns_any c (slotC (Memref.whole cc0_scratch2) 0 inb_S2x2048x256_S1x2048x256_0_0_0)).1 $$ H0
    · iapply (owns_any c (slotC (Memref.whole cc0_scratch2) 1 inb_S2x2048x256_S1x2048x256_1_0_0)).1 $$ H1

theorem mem_slot30 (i : S2x256x2048.Idx) :
    i ∈ (slotR (Memref.whole cc0_scratch3) 0 inb_S2x256x2048_S1x256x2048_0_0_0).view.set ↔ (i 0).val = 0 := by
  refine (Iff.of_eq (congrArg (fun S : Finset S2x256x2048.Idx => i ∈ S)
    ((View.set_reshape _ _).trans (View.set_slice_whole cc0_scratch3 (Rect.unit (s := S2x256x2048) ![0, 0, 0] S1x256x2048.size inb_S2x256x2048_S1x256x2048_0_0_0))))).trans ?_
  refine Rect.mem_set_unit.trans ⟨fun h => ?_, fun h a => ?_⟩
  · have h0 : 0 ≤ (i 0).val ∧ (i 0).val < 0 + 1 := h 0
    omega
  · have h1 : (i 1).val < 256 := (i 1).isLt
    have h2 : (i 2).val < 2048 := (i 2).isLt
    match a with
    | ⟨0, _⟩ => exact show 0 ≤ (i 0).val ∧ (i 0).val < 0 + 1 by omega
    | ⟨1, _⟩ => exact show 0 ≤ (i 1).val ∧ (i 1).val < 0 + 256 by omega
    | ⟨2, _⟩ => exact show 0 ≤ (i 2).val ∧ (i 2).val < 0 + 2048 by omega

theorem mem_slot31 (i : S2x256x2048.Idx) :
    i ∈ (slotR (Memref.whole cc0_scratch3) 1 inb_S2x256x2048_S1x256x2048_1_0_0).view.set ↔ (i 0).val = 1 := by
  refine (Iff.of_eq (congrArg (fun S : Finset S2x256x2048.Idx => i ∈ S)
    ((View.set_reshape _ _).trans (View.set_slice_whole cc0_scratch3 (Rect.unit (s := S2x256x2048) ![1, 0, 0] S1x256x2048.size inb_S2x256x2048_S1x256x2048_1_0_0))))).trans ?_
  refine Rect.mem_set_unit.trans ⟨fun h => ?_, fun h a => ?_⟩
  · have h0 : 1 ≤ (i 0).val ∧ (i 0).val < 1 + 1 := h 0
    omega
  · have h1 : (i 1).val < 256 := (i 1).isLt
    have h2 : (i 2).val < 2048 := (i 2).isLt
    match a with
    | ⟨0, _⟩ => exact show 1 ≤ (i 0).val ∧ (i 0).val < 1 + 1 by omega
    | ⟨1, _⟩ => exact show 0 ≤ (i 1).val ∧ (i 1).val < 0 + 256 by omega
    | ⟨2, _⟩ => exact show 0 ≤ (i 2).val ∧ (i 2).val < 0 + 2048 by omega

theorem slots3_disjoint : Disjoint (slotR (Memref.whole cc0_scratch3) 0 inb_S2x256x2048_S1x256x2048_0_0_0).view.set
    (slotR (Memref.whole cc0_scratch3) 1 inb_S2x256x2048_S1x256x2048_1_0_0).view.set := by
  rw [Finset.disjoint_left]
  intro i h0 h1
  have e0 := (mem_slot30 i).1 h0
  have e1 := (mem_slot31 i).1 h1
  omega

theorem slots3_union : (slotR (Memref.whole cc0_scratch3) 0 inb_S2x256x2048_S1x256x2048_0_0_0).view.set
    ∪ (slotR (Memref.whole cc0_scratch3) 1 inb_S2x256x2048_S1x256x2048_1_0_0).view.set = Finset.univ := by
  ext i
  have hi : (i 0).val < 2 := (i 0).isLt
  constructor
  · intro _; exact Finset.mem_univ _
  · intro _
    rw [Finset.mem_union]
    rcases (show (i 0).val = 0 ∨ (i 0).val = 1 by omega) with e | e
    · exact Or.inl ((mem_slot30 i).2 e)
    · exact Or.inr ((mem_slot31 i).2 e)

/-- A ring at anything is its two slots at anything. -/
theorem ring3 (c : Dev nD) :
    (iprop(∃ w, owns (c : Thread nD τ) (Memref.whole cc0_scratch3) fullShare w) : sProp 𝕄)
      ⊣⊢ iprop((∃ w, owns (c : Thread nD τ) (slotR (Memref.whole cc0_scratch3) 0 inb_S2x256x2048_S1x256x2048_0_0_0) fullShare w)
        ∗ (∃ w, owns (c : Thread nD τ) (slotR (Memref.whole cc0_scratch3) 1 inb_S2x256x2048_S1x256x2048_1_0_0) fullShare w)) := by
  simp only [owns_whole]
  constructor
  · refine (split2 ((c : Thread nD τ).loc cc0_scratch3) _ _ slots3_disjoint slots3_union).trans ?_
    iintro ⟨H0, H1⟩
    isplitl [H0]
    · iapply (owns_any c (slotR (Memref.whole cc0_scratch3) 0 inb_S2x256x2048_S1x256x2048_0_0_0)).2 $$ H0
    · iapply (owns_any c (slotR (Memref.whole cc0_scratch3) 1 inb_S2x256x2048_S1x256x2048_1_0_0)).2 $$ H1
  · refine .trans ?_ (join2 ((c : Thread nD τ).loc cc0_scratch3) _ _ slots3_disjoint slots3_union)
    iintro ⟨H0, H1⟩
    isplitl [H0]
    · iapply (owns_any c (slotR (Memref.whole cc0_scratch3) 0 inb_S2x256x2048_S1x256x2048_0_0_0)).1 $$ H0
    · iapply (owns_any c (slotR (Memref.whole cc0_scratch3) 1 inb_S2x256x2048_S1x256x2048_1_0_0)).1 $$ H1

/-- The shares: the gate's and the up projection's weights are read by four transfers, the down projection's by two. -/
def shares : Fin 6 → PosShare TreeShare :=
  ![fullShare.left.left, fullShare.left.right, fullShare.left, fullShare.right.left, fullShare.right.right, fullShare.right]

theorem share2 (ℓ : Loc nD τ sig) (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

theorem share4 (ℓ : Loc nD τ sig) (f : Buf (Elt F) ℓ) :
    (ℓ ↦{fullShare} f : sProp 𝕄) ⊣⊢ iprop(((ℓ ↦{fullShare.left.left} f) ∗ ℓ ↦{fullShare.left.right} f) ∗ ((ℓ ↦{fullShare.right.left} f) ∗ ℓ ↦{fullShare.right.right} f)) := by
  have hl : (ℓ ↦{fullShare.left} f : sProp 𝕄) ⊣⊢ iprop((ℓ ↦{fullShare.left.left} f) ∗ ℓ ↦{fullShare.left.right} f) := pointsTo_share (PosShare.mem_left_op_right fullShare.left)
  have hr : (ℓ ↦{fullShare.right} f : sProp 𝕄) ⊣⊢ iprop((ℓ ↦{fullShare.right.left} f) ∗ ℓ ↦{fullShare.right.right} f) := pointsTo_share (PosShare.mem_left_op_right fullShare.right)
  constructor
  · refine (share2 ℓ f).1.trans ?_
    iintro ⟨H0, H1⟩
    isplitl [H0]
    · iapply hl.1 $$ H0
    · iapply hr.1 $$ H1
  · refine .trans ?_ (share2 ℓ f).2
    iintro ⟨H0, H1⟩
    isplitl [H0]
    · iapply hl.2 $$ H0
    · iapply hr.2 $$ H1

/-- The rings, the counters and the weights, whole. -/
def whole (c : Dev nD) (A : Buf (Elt F) ((c : Thread nD τ).loc main_arg2)) (B : Buf (Elt F) ((c : Thread nD τ).loc main_arg3)) : sProp 𝕄 :=
  iprop((∃ w, owns (c : Thread nD τ) (Memref.whole cc0_scratch1) fullShare w) ∗ (∃ w, owns (c : Thread nD τ) (Memref.whole cc0_scratch2) fullShare w)
    ∗ (∃ w, owns (c : Thread nD τ) (Memref.whole cc0_scratch3) fullShare w)
    ∗ (semVal ((c : Thread nD τ), SemLoc.dma 5) 0 ∗ semVal ((c : Thread nD τ), SemLoc.dma 6) 0 ∗ semVal ((c : Thread nD τ), SemLoc.dma 7) 0
      ∗ semVal ((c : Thread nD τ), SemLoc.dma 8) 0 ∗ semVal ((c : Thread nD τ), SemLoc.dma 9) 0 ∗ semVal ((c : Thread nD τ), SemLoc.dma 10) 0)
    ∗ (((c : Thread nD τ).loc main_arg2) ↦{fullShare} A) ∗ (((c : Thread nD τ).loc main_arg3) ↦{fullShare} B))

theorem whole_idle (c : Dev nD) (A : Buf (Elt F) ((c : Thread nD τ).loc main_arg2)) (B : Buf (Elt F) ((c : Thread nD τ).loc main_arg3)) :
    whole c A B ⊢ iprop(idle0 c (Memref.whole main_arg2) (Memref.whole main_arg3) (Memref.whole cc0_scratch1) (Memref.whole cc0_scratch2) (Memref.whole cc0_scratch3) cc0_scratch4 shares A B
      ∗ idle1 c (Memref.whole main_arg2) (Memref.whole main_arg3) (Memref.whole cc0_scratch1) (Memref.whole cc0_scratch2) (Memref.whole cc0_scratch3) cc0_scratch4 shares A B) := by
  unfold whole idle0 idle1 idle3 idle
  iintro ⟨R1, R2, R3, ⟨Q0, Q1, Q2, Q3, Q4, Q5⟩, HA, HB⟩
  ihave R1 := (ring1 c).1 $$ R1
  ihave R2 := (ring2 c).1 $$ R2
  ihave R3 := (ring3 c).1 $$ R3
  ihave HA := (share4 _ A).1 $$ HA
  ihave HB := (share2 _ B).1 $$ HB
  icases R1 with ⟨R10, R11⟩
  icases R2 with ⟨R20, R21⟩
  icases R3 with ⟨R30, R31⟩
  icases HA with ⟨⟨A0, A1⟩, ⟨A3, A4⟩⟩
  icases HB with ⟨B2, B5⟩
  isplitl [A0 R10 Q0 A1 R20 Q2 B2 R30 Q4]
  · isplitl [A0 R10 Q0]
    · isplitl [A0]; · iexact A0
      isplitl [R10]; · iexact R10
      iexact Q0
    isplitl [A1 R20 Q2]
    · isplitl [A1]; · iexact A1
      isplitl [R20]; · iexact R20
      iexact Q2
    · isplitl [B2]; · iexact B2
      isplitl [R30]; · iexact R30
      iexact Q4
  · isplitl [A3 R11 Q1]
    · isplitl [A3]; · iexact A3
      isplitl [R11]; · iexact R11
      iexact Q1
    isplitl [A4 R21 Q3]
    · isplitl [A4]; · iexact A4
      isplitl [R21]; · iexact R21
      iexact Q3
    · isplitl [B5]; · iexact B5
      isplitl [R31]; · iexact R31
      iexact Q5

theorem idle_whole (c : Dev nD) (A : Buf (Elt F) ((c : Thread nD τ).loc main_arg2)) (B : Buf (Elt F) ((c : Thread nD τ).loc main_arg3)) :
    iprop(idle0 c (Memref.whole main_arg2) (Memref.whole main_arg3) (Memref.whole cc0_scratch1) (Memref.whole cc0_scratch2) (Memref.whole cc0_scratch3) cc0_scratch4 shares A B
      ∗ idle1 c (Memref.whole main_arg2) (Memref.whole main_arg3) (Memref.whole cc0_scratch1) (Memref.whole cc0_scratch2) (Memref.whole cc0_scratch3) cc0_scratch4 shares A B)
    ⊢ whole c A B := by
  unfold whole idle0 idle1 idle3 idle
  iintro ⟨⟨⟨A0, R10, Q0⟩, ⟨A1, R20, Q2⟩, ⟨B2, R30, Q4⟩⟩, ⟨⟨A3, R11, Q1⟩, ⟨A4, R21, Q3⟩, ⟨B5, R31, Q5⟩⟩⟩
  isplitl [R10 R11]
  · iapply (ring1 c).2
    isplitl [R10]; · iexact R10
    iexact R11
  isplitl [R20 R21]
  · iapply (ring2 c).2
    isplitl [R20]; · iexact R20
    iexact R21
  isplitl [R30 R31]
  · iapply (ring3 c).2
    isplitl [R30]; · iexact R30
    iexact R31
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [A0 A1 A3 A4]
  · iapply (share4 _ A).2
    isplitl [A0 A1]
    · isplitl [A0]; · iexact A0
      iexact A1
    · isplitl [A3]; · iexact A3
      iexact A4
  · iapply (share2 _ B).2
    isplitl [B2]; · iexact B2
    iexact B5

end Cert.Kernel2Ideal.Ffn
-- ==== Proof.Ffn.Frame.lean ====
/- The run of the feed-forward kernel: what its output array holds at the end, and its frame. -/
module

public import proofs.«01_k».proof.Proof.Ffn.Ring
public import proofs.«01_k».proof.Proof.Gen.Kernel2Ideal.Points
public import Idealize.ShloMosaic.Lib.Pipeline.FrameBody
public import Idealize.ShloMosaic.Lib.Claim
public import Idealize.ShloMosaic.Lib.WordCmp

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem coord0 (t : Fin cfg0.N) : (grid0.coords t 0).val = t.val := by
  have e : (grid0.coords t 0).val = t.val / 1 % 8 := Pipeline.Grid.coords_val t 0 (by decide) rfl
  have h : t.val < 8 := t.isLt
  rw [e, Nat.div_one, Nat.mod_eq_of_lt h]

/-- The blocks of the rows and of the gains at a point, with their shapes. -/
def hb (c : Dev nD) (t : Fin cfg0.N) : Vec F S1024x2048 .f32 := iblk m c 0 t
def nb (c : Dev nD) (t : Fin cfg0.N) : Vec F S1x1x2048 .f32 := iblk m c 1 t

/-- The output block of a point. -/
def ob (c : Dev nD) (t : Fin cfg0.N) : Vec F S1024x2048 .f32 :=
  acc c (Memref.whole main_arg2) (Memref.whole main_arg3) (V m c main_arg2) (V m c main_arg3) (hb m c t) (nb m c t) 21

/-- The counters of the kernel's own transfers. -/
abbrev osem0 : Fin 6 → SemLoc sig := fun j =>
  (![SemLoc.dma 5, SemLoc.dma 6, SemLoc.dma 7, SemLoc.dma 8, SemLoc.dma 9, SemLoc.dma 10] : Fin 6 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0
        ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2, 3, 4, 5] (by decide) (by decide)]; rfl

/-- The weights, which the kernel reads itself. -/
def H0 : Finset (Ref sig .tc) := {main_arg2, main_arg3}

theorem H0_sub : H0 ⊆ Pipeline.restRefs sig spec0 := by decide

theorem hbmPts0_eq (c : Dev nD) :
    (bigSep H0 (fun b => ((c : Thread nD τ).loc b) ↦{fullShare} V m c b) : sProp 𝕄)
      = iprop((((c : Thread nD τ).loc main_arg2) ↦{fullShare} V m c main_arg2) ∗ (((c : Thread nD τ).loc main_arg3) ↦{fullShare} V m c main_arg3)) := by
  rw [BI.bigSep_eq_bigSepL_of_eq [main_arg2, main_arg3] (by decide) (by decide)]; rfl

theorem PhiD0_eq (c : Dev nD) :
    (Pipeline.ΦD osem0 spec0 H0 (V m) c : sProp 𝕄)
      = iprop(iprop((∃ w, owns (c : Thread nD τ) (Memref.whole cc0_scratch0) fullShare w)
          ∗ (∃ w, owns (c : Thread nD τ) (Memref.whole cc0_scratch1) fullShare w) ∗ (∃ w, owns (c : Thread nD τ) (Memref.whole cc0_scratch2) fullShare w)
          ∗ (∃ w, owns (c : Thread nD τ) (Memref.whole cc0_scratch3) fullShare w)) ∗ (∃ r, prngReg c r)
        ∗ iprop(semVal ((c : Thread nD τ), SemLoc.dma 5) 0 ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0 ∗ semVal ((c : Thread nD τ), SemLoc.dma 10) 0)
        ∗ iprop((((c : Thread nD τ).loc main_arg2) ↦{fullShare} V m c main_arg2) ∗ (((c : Thread nD τ).loc main_arg3) ↦{fullShare} V m c main_arg3))) := by
  rw [Pipeline.ΦD_eq, scopedRest0_eq, ownSems00_eq, hbmPts0_eq]; simp only [owns_whole]; try rfl

/-- The invariant before the point `n`: the normalised rows' buffer at anything, slot 0 filling for the point unless it is the
    first, slot 1 free. -/
def PhiS (c : Dev nD) (n : ℕ) : sProp 𝕄 :=
  iprop((∃ w, owns (c : Thread nD τ) (Memref.whole cc0_scratch0) fullShare w) ∗ (∃ r, prngReg c r)
    ∗ slot0 c (Memref.whole main_arg2) (Memref.whole main_arg3) (Memref.whole cc0_scratch1) (Memref.whole cc0_scratch2) (Memref.whole cc0_scratch3) cc0_scratch4 shares (V m c main_arg2) (V m c main_arg3) (0 < n ∧ n < 8)
    ∗ idle1 c (Memref.whole main_arg2) (Memref.whole main_arg3) (Memref.whole cc0_scratch1) (Memref.whole cc0_scratch2) (Memref.whole cc0_scratch3) cc0_scratch4 shares (V m c main_arg2) (V m c main_arg3))

theorem PhiS_in (c : Dev nD) : Pipeline.ΦD osem0 spec0 H0 (V m) c ⊢ PhiS m c 0 := by
  rw [PhiD0_eq]
  unfold PhiS
  iintro ⟨⟨H0, H1, H2, H3⟩, Hg, Hq, HA, HB⟩
  isplitl [H0]; · iexact H0
  isplitl [Hg]; · iexact Hg
  ihave H := (whole_idle c (V m c main_arg2) (V m c main_arg3)) $$ [H1 H2 H3 Hq HA HB]
  · unfold whole
    isplitl [H1]; · iexact H1
    isplitl [H2]; · iexact H2
    isplitl [H3]; · iexact H3
    isplitl [Hq]; · iexact Hq
    isplitl [HA]; · iexact HA
    iexact HB
  icases H with ⟨H0, H1⟩
  isplitl [H0]
  · iapply (idle_slot0 c (Memref.whole main_arg2) (Memref.whole main_arg3) (Memref.whole cc0_scratch1) (Memref.whole cc0_scratch2) (Memref.whole cc0_scratch3) cc0_scratch4 shares (V m c main_arg2) (V m c main_arg3) (0 < 0 ∧ 0 < 8) (by omega)) $$ H0
  · iexact H1

theorem PhiS_out (c : Dev nD) : PhiS m c 8 ⊢ Pipeline.ΦD osem0 spec0 H0 (V m) c := by
  rw [PhiD0_eq]
  unfold PhiS
  iintro ⟨HX, Hg, H0, H1⟩
  ihave H0 := (slot0_neg c (Memref.whole main_arg2) (Memref.whole main_arg3) (Memref.whole cc0_scratch1) (Memref.whole cc0_scratch2) (Memref.whole cc0_scratch3) cc0_scratch4 shares (V m c main_arg2) (V m c main_arg3) (0 < 8 ∧ 8 < 8) (by omega)) $$ H0
  ihave H := (idle_whole c (V m c main_arg2) (V m c main_arg3)) $$ [H0 H1]
  · isplitl [H0]; · iexact H0
    iexact H1
  unfold whole
  icases H with ⟨H1, H2, H3, Hq, HA, HB⟩
  isplitl [HX H1 H2 H3]
  · isplitl [HX]; · iexact HX
    isplitl [H1]; · iexact H1
    isplitl [H2]; · iexact H2
    iexact H3
  isplitl [Hg]; · iexact Hg
  isplitl [Hq]; · iexact Hq
  isplitl [HA]; · iexact HA
  iexact HB

/-- The proof data: the blocks of the two inputs, and the point's output block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => ob m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = ob m c t := by dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)

/-- What the body is called with at the point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before_0, before_1]
  rw [show (dats m 0 c).owesAt () t.succ = (dats m 0 c).owesAt () t.castSucc from rfl, after_0, after_1, after_2]
  rw [show (dats m 0 c).Φ t.succ = PhiS m c ((grid0.coords t 0).val + 1) from by rw [coord0]; rfl]
  rw [show (dats m 0 c).Φ t.castSucc = PhiS m c (grid0.coords t 0).val from by rw [coord0]; rfl]
  unfold PhiS Dat.owesAt Pipeline.owesWithin
  rw [show (dats m 0 c).owed t.castSucc = 0 from rfl]
  iintro ⟨⟨⟨%x, HX⟩, Hg, HS0, HS1⟩, ⟨%W, %hW, HO⟩, ⟨%d0, H0⟩, ⟨%d1, H1⟩, ⟨%d2, H2⟩⟩
  iapply (body_run c (grid0.coords t) _ _ (Memref.whole main_arg2) (Memref.whole main_arg3) _ (Memref.whole cc0_scratch0) _ (Memref.whole cc0_scratch1) (Memref.whole cc0_scratch2) (Memref.whole cc0_scratch3) cc0_scratch4 shares
    (V m c main_arg2) (V m c main_arg3) (hb m c t) (nb m c t) _ _ x)
  isplitl [H0]; · iexact H0
  isplitl [H1]; · iexact H1
  isplitl [H2]; · iexact H2
  isplitl [HX]; · iexact HX
  isplitl [HS0]; · iexact HS0
  isplitl [HS1]; · iexact HS1
  isplitl [HO]; · iexists W; iexact HO
  iintro ⟨H0, H1, H2, HX, HS0, HS1, ⟨%W', HO⟩⟩
  isplitl [HX Hg HS0 HS1]
  · isplitl [HX]; · iexists _; iexact HX
    isplitl [Hg]; · iexact Hg
    isplitl [HS0]; · iexact HS0
    iexact HS1
  isplitl [HO]
  · iexists W'
    isplitr
    · ipureintro; exact fun _ _ => Or.inl trivial
    iexact HO
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := PhiS_in m c

theorem hout (c : Dev nD) : (dats m 0 c).Φ (Fin.last cfg0.N) ⊢ Pipeline.ΦD osem0 spec0 H0 (V m) c := PhiS_out m c

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: the output array holds the points' output blocks, and every counter is at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_dma (Q' := fun r => Pipeline.FramePost cfgs (dats m) 0 (V m) r ∧ r.2.sem = fun _ => 0) cfgs (dats m) (0 : Fin 1) launch0 osem0 defs₀ Variants.none
    ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main_quiescent m ρ)

end Cert.Kernel2Ideal.Ffn
-- ==== Proof.Ffn.Frames.lean ====
/- The feed-forward block's frames: the kernel's at both instances from one run, the reference's from its list of operations. -/
module

public import proofs.«01_k».proof.Defs
public import proofs.«01_k».proof.Proof.Ffn.Frame
public import proofs.«01_k».proof.Proof.Gen.Kernel2
public import proofs.«01_k».proof.Proof.Gen.Reference2Ideal
public import proofs.«01_k».proof.Proof.Gen.Reference2Ideal.Run
public import Idealize.ShloMosaic.Init

@[expose] public section

noncomputable section

namespace Cert.Proof

open Idealize.ShloMosaic Idealize.SL.Sem

/-- The two programs' bodies are one text. -/
theorem body2_same : @Cert.Kernel2.defs₀ Bits _ Cert.Kernel2.Gen.facts = @Cert.Kernel2Ideal.defs₀ Bits _ Cert.Kernel2Ideal.Gen.facts := by
  refine congrArg Defs.onTc ?_
  funext l x
  match l, x with
  | 0, (t, s) => exact rfl

theorem defs2_same : @Cert.Kernel2.defs Bits _ Cert.Kernel2.Gen.facts = @Cert.Kernel2Ideal.defs Bits _ Cert.Kernel2Ideal.Gen.facts := by
  unfold Cert.Kernel2.defs Cert.Kernel2Ideal.defs
  exact congrArg (Pipeline.defs _) body2_same

/-- The kernel on words: its text is the one the run is proved for. -/
theorem frame_kernel2 : Cert.quiescent_Kernel2 (hKernel2 := Cert.Kernel2.Gen.facts) := fun m ρ _ => by
  have h := Cert.Kernel2Ideal.Ffn.frame_run (F := Bits) m ρ
  rw [← defs2_same] at h
  exact h

/-- The kernel on extended reals. -/
theorem frame_ideal2 : Cert.quiescent_Kernel2Ideal (hKernel2Ideal := Cert.Kernel2Ideal.Gen.facts) := fun m ρ _ =>
  Cert.Kernel2Ideal.Ffn.frame_run (F := Ideal) m ρ

/-- The reference: its operations write no argument, and it declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof

end
-- ==== Proof.Ffn.Points.lean ====
/- The feed-forward kernel's pure steps over the extended reals, at an element. -/
module

public import proofs.«01_k».proof.Proof.Ffn.Run
public import Idealize.ShloMosaic.Lib.Pipeline.ValueKit
public import Idealize.ShloMosaic.Lib.Pointwise
public import Idealize.ShloMosaic.Lib.ValueLayout

@[expose] public section

set_option maxRecDepth 16384

noncomputable section

namespace Cert.Kernel2Ideal.Ffn

open Idealize.ShloMosaic Idealize.ShloMosaic.TcCoe
open Cert.Kernel2Ideal Cert.Kernel2Ideal.Gen

/-- One half, as the two programs write it. -/
def oneHalf : EReal := Ideal.ofBits .f32 0x3F000000#32

/-- The gate of a column times its logistic, times half of the column's projection. -/
def act (x y : EReal) : EReal := x * Ideal.logistic x * (oneHalf * y)

theorem pay10_at (o : Vec Ideal S1024x2048 .f32) (x : Vec Ideal S1024x2048 .bf16) (g u : Vec Ideal S1x2048x256 .f32) (d : Vec Ideal S1x256x2048 .f32) (r : Fin 1024) (j : Fin 2048) :
    k0_pay10 o x g u d (ix2 r j) = o (ix2 r j)
      + ∑ l : Fin 256, act (∑ k : Fin 2048, x (ix2 r k) * g (ix3 0 k l)) (∑ k : Fin 2048, x (ix2 r k) * u (ix3 0 k l)) * d (ix3 0 l j) := by
  pointwise [k0_pay10]
  rfl

theorem pay9_at (h v : Vec Ideal S1024x2048 .f32) (g u : Vec Ideal S1x2048x256 .f32) (d : Vec Ideal S1x256x2048 .f32) (r : Fin 1024) (j : Fin 2048) :
    k0_pay9 h v g u d (ix2 r j) = h (ix2 r j)
      + ∑ l : Fin 256, act (∑ k : Fin 2048, v (ix2 r k) * g (ix3 0 k l)) (∑ k : Fin 2048, v (ix2 r k) * u (ix3 0 k l)) * d (ix3 0 l j) := by
  pointwise [k0_pay9, k0_pay7]
  rfl

theorem pay8_at (v : Vec Ideal S1024x2048 .f32) (r : Fin 1024) (j : Fin 2048) : k0_pay8 (F := Ideal) v (ix2 r j) = v (ix2 r j) := by
  pointwise [k0_pay8, k0_pay7]

/-- A row scaled to mean square one, times the gains. -/
def norm (h n : Fin 2048 → EReal) (k : Fin 2048) : EReal :=
  h k * Ideal.rsqrt (Ideal.div (∑ i : Fin 2048, h i * h i) (Ideal.ofBits .f32 0x45000000#32) + Ideal.ofBits .f32 0x358637BD#32) * n k

theorem pay6_at (h : Vec Ideal S1024x2048 .f32) (n : Vec Ideal S1x1x2048 .f32) (r : Fin 1024) (k : Fin 2048) :
    k0_pay6 h n (ix2 r k) = norm (fun k => h (ix2 r k)) (fun k => n (ix3 0 0 k)) k := by
  pointwise [k0_pay6]
  rfl

theorem colV_at (g : S2048x256.Idx → Elt Ideal .f32) (k : Fin 2048) (l : Fin 256) : colV (F := Ideal) g (ix3 0 k l) = g (ix2 k l) := by
  unfold colV
  refine congrArg g ?_
  rw [Equiv.symm_apply_eq]
  exact (ValueIdx.reshapeEquiv_ix2_1ab _ k l).symm

theorem rowV_at (g : S256x2048.Idx → Elt Ideal .f32) (k : Fin 256) (l : Fin 2048) : rowV (F := Ideal) g (ix3 0 k l) = g (ix2 k l) := by
  unfold rowV
  refine congrArg g ?_
  rw [Equiv.symm_apply_eq]
  exact (ValueIdx.reshapeEquiv_ix2_1ab _ k l).symm

section
variable (c : Dev nD) (A : Buf (Elt Ideal) ((c : Thread nD τ).loc main_arg2)) (B : Buf (Elt Ideal) ((c : Thread nD τ).loc main_arg3))

/-- A tile of the weights read through the transfer's view. -/
theorem cols_at (off : Fin 3 → ℕ) (h : ∀ a, off a + S1x2048x256.size a ≤ S4x2048x11264.size a) (k : Fin 2048) (l : Fin 256) (i : S4x2048x11264.Idx)
    (h0 : (i 0).val = off 0) (h1 : (i 1).val = off 1 + k.val) (h2 : (i 2).val = off 2 + l.val) :
    (colsAt (Memref.whole main_arg2) off h).view.read (Elt Ideal) A (ix2 k l) = A i := by
  change A ((Rect.unit (s := S4x2048x11264) off S1x2048x256.size h).emb (Shape.reshapeEquiv squeezes_S1x2048x256_S2048x256.numel_eq (ix2 k l))) = A i
  rw [show Shape.reshapeEquiv squeezes_S1x2048x256_S2048x256.numel_eq (ix2 k l) = ix3 0 k l from ValueIdx.reshapeEquiv_ix2_1ab _ k l]
  refine congrArg A (funext fun a => Fin.ext ?_)
  rw [ValueKit.rect_emb_unit_val]
  match a with
  | ⟨0, _⟩ => exact h0.symm
  | ⟨1, _⟩ => exact h1.symm
  | ⟨2, _⟩ => exact h2.symm

theorem rows_at (off : Fin 3 → ℕ) (h : ∀ a, off a + S1x256x2048.size a ≤ S4x5632x2048.size a) (k : Fin 256) (l : Fin 2048) (i : S4x5632x2048.Idx)
    (h0 : (i 0).val = off 0) (h1 : (i 1).val = off 1 + k.val) (h2 : (i 2).val = off 2 + l.val) :
    (rowsAt (Memref.whole main_arg3) off h).view.read (Elt Ideal) B (ix2 k l) = B i := by
  change B ((Rect.unit (s := S4x5632x2048) off S1x256x2048.size h).emb (Shape.reshapeEquiv squeezes_S1x256x2048_S256x2048.numel_eq (ix2 k l))) = B i
  rw [show Shape.reshapeEquiv squeezes_S1x256x2048_S256x2048.numel_eq (ix2 k l) = ix3 0 k l from ValueIdx.reshapeEquiv_ix2_1ab _ k l]
  refine congrArg B (funext fun a => Fin.ext ?_)
  rw [ValueKit.rect_emb_unit_val]
  match a with
  | ⟨0, _⟩ => exact h0.symm
  | ⟨1, _⟩ => exact h1.symm
  | ⟨2, _⟩ => exact h2.symm

theorem gV_at (f : Fin 22) (k : Fin 2048) (l : Fin 256) :
    gV (F := Ideal) c (Memref.whole main_arg2) A f.val (ix2 k l) = A (ix3 0 k (⟨256 * f.val + l.val, by omega⟩ : Fin 11264)) :=
  cols_at c A (gT f.val) (gT_inb f.val) k l _ rfl (Nat.zero_add _).symm (by show 256 * f.val + l.val = 256 * (f.val % 22) + l.val; omega)

theorem uV_at (f : Fin 22) (k : Fin 2048) (l : Fin 256) :
    uV (F := Ideal) c (Memref.whole main_arg2) A f.val (ix2 k l) = A (ix3 0 k (⟨5632 + (256 * f.val + l.val), by omega⟩ : Fin 11264)) :=
  cols_at c A (uT f.val) (uT_inb f.val) k l _ rfl (Nat.zero_add _).symm (by show 5632 + (256 * f.val + l.val) = 5632 + 256 * (f.val % 22) + l.val; omega)

theorem dV_at (f : Fin 22) (k : Fin 256) (l : Fin 2048) :
    dV (F := Ideal) c (Memref.whole main_arg3) B f.val (ix2 k l) = B (ix3 0 (⟨256 * f.val + k.val, by omega⟩ : Fin 5632) l) :=
  rows_at c B (dT f.val) (dT_inb f.val) k l _ rfl (by show 256 * f.val + k.val = 256 * (f.val % 22) + k.val; omega) (Nat.zero_add _).symm

/-- The gate and the projection of a column, for a normalised row. -/
def gateOf (x : Fin 2048 → EReal) (j : Fin 5632) : EReal := ∑ k : Fin 2048, x k * A (ix3 0 k (⟨j.val, by omega⟩ : Fin 11264))
def upOf (x : Fin 2048 → EReal) (j : Fin 5632) : EReal := ∑ k : Fin 2048, x k * A (ix3 0 k (⟨5632 + j.val, by omega⟩ : Fin 11264))

/-- A column's part of an element of the result. -/
def part (x : Fin 2048 → EReal) (d : Fin 2048) (j : Fin 5632) : EReal := act (gateOf c A x j) (upOf c A x j) * B (ix3 0 j d)

/-- A tile's part. -/
def tile (x : Fin 2048 → EReal) (d : Fin 2048) (f : Fin 22) : EReal := ∑ l : Fin 256, part c A B x d ⟨256 * f.val + l.val, by omega⟩

variable (h : Vec Ideal S1024x2048 .f32) (n : Vec Ideal S1x1x2048 .f32)

/-- After tile `f` an element is the row's with the tiles' parts so far added. -/
theorem acc_at (r : Fin 1024) (d : Fin 2048) (f : ℕ) (hf : f < 22) :
    acc c (Memref.whole main_arg2) (Memref.whole main_arg3) A B h n f (ix2 r d)
      = h (ix2 r d) + ∑ i : Fin (f + 1), tile c A B (norm (fun k => h (ix2 r k)) (fun k => n (ix3 0 0 k))) d ⟨i.val, by omega⟩ := by
  induction f with
  | zero =>
    unfold acc
    rw [pay9_at]
    simp only [colV_at, rowV_at, pay6_at]
    rw [Fin.sum_univ_one]
    unfold tile part gateOf upOf
    simp only [gV_at c A (0 : Fin 22), uV_at c A (0 : Fin 22), dV_at c B (0 : Fin 22), show (0 : ℕ) = (0 : Fin 22).val from rfl]
    rfl
  | succ f ih =>
    unfold acc
    rw [pay10_at, ih (by omega)]
    simp only [colV_at, rowV_at, pay8_at, pay6_at]
    rw [Fin.sum_univ_castSucc (n := f + 1), add_assoc]
    refine congrArg _ (congrArg _ ?_)
    unfold tile part gateOf upOf
    have e1 := gV_at c A ⟨f + 1, hf⟩
    have e2 := uV_at c A ⟨f + 1, hf⟩
    have e3 := dV_at c B ⟨f + 1, hf⟩
    dsimp only at e1 e2 e3
    simp only [e1, e2, e3]
    rfl

end

end Cert.Kernel2Ideal.Ffn

end
-- ==== Proof.Ffn.RefTerms.lean ====
/- The reference's feed-forward block at an element: the normalised row, the gate, the projection and the result. -/
module

public import proofs.«01_k».proof.Proof.Gen.Reference2Ideal.Run
public import proofs.«01_k».proof.Proof.Ffn.Points
public import Idealize.ShloMosaic.Lib.Pointwise

@[expose] public section

set_option maxRecDepth 16384

noncomputable section

namespace Cert.Reference2Ideal.Ffn

open Idealize.ShloMosaic Idealize.ShloMosaic.TcCoe
open Cert.Reference2Ideal Cert.Reference2Ideal.Gen
open Cert.Kernel2Ideal.Ffn (norm oneHalf)

section Terms
variable {F : FTy → Type} [FloatOps F]

/-- The rows scaled to mean square one, times the gains. -/
def normed (h : FVec F S8192x2048 .f32) (ln : FVec F S4x2048 .f32) : FVec F S8192x2048 .f32 :=
  mulf (mulf h (broadcastInDim S8192x2048 ![0, 1] bcast_S8192x1_S8192x2048_0_1 (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] ln slices_S4x2048_S1x2048_0_0) shapeCasts_S1x2048_S2048)))

/-- The gates and the projections, side by side. -/
def gateUp (x : FVec F S8192x2048 .f32) (w : FVec F S4x2048x11264 .f32) : FVec F S8192x11264 .f32 :=
  Host.dotGeneral dot_S8192x2048_S2048x11264_S8192x11264_1_0_0_1_n_n none x (shapeCast _ (extractStridedSlice S1x2048x11264 ![0, 0, 0] w slices_S4x2048x11264_S1x2048x11264_0_0_0) shapeCasts_S1x2048x11264_S2048x11264)

/-- The gates times their logistics, times the projections. -/
def swiglu (y : FVec F S8192x11264 .f32) : FVec F S8192x5632 .f32 :=
  mulf (mulf (extractStridedSlice S8192x5632 ![0, 0] y slices_S8192x11264_S8192x5632_0_0) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extractStridedSlice S8192x5632 ![0, 0] y slices_S8192x11264_S8192x5632_0_0)))))) (extractStridedSlice S8192x5632 ![0, 5632] y slices_S8192x11264_S8192x5632_0_5632)

/-- The rows with half of the block's product added. -/
def result (h : FVec F S8192x2048 .f32) (z : FVec F S8192x5632 .f32) (d : FVec F S4x5632x2048 .f32) : FVec F S8192x2048 .f32 :=
  addf h (mulf (broadcastInDim S8192x2048 ![] bcast_S_S8192x2048 (constant S_ .f32 0x3F000000#32)) (Host.dotGeneral dot_S8192x5632_S5632x2048_S8192x2048_1_0_0_1_n_n none z (shapeCast _ (extractStridedSlice S1x5632x2048 ![0, 0, 0] d slices_S4x5632x2048_S1x5632x2048_0_0_0) shapeCasts_S1x5632x2048_S5632x2048)))

/-- The reference's run: its result, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = result (m ((c.tc : Thread nD τ).loc main_arg0)) (swiglu (gateUp (normed (m ((c.tc : Thread nD τ).loc main_arg0)) (m ((c.tc : Thread nD τ).loc main_arg1))) (m ((c.tc : Thread nD τ).loc main_arg2)))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Terms

theorem normed_at (h : FVec Ideal S8192x2048 .f32) (ln : FVec Ideal S4x2048 .f32) (r : Fin 8192) (k : Fin 2048) :
    normed h ln (ix2 r k) = norm (fun k => h (ix2 r k)) (fun k => ln (ix2 0 k)) k := by
  pointwise [normed]
  rfl

theorem gateUp_at (x : FVec Ideal S8192x2048 .f32) (w : FVec Ideal S4x2048x11264 .f32) (r : Fin 8192) (j : Fin 11264) :
    gateUp x w (ix2 r j) = ∑ k : Fin 2048, x (ix2 r k) * w (ix3 0 k j) := by
  pointwise [gateUp]

theorem swiglu_at (y : FVec Ideal S8192x11264 .f32) (r : Fin 8192) (j : Fin 5632) :
    swiglu y (ix2 r j) = y (ix2 r (⟨j.val, by omega⟩ : Fin 11264)) * Ideal.logistic (y (ix2 r (⟨j.val, by omega⟩ : Fin 11264))) * y (ix2 r (⟨5632 + j.val, by omega⟩ : Fin 11264)) := by
  pointwise [swiglu]
  rfl

theorem result_at (h : FVec Ideal S8192x2048 .f32) (z : FVec Ideal S8192x5632 .f32) (d : FVec Ideal S4x5632x2048 .f32) (r : Fin 8192) (j : Fin 2048) :
    result h z d (ix2 r j) = h (ix2 r j) + oneHalf * ∑ l : Fin 5632, z (ix2 r l) * d (ix3 0 l j) := by
  pointwise [result]
  rfl

end Cert.Reference2Ideal.Ffn

end
-- ==== Proof.Ffn.Value.lean ====
/- The feed-forward kernel's array is the reference's: the tiles' parts summed over a row are half of the block's product. -/
module

public import proofs.«01_k».proof.Proof.Ffn.Frame
public import proofs.«01_k».proof.Proof.Ffn.Points
public import proofs.«01_k».proof.Proof.Ffn.RefTerms
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Ffn

open Idealize.ShloMosaic Idealize.ShloMosaic.TcCoe
open Idealize.ShloMosaic.Pipeline (Dat Cfg Window)
open Cert.Kernel2Ideal Cert.Kernel2Ideal.Gen
open Cert.Reference2Ideal.Ffn (normed gateUp swiglu result normed_at gateUp_at swiglu_at result_at)

theorem oneHalf_eq : oneHalf = ((1 / 2 : ℝ) : EReal) := by
  unfold oneHalf
  simp [Ideal.ofBits, Ideal.ieee, -EReal.coe_mul]; norm_num

/-- A half distributes over a sum. -/
theorem half_sum {ι : Type} (s : Finset ι) (f : ι → EReal) : oneHalf * ∑ i ∈ s, f i = ∑ i ∈ s, oneHalf * f i := by
  classical
  have h0 : (0 : EReal) ≤ oneHalf := by rw [oneHalf_eq]; exact_mod_cast (by norm_num : (0 : ℝ) ≤ 1 / 2)
  have h1 : oneHalf ≠ ⊤ := by rw [oneHalf_eq]; exact EReal.coe_ne_top _
  induction s using Finset.induction_on with
  | empty => simp
  | insert a s ha ih => rw [Finset.sum_insert ha, Finset.sum_insert ha, EReal.left_distrib_of_nonneg_of_ne_top h0 h1, ih]

/-- A sum over the columns, tile by tile. -/
theorem sum_tiles (f : Fin 5632 → EReal) : ∑ i : Fin 22, ∑ l : Fin 256, f ⟨256 * i.val + l.val, by omega⟩ = ∑ j : Fin 5632, f j := by
  rw [← Fintype.sum_prod_type' (f := fun (i : Fin 22) (l : Fin 256) => f ⟨256 * i.val + l.val, by omega⟩)]
  refine Fintype.sum_equiv (finProdFinEquiv (m := 22) (n := 256)) _ _ fun x => congrArg f (Fin.ext ?_)
  show 256 * x.1.val + x.2.val = x.2.val + 256 * x.1.val
  omega

section Blocks
variable (m : (ℓ : Loc nD τ sig) → Buf (Elt Ideal) ℓ) (c : Dev nD) (t : Fin cfg0.N)

theorem idx0_0 : ∀ t : Fin cfg0.N, win0_0.index t = ![t.val, 0] := (by decide +kernel : ∀ t : Fin grid0.N, _)
theorem idx0_1 : ∀ t : Fin cfg0.N, win0_1.index t = ![0, 0, 0] := (by decide +kernel : ∀ t : Fin grid0.N, _)
theorem idx0_2 : ∀ t : Fin cfg0.N, win0_2.index t = ![t.val, 0] := (by decide +kernel : ∀ t : Fin grid0.N, _)

/-- A row of a point's block. -/
def row (t : Fin cfg0.N) (r : Fin 1024) : Fin 8192 := ⟨1024 * t.val + r.val, by have : t.val < 8 := t.isLt; omega⟩

theorem hb_at (r : Fin 1024) (k : Fin 2048) : hb m c t (ix2 r k) = m ((c : Thread nD τ).loc main_arg0) (ix2 (row t r) k) := by
  rw [← V_main_arg0 m c]
  unfold hb
  blk_simp [iblk]
  refine congrArg _ ?_
  blk_ext [idx0_0 t, row]

theorem gains_at (k : Fin 2048) : V m c main_v0 (ix3 0 0 k) = m ((c : Thread nD τ).loc main_arg1) (ix2 0 k) := by
  entry_read
  pointwise []

theorem nb_at (k : Fin 2048) : nb m c t (ix3 0 0 k) = m ((c : Thread nD τ).loc main_arg1) (ix2 0 k) := by
  rw [← gains_at m c]
  unfold nb
  blk_simp [iblk]
  refine congrArg _ ?_
  blk_ext [idx0_1 t]

/-- The reference's result of the arguments. -/
def G : Buf (Elt Ideal) ((c : Thread nD τ).loc main_v1) :=
  result (F := Ideal) (m ((c : Thread nD τ).loc main_arg0)) (swiglu (F := Ideal) (gateUp (F := Ideal) (normed (F := Ideal) (m ((c : Thread nD τ).loc main_arg0)) (m ((c : Thread nD τ).loc main_arg1))) (m ((c : Thread nD τ).loc main_arg2)))) (m ((c : Thread nD τ).loc main_arg3))

/-- A point's block is its block of the reference's result. -/
theorem ob_at (r : Fin 1024) (d : Fin 2048) : ob m c t (ix2 r d) = G m c (ix2 (row t r) d) := by
  unfold ob
  rw [acc_at c _ _ _ _ r d 21 (by norm_num)]
  unfold G
  rw [result_at, hb_at]
  refine congrArg _ ?_
  simp only [hb_at, nb_at, V_main_arg2, V_main_arg3]
  refine (sum_tiles fun j => part c (m ((c : Thread nD τ).loc main_arg2)) (m ((c : Thread nD τ).loc main_arg3)) _ d j).trans ?_
  rw [half_sum]
  refine Finset.sum_congr rfl fun j _ => ?_
  rw [swiglu_at, gateUp_at, gateUp_at]
  simp only [normed_at]
  unfold part act gateOf upOf
  rw [← mul_assoc oneHalf, mul_left_comm]

end Blocks

/-- The array after the run. -/
theorem array_eq (m : (ℓ : Loc nD τ sig) → Buf (Elt Ideal) ℓ) (c : Dev nD) : (dats m 0 c).arrAt 2 (cfgs 0).N = G m c := by
  refine (dats m 0 c).arrAt_eq_of_covers 2 _ (by decide +kernel) fun t hf y => ?_
  blk_simp
  rw [after_2]
  idx_vars y
  refine (ob_at m c t _ _).trans ?_
  refine congrArg _ ?_
  blk_ext [idx0_2 t, row]

end Cert.Kernel2Ideal.Ffn

end
-- ==== Proof.Last.Code.lean ====
/- The feed-forward kernel with the final norm's body, written as a composition of a few small programs: the request of a tile of the weights,
   the wait for it, the tile's product added to the output block, the pair of tiles of a loop trip. -/
module

public import proofs.«01_k».proof.Proof.Gen.Kernel3Ideal.Skeleton

@[expose] public section

set_option maxRecDepth 65536

noncomputable section

namespace Cert.Kernel3Ideal.Last

open Idealize.ShloMosaic Idealize.SL.Sem
open Cert.Kernel3Ideal Cert.Kernel3Ideal.Gen

variable {F : FTy → Type} [FloatOps F]

/-- 256 columns of the gate's and up projection's weights, from `off` on. -/
abbrev colsAt (m : Memref sig .tc .hbm S4x2048x11264 .f32) (off : Fin 3 → ℕ) (h : ∀ a, off a + S1x2048x256.size a ≤ S4x2048x11264.size a) :
    Memref sig .tc .hbm S2048x256 .f32 :=
  (m.slice (Rect.unit (s := S4x2048x11264) off S1x2048x256.size h) (fun _ => rfl)).squeeze S2048x256 squeezes_S1x2048x256_S2048x256

/-- 256 rows of the down projection's weights, from `off` on. -/
abbrev rowsAt (m : Memref sig .tc .hbm S4x5632x2048 .f32) (off : Fin 3 → ℕ) (h : ∀ a, off a + S1x256x2048.size a ≤ S4x5632x2048.size a) :
    Memref sig .tc .hbm S256x2048 .f32 :=
  (m.slice (Rect.unit (s := S4x5632x2048) off S1x256x2048.size h) (fun _ => rfl)).squeeze S256x2048 squeezes_S1x256x2048_S256x2048

/-- A slot of a ring of two tiles of columns, and of a ring of two tiles of rows. -/
abbrev slotC (m : Memref sig .tc .vmem S2x2048x256 .f32) (s : ℕ) (h : ∀ a, (![s, 0, 0] : Fin 3 → ℕ) a + S1x2048x256.size a ≤ S2x2048x256.size a) :
    Memref sig .tc .vmem S2048x256 .f32 :=
  (m.slice (Rect.unit (s := S2x2048x256) ![s, 0, 0] S1x2048x256.size h) (fun _ => rfl)).squeeze S2048x256 squeezes_S1x2048x256_S2048x256

abbrev slotR (m : Memref sig .tc .vmem S2x256x2048 .f32) (s : ℕ) (h : ∀ a, (![s, 0, 0] : Fin 3 → ℕ) a + S1x256x2048.size a ≤ S2x256x2048.size a) :
    Memref sig .tc .vmem S256x2048 .f32 :=
  (m.slice (Rect.unit (s := S2x256x2048) ![s, 0, 0] S1x256x2048.size h) (fun _ => rfl)).squeeze S256x2048 squeezes_S1x256x2048_S256x2048

/-- The counter of a ring's slot. -/
abbrev cellAt (m : DmaSems sig S3x2) (k s : ℕ) (h : ∀ a, (![k, s] : Fin 2 → ℕ) a + S1x1.size a ≤ S3x2.size a) : DmaSem sig :=
  ((m.slice (Rect.unit (s := S3x2) ![k, s] S1x1.size h)).squeeze S_ squeezes_S1x1_S_).sem

/-- The request of a tile: three transfers, each on its counter. -/
def request (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) :
    Prog (TpuEff nD τ sig (Elt F) Λ₀ .tc) PUnit := do
  Prog.lift (.enqueueDma g (.here g') (.dma q0) (View.wordExact_bits rfl) (View.wordExact_bits rfl) ⟨Or.inl rfl, trivial⟩)
  Prog.lift (.enqueueDma u (.here u') (.dma q1) (View.wordExact_bits rfl) (View.wordExact_bits rfl) ⟨Or.inl rfl, trivial⟩)
  Prog.lift (.enqueueDma d (.here d') (.dma q2) (View.wordExact_bits rfl) (View.wordExact_bits rfl) ⟨Or.inl rfl, trivial⟩)

/-- The wait for a tile's three transfers. -/
def arrive (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) :
    Prog (TpuEff nD τ sig (Elt F) Λ₀ .tc) PUnit := do
  Prog.lift (.waitDma2 q0 g g' (View.wordExact_bits rfl) (View.wordExact_bits rfl))
  Prog.lift (.waitDma2 q1 u u' (View.wordExact_bits rfl) (View.wordExact_bits rfl))
  Prog.lift (.waitDma2 q2 d d' (View.wordExact_bits rfl) (View.wordExact_bits rfl))

/-- The tile in slot `s`, applied to the normalised rows and added to the output block. -/
def half (orf : Memref sig .tc .vmem S1024x2048 .f32) (xr : Memref sig .tc .vmem S1024x2048 .bf16)
    (gr ur : Memref sig .tc .vmem S2x2048x256 .f32) (dr : Memref sig .tc .vmem S2x256x2048 .f32) (s : ℕ)
    (hc : ∀ a, (![s, 0, 0] : Fin 3 → ℕ) a + S1x2048x256.size a ≤ S2x2048x256.size a)
    (hr : ∀ a, (![s, 0, 0] : Fin 3 → ℕ) a + S1x256x2048.size a ≤ S2x256x2048.size a) :
    Prog (TpuEff nD τ sig (Elt F) Λ₀ .tc) PUnit := do
  let o : Vec F S1024x2048 .f32 ← Prog.lift (.load orf (Rect.unit (s := S1024x2048) ![0, 0] S1024x2048.size inb_S1024x2048_S1024x2048_0_0).toLoadRect (View.loadsAt_vmem h_S1024x2048))
  let x : Vec F S1024x2048 .bf16 ← Prog.lift (.load xr (Rect.unit (s := S1024x2048) ![0, 0] S1024x2048.size inb_S1024x2048_S1024x2048_0_0).toLoadRect (View.loadsAt_vmem h_S1024x2048))
  let g : Vec F S1x2048x256 .f32 ← Prog.lift (.load gr (Rect.unit (s := S2x2048x256) ![s, 0, 0] S1x2048x256.size hc).toLoadRect (View.loadsAt_vmem h_S1x2048x256))
  let u : Vec F S1x2048x256 .f32 ← Prog.lift (.load ur (Rect.unit (s := S2x2048x256) ![s, 0, 0] S1x2048x256.size hc).toLoadRect (View.loadsAt_vmem h_S1x2048x256))
  let d : Vec F S1x256x2048 .f32 ← Prog.lift (.load dr (Rect.unit (s := S2x256x2048) ![s, 0, 0] S1x256x2048.size hr).toLoadRect (View.loadsAt_vmem h_S1x256x2048))
  let _ : Vec F S1024x2048 .f32 ← Prog.lift (.load orf (Rect.unit (s := S1024x2048) ![0, 0] S1024x2048.size inb_S1024x2048_S1024x2048_0_0).toLoadRect (View.loadsAt_vmem h_S1024x2048))
  Prog.lift (.store orf (Rect.unit (s := S1024x2048) ![0, 0] S1024x2048.size inb_S1024x2048_S1024x2048_0_0) (k0_pay11 o x g u d) Finset.univ (View.stores_vmem_bits_univ h_S1024x2048 rfl) (.inl rfl))

/-- The rows, normalised, and the first tile in slot 0. -/
def start (hrf : Memref sig .tc .vmem S1024x2048 .f32) (nr : Memref sig .tc .vmem S1x1x2048 .f32)
    (orf : Memref sig .tc .vmem S1024x2048 .f32) (xr : Memref sig .tc .vmem S1024x2048 .bf16) (hx : xr.IsWhole)
    (gr ur : Memref sig .tc .vmem S2x2048x256 .f32) (dr : Memref sig .tc .vmem S2x256x2048 .f32) :
    Prog (TpuEff nD τ sig (Elt F) Λ₀ .tc) PUnit := do
  let h : Vec F S1024x2048 .f32 ← Prog.lift (.load hrf (Rect.unit (s := S1024x2048) ![0, 0] S1024x2048.size inb_S1024x2048_S1024x2048_0_0).toLoadRect (View.loadsAt_vmem h_S1024x2048))
  let n : Vec F S1x1x2048 .f32 ← Prog.lift (.load nr (Rect.unit (s := S1x1x2048) ![0, 0, 0] S1x1x2048.size inb_S1x1x2048_S1x1x2048_0_0_0).toLoadRect (View.loadsAt_vmem h_S1x1x2048))
  let _ : Vec F S1024x2048 .bf16 ← Prog.lift (.load xr (Rect.unit (s := S1024x2048) ![0, 0] S1024x2048.size inb_S1024x2048_S1024x2048_0_0).toLoadRect (View.loadsAt_vmem h_S1024x2048))
  Prog.lift (.store xr (Rect.unit (s := S1024x2048) ![0, 0] S1024x2048.size inb_S1024x2048_S1024x2048_0_0) (k0_pay9 (k0_pay7 h n)) Finset.univ (View.stores_vmem h_S1024x2048 (hx.storeExact_slice rfl _ packedbf16_S1024x2048_S1024x2048_0_0) (fun _ => rfl)) (.inl rfl))
  let g : Vec F S1x2048x256 .f32 ← Prog.lift (.load gr (Rect.unit (s := S2x2048x256) ![0, 0, 0] S1x2048x256.size inb_S2x2048x256_S1x2048x256_0_0_0).toLoadRect (View.loadsAt_vmem h_S1x2048x256))
  let u : Vec F S1x2048x256 .f32 ← Prog.lift (.load ur (Rect.unit (s := S2x2048x256) ![0, 0, 0] S1x2048x256.size inb_S2x2048x256_S1x2048x256_0_0_0).toLoadRect (View.loadsAt_vmem h_S1x2048x256))
  let d : Vec F S1x256x2048 .f32 ← Prog.lift (.load dr (Rect.unit (s := S2x256x2048) ![0, 0, 0] S1x256x2048.size inb_S2x256x2048_S1x256x2048_0_0_0).toLoadRect (View.loadsAt_vmem h_S1x256x2048))
  let _ : Vec F S1024x2048 .f32 ← Prog.lift (.load orf (Rect.unit (s := S1024x2048) ![0, 0] S1024x2048.size inb_S1024x2048_S1024x2048_0_0).toLoadRect (View.loadsAt_vmem h_S1024x2048))
  Prog.lift (.store orf (Rect.unit (s := S1024x2048) ![0, 0] S1024x2048.size inb_S1024x2048_S1024x2048_0_0) (k0_pay10 h (k0_pay7 h n) g u d) Finset.univ (View.stores_vmem_bits_univ h_S1024x2048 rfl) (.inl rfl))

/-- The output block, normalised. -/
def finish (orf : Memref sig .tc .vmem S1024x2048 .f32) (fr : Memref sig .tc .vmem S1x2048 .f32) : Prog (TpuEff nD τ sig (Elt F) Λ₀ .tc) PUnit := do
  let o : Vec F S1024x2048 .f32 ← Prog.lift (.load orf (Rect.unit (s := S1024x2048) ![0, 0] S1024x2048.size inb_S1024x2048_S1024x2048_0_0).toLoadRect (View.loadsAt_vmem h_S1024x2048))
  let n : Vec F S1x2048 .f32 ← Prog.lift (.load fr (Rect.unit (s := S1x2048) ![0, 0] S1x2048.size inb_S1x2048_S1x2048_0_0).toLoadRect (View.loadsAt_vmem h_S1x2048))
  let _ : Vec F S1024x2048 .f32 ← Prog.lift (.load orf (Rect.unit (s := S1024x2048) ![0, 0] S1024x2048.size inb_S1024x2048_S1024x2048_0_0).toLoadRect (View.loadsAt_vmem h_S1024x2048))
  Prog.lift (.store orf (Rect.unit (s := S1024x2048) ![0, 0] S1024x2048.size inb_S1024x2048_S1024x2048_0_0) (k0_pay2 o n) Finset.univ (View.stores_vmem_bits_univ h_S1024x2048 rfl) (.inl rfl))

section

variable (i : grid0.Coords) (arg1 : Memref sig .tc .vmem S1024x2048 .f32) (harg1 : arg1.IsWhole) (arg2 : Memref sig .tc .vmem S1x1x2048 .f32) (harg2 : arg2.IsWhole)
  (arg3 : Memref sig .tc .hbm S4x2048x11264 .f32) (harg3 : arg3.IsWhole) (arg4 : Memref sig .tc .hbm S4x5632x2048 .f32) (harg4 : arg4.IsWhole)
  (arg5 : Memref sig .tc .vmem S1x2048 .f32) (harg5 : arg5.IsWhole) (arg6 : Memref sig .tc .vmem S1024x2048 .f32) (harg6 : arg6.IsWhole) (arg7 : Memref sig .tc .vmem S1024x2048 .bf16) (harg7 : arg7.IsWhole)
  (arg8 : Memref sig .tc .vmem S2x2048x256 .f32) (harg8 : arg8.IsWhole) (arg9 : Memref sig .tc .vmem S2x2048x256 .f32) (harg9 : arg9.IsWhole)
  (arg10 : Memref sig .tc .vmem S2x256x2048 .f32) (harg10 : arg10.IsWhole) (arg11 : DmaSems sig S3x2)

/-- The request into slot 0, the wait for it, and the same for slot 1. -/
def req0 (og ou od : Fin 3 → ℕ) (hg : ∀ a, og a + S1x2048x256.size a ≤ S4x2048x11264.size a) (hu : ∀ a, ou a + S1x2048x256.size a ≤ S4x2048x11264.size a)
    (hd : ∀ a, od a + S1x256x2048.size a ≤ S4x5632x2048.size a) : Prog (TpuEff nD τ sig (Elt F) Λ₀ .tc) PUnit :=
  request (colsAt arg3 og hg) (colsAt arg3 ou hu) (rowsAt arg4 od hd)
    (slotC arg8 0 inb_S2x2048x256_S1x2048x256_0_0_0) (slotC arg9 0 inb_S2x2048x256_S1x2048x256_0_0_0) (slotR arg10 0 inb_S2x256x2048_S1x256x2048_0_0_0)
    (cellAt arg11 0 0 inb_S3x2_S1x1_0_0) (cellAt arg11 1 0 inb_S3x2_S1x1_1_0) (cellAt arg11 2 0 inb_S3x2_S1x1_2_0)

def arr0 (og ou od : Fin 3 → ℕ) (hg : ∀ a, og a + S1x2048x256.size a ≤ S4x2048x11264.size a) (hu : ∀ a, ou a + S1x2048x256.size a ≤ S4x2048x11264.size a)
    (hd : ∀ a, od a + S1x256x2048.size a ≤ S4x5632x2048.size a) : Prog (TpuEff nD τ sig (Elt F) Λ₀ .tc) PUnit :=
  arrive (colsAt arg3 og hg) (colsAt arg3 ou hu) (rowsAt arg4 od hd)
    (slotC arg8 0 inb_S2x2048x256_S1x2048x256_0_0_0) (slotC arg9 0 inb_S2x2048x256_S1x2048x256_0_0_0) (slotR arg10 0 inb_S2x256x2048_S1x256x2048_0_0_0)
    (cellAt arg11 0 0 inb_S3x2_S1x1_0_0) (cellAt arg11 1 0 inb_S3x2_S1x1_1_0) (cellAt arg11 2 0 inb_S3x2_S1x1_2_0)

def req1 (og ou od : Fin 3 → ℕ) (hg : ∀ a, og a + S1x2048x256.size a ≤ S4x2048x11264.size a) (hu : ∀ a, ou a + S1x2048x256.size a ≤ S4x2048x11264.size a)
    (hd : ∀ a, od a + S1x256x2048.size a ≤ S4x5632x2048.size a) : Prog (TpuEff nD τ sig (Elt F) Λ₀ .tc) PUnit :=
  request (colsAt arg3 og hg) (colsAt arg3 ou hu) (rowsAt arg4 od hd)
    (slotC arg8 1 inb_S2x2048x256_S1x2048x256_1_0_0) (slotC arg9 1 inb_S2x2048x256_S1x2048x256_1_0_0) (slotR arg10 1 inb_S2x256x2048_S1x256x2048_1_0_0)
    (cellAt arg11 0 1 inb_S3x2_S1x1_0_1) (cellAt arg11 1 1 inb_S3x2_S1x1_1_1) (cellAt arg11 2 1 inb_S3x2_S1x1_2_1)

def arr1 (og ou od : Fin 3 → ℕ) (hg : ∀ a, og a + S1x2048x256.size a ≤ S4x2048x11264.size a) (hu : ∀ a, ou a + S1x2048x256.size a ≤ S4x2048x11264.size a)
    (hd : ∀ a, od a + S1x256x2048.size a ≤ S4x5632x2048.size a) : Prog (TpuEff nD τ sig (Elt F) Λ₀ .tc) PUnit :=
  arrive (colsAt arg3 og hg) (colsAt arg3 ou hu) (rowsAt arg4 od hd)
    (slotC arg8 1 inb_S2x2048x256_S1x2048x256_1_0_0) (slotC arg9 1 inb_S2x2048x256_S1x2048x256_1_0_0) (slotR arg10 1 inb_S2x256x2048_S1x256x2048_1_0_0)
    (cellAt arg11 0 1 inb_S3x2_S1x1_0_1) (cellAt arg11 1 1 inb_S3x2_S1x1_1_1) (cellAt arg11 2 1 inb_S3x2_S1x1_2_1)

/-- The tiles in slot 0 and in slot 1, added to the output block. -/
def half0 : Prog (TpuEff nD τ sig (Elt F) Λ₀ .tc) PUnit :=
  half arg6 arg7 arg8 arg9 arg10 0 inb_S2x2048x256_S1x2048x256_0_0_0 inb_S2x256x2048_S1x256x2048_0_0_0
def half1 : Prog (TpuEff nD τ sig (Elt F) Λ₀ .tc) PUnit :=
  half arg6 arg7 arg8 arg9 arg10 1 inb_S2x2048x256_S1x2048x256_1_0_0 inb_S2x256x2048_S1x256x2048_1_0_0

/-- A trip of the loop: the odd tile is consumed while the next is fetched, then the even one. -/
def trip (t : Fin k0_t1_loop.trips) : Prog (TpuEff nD τ sig (Elt F) Λ₀ .tc) PUnit := do
  req0 arg3 arg4 arg8 arg9 arg10 arg11 (k0_off1 t 1#32) (k0_off2 t 1#32) (k0_off3 t 1#32) (k0_off1_inb t 0) (k0_off2_inb t 0) (k0_off3_inb t 0)
  arr1 arg3 arg4 arg8 arg9 arg10 arg11 (k0_off4 t) (k0_off5 t) (k0_off6 t) (k0_off4_inb t) (k0_off5_inb t) (k0_off6_inb t)
  half1 arg6 arg7 arg8 arg9 arg10
  req1 arg3 arg4 arg8 arg9 arg10 arg11 (k0_off1 t 2#32) (k0_off2 t 2#32) (k0_off3 t 2#32) (k0_off1_inb t 1) (k0_off2_inb t 1) (k0_off3_inb t 1)
  arr0 arg3 arg4 arg8 arg9 arg10 arg11 (k0_off1 t 1#32) (k0_off2 t 1#32) (k0_off3 t 1#32) (k0_off1_inb t 0) (k0_off2_inb t 0) (k0_off3_inb t 0)
  half0 arg6 arg7 arg8 arg9 arg10

/-- Whether the point is the first, and whether another follows, as the kernel asks. -/
def isFirst : BitVec 1 := Scalar.cmpi .ne (Scalar.extui (Scalar.cmpi .eq (BitVec.ofNat 32 (i 0).val) 0#32) : BitVec 32) 0#32
def hasNext : BitVec 1 := Scalar.cmpi .ne (Scalar.extui (Scalar.cmpi .slt (Scalar.addi (BitVec.ofNat 32 (i 0).val) 1#32) 8#32) : BitVec 32) 0#32

/-- The request of the first tile, if the condition holds. -/
def reqIf (b : BitVec 1) : Prog (TpuEff nD τ sig (Elt F) Λ₀ .tc) PUnit :=
  if h : b = 1#1 then
    req0 arg3 arg4 arg8 arg9 arg10 arg11 ![3, 0, 0] ![3, 0, 5632] ![3, 0, 0] inb_S4x2048x11264_S1x2048x256_3_0_0 inb_S4x2048x11264_S1x2048x256_3_0_5632 inb_S4x5632x2048_S1x256x2048_3_0_0
  else pure ⟨⟩

/-- The kernel's body. -/
def body : Prog (TpuEff nD τ sig (Elt F) Λ₀ .tc) PUnit := do
  reqIf arg3 arg4 arg8 arg9 arg10 arg11 (isFirst i)
  req1 arg3 arg4 arg8 arg9 arg10 arg11 ![3, 0, 256] ![3, 0, 5888] ![3, 256, 0] inb_S4x2048x11264_S1x2048x256_3_0_256 inb_S4x2048x11264_S1x2048x256_3_0_5888 inb_S4x5632x2048_S1x256x2048_3_256_0
  arr0 arg3 arg4 arg8 arg9 arg10 arg11 ![3, 0, 0] ![3, 0, 5632] ![3, 0, 0] inb_S4x2048x11264_S1x2048x256_3_0_0 inb_S4x2048x11264_S1x2048x256_3_0_5632 inb_S4x5632x2048_S1x256x2048_3_0_0
  start arg1 arg2 arg6 arg7 harg7 arg8 arg9 arg10
  Scf.Loop.for k0_t1_loop k0_t1_ok ⟨⟩ fun t _ => trip arg3 arg4 arg6 arg7 arg8 arg9 arg10 arg11 t
  reqIf arg3 arg4 arg8 arg9 arg10 arg11 (hasNext i)
  arr1 arg3 arg4 arg8 arg9 arg10 arg11 ![3, 0, 5376] ![3, 0, 11008] ![3, 5376, 0] inb_S4x2048x11264_S1x2048x256_3_0_5376 inb_S4x2048x11264_S1x2048x256_3_0_11008 inb_S4x5632x2048_S1x256x2048_3_5376_0
  half1 arg6 arg7 arg8 arg9 arg10
  finish arg6 arg5

theorem bind_eq {α β : Type} {x y : Prog (TpuEff nD τ sig (Elt F) Λ₀ .tc) α} {f g : α → Prog (TpuEff nD τ sig (Elt F) Λ₀ .tc) β}
    (hx : x = y) (hf : ∀ a, f a = g a) : (x >>= f) = (y >>= g) := by
  rw [hx, show f = g from funext hf]

theorem trip_eq (v0 : BitVec 32) (v39 : Vec F S1024x2048 .f32) (v53 : FVec F S1024x2048 .f32) (t : Fin k0_t1_loop.trips) :
    k0_t1_body i arg1 harg1 arg2 harg2 arg3 harg3 arg4 harg4 arg5 harg5 arg6 harg6 arg7 harg7 arg8 harg8 arg9 harg9 arg10 harg10 arg11 v0 v39 v53 t ⟨⟩
      = trip (F := F) arg3 arg4 arg6 arg7 arg8 arg9 arg10 arg11 t := rfl

theorem reqIf_pos {b : BitVec 1} (h : b = 1#1) :
    reqIf (F := F) arg3 arg4 arg8 arg9 arg10 arg11 b
      = req0 arg3 arg4 arg8 arg9 arg10 arg11 ![3, 0, 0] ![3, 0, 5632] ![3, 0, 0] inb_S4x2048x11264_S1x2048x256_3_0_0 inb_S4x2048x11264_S1x2048x256_3_0_5632 inb_S4x5632x2048_S1x256x2048_3_0_0 := by
  unfold reqIf
  rw [dif_pos h]

theorem reqIf_neg {b : BitVec 1} (h : ¬ b = 1#1) : reqIf (F := F) arg3 arg4 arg8 arg9 arg10 arg11 b = pure ⟨⟩ := by
  unfold reqIf
  rw [dif_neg h]

/-- The printed body is the composition. -/
theorem body_eq :
    cc0_ffn_final (F := F) i arg1 harg1 arg2 harg2 arg3 harg3 arg4 harg4 arg5 harg5 arg6 harg6 arg7 harg7 arg8 harg8 arg9 harg9 arg10 harg10 arg11
      = body i arg1 arg2 arg3 arg4 arg5 arg6 arg7 harg7 arg8 arg9 arg10 arg11 := by
  rw [cc0_ffn_final_eq_skeleton]
  unfold cc0_ffn_final_skel
  rw [k0_part5_eq_skeleton, k0_part6_eq_skeleton, k0_part7_eq_skeleton, k0_part8_eq_skeleton]
  unfold k0_part5_skel k0_part6_skel k0_part7_skel k0_part8_skel body
  by_cases h1 : isFirst i = 1#1 <;> by_cases h2 : hasNext i = 1#1
  · rw [reqIf_pos arg3 arg4 arg8 arg9 arg10 arg11 h1, reqIf_pos arg3 arg4 arg8 arg9 arg10 arg11 h2]
    unfold isFirst at h1
    unfold hasNext at h2
    unfold req0 req1 arr0 arr1 half1 request arrive half start finish
    simp only [h1, h2, dif_pos, dif_neg, not_false_eq_true, bind_assoc, pure_bind]
    repeat' refine bind_eq (F := F) ?_ fun _ => ?_
    all_goals rfl
  · rw [reqIf_pos arg3 arg4 arg8 arg9 arg10 arg11 h1, reqIf_neg arg3 arg4 arg8 arg9 arg10 arg11 h2]
    unfold isFirst at h1
    unfold hasNext at h2
    unfold req0 req1 arr0 arr1 half1 request arrive half start finish
    simp only [h1, h2, dif_pos, dif_neg, not_false_eq_true, bind_assoc, pure_bind]
    repeat' refine bind_eq (F := F) ?_ fun _ => ?_
    all_goals rfl
  · rw [reqIf_neg arg3 arg4 arg8 arg9 arg10 arg11 h1, reqIf_pos arg3 arg4 arg8 arg9 arg10 arg11 h2]
    unfold isFirst at h1
    unfold hasNext at h2
    unfold req0 req1 arr0 arr1 half1 request arrive half start finish
    simp only [h1, h2, dif_pos, dif_neg, not_false_eq_true, bind_assoc, pure_bind]
    repeat' refine bind_eq (F := F) ?_ fun _ => ?_
    all_goals rfl
  · rw [reqIf_neg arg3 arg4 arg8 arg9 arg10 arg11 h1, reqIf_neg arg3 arg4 arg8 arg9 arg10 arg11 h2]
    unfold isFirst at h1
    unfold hasNext at h2
    unfold req1 arr0 arr1 half1 request arrive half start finish
    simp only [h1, h2, dif_pos, dif_neg, not_false_eq_true, bind_assoc, pure_bind]
    repeat' refine bind_eq (F := F) ?_ fun _ => ?_
    all_goals rfl

end

end Cert.Kernel3Ideal.Last
-- ==== Proof.Last.Dma.lean ====
/- A transfer of the feed-forward kernel with the final norm, issued and waited for: what the core holds of its source and destination before,
   while it is in flight, and after. -/
module

public import proofs.«01_k».proof.Proof.Last.Code
public import proofs.«01_k».proof.Proof.Gen.Kernel3Ideal.Frame
public import Idealize.ShloMosaic.Lib.Pipeline.Frame
public import Idealize.ShloMosaic.Lib.Tactic
public import Idealize.ShloMosaic.Lib.Transfers
public import Idealize.ShloMosaic.Lib.VecWindow

@[expose] public section

set_option maxRecDepth 16384

noncomputable section

namespace Cert.Kernel3Ideal.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (Pipeline.UD sig nD τ) ℕ

variable {s : Shape}

/-- Nothing in flight: a share of the source, the destination at anything, the counter at zero. -/
def idle (c : Dev nD) (src : Memref sig .tc .hbm s .f32) (dst : Memref sig .tc .vmem s .f32) (q : DmaSem sig)
    (π : PosShare TreeShare) (A : Buf (Elt F) (src.view.loc (c : Thread nD τ))) : sProp 𝕄 :=
  iprop((src.view.loc (c : Thread nD τ) ↦{π} A) ∗ (∃ w, owns (c : Thread nD τ) dst fullShare w) ∗ semVal ((c : Thread nD τ), SemLoc.dma q) 0)

/-- In flight: the transfer, and what it left of the share of the source. -/
def busy (c : Dev nD) (src : Memref sig .tc .hbm s .f32) (dst : Memref sig .tc .vmem s .f32) (q : DmaSem sig)
    (π : PosShare TreeShare) (A : Buf (Elt F) (src.view.loc (c : Thread nD τ))) : sProp 𝕄 :=
  iprop(Transfers.Flight (countersEmb (U := Pipeline.UD sig nD τ)) (c : Thread nD τ) (.dma q) () (dst.view.amount (.dma q))
      iprop(owns (c : Thread nD τ) dst fullShare (src.view.read (Elt F) A) ∗ (src.view.loc (c : Thread nD τ) ↦[src.view.set]{π} A))
    ∗ (src.view.loc (c : Thread nD τ) ↦[Finset.univ \ src.view.set]{π} A))

/-- Landed: the destination holds what the source does. -/
def landed (c : Dev nD) (src : Memref sig .tc .hbm s .f32) (dst : Memref sig .tc .vmem s .f32) (q : DmaSem sig)
    (π : PosShare TreeShare) (A : Buf (Elt F) (src.view.loc (c : Thread nD τ))) : sProp 𝕄 :=
  iprop((src.view.loc (c : Thread nD τ) ↦{π} A) ∗ owns (c : Thread nD τ) dst fullShare (src.view.read (Elt F) A) ∗ semVal ((c : Thread nD τ), SemLoc.dma q) 0)

theorem landed_idle (c : Dev nD) (src : Memref sig .tc .hbm s .f32) (dst : Memref sig .tc .vmem s .f32) (q : DmaSem sig)
    (π : PosShare TreeShare) (A : Buf (Elt F) (src.view.loc (c : Thread nD τ))) :
    landed c src dst q π A ⊢ idle c src dst q π A := by
  unfold landed idle
  iintro ⟨HA, HD, HV⟩
  isplitl [HA]; · iexact HA
  isplitl [HD]; · iexists _; iexact HD
  iexact HV

/-- The issue of a transfer. -/
theorem issue_run (c : Dev nD) (E : Set ℕ) (K : PUnit → sProp 𝕄) (src : Memref sig .tc .hbm s .f32) (dst : Memref sig .tc .vmem s .f32) (q : DmaSem sig)
    (π : PosShare TreeShare) (A : Buf (Elt F) (src.view.loc (c : Thread nD τ))) (hs : 0 < s.numel)
    (h1 : src.view.WordExact) (h2 : dst.view.WordExact) (h3 : (DmaTarget.here dst : DmaTarget nD τ sig (.tc : Proc τ) .vmem s .f32).Typed .hbm (.dma q)) :
    iprop(idle c src dst q π A ∗ (busy c src dst q π A -∗ K ⟨⟩))
      ⊢ wp frame (wpE (defs₀ (F := F)) Variants.none c none) Set.univ
          (Prog.lift (.enqueueDma src (.here dst) (.dma q) h1 h2 h3)) K := by
  unfold idle busy
  iintro ⟨⟨HA, ⟨%w, HD⟩, HV⟩, Hk⟩
  ihave HA := (pointsTo_split_subset (I := src.view.set) (Finset.subset_univ _)).1 $$ HA
  icases HA with ⟨HS, HR⟩
  unfold owns
  icases HD with ⟨%f, -, HD⟩
  iapply (Transfers.wp_dmaLocal countersEmb Variants.none (c : Thread nD τ) none (via := .same) () (dst.view.amount (.dma q)) rfl
    (dst.view.amount_pos (.dma q) hs) (Finset.Subset.refl _)) $$ [HS HD HV]
  · isplitl [HS]; · iexact HS
    isplitl [HD]; · iexact HD
    iexact HV
  iintro HF
  rw [wp_ret]
  imodintro
  iapply Hk
  isplitl [HF]
  · iapply (Transfers.Flight_mono countersEmb (c : Thread nD τ) ?_) $$ HF
    iintro ⟨HD, HS⟩
    isplitl [HD]
    · iexists _
      isplitr; swap; · iexact HD
      ipureintro
      exact View.read_write_univ _ _
    iexact HS
  iexact HR

/-- The wait for a transfer. -/
theorem collect_run (c : Dev nD) (E : Set ℕ) (K : PUnit → sProp 𝕄) (src : Memref sig .tc .hbm s .f32) (dst : Memref sig .tc .vmem s .f32) (q : DmaSem sig)
    (π : PosShare TreeShare) (A : Buf (Elt F) (src.view.loc (c : Thread nD τ)))
    (h1 : src.view.WordExact) (h2 : dst.view.WordExact) :
    iprop(busy c src dst q π A ∗ (∃ W, owes (c : Thread nD τ) 0 W) ∗ (iprop(landed c src dst q π A ∗ (∃ W, owes (c : Thread nD τ) 0 W)) -∗ K ⟨⟩))
      ⊢ wp frame (wpE (defs₀ (F := F)) Variants.none c none) Set.univ (Prog.lift (.waitDma2 q src dst h1 h2)) K := by
  unfold landed busy
  iintro ⟨⟨HF, HR⟩, ⟨%W, HO⟩, Hk⟩
  iapply (Transfers.wp_waitLocal countersEmb Variants.none (c : Thread nD τ) none () rfl) $$ [HF HO]
  · isplitl [HF]; · iexact HF
    iexact HO
  iintro ⟨⟨HD, HS⟩, HV, HO⟩
  rw [wp_ret]
  imodintro
  iapply Hk
  isplitr [HO]
  · isplitl [HS HR]
    · iapply (pointsTo_split_subset (I := src.view.set) (Finset.subset_univ _)).2
      isplitl [HS]; · iexact HS
      iexact HR
    isplitl [HD]; · iexact HD
    iexact HV
  iexists _; iexact HO

/-- A load of a slot of a ring, of which the core holds the slot alone. -/
theorem load_slot (c : Dev nD) (E : Set ℕ) {s₀ s' : Shape} {e : EltTy} (m : Memref sig .tc .vmem s₀ e) (r : Rect s₀) (hr : ∀ a, r.stride a = 1) (hq : r.shape.Squeezes s')
    (hl : m.view.LoadsAt r.toLoadRect) (X : s'.Idx → Elt F e) (K : (r.shape.Idx → Elt F e) → sProp 𝕄) :
    iprop(owns (c : Thread nD τ) ((m.slice r hr).squeeze s' hq) fullShare X
        ∗ (owns (c : Thread nD τ) ((m.slice r hr).squeeze s' hq) fullShare X -∗ K fun y => X ((Shape.reshapeEquiv hq.numel_eq).symm y)))
      ⊢ wp frame (wpE (defs₀ (F := F)) Variants.none c none) Set.univ (Prog.lift (.load m r.toLoadRect hl)) K := by
  unfold owns
  iintro ⟨⟨%f, %hf, HD⟩, Hk⟩
  have hS : ((m.slice r hr).squeeze s' hq).view.set = (m.access r).set := View.set_reshape _ _
  iapply (wp_load_rect (c := (c : Thread nD τ)) Variants.none none Set.univ (m := m) (r := r) (S := ((m.slice r hr).squeeze s' hq).view.set) (by rw [hS])) $$ [HD]
  · iexact HD
  iintro HD
  rw [wp_ret]
  imodintro
  have e : (m.access r).read (Elt F) f = fun y => X ((Shape.reshapeEquiv hq.numel_eq).symm y) := by
    subst hf
    funext y
    show _ = View.read (Elt F) (m.access r) f (Shape.reshapeEquiv hq.numel_eq ((Shape.reshapeEquiv hq.numel_eq).symm y))
    rw [Equiv.apply_symm_apply]
  rw [e]
  iapply Hk
  iexists f
  isplitr; · ipureintro; exact hf
  iexact HD

end Cert.Kernel3Ideal.Last
-- ==== Proof.Last.Steps.lean ====
/- The steps of a point of the feed-forward kernel with the final norm: the request of a tile, the wait for it, its product with the normalised
   rows added to the output block, and the beginning of a block of rows. -/
module

public import proofs.«01_k».proof.Proof.Last.Dma
public import Idealize.ShloMosaic.Lib.Pipeline.TableIdle

@[expose] public section

set_option maxRecDepth 16384

noncomputable section

namespace Cert.Kernel3Ideal.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (Pipeline.UD sig nD τ) ℕ

/-- The three transfers of a tile, none of them in flight. -/
def idle3 (c : Dev nD) (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) (π0 π1 π2 : PosShare TreeShare)
    (A0 : Buf (Elt F) (g.view.loc (c : Thread nD τ))) (A1 : Buf (Elt F) (u.view.loc (c : Thread nD τ))) (A2 : Buf (Elt F) (d.view.loc (c : Thread nD τ))) : sProp 𝕄 :=
  iprop(idle c g g' q0 π0 A0 ∗ idle c u u' q1 π1 A1 ∗ idle c d d' q2 π2 A2)

/-- All three in flight. -/
def busy3 (c : Dev nD) (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) (π0 π1 π2 : PosShare TreeShare)
    (A0 : Buf (Elt F) (g.view.loc (c : Thread nD τ))) (A1 : Buf (Elt F) (u.view.loc (c : Thread nD τ))) (A2 : Buf (Elt F) (d.view.loc (c : Thread nD τ))) : sProp 𝕄 :=
  iprop(busy c g g' q0 π0 A0 ∗ busy c u u' q1 π1 A1 ∗ busy c d d' q2 π2 A2)

/-- All three landed: the slots, and what else the core holds again. -/
def landed3 (c : Dev nD) (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) (π0 π1 π2 : PosShare TreeShare)
    (A0 : Buf (Elt F) (g.view.loc (c : Thread nD τ))) (A1 : Buf (Elt F) (u.view.loc (c : Thread nD τ))) (A2 : Buf (Elt F) (d.view.loc (c : Thread nD τ))) : sProp 𝕄 :=
  iprop(landed c g g' q0 π0 A0 ∗ landed c u u' q1 π1 A1 ∗ landed c d d' q2 π2 A2)

theorem request_run (c : Dev nD) (K : PUnit → sProp 𝕄) (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) (π0 π1 π2 : PosShare TreeShare)
    (A0 : Buf (Elt F) (g.view.loc (c : Thread nD τ))) (A1 : Buf (Elt F) (u.view.loc (c : Thread nD τ))) (A2 : Buf (Elt F) (d.view.loc (c : Thread nD τ))) :
    iprop(idle3 c g u d g' u' d' q0 q1 q2 π0 π1 π2 A0 A1 A2 ∗ (busy3 c g u d g' u' d' q0 q1 q2 π0 π1 π2 A0 A1 A2 -∗ K ⟨⟩))
      ⊢ wp frame (wpE (defs₀ (F := F)) Variants.none c none) Set.univ (request g u d g' u' d' q0 q1 q2) K := by
  unfold idle3 busy3 request
  iintro ⟨⟨H0, H1, H2⟩, Hk⟩
  rw [wp_bind]
  iapply (issue_run c Set.univ _ g g' q0 π0 A0 (by decide))
  isplitl [H0]; · iexact H0
  iintro H0
  rw [wp_bind]
  iapply (issue_run c Set.univ _ u u' q1 π1 A1 (by decide))
  isplitl [H1]; · iexact H1
  iintro H1
  iapply (issue_run c Set.univ _ d d' q2 π2 A2 (by decide))
  isplitl [H2]; · iexact H2
  iintro H2
  iapply Hk
  isplitl [H0]; · iexact H0
  isplitl [H1]; · iexact H1
  iexact H2

theorem arrive_run (c : Dev nD) (K : PUnit → sProp 𝕄) (g u : Memref sig .tc .hbm S2048x256 .f32) (d : Memref sig .tc .hbm S256x2048 .f32)
    (g' u' : Memref sig .tc .vmem S2048x256 .f32) (d' : Memref sig .tc .vmem S256x2048 .f32) (q0 q1 q2 : DmaSem sig) (π0 π1 π2 : PosShare TreeShare)
    (A0 : Buf (Elt F) (g.view.loc (c : Thread nD τ))) (A1 : Buf (Elt F) (u.view.loc (c : Thread nD τ))) (A2 : Buf (Elt F) (d.view.loc (c : Thread nD τ))) :
    iprop(busy3 c g u d g' u' d' q0 q1 q2 π0 π1 π2 A0 A1 A2 ∗ (∃ W, owes (c : Thread nD τ) 0 W)
        ∗ (iprop(landed3 c g u d g' u' d' q0 q1 q2 π0 π1 π2 A0 A1 A2 ∗ (∃ W, owes (c : Thread nD τ) 0 W)) -∗ K ⟨⟩))
      ⊢ wp frame (wpE (defs₀ (F := F)) Variants.none c none) Set.univ (arrive g u d g' u' d' q0 q1 q2) K := by
  unfold busy3 landed3 arrive
  iintro ⟨⟨H0, H1, H2⟩, HO, Hk⟩
  rw [wp_bind]
  iapply (collect_run c Set.univ _ g g' q0 π0 A0)
  isplitl [H0]; · iexact H0
  isplitl [HO]; · iexact HO
  iintro ⟨H0, HO⟩
  rw [wp_bind]
  iapply (collect_run c Set.univ _ u u' q1 π1 A1)
  isplitl [H1]; · iexact H1
  isplitl [HO]; · iexact HO
  iintro ⟨H1, HO⟩
  iapply (collect_run c Set.univ _ d d' q2 π2 A2)
  isplitl [H2]; · iexact H2
  isplitl [HO]; · iexact HO
  iintro ⟨H2, HO⟩
  iapply Hk
  isplitr [HO]
  · isplitl [H0]; · iexact H0
    isplitl [H1]; · iexact H1
    iexact H2
  iexact HO

/-- A load of a whole buffer. -/
theorem load_full (c : Dev nD) {s : Shape} {e : EltTy} (m : Memref sig .tc .vmem s e) (off : Fin s.rank → ℕ) (hoff : ∀ a, off a + s.size a ≤ s.size a)
    (hl : m.view.LoadsAt (Rect.unit (s := s) off s.size hoff).toLoadRect) (X : s.Idx → Elt F e) (K : (s.Idx → Elt F e) → sProp 𝕄) :
    iprop(owns (c : Thread nD τ) m fullShare X ∗ (owns (c : Thread nD τ) m fullShare X -∗ K X))
      ⊢ wp frame (wpE (defs₀ (F := F)) Variants.none c none) Set.univ (Prog.lift (.load m (Rect.unit (s := s) off s.size hoff).toLoadRect hl)) K := by
  simp only [owns_eq_rep]
  iintro ⟨H0, Hk⟩
  sl_exec
  sl_step
  rw [View.readAt_rep_full m.view]
  iapply Hk
  iexact H0

/-- A store of a whole buffer. -/
theorem store_full (c : Dev nD) {s : Shape} {e : EltTy} (m : Memref sig .tc .vmem s e) (off : Fin s.rank → ℕ) (hoff : ∀ a, off a + s.size a ≤ s.size a)
    (v w : s.Idx → Elt F e) (hs) (hf) (K : PUnit → sProp 𝕄) :
    iprop(owns (c : Thread nD τ) m fullShare v ∗ (owns (c : Thread nD τ) m fullShare w -∗ K ⟨⟩))
      ⊢ wp frame (wpE (defs₀ (F := F)) Variants.none c none) Set.univ (Prog.lift (.store m (Rect.unit (s := s) off s.size hoff) w Finset.univ hs hf)) K := by
  simp only [owns_eq_rep]
  iintro ⟨H0, Hk⟩
  sl_exec
  sl_step
  iapply Hk
  iapply pointsTo_rep_of_read (c : Thread nD τ) m _ fullShare _ ?_ $$ H0
  rw [View.read_writes_full m.view]

/-- A tile of columns, and of rows, as a ring's slot gives it. -/
def colV (g : S2048x256.Idx → Elt F .f32) : Vec F S1x2048x256 .f32 := fun y => g ((Shape.reshapeEquiv squeezes_S1x2048x256_S2048x256.numel_eq).symm y)
def rowV (d : S256x2048.Idx → Elt F .f32) : Vec F S1x256x2048 .f32 := fun y => d ((Shape.reshapeEquiv squeezes_S1x256x2048_S256x2048.numel_eq).symm y)

/-- A tile's product, added to the output block. -/
theorem half_run (c : Dev nD) (K : PUnit → sProp 𝕄) (orf : Memref sig .tc .vmem S1024x2048 .f32) (xr : Memref sig .tc .vmem S1024x2048 .bf16)
    (gr ur : Memref sig .tc .vmem S2x2048x256 .f32) (dr : Memref sig .tc .vmem S2x256x2048 .f32) (s : ℕ)
    (hc : ∀ a, (![s, 0, 0] : Fin 3 → ℕ) a + S1x2048x256.size a ≤ S2x2048x256.size a)
    (hr : ∀ a, (![s, 0, 0] : Fin 3 → ℕ) a + S1x256x2048.size a ≤ S2x256x2048.size a)
    (o : Vec F S1024x2048 .f32) (x : Vec F S1024x2048 .bf16) (g u : S2048x256.Idx → Elt F .f32) (d : S256x2048.Idx → Elt F .f32) :
    iprop(owns (c : Thread nD τ) orf fullShare o ∗ owns (c : Thread nD τ) xr fullShare x
        ∗ owns (c : Thread nD τ) (slotC gr s hc) fullShare g ∗ owns (c : Thread nD τ) (slotC ur s hc) fullShare u ∗ owns (c : Thread nD τ) (slotR dr s hr) fullShare d
        ∗ (iprop(owns (c : Thread nD τ) orf fullShare (k0_pay11 o x (colV g) (colV u) (rowV d)) ∗ owns (c : Thread nD τ) xr fullShare x
            ∗ owns (c : Thread nD τ) (slotC gr s hc) fullShare g ∗ owns (c : Thread nD τ) (slotC ur s hc) fullShare u ∗ owns (c : Thread nD τ) (slotR dr s hr) fullShare d) -∗ K ⟨⟩))
      ⊢ wp frame (wpE (defs₀ (F := F)) Variants.none c none) Set.univ (half orf xr gr ur dr s hc hr) K := by
  unfold half
  iintro ⟨HO, HX, HG, HU, HD, Hk⟩
  rw [wp_bind]
  iapply (load_full c orf _ _ _ o)
  isplitl [HO]; · iexact HO
  iintro HO
  rw [wp_bind]
  iapply (load_full c xr _ _ _ x)
  isplitl [HX]; · iexact HX
  iintro HX
  rw [wp_bind]
  iapply (load_slot c Set.univ gr _ _ squeezes_S1x2048x256_S2048x256 _ g)
  isplitl [HG]; · iexact HG
  iintro HG
  rw [wp_bind]
  iapply (load_slot c Set.univ ur _ _ squeezes_S1x2048x256_S2048x256 _ u)
  isplitl [HU]; · iexact HU
  iintro HU
  rw [wp_bind]
  iapply (load_slot c Set.univ dr _ _ squeezes_S1x256x2048_S256x2048 _ d)
  isplitl [HD]; · iexact HD
  iintro HD
  rw [wp_bind]
  iapply (load_full c orf _ _ _ o)
  isplitl [HO]; · iexact HO
  iintro HO
  iapply (store_full c orf _ _ o)
  isplitl [HO]; · iexact HO
  iintro HO
  iapply Hk
  isplitl [HO]; · iexact HO
  isplitl [HX]; · iexact HX
  isplitl [HG]; · iexact HG
  isplitl [HU]; · iexact HU
  iexact HD

/-- The end of a block of rows: the output block normalised. -/
theorem finish_run (c : Dev nD) (K : PUnit → sProp 𝕄) (orf : Memref sig .tc .vmem S1024x2048 .f32) (fr : Memref sig .tc .vmem S1x2048 .f32)
    (o : Vec F S1024x2048 .f32) (w : Vec F S1x2048 .f32) :
    iprop(owns (c : Thread nD τ) orf fullShare o ∗ owns (c : Thread nD τ) fr fullShare w
        ∗ (iprop(owns (c : Thread nD τ) orf fullShare (k0_pay2 o w) ∗ owns (c : Thread nD τ) fr fullShare w) -∗ K ⟨⟩))
      ⊢ wp frame (wpE (defs₀ (F := F)) Variants.none c none) Set.univ (finish orf fr) K := by
  unfold finish
  iintro ⟨HO, HF, Hk⟩
  rw [wp_bind]
  iapply (load_full c orf _ _ _ o)
  isplitl [HO]; · iexact HO
  iintro HO
  rw [wp_bind]
  iapply (load_full c fr _ _ _ w)
  isplitl [HF]; · iexact HF
  iintro HF
  rw [wp_bind]
  iapply (load_full c orf _ _ _ o)
  isplitl [HO]; · iexact HO
  iintro HO
  iapply (store_full c orf _ _ o)
  isplitl [HO]; · iexact HO
  iintro HO
  iapply Hk
  isplitl [HO]; · iexact HO
  iexact HF

/-- The beginning of a block of rows: the rows normalised, and the first tile. -/
theorem start_run (c : Dev nD) (K : PUnit → sProp 𝕄) (hrf : Memref sig .tc .vmem S1024x2048 .f32) (nr : Memref sig .tc .vmem S1x1x2048 .f32)
    (orf : Memref sig .tc .vmem S1024x2048 .f32) (xr : Memref sig .tc .vmem S1024x2048 .bf16) (hx : xr.IsWhole)
    (gr ur : Memref sig .tc .vmem S2x2048x256 .f32) (dr : Memref sig .tc .vmem S2x256x2048 .f32)
    (h : Vec F S1024x2048 .f32) (n : Vec F S1x1x2048 .f32) (o : Vec F S1024x2048 .f32) (x : Vec F S1024x2048 .bf16)
    (g u : S2048x256.Idx → Elt F .f32) (d : S256x2048.Idx → Elt F .f32) :
    iprop(owns (c : Thread nD τ) hrf fullShare h ∗ owns (c : Thread nD τ) nr fullShare n ∗ owns (c : Thread nD τ) orf fullShare o ∗ owns (c : Thread nD τ) xr fullShare x
        ∗ owns (c : Thread nD τ) (slotC gr 0 inb_S2x2048x256_S1x2048x256_0_0_0) fullShare g ∗ owns (c : Thread nD τ) (slotC ur 0 inb_S2x2048x256_S1x2048x256_0_0_0) fullShare u ∗ owns (c : Thread nD τ) (slotR dr 0 inb_S2x256x2048_S1x256x2048_0_0_0) fullShare d
        ∗ (iprop(owns (c : Thread nD τ) hrf fullShare h ∗ owns (c : Thread nD τ) nr fullShare n
            ∗ owns (c : Thread nD τ) orf fullShare (k0_pay10 h (k0_pay7 h n) (colV g) (colV u) (rowV d)) ∗ owns (c : Thread nD τ) xr fullShare (k0_pay9 (k0_pay7 h n))
            ∗ owns (c : Thread nD τ) (slotC gr 0 inb_S2x2048x256_S1x2048x256_0_0_0) fullShare g ∗ owns (c : Thread nD τ) (slotC ur 0 inb_S2x2048x256_S1x2048x256_0_0_0) fullShare u ∗ owns (c : Thread nD τ) (slotR dr 0 inb_S2x256x2048_S1x256x2048_0_0_0) fullShare d) -∗ K ⟨⟩))
      ⊢ wp frame (wpE (defs₀ (F := F)) Variants.none c none) Set.univ (start hrf nr orf xr hx gr ur dr) K := by
  unfold start
  iintro ⟨HH, HN, HO, HX, HG, HU, HD, Hk⟩
  rw [wp_bind]
  iapply (load_full c hrf _ _ _ h)
  isplitl [HH]; · iexact HH
  iintro HH
  rw [wp_bind]
  iapply (load_full c nr _ _ _ n)
  isplitl [HN]; · iexact HN
  iintro HN
  rw [wp_bind]
  iapply (load_full c xr _ _ _ x)
  isplitl [HX]; · iexact HX
  iintro HX
  rw [wp_bind]
  iapply (store_full c xr _ _ x)
  isplitl [HX]; · iexact HX
  iintro HX
  rw [wp_bind]
  iapply (load_slot c Set.univ gr _ _ squeezes_S1x2048x256_S2048x256 _ g)
  isplitl [HG]; · iexact HG
  iintro HG
  rw [wp_bind]
  iapply (load_slot c Set.univ ur _ _ squeezes_S1x2048x256_S2048x256 _ u)
  isplitl [HU]; · iexact HU
  iintro HU
  rw [wp_bind]
  iapply (load_slot c Set.univ dr _ _ squeezes_S1x256x2048_S256x2048 _ d)
  isplitl [HD]; · iexact HD
  iintro HD
  rw [wp_bind]
  iapply (load_full c orf _ _ _ o)
  isplitl [HO]; · iexact HO
  iintro HO
  iapply (store_full c orf _ _ o)
  isplitl [HO]; · iexact HO
  iintro HO
  iapply Hk
  isplitl [HH]; · iexact HH
  isplitl [HN]; · iexact HN
  isplitl [HO]; · iexact HO
  isplitl [HX]; · iexact HX
  isplitl [HG]; · iexact HG
  isplitl [HU]; · iexact HU
  iexact HD

end Cert.Kernel3Ideal.Last
-- ==== Proof.Last.Tiles.lean ====
/- The tiles of the weights, and a slot of the rings: free, filling with a tile, or filled with it. -/
module

public import proofs.«01_k».proof.Proof.Last.Steps

@[expose] public section

set_option maxRecDepth 16384

noncomputable section

namespace Cert.Kernel3Ideal.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

/-- Where tile `f` of the gate, of the up projection and of the down projection begins. -/
def gT (f : ℕ) : Fin 3 → ℕ := ![3, 0, 256 * (f % 22)]
def uT (f : ℕ) : Fin 3 → ℕ := ![3, 0, 5632 + 256 * (f % 22)]
def dT (f : ℕ) : Fin 3 → ℕ := ![3, 256 * (f % 22), 0]

theorem gT_inb (f : ℕ) (a : Fin 3) : gT f a + S1x2048x256.size a ≤ S4x2048x11264.size a := by
  have := Nat.mod_lt f (show 0 < 22 by decide)
  fin_cases a
  · show 3 + 1 ≤ 4; omega
  · show 0 + 2048 ≤ 2048; omega
  · show 256 * (f % 22) + 256 ≤ 11264; omega

theorem uT_inb (f : ℕ) (a : Fin 3) : uT f a + S1x2048x256.size a ≤ S4x2048x11264.size a := by
  have := Nat.mod_lt f (show 0 < 22 by decide)
  fin_cases a
  · show 3 + 1 ≤ 4; omega
  · show 0 + 2048 ≤ 2048; omega
  · show 5632 + 256 * (f % 22) + 256 ≤ 11264; omega

theorem dT_inb (f : ℕ) (a : Fin 3) : dT f a + S1x256x2048.size a ≤ S4x5632x2048.size a := by
  have := Nat.mod_lt f (show 0 < 22 by decide)
  fin_cases a
  · show 3 + 1 ≤ 4; omega
  · show 256 * (f % 22) + 256 ≤ 5632; omega
  · show 0 + 2048 ≤ 2048; omega

theorem off1_one (t : Fin k0_t1_loop.trips) : k0_off1 t 1#32 = gT (2 * t.val + 2) := by revert t; decide
theorem off1_two (t : Fin k0_t1_loop.trips) : k0_off1 t 2#32 = gT (2 * t.val + 3) := by revert t; decide
theorem off2_one (t : Fin k0_t1_loop.trips) : k0_off2 t 1#32 = uT (2 * t.val + 2) := by revert t; decide
theorem off2_two (t : Fin k0_t1_loop.trips) : k0_off2 t 2#32 = uT (2 * t.val + 3) := by revert t; decide
theorem off3_one (t : Fin k0_t1_loop.trips) : k0_off3 t 1#32 = dT (2 * t.val + 2) := by revert t; decide
theorem off3_two (t : Fin k0_t1_loop.trips) : k0_off3 t 2#32 = dT (2 * t.val + 3) := by revert t; decide
theorem off4_eq (t : Fin k0_t1_loop.trips) : k0_off4 t = gT (2 * t.val + 1) := by revert t; decide
theorem off5_eq (t : Fin k0_t1_loop.trips) : k0_off5 t = uT (2 * t.val + 1) := by revert t; decide
theorem off6_eq (t : Fin k0_t1_loop.trips) : k0_off6 t = dT (2 * t.val + 1) := by revert t; decide

theorem isFirst_iff (i : grid0.Coords) : isFirst i = 1#1 ↔ (i 0).val = 0 := by
  unfold isFirst
  generalize i 0 = j
  revert j; decide

theorem hasNext_iff (i : grid0.Coords) : hasNext i = 1#1 ↔ (i 0).val + 1 < 8 := by
  unfold hasNext
  generalize i 0 = j
  revert j; decide

variable {F : FTy → Type} [FloatOps F]

local notation "𝕄" => MT nD τ sig Unit (Elt F) ℕ (Pipeline.UD sig nD τ) ℕ

section

variable (c : Dev nD) (arg3 : Memref sig .tc .hbm S4x2048x11264 .f32) (arg4 : Memref sig .tc .hbm S4x5632x2048 .f32)
  (arg6 : Memref sig .tc .vmem S1024x2048 .f32) (arg7 : Memref sig .tc .vmem S1024x2048 .bf16)
  (arg8 arg9 : Memref sig .tc .vmem S2x2048x256 .f32) (arg10 : Memref sig .tc .vmem S2x256x2048 .f32) (arg11 : DmaSems sig S3x2)
  (π : Fin 6 → PosShare TreeShare) (A : Buf (Elt F) (arg3.view.loc (c : Thread nD τ))) (B : Buf (Elt F) (arg4.view.loc (c : Thread nD τ)))

/-- Tile `f` of each of the weights. -/
def gV (f : ℕ) : S2048x256.Idx → Elt F .f32 := (colsAt arg3 (gT f) (gT_inb f)).view.read (Elt F) A
def uV (f : ℕ) : S2048x256.Idx → Elt F .f32 := (colsAt arg3 (uT f) (uT_inb f)).view.read (Elt F) A
def dV (f : ℕ) : S256x2048.Idx → Elt F .f32 := (rowsAt arg4 (dT f) (dT_inb f)).view.read (Elt F) B

/-- Slot 0: nothing in flight; tile `f` in flight; tile `f` landed. -/
def idle0 : sProp 𝕄 :=
  idle3 c (colsAt arg3 (gT 0) (gT_inb 0)) (colsAt arg3 (uT 0) (uT_inb 0)) (rowsAt arg4 (dT 0) (dT_inb 0))
    (slotC arg8 0 inb_S2x2048x256_S1x2048x256_0_0_0) (slotC arg9 0 inb_S2x2048x256_S1x2048x256_0_0_0) (slotR arg10 0 inb_S2x256x2048_S1x256x2048_0_0_0)
    (cellAt arg11 0 0 inb_S3x2_S1x1_0_0) (cellAt arg11 1 0 inb_S3x2_S1x1_1_0) (cellAt arg11 2 0 inb_S3x2_S1x1_2_0) (π 0) (π 1) (π 2) A A B

def busy0 (f : ℕ) : sProp 𝕄 :=
  busy3 c (colsAt arg3 (gT f) (gT_inb f)) (colsAt arg3 (uT f) (uT_inb f)) (rowsAt arg4 (dT f) (dT_inb f))
    (slotC arg8 0 inb_S2x2048x256_S1x2048x256_0_0_0) (slotC arg9 0 inb_S2x2048x256_S1x2048x256_0_0_0) (slotR arg10 0 inb_S2x256x2048_S1x256x2048_0_0_0)
    (cellAt arg11 0 0 inb_S3x2_S1x1_0_0) (cellAt arg11 1 0 inb_S3x2_S1x1_1_0) (cellAt arg11 2 0 inb_S3x2_S1x1_2_0) (π 0) (π 1) (π 2) A A B

def landed0 (f : ℕ) : sProp 𝕄 :=
  landed3 c (colsAt arg3 (gT f) (gT_inb f)) (colsAt arg3 (uT f) (uT_inb f)) (rowsAt arg4 (dT f) (dT_inb f))
    (slotC arg8 0 inb_S2x2048x256_S1x2048x256_0_0_0) (slotC arg9 0 inb_S2x2048x256_S1x2048x256_0_0_0) (slotR arg10 0 inb_S2x256x2048_S1x256x2048_0_0_0)
    (cellAt arg11 0 0 inb_S3x2_S1x1_0_0) (cellAt arg11 1 0 inb_S3x2_S1x1_1_0) (cellAt arg11 2 0 inb_S3x2_S1x1_2_0) (π 0) (π 1) (π 2) A A B

/-- Slot 1, the same. -/
def idle1 : sProp 𝕄 :=
  idle3 c (colsAt arg3 (gT 0) (gT_inb 0)) (colsAt arg3 (uT 0) (uT_inb 0)) (rowsAt arg4 (dT 0) (dT_inb 0))
    (slotC arg8 1 inb_S2x2048x256_S1x2048x256_1_0_0) (slotC arg9 1 inb_S2x2048x256_S1x2048x256_1_0_0) (slotR arg10 1 inb_S2x256x2048_S1x256x2048_1_0_0)
    (cellAt arg11 0 1 inb_S3x2_S1x1_0_1) (cellAt arg11 1 1 inb_S3x2_S1x1_1_1) (cellAt arg11 2 1 inb_S3x2_S1x1_2_1) (π 3) (π 4) (π 5) A A B

def busy1 (f : ℕ) : sProp 𝕄 :=
  busy3 c (colsAt arg3 (gT f) (gT_inb f)) (colsAt arg3 (uT f) (uT_inb f)) (rowsAt arg4 (dT f) (dT_inb f))
    (slotC arg8 1 inb_S2x2048x256_S1x2048x256_1_0_0) (slotC arg9 1 inb_S2x2048x256_S1x2048x256_1_0_0) (slotR arg10 1 inb_S2x256x2048_S1x256x2048_1_0_0)
    (cellAt arg11 0 1 inb_S3x2_S1x1_0_1) (cellAt arg11 1 1 inb_S3x2_S1x1_1_1) (cellAt arg11 2 1 inb_S3x2_S1x1_2_1) (π 3) (π 4) (π 5) A A B

def landed1 (f : ℕ) : sProp 𝕄 :=
  landed3 c (colsAt arg3 (gT f) (gT_inb f)) (colsAt arg3 (uT f) (uT_inb f)) (rowsAt arg4 (dT f) (dT_inb f))
    (slotC arg8 1 inb_S2x2048x256_S1x2048x256_1_0_0) (slotC arg9 1 inb_S2x2048x256_S1x2048x256_1_0_0) (slotR arg10 1 inb_S2x256x2048_S1x256x2048_1_0_0)
    (cellAt arg11 0 1 inb_S3x2_S1x1_0_1) (cellAt arg11 1 1 inb_S3x2_S1x1_1_1) (cellAt arg11 2 1 inb_S3x2_S1x1_2_1) (π 3) (π 4) (π 5) A A B

theorem landed0_idle (f : ℕ) : landed0 c arg3 arg4 arg8 arg9 arg10 arg11 π A B f ⊢ idle0 c arg3 arg4 arg8 arg9 arg10 arg11 π A B := by
  unfold landed0 idle0 landed3 idle3
  iintro ⟨H0, H1, H2⟩
  isplitl [H0]
  · iapply (landed_idle c (colsAt arg3 (gT f) (gT_inb f)) _ _ (π 0) A) $$ H0
  isplitl [H1]
  · iapply (landed_idle c (colsAt arg3 (uT f) (uT_inb f)) _ _ (π 1) A) $$ H1
  · iapply (landed_idle c (rowsAt arg4 (dT f) (dT_inb f)) _ _ (π 2) B) $$ H2

theorem landed1_idle (f : ℕ) : landed1 c arg3 arg4 arg8 arg9 arg10 arg11 π A B f ⊢ idle1 c arg3 arg4 arg8 arg9 arg10 arg11 π A B := by
  unfold landed1 idle1 landed3 idle3
  iintro ⟨H0, H1, H2⟩
  isplitl [H0]
  · iapply (landed_idle c (colsAt arg3 (gT f) (gT_inb f)) _ _ (π 3) A) $$ H0
  isplitl [H1]
  · iapply (landed_idle c (colsAt arg3 (uT f) (uT_inb f)) _ _ (π 4) A) $$ H1
  · iapply (landed_idle c (rowsAt arg4 (dT f) (dT_inb f)) _ _ (π 5) B) $$ H2

theorem req0_run (K : PUnit → sProp 𝕄) (og ou od : Fin 3 → ℕ) (hg hu hd) (f : ℕ) (e0 : og = gT f) (e1 : ou = uT f) (e2 : od = dT f) :
    iprop(idle0 c arg3 arg4 arg8 arg9 arg10 arg11 π A B ∗ (busy0 c arg3 arg4 arg8 arg9 arg10 arg11 π A B f -∗ K ⟨⟩))
      ⊢ wp frame (wpE (defs₀ (F := F)) Variants.none c none) Set.univ (req0 arg3 arg4 arg8 arg9 arg10 arg11 og ou od hg hu hd) K := by
  subst e0 e1 e2
  exact request_run c K (colsAt arg3 (gT f) (gT_inb f)) (colsAt arg3 (uT f) (uT_inb f)) (rowsAt arg4 (dT f) (dT_inb f)) _ _ _ _ _ _ (π 0) (π 1) (π 2) A A B

theorem req1_run (K : PUnit → sProp 𝕄) (og ou od : Fin 3 → ℕ) (hg hu hd) (f : ℕ) (e0 : og = gT f) (e1 : ou = uT f) (e2 : od = dT f) :
    iprop(idle1 c arg3 arg4 arg8 arg9 arg10 arg11 π A B ∗ (busy1 c arg3 arg4 arg8 arg9 arg10 arg11 π A B f -∗ K ⟨⟩))
      ⊢ wp frame (wpE (defs₀ (F := F)) Variants.none c none) Set.univ (req1 arg3 arg4 arg8 arg9 arg10 arg11 og ou od hg hu hd) K := by
  subst e0 e1 e2
  exact request_run c K (colsAt arg3 (gT f) (gT_inb f)) (colsAt arg3 (uT f) (uT_inb f)) (rowsAt arg4 (dT f) (dT_inb f)) _ _ _ _ _ _ (π 3) (π 4) (π 5) A A B

theorem arr0_run (K : PUnit → sProp 𝕄) (og ou od : Fin 3 → ℕ) (hg hu hd) (f : ℕ) (e0 : og = gT f) (e1 : ou = uT f) (e2 : od = dT f) :
    iprop(busy0 c arg3 arg4 arg8 arg9 arg10 arg11 π A B f ∗ (∃ W, owes (c : Thread nD τ) 0 W)
        ∗ (iprop(landed0 c arg3 arg4 arg8 arg9 arg10 arg11 π A B f ∗ (∃ W, owes (c : Thread nD τ) 0 W)) -∗ K ⟨⟩))
      ⊢ wp frame (wpE (defs₀ (F := F)) Variants.none c none) Set.univ (arr0 arg3 arg4 arg8 arg9 arg10 arg11 og ou od hg hu hd) K := by
  subst e0 e1 e2
  exact arrive_run c K (colsAt arg3 (gT f) (gT_inb f)) (colsAt arg3 (uT f) (uT_inb f)) (rowsAt arg4 (dT f) (dT_inb f)) _ _ _ _ _ _ (π 0) (π 1) (π 2) A A B

theorem arr1_run (K : PUnit → sProp 𝕄) (og ou od : Fin 3 → ℕ) (hg hu hd) (f : ℕ) (e0 : og = gT f) (e1 : ou = uT f) (e2 : od = dT f) :
    iprop(busy1 c arg3 arg4 arg8 arg9 arg10 arg11 π A B f ∗ (∃ W, owes (c : Thread nD τ) 0 W)
        ∗ (iprop(landed1 c arg3 arg4 arg8 arg9 arg10 arg11 π A B f ∗ (∃ W, owes (c : Thread nD τ) 0 W)) -∗ K ⟨⟩))
      ⊢ wp frame (wpE (defs₀ (F := F)) Variants.none c none) Set.univ (arr1 arg3 arg4 arg8 arg9 arg10 arg11 og ou od hg hu hd) K := by
  subst e0 e1 e2
  exact arrive_run c K (colsAt arg3 (gT f) (gT_inb f)) (colsAt arg3 (uT f) (uT_inb f)) (rowsAt arg4 (dT f) (dT_inb f)) _ _ _ _ _ _ (π 3) (π 4) (π 5) A A B

theorem half0_run (K : PUnit → sProp 𝕄) (o : Vec F S1024x2048 .f32) (x : Vec F S1024x2048 .bf16) (f : ℕ) :
    iprop(owns (c : Thread nD τ) arg6 fullShare o ∗ owns (c : Thread nD τ) arg7 fullShare x ∗ landed0 c arg3 arg4 arg8 arg9 arg10 arg11 π A B f
        ∗ (iprop(owns (c : Thread nD τ) arg6 fullShare (k0_pay11 o x (colV (gV c arg3 A f)) (colV (uV c arg3 A f)) (rowV (dV c arg4 B f)))
            ∗ owns (c : Thread nD τ) arg7 fullShare x ∗ idle0 c arg3 arg4 arg8 arg9 arg10 arg11 π A B) -∗ K ⟨⟩))
      ⊢ wp frame (wpE (defs₀ (F := F)) Variants.none c none) Set.univ (half0 arg6 arg7 arg8 arg9 arg10) K := by
  iintro ⟨HO, HX, HL, Hk⟩
  unfold landed0 landed3 landed half0
  icases HL with ⟨⟨HA0, HD0, HV0⟩, ⟨HA1, HD1, HV1⟩, ⟨HA2, HD2, HV2⟩⟩
  iapply (half_run c K arg6 arg7 arg8 arg9 arg10 0 _ _ o x (gV c arg3 A f) (uV c arg3 A f) (dV c arg4 B f))
  isplitl [HO]; · iexact HO
  isplitl [HX]; · iexact HX
  isplitl [HD0]; · iexact HD0
  isplitl [HD1]; · iexact HD1
  isplitl [HD2]; · iexact HD2
  iintro ⟨HO, HX, HD0, HD1, HD2⟩
  iapply Hk
  isplitl [HO]; · iexact HO
  isplitl [HX]; · iexact HX
  iapply (landed0_idle c arg3 arg4 arg8 arg9 arg10 arg11 π A B f)
  unfold landed0 landed3 landed
  isplitl [HA0 HD0 HV0]
  · isplitl [HA0]; · iexact HA0
    isplitl [HD0]; · iexact HD0
    iexact HV0
  isplitl [HA1 HD1 HV1]
  · isplitl [HA1]; · iexact HA1
    isplitl [HD1]; · iexact HD1
    iexact HV1
  · isplitl [HA2]; · iexact HA2
    isplitl [HD2]; · iexact HD2
    iexact HV2

theorem half1_run (K : PUnit → sProp 𝕄) (o : Vec F S1024x2048 .f32) (x : Vec F S1024x2048 .bf16) (f : ℕ) :
    iprop(owns (c : Thread nD τ) arg6 fullShare o ∗ owns (c : Thread nD τ) arg7 fullShare x ∗ landed1 c arg3 arg4 arg8 arg9 arg10 arg11 π A B f
        ∗ (iprop(owns (c : Thread nD τ) arg6 fullShare (k0_pay11 o x (colV (gV c arg3 A f)) (colV (uV c arg3 A f)) (rowV (dV c arg4 B f)))
            ∗ owns (c : Thread nD τ) arg7 fullShare x ∗ idle1 c arg3 arg4 arg8 arg9 arg10 arg11 π A B) -∗ K ⟨⟩))
      ⊢ wp frame (wpE (defs₀ (F := F)) Variants.none c none) Set.univ (half1 arg6 arg7 arg8 arg9 arg10) K := by
  iintro ⟨HO, HX, HL, Hk⟩
  unfold landed1 landed3 landed half1
  icases HL with ⟨⟨HA0, HD0, HV0⟩, ⟨HA1, HD1, HV1⟩, ⟨HA2, HD2, HV2⟩⟩
  iapply (half_run c K arg6 arg7 arg8 arg9 arg10 1 _ _ o x (gV c arg3 A f) (uV c arg3 A f) (dV c arg4 B f))
  isplitl [HO]; · iexact HO
  isplitl [HX]; · iexact HX
  isplitl [HD0]; · iexact HD0
  isplitl [HD1]; · iexact HD1
  isplitl [HD2]; · iexact HD2
  iintro ⟨HO, HX, HD0, HD1, HD2⟩
  iapply Hk
  isplitl [HO]; · iexact HO
  isplitl [HX]; · iexact HX
  iapply (landed1_idle c arg3 arg4 arg8 arg9 arg10 arg11 π A B f)
  unfold landed1 landed3 landed
  isplitl [HA0 HD0 HV0]
  · isplitl [HA0]; · iexact HA0
    isplitl [HD0]; · iexact HD0
    iexact HV0
  isplitl [HA1 HD1 HV1]
  · isplitl [HA1]; · iexact HA1
    isplitl [HD1]; · iexact HD1
    iexact HV1
  · isplitl [HA2]; · iexact HA2
    isplitl [HD2]; · iexact HD2
    iexact HV2

end

end Cert.Kernel3Ideal.Last
-- ==== Proof.Last.Run.lean ====
/- A point of the feed-forward kernel with the final norm's grid: what it leaves in the output block is the rows with the 22 tiles' products
   added one after another. -/
module

public import proofs.«01_k».proof.Proof.Last.Tiles

@[expose] public section

set_option maxRecDepth 16384

noncomputable section

namespace Cert.Kernel3Ideal.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (Pipeline.UD sig nD τ) ℕ

section

variable (c : Dev nD) (i : grid0.Coords) (arg1 : Memref sig .tc .vmem S1024x2048 .f32) (harg1 : arg1.IsWhole) (arg2 : Memref sig .tc .vmem S1x1x2048 .f32) (harg2 : arg2.IsWhole)
  (arg3 : Memref sig .tc .hbm S4x2048x11264 .f32) (harg3 : arg3.IsWhole) (arg4 : Memref sig .tc .hbm S4x5632x2048 .f32) (harg4 : arg4.IsWhole)
  (arg5 : Memref sig .tc .vmem S1x2048 .f32) (harg5 : arg5.IsWhole) (arg6 : Memref sig .tc .vmem S1024x2048 .f32) (harg6 : arg6.IsWhole) (arg7 : Memref sig .tc .vmem S1024x2048 .bf16) (harg7 : arg7.IsWhole)
  (arg8 : Memref sig .tc .vmem S2x2048x256 .f32) (harg8 : arg8.IsWhole) (arg9 : Memref sig .tc .vmem S2x2048x256 .f32) (harg9 : arg9.IsWhole)
  (arg10 : Memref sig .tc .vmem S2x256x2048 .f32) (harg10 : arg10.IsWhole) (arg11 : DmaSems sig S3x2)
  (π : Fin 6 → PosShare TreeShare) (A : Buf (Elt F) (arg3.view.loc (c : Thread nD τ))) (B : Buf (Elt F) (arg4.view.loc (c : Thread nD τ)))
  (h : Vec F S1024x2048 .f32) (n : Vec F S1x1x2048 .f32)

/-- The output block after tile `f`. -/
def acc : ℕ → Vec F S1024x2048 .f32
  | 0 => k0_pay10 h (k0_pay7 h n) (colV (gV c arg3 A 0)) (colV (uV c arg3 A 0)) (rowV (dV c arg4 B 0))
  | f + 1 => k0_pay11 (acc f) (k0_pay9 (k0_pay7 h n)) (colV (gV c arg3 A (f + 1))) (colV (uV c arg3 A (f + 1))) (rowV (dV c arg4 B (f + 1)))

/-- Slot 0 between two points: free before the first and after the last, filling with the first tile otherwise. -/
def slot0 (b : Prop) [Decidable b] : sProp 𝕄 :=
  if b then busy0 c arg3 arg4 arg8 arg9 arg10 arg11 π A B 0 else idle0 c arg3 arg4 arg8 arg9 arg10 arg11 π A B

theorem slot0_pos (p : Prop) [Decidable p] (hp : p) : slot0 c arg3 arg4 arg8 arg9 arg10 arg11 π A B p ⊢ busy0 c arg3 arg4 arg8 arg9 arg10 arg11 π A B 0 := by
  unfold slot0
  rw [if_pos hp]

theorem idle_slot0 (p : Prop) [Decidable p] (hp : ¬ p) : idle0 c arg3 arg4 arg8 arg9 arg10 arg11 π A B ⊢ slot0 c arg3 arg4 arg8 arg9 arg10 arg11 π A B p := by
  unfold slot0
  rw [if_neg hp]

theorem slot0_neg (p : Prop) [Decidable p] (hp : ¬ p) : slot0 c arg3 arg4 arg8 arg9 arg10 arg11 π A B p ⊢ idle0 c arg3 arg4 arg8 arg9 arg10 arg11 π A B := by
  unfold slot0
  rw [if_neg hp]

theorem reqIf_run (K : PUnit → sProp 𝕄) (b : BitVec 1) (p q : Prop) [Decidable p] [Decidable q] (hp : p → ¬ b = 1#1) (hq : q ↔ (p ∨ b = 1#1)) :
    iprop(slot0 c arg3 arg4 arg8 arg9 arg10 arg11 π A B p ∗ (slot0 c arg3 arg4 arg8 arg9 arg10 arg11 π A B q -∗ K ⟨⟩))
      ⊢ wp frame (wpE (defs₀ (F := F)) Variants.none c none) Set.univ (reqIf arg3 arg4 arg8 arg9 arg10 arg11 b) K := by
  by_cases hb : b = 1#1
  · rw [reqIf_pos _ _ _ _ _ _ hb]
    have h1 : ¬ p := fun x => hp x hb
    have h2 : q := hq.2 (Or.inr hb)
    unfold slot0
    rw [if_neg h1, if_pos h2]
    exact req0_run c arg3 arg4 arg8 arg9 arg10 arg11 π A B K _ _ _ _ _ _ 0 rfl rfl rfl
  · rw [reqIf_neg _ _ _ _ _ _ hb]
    have e : (p ↔ q) := ⟨fun x => hq.2 (Or.inl x), fun x => (hq.1 x).resolve_right hb⟩
    have e' : slot0 c arg3 arg4 arg8 arg9 arg10 arg11 π A B p = slot0 c arg3 arg4 arg8 arg9 arg10 arg11 π A B q := by
      unfold slot0
      by_cases x : p
      · rw [if_pos x, if_pos (e.1 x)]
      · rw [if_neg x, if_neg (fun y => x (e.2 y))]
    rw [e']
    iintro ⟨H, Hk⟩
    rw [wp_pure]
    imodintro
    iapply Hk
    iexact H

/-- The state that the loop keeps. -/
def mid (t : ℕ) : sProp 𝕄 :=
  iprop(owns (c : Thread nD τ) arg6 fullShare (acc c arg3 arg4 A B h n (2 * t)) ∗ owns (c : Thread nD τ) arg7 fullShare (k0_pay9 (k0_pay7 h n))
    ∗ idle0 c arg3 arg4 arg8 arg9 arg10 arg11 π A B ∗ busy1 c arg3 arg4 arg8 arg9 arg10 arg11 π A B (2 * t + 1) ∗ (∃ W, owes (c : Thread nD τ) 0 W))

theorem trip_run (K : PUnit → sProp 𝕄) (t : Fin k0_t1_loop.trips) :
    iprop(mid c arg3 arg4 arg6 arg7 arg8 arg9 arg10 arg11 π A B h n t.val ∗ (mid c arg3 arg4 arg6 arg7 arg8 arg9 arg10 arg11 π A B h n (t.val + 1) -∗ K ⟨⟩))
      ⊢ wp frame (wpE (defs₀ (F := F)) Variants.none c none) Set.univ (trip arg3 arg4 arg6 arg7 arg8 arg9 arg10 arg11 t) K := by
  unfold mid trip
  iintro ⟨⟨HO, HX, H0, H1, HW⟩, Hk⟩
  rw [wp_bind]
  iapply (req0_run c arg3 arg4 arg8 arg9 arg10 arg11 π A B _ _ _ _ _ _ _ (2 * t.val + 2) (off1_one t) (off2_one t) (off3_one t))
  isplitl [H0]; · iexact H0
  iintro H0
  rw [wp_bind]
  iapply (arr1_run c arg3 arg4 arg8 arg9 arg10 arg11 π A B _ _ _ _ _ _ _ (2 * t.val + 1) (off4_eq t) (off5_eq t) (off6_eq t))
  isplitl [H1]; · iexact H1
  isplitl [HW]; · iexact HW
  iintro ⟨H1, HW⟩
  rw [wp_bind]
  iapply (half1_run c arg3 arg4 arg6 arg7 arg8 arg9 arg10 arg11 π A B _ _ _ (2 * t.val + 1))
  isplitl [HO]; · iexact HO
  isplitl [HX]; · iexact HX
  isplitl [H1]; · iexact H1
  iintro ⟨HO, HX, H1⟩
  rw [wp_bind]
  iapply (req1_run c arg3 arg4 arg8 arg9 arg10 arg11 π A B _ _ _ _ _ _ _ (2 * t.val + 3) (off1_two t) (off2_two t) (off3_two t))
  isplitl [H1]; · iexact H1
  iintro H1
  rw [wp_bind]
  iapply (arr0_run c arg3 arg4 arg8 arg9 arg10 arg11 π A B _ _ _ _ _ _ _ (2 * t.val + 2) (off1_one t) (off2_one t) (off3_one t))
  isplitl [H0]; · iexact H0
  isplitl [HW]; · iexact HW
  iintro ⟨H0, HW⟩
  iapply (half0_run c arg3 arg4 arg6 arg7 arg8 arg9 arg10 arg11 π A B _ _ _ (2 * t.val + 2))
  isplitl [HO]; · iexact HO
  isplitl [HX]; · iexact HX
  isplitl [H0]; · iexact H0
  iintro ⟨HO, HX, H0⟩
  iapply Hk
  rw [show 2 * (t.val + 1) = 2 * t.val + 1 + 1 by omega]
  isplitl [HO]; · iexact HO
  isplitl [HX]; · iexact HX
  isplitl [H0]; · iexact H0
  isplitl [H1]; · iexact H1
  iexact HW

theorem body_run (K : PUnit → sProp 𝕄) (w : Vec F S1x2048 .f32) (o : Vec F S1024x2048 .f32) (x : Vec F S1024x2048 .bf16) :
    iprop(owns (c : Thread nD τ) arg1 fullShare h ∗ owns (c : Thread nD τ) arg2 fullShare n ∗ owns (c : Thread nD τ) arg5 fullShare w ∗ owns (c : Thread nD τ) arg6 fullShare o ∗ owns (c : Thread nD τ) arg7 fullShare x
        ∗ slot0 c arg3 arg4 arg8 arg9 arg10 arg11 π A B (0 < (i 0).val ∧ (i 0).val < 8) ∗ idle1 c arg3 arg4 arg8 arg9 arg10 arg11 π A B ∗ (∃ W, owes (c : Thread nD τ) 0 W)
        ∗ (iprop(owns (c : Thread nD τ) arg1 fullShare h ∗ owns (c : Thread nD τ) arg2 fullShare n ∗ owns (c : Thread nD τ) arg5 fullShare w ∗ owns (c : Thread nD τ) arg6 fullShare (k0_pay2 (acc c arg3 arg4 A B h n 21) w)
            ∗ owns (c : Thread nD τ) arg7 fullShare (k0_pay9 (k0_pay7 h n))
            ∗ slot0 c arg3 arg4 arg8 arg9 arg10 arg11 π A B (0 < (i 0).val + 1 ∧ (i 0).val + 1 < 8) ∗ idle1 c arg3 arg4 arg8 arg9 arg10 arg11 π A B ∗ (∃ W, owes (c : Thread nD τ) 0 W)) -∗ K ⟨⟩))
      ⊢ wp frame (wpE (defs₀ (F := F)) Variants.none c none) Set.univ (body i arg1 arg2 arg3 arg4 arg5 arg6 arg7 harg7 arg8 arg9 arg10 arg11) K := by
  unfold body
  have hi : (i 0).val < 8 := (i 0).isLt
  iintro ⟨HH, HN, HF, HO, HX, H0, H1, HW, Hk⟩
  rw [wp_bind]
  iapply (reqIf_run c arg3 arg4 arg8 arg9 arg10 arg11 π A B _ (isFirst i) (0 < (i 0).val ∧ (i 0).val < 8) True
    (fun p q => by have := (isFirst_iff i).1 q; omega) (by rw [isFirst_iff]; exact ⟨fun _ => by omega, fun _ => trivial⟩))
  isplitl [H0]; · iexact H0
  iintro H0
  ihave H0 := (slot0_pos c arg3 arg4 arg8 arg9 arg10 arg11 π A B True trivial) $$ H0
  rw [wp_bind]
  iapply (req1_run c arg3 arg4 arg8 arg9 arg10 arg11 π A B _ _ _ _ _ _ _ 1 rfl rfl rfl)
  isplitl [H1]; · iexact H1
  iintro H1
  rw [wp_bind]
  iapply (arr0_run c arg3 arg4 arg8 arg9 arg10 arg11 π A B _ _ _ _ _ _ _ 0 rfl rfl rfl)
  isplitl [H0]; · iexact H0
  isplitl [HW]; · iexact HW
  iintro ⟨H0, HW⟩
  rw [wp_bind]
  unfold landed0 landed3 landed
  icases H0 with ⟨⟨HA0, HD0, HV0⟩, ⟨HA1, HD1, HV1⟩, ⟨HA2, HD2, HV2⟩⟩
  iapply (start_run c _ arg1 arg2 arg6 arg7 harg7 arg8 arg9 arg10 h n o x (gV c arg3 A 0) (uV c arg3 A 0) (dV c arg4 B 0))
  isplitl [HH]; · iexact HH
  isplitl [HN]; · iexact HN
  isplitl [HO]; · iexact HO
  isplitl [HX]; · iexact HX
  isplitl [HD0]; · iexact HD0
  isplitl [HD1]; · iexact HD1
  isplitl [HD2]; · iexact HD2
  iintro ⟨HH, HN, HO, HX, HD0, HD1, HD2⟩
  ihave H0 := (landed0_idle c arg3 arg4 arg8 arg9 arg10 arg11 π A B 0) $$ [HA0 HD0 HV0 HA1 HD1 HV1 HA2 HD2 HV2]
  · unfold landed0 landed3 landed
    isplitl [HA0 HD0 HV0]
    · isplitl [HA0]; · iexact HA0
      isplitl [HD0]; · iexact HD0
      iexact HV0
    isplitl [HA1 HD1 HV1]
    · isplitl [HA1]; · iexact HA1
      isplitl [HD1]; · iexact HD1
      iexact HV1
    · isplitl [HA2]; · iexact HA2
      isplitl [HD2]; · iexact HD2
      iexact HV2
  rw [wp_bind]
  iapply (Scf.wp_for frame (wpE (defs₀ (F := F)) Variants.none c none) Set.univ k0_t1_loop.lb k0_t1_loop.ub k0_t1_loop.st k0_t1_ok ⟨⟩
    (fun t _ => trip arg3 arg4 arg6 arg7 arg8 arg9 arg10 arg11 t)
    (fun m _ => mid c arg3 arg4 arg6 arg7 arg8 arg9 arg10 arg11 π A B h n m)
    (fun t _ => by
      iintro H
      iapply (trip_run c arg3 arg4 arg6 arg7 arg8 arg9 arg10 arg11 π A B h n)
      isplitl [H]; · iexact H
      iintro H
      iexact H))
  isplitl [HO HX H0 H1 HW]
  · unfold mid
    isplitl [HO]; · iexact HO
    isplitl [HX]; · iexact HX
    isplitl [H0]; · iexact H0
    isplitl [H1]; · iexact H1
    iexact HW
  iintro %_ H
  rw [show Scf.trips k0_t1_loop.lb k0_t1_loop.ub k0_t1_loop.st = 10 from by decide]
  unfold mid
  icases H with ⟨HO, HX, H0, H1, HW⟩
  rw [wp_bind]
  iapply (reqIf_run c arg3 arg4 arg8 arg9 arg10 arg11 π A B _ (hasNext i) False (0 < (i 0).val + 1 ∧ (i 0).val + 1 < 8)
    (fun p => p.elim) (by rw [hasNext_iff]; exact ⟨fun x => Or.inr x.2, fun x => ⟨Nat.succ_pos _, x.resolve_left (fun y => y)⟩⟩))
  isplitl [H0]
  · iapply (idle_slot0 c arg3 arg4 arg8 arg9 arg10 arg11 π A B False (fun x => x)) $$ H0
  iintro H0
  rw [wp_bind]
  iapply (arr1_run c arg3 arg4 arg8 arg9 arg10 arg11 π A B _ _ _ _ _ _ _ 21 rfl rfl rfl)
  isplitl [H1]; · iexact H1
  isplitl [HW]; · iexact HW
  iintro ⟨H1, HW⟩
  rw [wp_bind]
  iapply (half1_run c arg3 arg4 arg6 arg7 arg8 arg9 arg10 arg11 π A B _ _ _ 21)
  isplitl [HO]; · iexact HO
  isplitl [HX]; · iexact HX
  isplitl [H1]; · iexact H1
  iintro ⟨HO, HX, H1⟩
  iapply (finish_run c _ arg6 arg5 _ w)
  isplitl [HO]; · iexact HO
  isplitl [HF]; · iexact HF
  iintro ⟨HO, HF⟩
  iapply Hk
  isplitl [HH]; · iexact HH
  isplitl [HN]; · iexact HN
  isplitl [HF]; · iexact HF
  isplitl [HO]; · iexact HO
  isplitl [HX]; · iexact HX
  isplitl [H0]; · iexact H0
  isplitl [H1]; · iexact H1
  iexact HW

end

end Cert.Kernel3Ideal.Last
-- ==== Proof.Last.Ring.lean ====
/- The two slots of each ring buffer of the feed-forward kernel with the final norm, and the shares of the weights the six transfers read through:
   what the core holds whole when the kernel starts is what its idle transfers hold. -/
module

public import proofs.«01_k».proof.Proof.Last.Run

@[expose] public section

set_option maxRecDepth 16384

noncomputable section

namespace Cert.Kernel3Ideal.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (Pipeline.UD sig nD τ) ℕ

/-- A buffer at anything is its two halves at anything. -/
theorem split2 (ℓ : Loc nD τ sig) (I J : Finset (Idx ℓ)) (hd : Disjoint I J) (hu : I ∪ J = Finset.univ) :
    iprop(∃ f : Buf (Elt F) ℓ, ℓ ↦{fullShare} f) ⊢ (iprop((∃ f : Buf (Elt F) ℓ, ℓ ↦[I]{fullShare} f) ∗ (∃ f : Buf (Elt F) ℓ, ℓ ↦[J]{fullShare} f)) : sProp 𝕄) := by
  rw [← hu]
  iintro ⟨%f, H⟩
  ihave H := (pointsTo_union hd).1 $$ H
  icases H with ⟨H0, H1⟩
  isplitl [H0]
  · iexists f; iexact H0
  · iexists f; iexact H1

theorem join2 (ℓ : Loc nD τ sig) (I J : Finset (Idx ℓ)) (hd : Disjoint I J) (hu : I ∪ J = Finset.univ) :
    (iprop((∃ f : Buf (Elt F) ℓ, ℓ ↦[I]{fullShare} f) ∗ (∃ f : Buf (Elt F) ℓ, ℓ ↦[J]{fullShare} f)) : sProp 𝕄) ⊢ iprop(∃ f : Buf (Elt F) ℓ, ℓ ↦{fullShare} f) := by
  rw [← hu]
  iintro ⟨⟨%f, H0⟩, ⟨%g, H1⟩⟩
  iexists _
  iapply (pointsTo_join hd)
  isplitl [H0]
  · iexact H0
  · iexact H1

theorem owns_any {s : Shape} {e : EltTy} {sp : Space} (c : Dev nD) (d : Memref sig .tc sp s e) :
    (iprop(∃ w, owns (c : Thread nD τ) d fullShare w) : sProp 𝕄) ⊣⊢ iprop(∃ f : Buf (Elt F) (d.view.loc (c : Thread nD τ)), d.view.loc (c : Thread nD τ) ↦[d.view.set]{fullShare} f) := by
  unfold owns
  constructor
  · iintro ⟨%w, %f, %h, H⟩
    iexists f; iexact H
  · iintro ⟨%f, H⟩
    iexists _, f
    isplitr
    · ipureintro; rfl
    · iexact H

theorem mem_slot10 (i : S2x2048x256.Idx) :
    i ∈ (slotC (Memref.whole cc0_scratch1) 0 inb_S2x2048x256_S1x2048x256_0_0_0).view.set ↔ (i 0).val = 0 := by
  refine (Iff.of_eq (congrArg (fun S : Finset S2x2048x256.Idx => i ∈ S)
    ((View.set_reshape _ _).trans (View.set_slice_whole cc0_scratch1 (Rect.unit (s := S2x2048x256) ![0, 0, 0] S1x2048x256.size inb_S2x2048x256_S1x2048x256_0_0_0))))).trans ?_
  refine Rect.mem_set_unit.trans ⟨fun h => ?_, fun h a => ?_⟩
  · have h0 : 0 ≤ (i 0).val ∧ (i 0).val < 0 + 1 := h 0
    omega
  · have h1 : (i 1).val < 2048 := (i 1).isLt
    have h2 : (i 2).val < 256 := (i 2).isLt
    match a with
    | ⟨0, _⟩ => exact show 0 ≤ (i 0).val ∧ (i 0).val < 0 + 1 by omega
    | ⟨1, _⟩ => exact show 0 ≤ (i 1).val ∧ (i 1).val < 0 + 2048 by omega
    | ⟨2, _⟩ => exact show 0 ≤ (i 2).val ∧ (i 2).val < 0 + 256 by omega

theorem mem_slot11 (i : S2x2048x256.Idx) :
    i ∈ (slotC (Memref.whole cc0_scratch1) 1 inb_S2x2048x256_S1x2048x256_1_0_0).view.set ↔ (i 0).val = 1 := by
  refine (Iff.of_eq (congrArg (fun S : Finset S2x2048x256.Idx => i ∈ S)
    ((View.set_reshape _ _).trans (View.set_slice_whole cc0_scratch1 (Rect.unit (s := S2x2048x256) ![1, 0, 0] S1x2048x256.size inb_S2x2048x256_S1x2048x256_1_0_0))))).trans ?_
  refine Rect.mem_set_unit.trans ⟨fun h => ?_, fun h a => ?_⟩
  · have h0 : 1 ≤ (i 0).val ∧ (i 0).val < 1 + 1 := h 0
    omega
  · have h1 : (i 1).val < 2048 := (i 1).isLt
    have h2 : (i 2).val < 256 := (i 2).isLt
    match a with
    | ⟨0, _⟩ => exact show 1 ≤ (i 0).val ∧ (i 0).val < 1 + 1 by omega
    | ⟨1, _⟩ => exact show 0 ≤ (i 1).val ∧ (i 1).val < 0 + 2048 by omega
    | ⟨2, _⟩ => exact show 0 ≤ (i 2).val ∧ (i 2).val < 0 + 256 by omega

theorem slots1_disjoint : Disjoint (slotC (Memref.whole cc0_scratch1) 0 inb_S2x2048x256_S1x2048x256_0_0_0).view.set
    (slotC (Memref.whole cc0_scratch1) 1 inb_S2x2048x256_S1x2048x256_1_0_0).view.set := by
  rw [Finset.disjoint_left]
  intro i h0 h1
  have e0 := (mem_slot10 i).1 h0
  have e1 := (mem_slot11 i).1 h1
  omega

theorem slots1_union : (slotC (Memref.whole cc0_scratch1) 0 inb_S2x2048x256_S1x2048x256_0_0_0).view.set
    ∪ (slotC (Memref.whole cc0_scratch1) 1 inb_S2x2048x256_S1x2048x256_1_0_0).view.set = Finset.univ := by
  ext i
  have hi : (i 0).val < 2 := (i 0).isLt
  constructor
  · intro _; exact Finset.mem_univ _
  · intro _
    rw [Finset.mem_union]
    rcases (show (i 0).val = 0 ∨ (i 0).val = 1 by omega) with e | e
    · exact Or.inl ((mem_slot10 i).2 e)
    · exact Or.inr ((mem_slot11 i).2 e)

/-- A ring at anything is its two slots at anything. -/
theorem ring1 (c : Dev nD) :
    (iprop(∃ w, owns (c : Thread nD τ) (Memref.whole cc0_scratch1) fullShare w) : sProp 𝕄)
      ⊣⊢ iprop((∃ w, owns (c : Thread nD τ) (slotC (Memref.whole cc0_scratch1) 0 inb_S2x2048x256_S1x2048x256_0_0_0) fullShare w)
        ∗ (∃ w, owns (c : Thread nD τ) (slotC (Memref.whole cc0_scratch1) 1 inb_S2x2048x256_S1x2048x256_1_0_0) fullShare w)) := by
  simp only [owns_whole]
  constructor
  · refine (split2 ((c : Thread nD τ).loc cc0_scratch1) _ _ slots1_disjoint slots1_union).trans ?_
    iintro ⟨H0, H1⟩
    isplitl [H0]
    · iapply (owns_any c (slotC (Memref.whole cc0_scratch1) 0 inb_S2x2048x256_S1x2048x256_0_0_0)).2 $$ H0
    · iapply (owns_any c (slotC (Memref.whole cc0_scratch1) 1 inb_S2x2048x256_S1x2048x256_1_0_0)).2 $$ H1
  · refine .trans ?_ (join2 ((c : Thread nD τ).loc cc0_scratch1) _ _ slots1_disjoint slots1_union)
    iintro ⟨H0, H1⟩
    isplitl [H0]
    · iapply (owns_any c (slotC (Memref.whole cc0_scratch1) 0 inb_S2x2048x256_S1x2048x256_0_0_0)).1 $$ H0
    · iapply (owns_any c (slotC (Memref.whole cc0_scratch1) 1 inb_S2x2048x256_S1x2048x256_1_0_0)).1 $$ H1

theorem mem_slot20 (i : S2x2048x256.Idx) :
    i ∈ (slotC (Memref.whole cc0_scratch2) 0 inb_S2x2048x256_S1x2048x256_0_0_0).view.set ↔ (i 0).val = 0 := by
  refine (Iff.of_eq (congrArg (fun S : Finset S2x2048x256.Idx => i ∈ S)
    ((View.set_reshape _ _).trans (View.set_slice_whole cc0_scratch2 (Rect.unit (s := S2x2048x256) ![0, 0, 0] S1x2048x256.size inb_S2x2048x256_S1x2048x256_0_0_0))))).trans ?_
  refine Rect.mem_set_unit.trans ⟨fun h => ?_, fun h a => ?_⟩
  · have h0 : 0 ≤ (i 0).val ∧ (i 0).val < 0 + 1 := h 0
    omega
  · have h1 : (i 1).val < 2048 := (i 1).isLt
    have h2 : (i 2).val < 256 := (i 2).isLt
    match a with
    | ⟨0, _⟩ => exact show 0 ≤ (i 0).val ∧ (i 0).val < 0 + 1 by omega
    | ⟨1, _⟩ => exact show 0 ≤ (i 1).val ∧ (i 1).val < 0 + 2048 by omega
    | ⟨2, _⟩ => exact show 0 ≤ (i 2).val ∧ (i 2).val < 0 + 256 by omega

theorem mem_slot21 (i : S2x2048x256.Idx) :
    i ∈ (slotC (Memref.whole cc0_scratch2) 1 inb_S2x2048x256_S1x2048x256_1_0_0).view.set ↔ (i 0).val = 1 := by
  refine (Iff.of_eq (congrArg (fun S : Finset S2x2048x256.Idx => i ∈ S)
    ((View.set_reshape _ _).trans (View.set_slice_whole cc0_scratch2 (Rect.unit (s := S2x2048x256) ![1, 0, 0] S1x2048x256.size inb_S2x2048x256_S1x2048x256_1_0_0))))).trans ?_
  refine Rect.mem_set_unit.trans ⟨fun h => ?_, fun h a => ?_⟩
  · have h0 : 1 ≤ (i 0).val ∧ (i 0).val < 1 + 1 := h 0
    omega
  · have h1 : (i 1).val < 2048 := (i 1).isLt
    have h2 : (i 2).val < 256 := (i 2).isLt
    match a with
    | ⟨0, _⟩ => exact show 1 ≤ (i 0).val ∧ (i 0).val < 1 + 1 by omega
    | ⟨1, _⟩ => exact show 0 ≤ (i 1).val ∧ (i 1).val < 0 + 2048 by omega
    | ⟨2, _⟩ => exact show 0 ≤ (i 2).val ∧ (i 2).val < 0 + 256 by omega

theorem slots2_disjoint : Disjoint (slotC (Memref.whole cc0_scratch2) 0 inb_S2x2048x256_S1x2048x256_0_0_0).view.set
    (slotC (Memref.whole cc0_scratch2) 1 inb_S2x2048x256_S1x2048x256_1_0_0).view.set := by
  rw [Finset.disjoint_left]
  intro i h0 h1
  have e0 := (mem_slot20 i).1 h0
  have e1 := (mem_slot21 i).1 h1
  omega

theorem slots2_union : (slotC (Memref.whole cc0_scratch2) 0 inb_S2x2048x256_S1x2048x256_0_0_0).view.set
    ∪ (slotC (Memref.whole cc0_scratch2) 1 inb_S2x2048x256_S1x2048x256_1_0_0).view.set = Finset.univ := by
  ext i
  have hi : (i 0).val < 2 := (i 0).isLt
  constructor
  · intro _; exact Finset.mem_univ _
  · intro _
    rw [Finset.mem_union]
    rcases (show (i 0).val = 0 ∨ (i 0).val = 1 by omega) with e | e
    · exact Or.inl ((mem_slot20 i).2 e)
    · exact Or.inr ((mem_slot21 i).2 e)

/-- A ring at anything is its two slots at anything. -/
theorem ring2 (c : Dev nD) :
    (iprop(∃ w, owns (c : Thread nD τ) (Memref.whole cc0_scratch2) fullShare w) : sProp 𝕄)
      ⊣⊢ iprop((∃ w, owns (c : Thread nD τ) (slotC (Memref.whole cc0_scratch2) 0 inb_S2x2048x256_S1x2048x256_0_0_0) fullShare w)
        ∗ (∃ w, owns (c : Thread nD τ) (slotC (Memref.whole cc0_scratch2) 1 inb_S2x2048x256_S1x2048x256_1_0_0) fullShare w)) := by
  simp only [owns_whole]
  constructor
  · refine (split2 ((c : Thread nD τ).loc cc0_scratch2) _ _ slots2_disjoint slots2_union).trans ?_
    iintro ⟨H0, H1⟩
    isplitl [H0]
    · iapply (owns_any c (slotC (Memref.whole cc0_scratch2) 0 inb_S2x2048x256_S1x2048x256_0_0_0)).2 $$ H0
    · iapply (owns_any c (slotC (Memref.whole cc0_scratch2) 1 inb_S2x2048x256_S1x2048x256_1_0_0)).2 $$ H1
  · refine .trans ?_ (join2 ((c : Thread nD τ).loc cc0_scratch2) _ _ slots2_disjoint slots2_union)
    iintro ⟨H0, H1⟩
    isplitl [H0]
    · iapply (owns_any c (slotC (Memref.whole cc0_scratch2) 0 inb_S2x2048x256_S1x2048x256_0_0_0)).1 $$ H0
    · iapply (owns_any c (slotC (Memref.whole cc0_scratch2) 1 inb_S2x2048x256_S1x2048x256_1_0_0)).1 $$ H1

theorem mem_slot30 (i : S2x256x2048.Idx) :
    i ∈ (slotR (Memref.whole cc0_scratch3) 0 inb_S2x256x2048_S1x256x2048_0_0_0).view.set ↔ (i 0).val = 0 := by
  refine (Iff.of_eq (congrArg (fun S : Finset S2x256x2048.Idx => i ∈ S)
    ((View.set_reshape _ _).trans (View.set_slice_whole cc0_scratch3 (Rect.unit (s := S2x256x2048) ![0, 0, 0] S1x256x2048.size inb_S2x256x2048_S1x256x2048_0_0_0))))).trans ?_
  refine Rect.mem_set_unit.trans ⟨fun h => ?_, fun h a => ?_⟩
  · have h0 : 0 ≤ (i 0).val ∧ (i 0).val < 0 + 1 := h 0
    omega
  · have h1 : (i 1).val < 256 := (i 1).isLt
    have h2 : (i 2).val < 2048 := (i 2).isLt
    match a with
    | ⟨0, _⟩ => exact show 0 ≤ (i 0).val ∧ (i 0).val < 0 + 1 by omega
    | ⟨1, _⟩ => exact show 0 ≤ (i 1).val ∧ (i 1).val < 0 + 256 by omega
    | ⟨2, _⟩ => exact show 0 ≤ (i 2).val ∧ (i 2).val < 0 + 2048 by omega

theorem mem_slot31 (i : S2x256x2048.Idx) :
    i ∈ (slotR (Memref.whole cc0_scratch3) 1 inb_S2x256x2048_S1x256x2048_1_0_0).view.set ↔ (i 0).val = 1 := by
  refine (Iff.of_eq (congrArg (fun S : Finset S2x256x2048.Idx => i ∈ S)
    ((View.set_reshape _ _).trans (View.set_slice_whole cc0_scratch3 (Rect.unit (s := S2x256x2048) ![1, 0, 0] S1x256x2048.size inb_S2x256x2048_S1x256x2048_1_0_0))))).trans ?_
  refine Rect.mem_set_unit.trans ⟨fun h => ?_, fun h a => ?_⟩
  · have h0 : 1 ≤ (i 0).val ∧ (i 0).val < 1 + 1 := h 0
    omega
  · have h1 : (i 1).val < 256 := (i 1).isLt
    have h2 : (i 2).val < 2048 := (i 2).isLt
    match a with
    | ⟨0, _⟩ => exact show 1 ≤ (i 0).val ∧ (i 0).val < 1 + 1 by omega
    | ⟨1, _⟩ => exact show 0 ≤ (i 1).val ∧ (i 1).val < 0 + 256 by omega
    | ⟨2, _⟩ => exact show 0 ≤ (i 2).val ∧ (i 2).val < 0 + 2048 by omega

theorem slots3_disjoint : Disjoint (slotR (Memref.whole cc0_scratch3) 0 inb_S2x256x2048_S1x256x2048_0_0_0).view.set
    (slotR (Memref.whole cc0_scratch3) 1 inb_S2x256x2048_S1x256x2048_1_0_0).view.set := by
  rw [Finset.disjoint_left]
  intro i h0 h1
  have e0 := (mem_slot30 i).1 h0
  have e1 := (mem_slot31 i).1 h1
  omega

theorem slots3_union : (slotR (Memref.whole cc0_scratch3) 0 inb_S2x256x2048_S1x256x2048_0_0_0).view.set
    ∪ (slotR (Memref.whole cc0_scratch3) 1 inb_S2x256x2048_S1x256x2048_1_0_0).view.set = Finset.univ := by
  ext i
  have hi : (i 0).val < 2 := (i 0).isLt
  constructor
  · intro _; exact Finset.mem_univ _
  · intro _
    rw [Finset.mem_union]
    rcases (show (i 0).val = 0 ∨ (i 0).val = 1 by omega) with e | e
    · exact Or.inl ((mem_slot30 i).2 e)
    · exact Or.inr ((mem_slot31 i).2 e)

/-- A ring at anything is its two slots at anything. -/
theorem ring3 (c : Dev nD) :
    (iprop(∃ w, owns (c : Thread nD τ) (Memref.whole cc0_scratch3) fullShare w) : sProp 𝕄)
      ⊣⊢ iprop((∃ w, owns (c : Thread nD τ) (slotR (Memref.whole cc0_scratch3) 0 inb_S2x256x2048_S1x256x2048_0_0_0) fullShare w)
        ∗ (∃ w, owns (c : Thread nD τ) (slotR (Memref.whole cc0_scratch3) 1 inb_S2x256x2048_S1x256x2048_1_0_0) fullShare w)) := by
  simp only [owns_whole]
  constructor
  · refine (split2 ((c : Thread nD τ).loc cc0_scratch3) _ _ slots3_disjoint slots3_union).trans ?_
    iintro ⟨H0, H1⟩
    isplitl [H0]
    · iapply (owns_any c (slotR (Memref.whole cc0_scratch3) 0 inb_S2x256x2048_S1x256x2048_0_0_0)).2 $$ H0
    · iapply (owns_any c (slotR (Memref.whole cc0_scratch3) 1 inb_S2x256x2048_S1x256x2048_1_0_0)).2 $$ H1
  · refine .trans ?_ (join2 ((c : Thread nD τ).loc cc0_scratch3) _ _ slots3_disjoint slots3_union)
    iintro ⟨H0, H1⟩
    isplitl [H0]
    · iapply (owns_any c (slotR (Memref.whole cc0_scratch3) 0 inb_S2x256x2048_S1x256x2048_0_0_0)).1 $$ H0
    · iapply (owns_any c (slotR (Memref.whole cc0_scratch3) 1 inb_S2x256x2048_S1x256x2048_1_0_0)).1 $$ H1

/-- The shares: the gate's and the up projection's weights are read by four transfers, the down projection's by two. -/
def shares : Fin 6 → PosShare TreeShare :=
  ![fullShare.left.left, fullShare.left.right, fullShare.left, fullShare.right.left, fullShare.right.right, fullShare.right]

theorem share2 (ℓ : Loc nD τ sig) (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

theorem share4 (ℓ : Loc nD τ sig) (f : Buf (Elt F) ℓ) :
    (ℓ ↦{fullShare} f : sProp 𝕄) ⊣⊢ iprop(((ℓ ↦{fullShare.left.left} f) ∗ ℓ ↦{fullShare.left.right} f) ∗ ((ℓ ↦{fullShare.right.left} f) ∗ ℓ ↦{fullShare.right.right} f)) := by
  have hl : (ℓ ↦{fullShare.left} f : sProp 𝕄) ⊣⊢ iprop((ℓ ↦{fullShare.left.left} f) ∗ ℓ ↦{fullShare.left.right} f) := pointsTo_share (PosShare.mem_left_op_right fullShare.left)
  have hr : (ℓ ↦{fullShare.right} f : sProp 𝕄) ⊣⊢ iprop((ℓ ↦{fullShare.right.left} f) ∗ ℓ ↦{fullShare.right.right} f) := pointsTo_share (PosShare.mem_left_op_right fullShare.right)
  constructor
  · refine (share2 ℓ f).1.trans ?_
    iintro ⟨H0, H1⟩
    isplitl [H0]
    · iapply hl.1 $$ H0
    · iapply hr.1 $$ H1
  · refine .trans ?_ (share2 ℓ f).2
    iintro ⟨H0, H1⟩
    isplitl [H0]
    · iapply hl.2 $$ H0
    · iapply hr.2 $$ H1

/-- The rings, the counters and the weights, whole. -/
def whole (c : Dev nD) (A : Buf (Elt F) ((c : Thread nD τ).loc main_arg2)) (B : Buf (Elt F) ((c : Thread nD τ).loc main_arg3)) : sProp 𝕄 :=
  iprop((∃ w, owns (c : Thread nD τ) (Memref.whole cc0_scratch1) fullShare w) ∗ (∃ w, owns (c : Thread nD τ) (Memref.whole cc0_scratch2) fullShare w)
    ∗ (∃ w, owns (c : Thread nD τ) (Memref.whole cc0_scratch3) fullShare w)
    ∗ (semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0 ∗ semVal ((c : Thread nD τ), SemLoc.dma 10) 0 ∗ semVal ((c : Thread nD τ), SemLoc.dma 11) 0)
    ∗ (((c : Thread nD τ).loc main_arg2) ↦{fullShare} A) ∗ (((c : Thread nD τ).loc main_arg3) ↦{fullShare} B))

theorem whole_idle (c : Dev nD) (A : Buf (Elt F) ((c : Thread nD τ).loc main_arg2)) (B : Buf (Elt F) ((c : Thread nD τ).loc main_arg3)) :
    whole c A B ⊢ iprop(idle0 c (Memref.whole main_arg2) (Memref.whole main_arg3) (Memref.whole cc0_scratch1) (Memref.whole cc0_scratch2) (Memref.whole cc0_scratch3) cc0_scratch4 shares A B
      ∗ idle1 c (Memref.whole main_arg2) (Memref.whole main_arg3) (Memref.whole cc0_scratch1) (Memref.whole cc0_scratch2) (Memref.whole cc0_scratch3) cc0_scratch4 shares A B) := by
  unfold whole idle0 idle1 idle3 idle
  iintro ⟨R1, R2, R3, ⟨Q0, Q1, Q2, Q3, Q4, Q5⟩, HA, HB⟩
  ihave R1 := (ring1 c).1 $$ R1
  ihave R2 := (ring2 c).1 $$ R2
  ihave R3 := (ring3 c).1 $$ R3
  ihave HA := (share4 _ A).1 $$ HA
  ihave HB := (share2 _ B).1 $$ HB
  icases R1 with ⟨R10, R11⟩
  icases R2 with ⟨R20, R21⟩
  icases R3 with ⟨R30, R31⟩
  icases HA with ⟨⟨A0, A1⟩, ⟨A3, A4⟩⟩
  icases HB with ⟨B2, B5⟩
  isplitl [A0 R10 Q0 A1 R20 Q2 B2 R30 Q4]
  · isplitl [A0 R10 Q0]
    · isplitl [A0]; · iexact A0
      isplitl [R10]; · iexact R10
      iexact Q0
    isplitl [A1 R20 Q2]
    · isplitl [A1]; · iexact A1
      isplitl [R20]; · iexact R20
      iexact Q2
    · isplitl [B2]; · iexact B2
      isplitl [R30]; · iexact R30
      iexact Q4
  · isplitl [A3 R11 Q1]
    · isplitl [A3]; · iexact A3
      isplitl [R11]; · iexact R11
      iexact Q1
    isplitl [A4 R21 Q3]
    · isplitl [A4]; · iexact A4
      isplitl [R21]; · iexact R21
      iexact Q3
    · isplitl [B5]; · iexact B5
      isplitl [R31]; · iexact R31
      iexact Q5

theorem idle_whole (c : Dev nD) (A : Buf (Elt F) ((c : Thread nD τ).loc main_arg2)) (B : Buf (Elt F) ((c : Thread nD τ).loc main_arg3)) :
    iprop(idle0 c (Memref.whole main_arg2) (Memref.whole main_arg3) (Memref.whole cc0_scratch1) (Memref.whole cc0_scratch2) (Memref.whole cc0_scratch3) cc0_scratch4 shares A B
      ∗ idle1 c (Memref.whole main_arg2) (Memref.whole main_arg3) (Memref.whole cc0_scratch1) (Memref.whole cc0_scratch2) (Memref.whole cc0_scratch3) cc0_scratch4 shares A B)
    ⊢ whole c A B := by
  unfold whole idle0 idle1 idle3 idle
  iintro ⟨⟨⟨A0, R10, Q0⟩, ⟨A1, R20, Q2⟩, ⟨B2, R30, Q4⟩⟩, ⟨⟨A3, R11, Q1⟩, ⟨A4, R21, Q3⟩, ⟨B5, R31, Q5⟩⟩⟩
  isplitl [R10 R11]
  · iapply (ring1 c).2
    isplitl [R10]; · iexact R10
    iexact R11
  isplitl [R20 R21]
  · iapply (ring2 c).2
    isplitl [R20]; · iexact R20
    iexact R21
  isplitl [R30 R31]
  · iapply (ring3 c).2
    isplitl [R30]; · iexact R30
    iexact R31
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [A0 A1 A3 A4]
  · iapply (share4 _ A).2
    isplitl [A0 A1]
    · isplitl [A0]; · iexact A0
      iexact A1
    · isplitl [A3]; · iexact A3
      iexact A4
  · iapply (share2 _ B).2
    isplitl [B2]; · iexact B2
    iexact B5

end Cert.Kernel3Ideal.Last
-- ==== Proof.Last.Frame.lean ====
/- The run of the feed-forward kernel with the final norm: what its output array holds at the end, and its frame. -/
module

public import proofs.«01_k».proof.Proof.Last.Ring
public import proofs.«01_k».proof.Proof.Gen.Kernel3Ideal.Points
public import Idealize.ShloMosaic.Lib.Pipeline.FrameBody
public import Idealize.ShloMosaic.Lib.Claim
public import Idealize.ShloMosaic.Lib.WordCmp

@[expose] public section

set_option maxRecDepth 16384

noncomputable section

namespace Cert.Kernel3Ideal.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem coord0 (t : Fin cfg0.N) : (grid0.coords t 0).val = t.val := by
  have e : (grid0.coords t 0).val = t.val / 1 % 8 := Pipeline.Grid.coords_val t 0 (by decide) rfl
  have h : t.val < 8 := t.isLt
  rw [e, Nat.div_one, Nat.mod_eq_of_lt h]

/-- The blocks of the rows and of the gains at a point, with their shapes. -/
def hb (c : Dev nD) (t : Fin cfg0.N) : Vec F S1024x2048 .f32 := iblk m c 0 t
def nb (c : Dev nD) (t : Fin cfg0.N) : Vec F S1x1x2048 .f32 := iblk m c 1 t
def fb (c : Dev nD) (t : Fin cfg0.N) : Vec F S1x2048 .f32 := iblk m c 2 t

/-- The output block of a point. -/
def ob (c : Dev nD) (t : Fin cfg0.N) : Vec F S1024x2048 .f32 :=
  k0_pay2 (acc c (Memref.whole main_arg2) (Memref.whole main_arg3) (V m c main_arg2) (V m c main_arg3) (hb m c t) (nb m c t) 21) (fb m c t)

/-- The counters of the kernel's own transfers. -/
abbrev osem0 : Fin 6 → SemLoc sig := fun j =>
  (![SemLoc.dma 6, SemLoc.dma 7, SemLoc.dma 8, SemLoc.dma 9, SemLoc.dma 10, SemLoc.dma 11] : Fin 6 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0
        ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5] (by decide) (by decide)]; rfl

/-- The weights, which the kernel reads itself. -/
def H0 : Finset (Ref sig .tc) := {main_arg2, main_arg3}

theorem H0_sub : H0 ⊆ Pipeline.restRefs sig spec0 := by decide

theorem hbmPts0_eq (c : Dev nD) :
    (bigSep H0 (fun b => ((c : Thread nD τ).loc b) ↦{fullShare} V m c b) : sProp 𝕄)
      = iprop((((c : Thread nD τ).loc main_arg2) ↦{fullShare} V m c main_arg2) ∗ (((c : Thread nD τ).loc main_arg3) ↦{fullShare} V m c main_arg3)) := by
  rw [BI.bigSep_eq_bigSepL_of_eq [main_arg2, main_arg3] (by decide) (by decide)]; rfl

theorem PhiD0_eq (c : Dev nD) :
    (Pipeline.ΦD osem0 spec0 H0 (V m) c : sProp 𝕄)
      = iprop(iprop((∃ w, owns (c : Thread nD τ) (Memref.whole cc0_scratch0) fullShare w)
          ∗ (∃ w, owns (c : Thread nD τ) (Memref.whole cc0_scratch1) fullShare w) ∗ (∃ w, owns (c : Thread nD τ) (Memref.whole cc0_scratch2) fullShare w)
          ∗ (∃ w, owns (c : Thread nD τ) (Memref.whole cc0_scratch3) fullShare w)) ∗ (∃ r, prngReg c r)
        ∗ iprop(semVal ((c : Thread nD τ), SemLoc.dma 6) 0 ∗ semVal ((c : Thread nD τ), SemLoc.dma 7) 0 ∗ semVal ((c : Thread nD τ), SemLoc.dma 8) 0
          ∗ semVal ((c : Thread nD τ), SemLoc.dma 9) 0 ∗ semVal ((c : Thread nD τ), SemLoc.dma 10) 0 ∗ semVal ((c : Thread nD τ), SemLoc.dma 11) 0)
        ∗ iprop((((c : Thread nD τ).loc main_arg2) ↦{fullShare} V m c main_arg2) ∗ (((c : Thread nD τ).loc main_arg3) ↦{fullShare} V m c main_arg3))) := by
  rw [Pipeline.ΦD_eq, scopedRest0_eq, ownSems00_eq, hbmPts0_eq]; simp only [owns_whole]; try rfl

/-- The invariant before the point `n`: the normalised rows' buffer at anything, slot 0 filling for the point unless it is the
    first, slot 1 free. -/
def PhiS (c : Dev nD) (n : ℕ) : sProp 𝕄 :=
  iprop((∃ w, owns (c : Thread nD τ) (Memref.whole cc0_scratch0) fullShare w) ∗ (∃ r, prngReg c r)
    ∗ slot0 c (Memref.whole main_arg2) (Memref.whole main_arg3) (Memref.whole cc0_scratch1) (Memref.whole cc0_scratch2) (Memref.whole cc0_scratch3) cc0_scratch4 shares (V m c main_arg2) (V m c main_arg3) (0 < n ∧ n < 8)
    ∗ idle1 c (Memref.whole main_arg2) (Memref.whole main_arg3) (Memref.whole cc0_scratch1) (Memref.whole cc0_scratch2) (Memref.whole cc0_scratch3) cc0_scratch4 shares (V m c main_arg2) (V m c main_arg3))

theorem PhiS_in (c : Dev nD) : Pipeline.ΦD osem0 spec0 H0 (V m) c ⊢ PhiS m c 0 := by
  rw [PhiD0_eq]
  unfold PhiS
  iintro ⟨⟨H0, H1, H2, H3⟩, Hg, Hq, HA, HB⟩
  isplitl [H0]; · iexact H0
  isplitl [Hg]; · iexact Hg
  ihave H := (whole_idle c (V m c main_arg2) (V m c main_arg3)) $$ [H1 H2 H3 Hq HA HB]
  · unfold whole
    isplitl [H1]; · iexact H1
    isplitl [H2]; · iexact H2
    isplitl [H3]; · iexact H3
    isplitl [Hq]; · iexact Hq
    isplitl [HA]; · iexact HA
    iexact HB
  icases H with ⟨H0, H1⟩
  isplitl [H0]
  · iapply (idle_slot0 c (Memref.whole main_arg2) (Memref.whole main_arg3) (Memref.whole cc0_scratch1) (Memref.whole cc0_scratch2) (Memref.whole cc0_scratch3) cc0_scratch4 shares (V m c main_arg2) (V m c main_arg3) (0 < 0 ∧ 0 < 8) (by omega)) $$ H0
  · iexact H1

theorem PhiS_out (c : Dev nD) : PhiS m c 8 ⊢ Pipeline.ΦD osem0 spec0 H0 (V m) c := by
  rw [PhiD0_eq]
  unfold PhiS
  iintro ⟨HX, Hg, H0, H1⟩
  ihave H0 := (slot0_neg c (Memref.whole main_arg2) (Memref.whole main_arg3) (Memref.whole cc0_scratch1) (Memref.whole cc0_scratch2) (Memref.whole cc0_scratch3) cc0_scratch4 shares (V m c main_arg2) (V m c main_arg3) (0 < 8 ∧ 8 < 8) (by omega)) $$ H0
  ihave H := (idle_whole c (V m c main_arg2) (V m c main_arg3)) $$ [H0 H1]
  · isplitl [H0]; · iexact H0
    iexact H1
  unfold whole
  icases H with ⟨H1, H2, H3, Hq, HA, HB⟩
  isplitl [HX H1 H2 H3]
  · isplitl [HX]; · iexact HX
    isplitl [H1]; · iexact H1
    isplitl [H2]; · iexact H2
    iexact H3
  isplitl [Hg]; · iexact Hg
  isplitl [Hq]; · iexact Hq
  isplitl [HA]; · iexact HA
  iexact HB

/-- The proof data: the blocks of the two inputs, and the point's output block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ob m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = ob m c t := by dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)

/-- What the body is called with at the point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before_0, before_1, before_2]
  rw [show (dats m 0 c).owesAt () t.succ = (dats m 0 c).owesAt () t.castSucc from rfl, after_0, after_1, after_2, after_3]
  rw [show (dats m 0 c).Φ t.succ = PhiS m c ((grid0.coords t 0).val + 1) from by rw [coord0]; rfl]
  rw [show (dats m 0 c).Φ t.castSucc = PhiS m c (grid0.coords t 0).val from by rw [coord0]; rfl]
  unfold PhiS Dat.owesAt Pipeline.owesWithin
  rw [show (dats m 0 c).owed t.castSucc = 0 from rfl]
  iintro ⟨⟨⟨%x, HX⟩, Hg, HS0, HS1⟩, ⟨%W, %hW, HO⟩, ⟨%d0, H0⟩, ⟨%d1, H1⟩, ⟨%d2, H2⟩, ⟨%d3, H3⟩⟩
  iapply (body_run c (grid0.coords t) _ _ (Memref.whole main_arg2) (Memref.whole main_arg3) _ _ (Memref.whole cc0_scratch0) _ (Memref.whole cc0_scratch1) (Memref.whole cc0_scratch2) (Memref.whole cc0_scratch3) cc0_scratch4 shares
    (V m c main_arg2) (V m c main_arg3) (hb m c t) (nb m c t) _ (fb m c t) _ x)
  isplitl [H0]; · iexact H0
  isplitl [H1]; · iexact H1
  isplitl [H2]; · iexact H2
  isplitl [H3]; · iexact H3
  isplitl [HX]; · iexact HX
  isplitl [HS0]; · iexact HS0
  isplitl [HS1]; · iexact HS1
  isplitl [HO]; · iexists W; iexact HO
  iintro ⟨H0, H1, H2, H3, HX, HS0, HS1, ⟨%W', HO⟩⟩
  isplitl [HX Hg HS0 HS1]
  · isplitl [HX]; · iexists _; iexact HX
    isplitl [Hg]; · iexact Hg
    isplitl [HS0]; · iexact HS0
    iexact HS1
  isplitl [HO]
  · iexists W'
    isplitr
    · ipureintro; exact fun _ _ => Or.inl trivial
    iexact HO
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := PhiS_in m c

theorem hout (c : Dev nD) : (dats m 0 c).Φ (Fin.last cfg0.N) ⊢ Pipeline.ΦD osem0 spec0 H0 (V m) c := PhiS_out m c

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: the output array holds the points' output blocks, and every counter is at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_dma (Q' := fun r => Pipeline.FramePost cfgs (dats m) 0 (V m) r ∧ r.2.sem = fun _ => 0) cfgs (dats m) (0 : Fin 1) launch0 osem0 defs₀ Variants.none
    ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main_quiescent m ρ)

end Cert.Kernel3Ideal.Last
-- ==== Proof.Last.Frames.lean ====
/- The frames of the feed-forward block with the final norm: the kernel's at both instances from one run, the reference's from its list of operations. -/
module

public import proofs.«01_k».proof.Defs
public import proofs.«01_k».proof.Proof.Last.Frame
public import proofs.«01_k».proof.Proof.Gen.Kernel3
public import proofs.«01_k».proof.Proof.Gen.Reference3Ideal
public import proofs.«01_k».proof.Proof.Gen.Reference3Ideal.Run
public import Idealize.ShloMosaic.Init

@[expose] public section

noncomputable section

namespace Cert.Proof

open Idealize.ShloMosaic Idealize.SL.Sem

/-- The two programs' bodies are one text. -/
theorem body3_same : @Cert.Kernel3.defs₀ Bits _ Cert.Kernel3.Gen.facts = @Cert.Kernel3Ideal.defs₀ Bits _ Cert.Kernel3Ideal.Gen.facts := by
  refine congrArg Defs.onTc ?_
  funext l x
  match l, x with
  | 0, (t, s) => exact rfl

theorem defs3_same : @Cert.Kernel3.defs Bits _ Cert.Kernel3.Gen.facts = @Cert.Kernel3Ideal.defs Bits _ Cert.Kernel3Ideal.Gen.facts := by
  unfold Cert.Kernel3.defs Cert.Kernel3Ideal.defs
  exact congrArg (Pipeline.defs _) body3_same

/-- The kernel on words: its text is the one the run is proved for. -/
theorem frame_kernel3 : Cert.quiescent_Kernel3 (hKernel3 := Cert.Kernel3.Gen.facts) := fun m ρ _ => by
  have h := Cert.Kernel3Ideal.Last.frame_run (F := Bits) m ρ
  rw [← defs3_same] at h
  exact h

/-- The kernel on extended reals. -/
theorem frame_ideal3 : Cert.quiescent_Kernel3Ideal (hKernel3Ideal := Cert.Kernel3Ideal.Gen.facts) := fun m ρ _ =>
  Cert.Kernel3Ideal.Last.frame_run (F := Ideal) m ρ

/-- The reference: its operations write no argument, and it declares no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Proof

end
-- ==== Proof.Last.Points.lean ====
/- The feed-forward kernel with the final norm's pure steps over the extended reals, at an element. -/
module

public import proofs.«01_k».proof.Proof.Last.Run
public import proofs.«01_k».proof.Proof.Ffn.Points
public import Idealize.ShloMosaic.Lib.Pipeline.ValueKit
public import Idealize.ShloMosaic.Lib.Pointwise
public import Idealize.ShloMosaic.Lib.ValueLayout

@[expose] public section

set_option maxRecDepth 16384

noncomputable section

namespace Cert.Kernel3Ideal.Last

open Idealize.ShloMosaic Idealize.ShloMosaic.TcCoe
open Cert.Kernel3Ideal Cert.Kernel3Ideal.Gen
open Cert.Kernel2Ideal.Ffn (act norm)

theorem pay11_at (o : Vec Ideal S1024x2048 .f32) (x : Vec Ideal S1024x2048 .bf16) (g u : Vec Ideal S1x2048x256 .f32) (d : Vec Ideal S1x256x2048 .f32) (r : Fin 1024) (j : Fin 2048) :
    k0_pay11 o x g u d (ix2 r j) = o (ix2 r j)
      + ∑ l : Fin 256, act (∑ k : Fin 2048, x (ix2 r k) * g (ix3 0 k l)) (∑ k : Fin 2048, x (ix2 r k) * u (ix3 0 k l)) * d (ix3 0 l j) := by
  pointwise [k0_pay11]
  rfl

theorem pay10_at (h v : Vec Ideal S1024x2048 .f32) (g u : Vec Ideal S1x2048x256 .f32) (d : Vec Ideal S1x256x2048 .f32) (r : Fin 1024) (j : Fin 2048) :
    k0_pay10 h v g u d (ix2 r j) = h (ix2 r j)
      + ∑ l : Fin 256, act (∑ k : Fin 2048, v (ix2 r k) * g (ix3 0 k l)) (∑ k : Fin 2048, v (ix2 r k) * u (ix3 0 k l)) * d (ix3 0 l j) := by
  pointwise [k0_pay10, k0_pay8]
  rfl

theorem pay9_at (v : Vec Ideal S1024x2048 .f32) (r : Fin 1024) (j : Fin 2048) : k0_pay9 (F := Ideal) v (ix2 r j) = v (ix2 r j) := by
  pointwise [k0_pay9, k0_pay8]

theorem pay7_at (h : Vec Ideal S1024x2048 .f32) (n : Vec Ideal S1x1x2048 .f32) (r : Fin 1024) (k : Fin 2048) :
    k0_pay7 h n (ix2 r k) = norm (fun k => h (ix2 r k)) (fun k => n (ix3 0 0 k)) k := by
  pointwise [k0_pay7]
  rfl

theorem pay2_at (h : Vec Ideal S1024x2048 .f32) (n : Vec Ideal S1x2048 .f32) (r : Fin 1024) (k : Fin 2048) :
    k0_pay2 h n (ix2 r k) = norm (fun k => h (ix2 r k)) (fun k => n (ix2 0 k)) k := by
  pointwise [k0_pay2]
  rfl

theorem colV_at (g : S2048x256.Idx → Elt Ideal .f32) (k : Fin 2048) (l : Fin 256) : colV (F := Ideal) g (ix3 0 k l) = g (ix2 k l) := by
  unfold colV
  refine congrArg g ?_
  rw [Equiv.symm_apply_eq]
  exact (ValueIdx.reshapeEquiv_ix2_1ab _ k l).symm

theorem rowV_at (g : S256x2048.Idx → Elt Ideal .f32) (k : Fin 256) (l : Fin 2048) : rowV (F := Ideal) g (ix3 0 k l) = g (ix2 k l) := by
  unfold rowV
  refine congrArg g ?_
  rw [Equiv.symm_apply_eq]
  exact (ValueIdx.reshapeEquiv_ix2_1ab _ k l).symm

section
variable (c : Dev nD) (A : Buf (Elt Ideal) ((c : Thread nD τ).loc main_arg2)) (B : Buf (Elt Ideal) ((c : Thread nD τ).loc main_arg3))

/-- A tile of the weights read through the transfer's view. -/
theorem cols_at (off : Fin 3 → ℕ) (h : ∀ a, off a + S1x2048x256.size a ≤ S4x2048x11264.size a) (k : Fin 2048) (l : Fin 256) (i : S4x2048x11264.Idx)
    (h0 : (i 0).val = off 0) (h1 : (i 1).val = off 1 + k.val) (h2 : (i 2).val = off 2 + l.val) :
    (colsAt (Memref.whole main_arg2) off h).view.read (Elt Ideal) A (ix2 k l) = A i := by
  change A ((Rect.unit (s := S4x2048x11264) off S1x2048x256.size h).emb (Shape.reshapeEquiv squeezes_S1x2048x256_S2048x256.numel_eq (ix2 k l))) = A i
  rw [show Shape.reshapeEquiv squeezes_S1x2048x256_S2048x256.numel_eq (ix2 k l) = ix3 0 k l from ValueIdx.reshapeEquiv_ix2_1ab _ k l]
  refine congrArg A (funext fun a => Fin.ext ?_)
  rw [ValueKit.rect_emb_unit_val]
  match a with
  | ⟨0, _⟩ => exact h0.symm
  | ⟨1, _⟩ => exact h1.symm
  | ⟨2, _⟩ => exact h2.symm

theorem rows_at (off : Fin 3 → ℕ) (h : ∀ a, off a + S1x256x2048.size a ≤ S4x5632x2048.size a) (k : Fin 256) (l : Fin 2048) (i : S4x5632x2048.Idx)
    (h0 : (i 0).val = off 0) (h1 : (i 1).val = off 1 + k.val) (h2 : (i 2).val = off 2 + l.val) :
    (rowsAt (Memref.whole main_arg3) off h).view.read (Elt Ideal) B (ix2 k l) = B i := by
  change B ((Rect.unit (s := S4x5632x2048) off S1x256x2048.size h).emb (Shape.reshapeEquiv squeezes_S1x256x2048_S256x2048.numel_eq (ix2 k l))) = B i
  rw [show Shape.reshapeEquiv squeezes_S1x256x2048_S256x2048.numel_eq (ix2 k l) = ix3 0 k l from ValueIdx.reshapeEquiv_ix2_1ab _ k l]
  refine congrArg B (funext fun a => Fin.ext ?_)
  rw [ValueKit.rect_emb_unit_val]
  match a with
  | ⟨0, _⟩ => exact h0.symm
  | ⟨1, _⟩ => exact h1.symm
  | ⟨2, _⟩ => exact h2.symm

theorem gV_at (f : Fin 22) (k : Fin 2048) (l : Fin 256) :
    gV (F := Ideal) c (Memref.whole main_arg2) A f.val (ix2 k l) = A (ix3 3 k (⟨256 * f.val + l.val, by omega⟩ : Fin 11264)) :=
  cols_at c A (gT f.val) (gT_inb f.val) k l _ rfl (Nat.zero_add _).symm (by show 256 * f.val + l.val = 256 * (f.val % 22) + l.val; omega)

theorem uV_at (f : Fin 22) (k : Fin 2048) (l : Fin 256) :
    uV (F := Ideal) c (Memref.whole main_arg2) A f.val (ix2 k l) = A (ix3 3 k (⟨5632 + (256 * f.val + l.val), by omega⟩ : Fin 11264)) :=
  cols_at c A (uT f.val) (uT_inb f.val) k l _ rfl (Nat.zero_add _).symm (by show 5632 + (256 * f.val + l.val) = 5632 + 256 * (f.val % 22) + l.val; omega)

theorem dV_at (f : Fin 22) (k : Fin 256) (l : Fin 2048) :
    dV (F := Ideal) c (Memref.whole main_arg3) B f.val (ix2 k l) = B (ix3 3 (⟨256 * f.val + k.val, by omega⟩ : Fin 5632) l) :=
  rows_at c B (dT f.val) (dT_inb f.val) k l _ rfl (by show 256 * f.val + k.val = 256 * (f.val % 22) + k.val; omega) (Nat.zero_add _).symm

/-- The gate and the projection of a column, for a normalised row. -/
def gateOf (x : Fin 2048 → EReal) (j : Fin 5632) : EReal := ∑ k : Fin 2048, x k * A (ix3 3 k (⟨j.val, by omega⟩ : Fin 11264))
def upOf (x : Fin 2048 → EReal) (j : Fin 5632) : EReal := ∑ k : Fin 2048, x k * A (ix3 3 k (⟨5632 + j.val, by omega⟩ : Fin 11264))

/-- A column's part of an element of the result. -/
def part (x : Fin 2048 → EReal) (d : Fin 2048) (j : Fin 5632) : EReal := act (gateOf c A x j) (upOf c A x j) * B (ix3 3 j d)

/-- A tile's part. -/
def tile (x : Fin 2048 → EReal) (d : Fin 2048) (f : Fin 22) : EReal := ∑ l : Fin 256, part c A B x d ⟨256 * f.val + l.val, by omega⟩

variable (h : Vec Ideal S1024x2048 .f32) (n : Vec Ideal S1x1x2048 .f32)

/-- After tile `f` an element is the row's with the tiles' parts so far added. -/
theorem acc_at (r : Fin 1024) (d : Fin 2048) (f : ℕ) (hf : f < 22) :
    acc c (Memref.whole main_arg2) (Memref.whole main_arg3) A B h n f (ix2 r d)
      = h (ix2 r d) + ∑ i : Fin (f + 1), tile c A B (norm (fun k => h (ix2 r k)) (fun k => n (ix3 0 0 k))) d ⟨i.val, by omega⟩ := by
  induction f with
  | zero =>
    unfold acc
    rw [pay10_at]
    simp only [colV_at, rowV_at, pay7_at]
    rw [Fin.sum_univ_one]
    unfold tile part gateOf upOf
    simp only [gV_at c A (0 : Fin 22), uV_at c A (0 : Fin 22), dV_at c B (0 : Fin 22), show (0 : ℕ) = (0 : Fin 22).val from rfl]
    rfl
  | succ f ih =>
    unfold acc
    rw [pay11_at, ih (by omega)]
    simp only [colV_at, rowV_at, pay9_at, pay7_at]
    rw [Fin.sum_univ_castSucc (n := f + 1), add_assoc]
    refine congrArg _ (congrArg _ ?_)
    unfold tile part gateOf upOf
    have e1 := gV_at c A ⟨f + 1, hf⟩
    have e2 := uV_at c A ⟨f + 1, hf⟩
    have e3 := dV_at c B ⟨f + 1, hf⟩
    dsimp only at e1 e2 e3
    simp only [e1, e2, e3]
    rfl

end

end Cert.Kernel3Ideal.Last

end
-- ==== Proof.Last.RefTerms.lean ====
/- The reference's feed-forward block at an element: the normalised row, the gate, the projection and the result. -/
module

public import proofs.«01_k».proof.Proof.Gen.Reference3Ideal.Run
public import proofs.«01_k».proof.Proof.Ffn.Points
public import Idealize.ShloMosaic.Lib.Pointwise

@[expose] public section

set_option maxRecDepth 16384

noncomputable section

namespace Cert.Reference3Ideal.Last

open Idealize.ShloMosaic Idealize.ShloMosaic.TcCoe
open Cert.Reference3Ideal Cert.Reference3Ideal.Gen
open Cert.Kernel2Ideal.Ffn (norm oneHalf)

section Terms
variable {F : FTy → Type} [FloatOps F]

/-- The rows scaled to mean square one, times the gains. -/
def normed (h : FVec F S8192x2048 .f32) (ln : FVec F S4x2048 .f32) : FVec F S8192x2048 .f32 :=
  mulf (mulf h (broadcastInDim S8192x2048 ![0, 1] bcast_S8192x1_S8192x2048_0_1 (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![3, 0] ln slices_S4x2048_S1x2048_3_0) shapeCasts_S1x2048_S2048)))

/-- The gates and the projections, side by side. -/
def gateUp (x : FVec F S8192x2048 .f32) (w : FVec F S4x2048x11264 .f32) : FVec F S8192x11264 .f32 :=
  Host.dotGeneral dot_S8192x2048_S2048x11264_S8192x11264_1_0_0_1_n_n none x (shapeCast _ (extractStridedSlice S1x2048x11264 ![3, 0, 0] w slices_S4x2048x11264_S1x2048x11264_3_0_0) shapeCasts_S1x2048x11264_S2048x11264)

/-- The gates times their logistics, times the projections. -/
def swiglu (y : FVec F S8192x11264 .f32) : FVec F S8192x5632 .f32 :=
  mulf (mulf (extractStridedSlice S8192x5632 ![0, 0] y slices_S8192x11264_S8192x5632_0_0) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extractStridedSlice S8192x5632 ![0, 0] y slices_S8192x11264_S8192x5632_0_0)))))) (extractStridedSlice S8192x5632 ![0, 5632] y slices_S8192x11264_S8192x5632_0_5632)

/-- The rows with half of the block's product added. -/
def result (h : FVec F S8192x2048 .f32) (z : FVec F S8192x5632 .f32) (d : FVec F S4x5632x2048 .f32) : FVec F S8192x2048 .f32 :=
  addf h (mulf (broadcastInDim S8192x2048 ![] bcast_S_S8192x2048 (constant S_ .f32 0x3F000000#32)) (Host.dotGeneral dot_S8192x5632_S5632x2048_S8192x2048_1_0_0_1_n_n none z (shapeCast _ (extractStridedSlice S1x5632x2048 ![3, 0, 0] d slices_S4x5632x2048_S1x5632x2048_3_0_0) shapeCasts_S1x5632x2048_S5632x2048)))

/-- The rows of the result scaled to mean square one, times the last gains. -/
def finalNorm (h : FVec F S8192x2048 .f32) (g : FVec F S2048 .f32) : FVec F S8192x2048 .f32 :=
  mulf (mulf h (broadcastInDim S8192x2048 ![0, 1] bcast_S8192x1_S8192x2048_0_1 (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

theorem res_eq (m : (ℓ : Loc nD τ sig) → Buf (Elt F) ℓ) (c : Dev nD) :
    Value.res_main_v40 m c = finalNorm (result (m ((c.tc : Thread nD τ).loc main_arg0)) (swiglu (gateUp (normed (m ((c.tc : Thread nD τ).loc main_arg0)) (m ((c.tc : Thread nD τ).loc main_arg1))) (m ((c.tc : Thread nD τ).loc main_arg2)))) (m ((c.tc : Thread nD τ).loc main_arg3))) (m ((c.tc : Thread nD τ).loc main_arg4)) := rfl

end Terms

theorem normed_at (h : FVec Ideal S8192x2048 .f32) (ln : FVec Ideal S4x2048 .f32) (r : Fin 8192) (k : Fin 2048) :
    normed h ln (ix2 r k) = norm (fun k => h (ix2 r k)) (fun k => ln (ix2 3 k)) k := by
  pointwise [normed]
  rfl

theorem gateUp_at (x : FVec Ideal S8192x2048 .f32) (w : FVec Ideal S4x2048x11264 .f32) (r : Fin 8192) (j : Fin 11264) :
    gateUp x w (ix2 r j) = ∑ k : Fin 2048, x (ix2 r k) * w (ix3 3 k j) := by
  pointwise [gateUp]

theorem swiglu_at (y : FVec Ideal S8192x11264 .f32) (r : Fin 8192) (j : Fin 5632) :
    swiglu y (ix2 r j) = y (ix2 r (⟨j.val, by omega⟩ : Fin 11264)) * Ideal.logistic (y (ix2 r (⟨j.val, by omega⟩ : Fin 11264))) * y (ix2 r (⟨5632 + j.val, by omega⟩ : Fin 11264)) := by
  pointwise [swiglu]
  rfl

theorem result_at (h : FVec Ideal S8192x2048 .f32) (z : FVec Ideal S8192x5632 .f32) (d : FVec Ideal S4x5632x2048 .f32) (r : Fin 8192) (j : Fin 2048) :
    result h z d (ix2 r j) = h (ix2 r j) + oneHalf * ∑ l : Fin 5632, z (ix2 r l) * d (ix3 3 l j) := by
  pointwise [result]
  rfl

theorem finalNorm_at (h : FVec Ideal S8192x2048 .f32) (g : FVec Ideal S2048 .f32) (r : Fin 8192) (k : Fin 2048) :
    finalNorm h g (ix2 r k) = norm (fun k => h (ix2 r k)) (fun k => g (ix1 k)) k := by
  pointwise [finalNorm]
  rfl

end Cert.Reference3Ideal.Last

end
-- ==== Proof.Last.Value.lean ====
/- The feed-forward kernel with the final norm's array is the reference's: the tiles' parts summed over a row are half of the block's product. -/
module

public import proofs.«01_k».proof.Proof.Last.Frame
public import proofs.«01_k».proof.Proof.Last.Points
public import proofs.«01_k».proof.Proof.Last.RefTerms
public import proofs.«01_k».proof.Proof.Ffn.Value
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Last

open Idealize.ShloMosaic Idealize.ShloMosaic.TcCoe
open Idealize.ShloMosaic.Pipeline (Dat Cfg Window)
open Cert.Kernel3Ideal Cert.Kernel3Ideal.Gen
open Cert.Reference3Ideal.Last (normed gateUp swiglu result finalNorm normed_at gateUp_at swiglu_at result_at finalNorm_at)
open Cert.Kernel2Ideal.Ffn (act norm oneHalf half_sum sum_tiles)

section Blocks
variable (m : (ℓ : Loc nD τ sig) → Buf (Elt Ideal) ℓ) (c : Dev nD) (t : Fin cfg0.N)

theorem idx0_0 : ∀ t : Fin cfg0.N, win0_0.index t = ![t.val, 0] := (by decide +kernel : ∀ t : Fin grid0.N, _)
theorem idx0_1 : ∀ t : Fin cfg0.N, win0_1.index t = ![3, 0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![t.val, 0] := (by decide +kernel : ∀ t : Fin grid0.N, _)

/-- A row of a point's block. -/
def row (t : Fin cfg0.N) (r : Fin 1024) : Fin 8192 := ⟨1024 * t.val + r.val, by have : t.val < 8 := t.isLt; omega⟩

theorem hb_at (r : Fin 1024) (k : Fin 2048) : hb m c t (ix2 r k) = m ((c : Thread nD τ).loc main_arg0) (ix2 (row t r) k) := by
  rw [← V_main_arg0 m c]
  unfold hb
  blk_simp [iblk]
  refine congrArg _ ?_
  blk_ext [idx0_0 t, row]

theorem gains_at (k : Fin 2048) : V m c main_v0 (ix3 3 0 k) = m ((c : Thread nD τ).loc main_arg1) (ix2 3 k) := by
  entry_read
  pointwise []

theorem nb_at (k : Fin 2048) : nb m c t (ix3 0 0 k) = m ((c : Thread nD τ).loc main_arg1) (ix2 3 k) := by
  rw [← gains_at m c]
  unfold nb
  blk_simp [iblk]
  refine congrArg _ ?_
  blk_ext [idx0_1 t]

theorem last_gains_at (k : Fin 2048) : V m c main_v1 (ix2 0 k) = m ((c : Thread nD τ).loc main_arg4) (ix1 k) := by
  entry_read
  pointwise []

theorem fb_at (k : Fin 2048) : fb m c t (ix2 0 k) = m ((c : Thread nD τ).loc main_arg4) (ix1 k) := by
  rw [← last_gains_at m c]
  unfold fb
  blk_simp [iblk]
  refine congrArg _ ?_
  blk_ext [idx0_2 t]

/-- The reference's rows before the last norm. -/
def Y : FVec Ideal S8192x2048 .f32 :=
  result (F := Ideal) (m ((c : Thread nD τ).loc main_arg0)) (swiglu (F := Ideal) (gateUp (F := Ideal) (normed (F := Ideal) (m ((c : Thread nD τ).loc main_arg0)) (m ((c : Thread nD τ).loc main_arg1))) (m ((c : Thread nD τ).loc main_arg2)))) (m ((c : Thread nD τ).loc main_arg3))

/-- The reference's result of the arguments. -/
def G : Buf (Elt Ideal) ((c : Thread nD τ).loc main_v2) := finalNorm (F := Ideal) (Y m c) (m ((c : Thread nD τ).loc main_arg4))

/-- The output block before its norm is the block of the reference's rows. -/
theorem acc_row (r : Fin 1024) (d : Fin 2048) :
    acc c (Memref.whole main_arg2) (Memref.whole main_arg3) (V m c main_arg2) (V m c main_arg3) (hb m c t) (nb m c t) 21 (ix2 r d) = Y m c (ix2 (row t r) d) := by
  rw [acc_at c _ _ _ _ r d 21 (by norm_num)]
  unfold Y
  rw [result_at, hb_at]
  refine congrArg _ ?_
  simp only [hb_at, nb_at, V_main_arg2, V_main_arg3]
  refine (sum_tiles fun j => part c (m ((c : Thread nD τ).loc main_arg2)) (m ((c : Thread nD τ).loc main_arg3)) _ d j).trans ?_
  rw [half_sum]
  refine Finset.sum_congr rfl fun j _ => ?_
  rw [swiglu_at, gateUp_at, gateUp_at]
  simp only [normed_at]
  unfold part act gateOf upOf
  rw [← mul_assoc oneHalf, mul_left_comm]

/-- A point's block is its block of the reference's result. -/
theorem ob_at (r : Fin 1024) (d : Fin 2048) : ob m c t (ix2 r d) = G m c (ix2 (row t r) d) := by
  unfold ob G
  rw [pay2_at, finalNorm_at]
  simp only [fb_at]
  exact congrArg (fun f => norm f _ d) (funext fun k => acc_row m c t r k)

end Blocks

/-- The array after the run. -/
theorem array_eq (m : (ℓ : Loc nD τ sig) → Buf (Elt Ideal) ℓ) (c : Dev nD) : (dats m 0 c).arrAt 3 (cfgs 0).N = G m c := by
  refine (dats m 0 c).arrAt_eq_of_covers 3 _ (by decide +kernel) fun t hf y => ?_
  blk_simp
  rw [after_3]
  idx_vars y
  refine (ob_at m c t _ _).trans ?_
  refine congrArg _ ?_
  blk_ext [idx0_3 t, row]

end Cert.Kernel3Ideal.Last

end
-- ==== Proof.Qkv.RefTerms.lean ====
/- The reference's queries, keys and values at an element. -/
module

public import proofs.«01_k».proof.Defs
public import proofs.«01_k».proof.Proof.Gen.Reference4Ideal
public import proofs.«01_k».proof.Proof.Gen.Reference4Ideal.Run
public import Idealize.ShloMosaic.Lib.Pipeline.ValueKit
public import Idealize.ShloMosaic.Lib.Pointwise
public import Idealize.ShloMosaic.Lib.StableHlo.Run

@[expose] public section

set_option maxRecDepth 16384

noncomputable section

namespace Cert.Reference4Ideal.Qkv

open Idealize.ShloMosaic Idealize.ShloMosaic.TcCoe Idealize.SL.Sem
open Cert.Reference4Ideal Cert.Reference4Ideal.Gen

section Terms
variable {F : FTy → Type} [FloatOps F]

/-- The rows scaled to mean square one, times the gains. -/
def normed (h : FVec F S8192x2048 .f32) (ln : FVec F S4x2048 .f32) : FVec F S8192x2048 .f32 :=
  mulf (mulf h (broadcastInDim S8192x2048 ![0, 1] bcast_S8192x1_S8192x2048_0_1 (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] ln slices_S4x2048_S1x2048_0_0) shapeCasts_S1x2048_S2048)))

/-- The rows' products with all columns of the weights. -/
def columns (x : FVec F S8192x2048 .f32) (w : FVec F S2x2048x6144 .f32) : FVec F S8192x6144 .f32 :=
  Host.dotGeneral dot_S8192x2048_S2048x6144_S8192x6144_1_0_0_1_n_n none x (shapeCast _ (extractStridedSlice S1x2048x6144 ![0, 0, 0] w slices_S2x2048x6144_S1x2048x6144_0_0_0) shapeCasts_S1x2048x6144_S2048x6144)

/-- The columns in sixteen heads. -/
def heads (y : FVec F S8192x2048 .f32) : FVec F S16x8192x128 .f32 :=
  transpose S16x8192x128 [1, 0, 2] (shapeCast _ y shapeCasts_S8192x2048_S8192x16x128) transposes_S8192x16x128_S16x8192x128_1_0_2

/-- The factor of the queries. -/
def factor : FVec F S_ .f32 :=
  Host.divf (constant S_ .f32 0x3F800000#32) (mulf (Host.log (constant S_ .f32 0x40000000#32)) (Host.sqrt (constant S_ .f32 0x43000000#32)))

/-- The queries times their factor, the keys and the values, one after the other. -/
def result (p : FVec F S8192x6144 .f32) : FVec F S48x8192x128 .bf16 :=
  truncf .bf16 (concatenate S48x8192x128 0
    [⟨S16x8192x128, heads (mulf (extractStridedSlice S8192x2048 ![0, 0] p slices_S8192x6144_S8192x2048_0_0) (broadcastInDim S8192x2048 ![] bcast_S_S8192x2048 factor))⟩,
     ⟨S16x8192x128, heads (extractStridedSlice S8192x2048 ![0, 2048] p slices_S8192x6144_S8192x2048_0_2048)⟩,
     ⟨S16x8192x128, heads (extractStridedSlice S8192x2048 ![0, 4096] p slices_S8192x6144_S8192x2048_0_4096)⟩]
    concatenates_S16x8192x128_S16x8192x128_S16x8192x128_S48x8192x128_d0 : FVec F S48x8192x128 .f32) bitsLt_bf16_f32

/-- The reference's run: its result, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = result (columns (normed (m ((c.tc : Thread nD τ).loc main_arg0)) (m ((c.tc : Thread nD τ).loc main_arg1))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Terms

/-- A row scaled to mean square one, times the gains. -/
def norm (h n : Fin 2048 → EReal) (k : Fin 2048) : EReal :=
  h k * Ideal.rsqrt (Ideal.div (∑ i : Fin 2048, h i * h i) (Ideal.ofBits .f32 0x45000000#32) + Ideal.ofBits .f32 0x358637BD#32) * n k

theorem normed_at (h : FVec Ideal S8192x2048 .f32) (ln : FVec Ideal S4x2048 .f32) (r : Fin 8192) (k : Fin 2048) :
    normed h ln (ix2 r k) = norm (fun k => h (ix2 r k)) (fun k => ln (ix2 0 k)) k := by
  pointwise [normed]
  rfl

theorem columns_at (x : FVec Ideal S8192x2048 .f32) (w : FVec Ideal S2x2048x6144 .f32) (r : Fin 8192) (j : Fin 6144) :
    columns x w (ix2 r j) = ∑ k : Fin 2048, x (ix2 r k) * w (ix3 0 k j) := by
  pointwise [columns]

theorem heads_at (y : FVec Ideal S8192x2048 .f32) (e : Fin 16) (r : Fin 8192) (d : Fin 128) :
    heads y (ix3 e r d) = y (ix2 r ⟨128 * e.val + d.val, by omega⟩) := by
  pointwise [heads]
  refine congrArg _ ?_
  congr 2
  omega

theorem two_eq : Ideal.ofBits .f32 0x40000000#32 = ((2 : ℝ) : EReal) := by
  simp [Ideal.ofBits, Ideal.ieee, -EReal.coe_mul]; norm_num

theorem width_eq : Ideal.ofBits .f32 0x43000000#32 = ((128 : ℝ) : EReal) := by
  simp [Ideal.ofBits, Ideal.ieee, -EReal.coe_mul]; norm_num

/-- The factor is the real `1/(log 2 · √128)`. -/
theorem factor_at (i : S_.Idx) : factor (F := Ideal) i = (((Real.log 2 * Real.sqrt 128)⁻¹ : ℝ) : EReal) := by
  have hl : 0 < Real.log 2 := Real.log_pos (by norm_num)
  have hs : 0 < Real.sqrt 128 := Real.sqrt_pos.mpr (by norm_num)
  pointwise [factor]
  rw [two_eq, width_eq, Ideal.log_coe, Ideal.sqrt_coe, if_neg (by norm_num), if_neg (by norm_num), ← EReal.coe_mul,
    Ideal.div_coe (mul_pos hl hs).ne', one_mul, one_div]

theorem result_at (p : FVec Ideal S8192x6144 .f32) (e : Fin 48) (r : Fin 8192) (d : Fin 128) :
    result p (ix3 e r d) = p (ix2 r ⟨128 * e.val + d.val, by omega⟩)
      * (if e.val < 16 then (((Real.log 2 * Real.sqrt 128)⁻¹ : ℝ) : EReal) else 1) := by
  pointwise [result]
  split
  · rw [heads_at]
    pointwise []
    rw [factor_at]
  · split
    · rw [heads_at, mul_one]
      pointwise []
      refine congrArg _ ?_
      congr 2
      omega
    · rw [heads_at, mul_one]
      pointwise []
      refine congrArg _ ?_
      congr 2
      omega

end Cert.Reference4Ideal.Qkv

end
-- ==== Proof.Qkv.Value.lean ====
/- The projection to queries, keys and values: what the kernel leaves. -/
module

public import proofs.«01_k».proof.Defs
public import proofs.«01_k».proof.Proof.Gen.Kernel4
public import proofs.«01_k».proof.Proof.Gen.Kernel4.Frame
public import proofs.«01_k».proof.Proof.Gen.Kernel4Ideal.Frame
public import proofs.«01_k».proof.Proof.Qkv.RefTerms
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Init

@[expose] public section

set_option maxRecDepth 16384

noncomputable section

namespace Cert.Kernel4Ideal.Qkv

open Idealize.ShloMosaic Idealize.ShloMosaic.TcCoe Idealize.SL.Sem
open Cert.Kernel4Ideal Cert.Kernel4Ideal.Gen
open Cert.Reference4Ideal.Qkv (norm normed columns result normed_at columns_at result_at)

theorem pay11_at (h : Vec Ideal S1024x2048 .f32) (g : Vec Ideal S1x1x2048 .f32) (r : Fin 1024) (k : Fin 2048) :
    k0_pay11 h g (ix2 r k) = norm (fun k => h (ix2 r k)) (fun k => g (ix3 0 0 k)) k := by
  pointwise [k0_pay11]
  rfl

theorem pay12_at (h : Vec Ideal S1024x2048 .f32) (g : Vec Ideal S1x1x2048 .f32) (r : Fin 1024) (k : Fin 2048) :
    k0_pay12 h g (ix2 r k) = norm (fun k => h (ix2 r k)) (fun k => g (ix3 0 0 k)) k := by
  rw [← pay11_at]
  pointwise [k0_pay12]

/-- The factor of a block of columns. -/
def scale (q : BitVec 32) : EReal :=
  Scalar.select (Scalar.cmpi .slt q 2#32) (Named.named (F := Ideal) κ "q_scale" (φ := .f32) 0x3E0293EE#32) (1 : EReal)

theorem pay16_at (q : BitVec 32) (x : Vec Ideal S1024x2048 .bf16) (w : Vec Ideal S1x2048x1024 .f32) (r : Fin 1024) (j : Fin 1024) :
    k0_pay16 q x w (ix2 r j) = (∑ k : Fin 2048, x (ix2 r k) * w (ix3 0 k j)) * scale q := by
  pointwise [k0_pay16]
  rfl

theorem pay13_eq (q : BitVec 32) (h : Vec Ideal S1024x2048 .f32) (g : Vec Ideal S1x1x2048 .f32) (w : Vec Ideal S1x2048x1024 .f32) :
    k0_pay13 q h g w = k0_pay16 q (k0_pay11 h g) w := rfl

/-- Eight heads of a block of columns, stored one by one, are the block's columns. -/
theorem stored (P : FVec Ideal S1024x1024 .bf16) (p0 p1 p2 p3 p4 p5 p6 p7 : FVec Ideal S1x1024x128 .bf16)
    (h0 : ∀ (r : Fin 1024) (d : Fin 128), p0 (ix3 0 r d) = P (ix2 r ⟨0 + d.val, by omega⟩))
    (h1 : ∀ (r : Fin 1024) (d : Fin 128), p1 (ix3 0 r d) = P (ix2 r ⟨128 + d.val, by omega⟩))
    (h2 : ∀ (r : Fin 1024) (d : Fin 128), p2 (ix3 0 r d) = P (ix2 r ⟨256 + d.val, by omega⟩))
    (h3 : ∀ (r : Fin 1024) (d : Fin 128), p3 (ix3 0 r d) = P (ix2 r ⟨384 + d.val, by omega⟩))
    (h4 : ∀ (r : Fin 1024) (d : Fin 128), p4 (ix3 0 r d) = P (ix2 r ⟨512 + d.val, by omega⟩))
    (h5 : ∀ (r : Fin 1024) (d : Fin 128), p5 (ix3 0 r d) = P (ix2 r ⟨640 + d.val, by omega⟩))
    (h6 : ∀ (r : Fin 1024) (d : Fin 128), p6 (ix3 0 r d) = P (ix2 r ⟨768 + d.val, by omega⟩))
    (h7 : ∀ (r : Fin 1024) (d : Fin 128), p7 (ix3 0 r d) = P (ix2 r ⟨896 + d.val, by omega⟩))
    (e : Fin 8) (r : Fin 1024) (d : Fin 128) :
    View.canon (Val := Elt Ideal) (s := S8x1024x128) (e := .bf16)
      [⟨Rect.unit ![7, 0, 0] ![1, 1024, 128] inb_S8x1024x128_S1x1024x128_7_0_0, p7⟩,
       ⟨Rect.unit ![6, 0, 0] ![1, 1024, 128] inb_S8x1024x128_S1x1024x128_6_0_0, p6⟩,
       ⟨Rect.unit ![5, 0, 0] ![1, 1024, 128] inb_S8x1024x128_S1x1024x128_5_0_0, p5⟩,
       ⟨Rect.unit ![4, 0, 0] ![1, 1024, 128] inb_S8x1024x128_S1x1024x128_4_0_0, p4⟩,
       ⟨Rect.unit ![3, 0, 0] ![1, 1024, 128] inb_S8x1024x128_S1x1024x128_3_0_0, p3⟩,
       ⟨Rect.unit ![2, 0, 0] ![1, 1024, 128] inb_S8x1024x128_S1x1024x128_2_0_0, p2⟩,
       ⟨Rect.unit ![1, 0, 0] ![1, 1024, 128] inb_S8x1024x128_S1x1024x128_1_0_0, p1⟩,
       ⟨Rect.unit ![0, 0, 0] ![1, 1024, 128] inb_S8x1024x128_S1x1024x128_0_0_0, p0⟩] (ix3 e r d)
      = P (ix2 r ⟨128 * e.val + d.val, by omega⟩) := by
  have key : ∀ (n : ℕ) (b : Fin 1024) (g : Fin 128) (hn : n + g.val < 1024) (y : S8x1024x128.Idx) (h1 : (y 1).val = b.val)
      (h2 : 128 * (y 0).val + (y 2).val = n + g.val) (hy : 128 * (y 0).val + (y 2).val < 1024),
      P (ix2 b ⟨n + g.val, hn⟩) = P (ix2 (y 1) ⟨128 * (y 0).val + (y 2).val, hy⟩) := fun n b g hn y h1 h2 hy => by
    have e1 : y 1 = b := Fin.ext h1
    rw [e1]
    exact congrArg (fun j => P (ix2 b j)) (Fin.ext h2.symm)
  refine (View.canon_apply_of_pieces (Val := Elt Ideal) (e := .bf16) (fun y : S8x1024x128.Idx => P (ix2 (y 1) ⟨128 * (y 0).val + (y 2).val, by
    have h0 : (y 0).val < 8 := (y 0).isLt
    have h2 : (y 2).val < 128 := (y 2).isLt
    omega⟩)) _ (fun q hq x => ?_) _ ?_).trans rfl
  · simp only [List.mem_cons, List.mem_nil_iff, or_false] at hq
    rcases hq with rfl | rfl | rfl | rfl | rfl | rfl | rfl | rfl
    all_goals
      change S1x1024x128.Idx at x
      idx_vars x
      obtain rfl : x0 = 0 := Subsingleton.elim _ _
      first
        | refine (h0 x1 x2).trans (key _ _ _ _ _ (ValueKit.rect_emb_unit_val _ _ _ _ _ |>.trans (Nat.zero_add _)) ?_ _)
        | refine (h1 x1 x2).trans (key _ _ _ _ _ (ValueKit.rect_emb_unit_val _ _ _ _ _ |>.trans (Nat.zero_add _)) ?_ _)
        | refine (h2 x1 x2).trans (key _ _ _ _ _ (ValueKit.rect_emb_unit_val _ _ _ _ _ |>.trans (Nat.zero_add _)) ?_ _)
        | refine (h3 x1 x2).trans (key _ _ _ _ _ (ValueKit.rect_emb_unit_val _ _ _ _ _ |>.trans (Nat.zero_add _)) ?_ _)
        | refine (h4 x1 x2).trans (key _ _ _ _ _ (ValueKit.rect_emb_unit_val _ _ _ _ _ |>.trans (Nat.zero_add _)) ?_ _)
        | refine (h5 x1 x2).trans (key _ _ _ _ _ (ValueKit.rect_emb_unit_val _ _ _ _ _ |>.trans (Nat.zero_add _)) ?_ _)
        | refine (h6 x1 x2).trans (key _ _ _ _ _ (ValueKit.rect_emb_unit_val _ _ _ _ _ |>.trans (Nat.zero_add _)) ?_ _)
        | refine (h7 x1 x2).trans (key _ _ _ _ _ (ValueKit.rect_emb_unit_val _ _ _ _ _ |>.trans (Nat.zero_add _)) ?_ _)
    all_goals
      rw [ValueKit.rect_emb_unit_val, ValueKit.rect_emb_unit_val]
      first
        | exact (show 128 * (0 + 0) + (0 + x2.val) = 0 + x2.val by omega)
        | exact (show 128 * (1 + 0) + (0 + x2.val) = 128 + x2.val by omega)
        | exact (show 128 * (2 + 0) + (0 + x2.val) = 256 + x2.val by omega)
        | exact (show 128 * (3 + 0) + (0 + x2.val) = 384 + x2.val by omega)
        | exact (show 128 * (4 + 0) + (0 + x2.val) = 512 + x2.val by omega)
        | exact (show 128 * (5 + 0) + (0 + x2.val) = 640 + x2.val by omega)
        | exact (show 128 * (6 + 0) + (0 + x2.val) = 768 + x2.val by omega)
        | exact (show 128 * (7 + 0) + (0 + x2.val) = 896 + x2.val by omega)
  · refine View.cover_of_tiledL (s := S8x1024x128) _ S1x1024x128.size ?_ _
    sl_kernel_rfl

section Points
variable (m : (ℓ : Loc nD τ sig) → Buf (Elt Ideal) ℓ) (c : Dev nD) (t : Fin cfg0.N)

theorem out_A (h0 : t.val % 6 = 0) (e : Fin 8) (r : Fin 1024) (d : Fin 128) : (outsAt0 m c t.val t.isLt).1 (ix3 e r d)
    = (∑ k : Fin 2048, norm (fun k => iblk m c 0 t (ix2 r k)) (fun k => iblk m c 1 t (ix3 0 0 k)) k
        * iblk m c 2 t (ix3 0 k ⟨128 * e.val + d.val, by omega⟩)) * scale (BitVec.ofNat 32 (grid0.coords t 1).val) := by
  rw [outsAt0_A m c t h0 (by omega)]
  frame_out
  generalize BitVec.ofNat 32 (grid0.coords t 1).val = q
  generalize iblk m c 0 t = x0
  generalize iblk m c 1 t = x1
  generalize iblk m c 2 t = x2
  refine (stored (k0_pay13 q x0 x1 x2) _ _ _ _ _ _ _ _ ?_ ?_ ?_ ?_ ?_ ?_ ?_ ?_ e r d).trans ?_
  · intro r d; pointwise [k0_pay14]
  · intro r d; pointwise [k0_pay1, k0_pay15]
  · intro r d; pointwise [k0_pay2]
  · intro r d; pointwise [k0_pay3]
  · intro r d; pointwise [k0_pay4]
  · intro r d; pointwise [k0_pay5]
  · intro r d; pointwise [k0_pay6]
  · intro r d; pointwise [k0_pay7]
  · rw [pay13_eq, pay16_at]
    simp only [pay11_at]

theorem out_B (h0 : ¬ t.val % 6 = 0) (e : Fin 8) (r : Fin 1024) (d : Fin 128) : (outsAt0 m c t.val t.isLt).1 (ix3 e r d)
    = (∑ k : Fin 2048, (outsAt0 m c (t.val - 1) (Nat.lt_of_le_of_lt (Nat.sub_le _ _) t.isLt)).2 (ix2 r k)
        * iblk m c 2 t (ix3 0 k ⟨128 * e.val + d.val, by omega⟩)) * scale (BitVec.ofNat 32 (grid0.coords t 1).val) := by
  rw [outsAt0_B m c t h0 (by omega)]
  frame_out
  simp only [read_unread_whole]
  generalize BitVec.ofNat 32 (grid0.coords t 1).val = q
  generalize (outsAt0 m c (t.val - 1) (Nat.lt_of_le_of_lt (Nat.sub_le _ _) t.isLt)).2 = x0
  generalize iblk m c 2 t = x2
  refine (stored (k0_pay16 q x0 x2) _ _ _ _ _ _ _ _ ?_ ?_ ?_ ?_ ?_ ?_ ?_ ?_ e r d).trans ?_
  · intro r d; pointwise [k0_pay17]
  · intro r d; pointwise [k0_pay18]
  · intro r d; pointwise [k0_pay19]
  · intro r d; pointwise [k0_pay20]
  · intro r d; pointwise [k0_pay21]
  · intro r d; pointwise [k0_pay8, k0_pay22]
  · intro r d; pointwise [k0_pay9]
  · intro r d; pointwise [k0_pay10]
  · exact pay16_at q x0 x2 r _

theorem scratch_A (h0 : t.val % 6 = 0) (r : Fin 1024) (k : Fin 2048) : (outsAt0 m c t.val t.isLt).2 (ix2 r k)
    = norm (fun k => iblk m c 0 t (ix2 r k)) (fun k => iblk m c 1 t (ix3 0 0 k)) k := by
  rw [outsAt0_A m c t h0 (by omega)]
  frame_out
  exact pay12_at _ _ r k

theorem scratch_B (h0 : ¬ t.val % 6 = 0) : (outsAt0 m c t.val t.isLt).2
    = (outsAt0 m c (t.val - 1) (Nat.lt_of_le_of_lt (Nat.sub_le _ _) t.isLt)).2 := by
  rw [outsAt0_B m c t h0 (by omega)]
  rfl

theorem idx0_0 : ∀ t : Fin cfg0.N, win0_0.index t = ![t.val / 6, 0] := (by decide +kernel : ∀ t : Fin grid0.N, _)
theorem idx0_1 : ∀ t : Fin cfg0.N, win0_1.index t = ![0, 0, 0] := (by decide +kernel : ∀ t : Fin grid0.N, _)
theorem idx0_2 : ∀ t : Fin cfg0.N, win0_2.index t = ![0, 0, t.val % 6] := (by decide +kernel : ∀ t : Fin grid0.N, _)
theorem idx0_3 : ∀ t : Fin cfg0.N, win0_3.index t = ![t.val % 6, t.val / 6, 0] := (by decide +kernel : ∀ t : Fin grid0.N, _)
theorem coord_1 : ∀ t : Fin cfg0.N, (grid0.coords t 1).val = t.val % 6 := (by decide +kernel : ∀ t : Fin grid0.N, _)

/-- A row of a point's block. -/
def row (t : Fin cfg0.N) (r : Fin 1024) : Fin 8192 := ⟨1024 * (t.val / 6) + r.val, by have : t.val < 48 := t.isLt; omega⟩

/-- A column of a point's block. -/
def col (t : Fin cfg0.N) (j : Fin 1024) : Fin 6144 := ⟨1024 * (t.val % 6) + j.val, by omega⟩

/-- A head of a point's block. -/
def head (t : Fin cfg0.N) (e : Fin 8) : Fin 48 := ⟨8 * (t.val % 6) + e.val, by omega⟩

theorem rows_at (r : Fin 1024) (k : Fin 2048) : iblk m c 0 t (ix2 r k) = m ((c : Thread nD τ).loc main_arg0) (ix2 (row t r) k) := by
  rw [← V_main_arg0 m c]
  blk_simp [iblk]
  refine congrArg _ ?_
  blk_ext [idx0_0 t, row]

theorem gains_at (k : Fin 2048) : V m c main_v0 (ix3 0 0 k) = m ((c : Thread nD τ).loc main_arg1) (ix2 0 k) := by
  entry_read
  pointwise []

theorem gain_at (k : Fin 2048) : iblk m c 1 t (ix3 0 0 k) = m ((c : Thread nD τ).loc main_arg1) (ix2 0 k) := by
  rw [← gains_at m c]
  blk_simp [iblk]
  refine congrArg _ ?_
  blk_ext [idx0_1 t]

theorem weights_at (k : Fin 2048) (j : Fin 1024) : iblk m c 2 t (ix3 0 k j) = m ((c : Thread nD τ).loc main_arg2) (ix3 0 k (col t j)) := by
  rw [← V_main_arg2 m c]
  blk_simp [iblk]
  refine congrArg _ ?_
  blk_ext [idx0_2 t, col]

/-- The normalised rows of a row block. -/
abbrev nrm (R : Fin 8192) (k : Fin 2048) : EReal :=
  norm (fun k => m ((c : Thread nD τ).loc main_arg0) (ix2 R k)) (fun k => m ((c : Thread nD τ).loc main_arg1) (ix2 0 k)) k

theorem norm_at (r : Fin 1024) (k : Fin 2048) :
    norm (fun k => iblk m c 0 t (ix2 r k)) (fun k => iblk m c 1 t (ix3 0 0 k)) k = nrm m c (row t r) k := by
  simp only [rows_at, gain_at]

/-- The scratch after every point holds its row block's normalised rows. -/
theorem scratch_at : ∀ (n : ℕ) (hn : n < cfg0.N) (r : Fin 1024) (k : Fin 2048), (outsAt0 m c n hn).2 (ix2 r k) = nrm m c (row ⟨n, hn⟩ r) k := by
  intro n
  induction n with
  | zero => exact fun hn r k => (scratch_A m c ⟨0, hn⟩ rfl r k).trans (norm_at m c ⟨0, hn⟩ r k)
  | succ n ih =>
    intro hn r k
    by_cases h0 : (n + 1) % 6 = 0
    · exact (scratch_A m c ⟨n + 1, hn⟩ h0 r k).trans (norm_at m c ⟨n + 1, hn⟩ r k)
    · rw [show (outsAt0 m c (n + 1) hn).2 = (outsAt0 m c n (by omega)).2 from scratch_B m c ⟨n + 1, hn⟩ h0, ih]
      refine congrArg (fun R => nrm m c R k) (Fin.ext ?_)
      simp only [row]
      omega

/-- The factor a point's columns take. -/
theorem scale_at : scale (BitVec.ofNat 32 (grid0.coords t 1).val) = if t.val % 6 < 2 then (((Real.log 2 * Real.sqrt 128)⁻¹ : ℝ) : EReal) else 1 := by
  have hc : Named.named (F := Ideal) κ "q_scale" (φ := .f32) 0x3E0293EE#32 = (((Real.log 2 * Real.sqrt 128)⁻¹ : ℝ) : EReal) :=
    IdealRules.named_const.ideal_named_scalar _ _ _ _ rfl
  unfold scale
  rw [hc, coord_1]
  have h6 : t.val % 6 < 6 := Nat.mod_lt _ (by norm_num)
  generalize t.val % 6 = q at h6
  interval_cases q <;> rfl

/-- The kernel's block at a point. -/
theorem out_at (e : Fin 8) (r : Fin 1024) (d : Fin 128) : (outsAt0 m c t.val t.isLt).1 (ix3 e r d)
    = (∑ k : Fin 2048, nrm m c (row t r) k * (m ((c : Thread nD τ).loc main_arg2) (ix3 0 k (col t ⟨128 * e.val + d.val, by omega⟩)) : EReal))
        * (if t.val % 6 < 2 then (((Real.log 2 * Real.sqrt 128)⁻¹ : ℝ) : EReal) else 1) := by
  rw [← scale_at t]
  by_cases h0 : t.val % 6 = 0
  · rw [out_A m c t h0]
    simp only [norm_at, weights_at]
  · rw [out_B m c t h0]
    simp only [scratch_at, weights_at]
    refine congrArg (· * _) (Finset.sum_congr rfl fun k _ => congrArg (· * _) (congrArg (fun R => nrm m c R k) (Fin.ext ?_)))
    simp only [row]
    omega

/-- The reference's result of the arguments. -/
def G : Buf (Elt Ideal) ((c : Thread nD τ).loc main_v1) :=
  result (F := Ideal) (columns (F := Ideal) (normed (F := Ideal) (m ((c : Thread nD τ).loc main_arg0)) (m ((c : Thread nD τ).loc main_arg1))) (m ((c : Thread nD τ).loc main_arg2)))

theorem block_at (e : Fin 8) (r : Fin 1024) (d : Fin 128) : (outsAt0 m c t.val t.isLt).1 (ix3 e r d) = G m c (ix3 (head t e) (row t r) d) := by
  have hq : (head t e).val < 16 ↔ t.val % 6 < 2 := by simp only [head]; omega
  rw [out_at]
  unfold G
  rw [result_at, columns_at]
  simp only [normed_at, hq]
  refine congrArg (· * _) (Finset.sum_congr rfl fun k _ => congrArg (_ * ·) (congrArg (fun j => m ((c : Thread nD τ).loc main_arg2) (ix3 0 k j)) (Fin.ext ?_)))
  simp only [col, head]
  omega

end Points

/-- The array after the run. -/
theorem array_eq (m : (ℓ : Loc nD τ sig) → Buf (Elt Ideal) ℓ) (c : Dev nD) : (dats m 0 c).arrAt 3 (cfgs 0).N = G m c := by
  refine (dats m 0 c).arrAt_eq_of_covers 3 _ (by decide +kernel) fun t hf y => ?_
  blk_simp
  rw [after0_3]
  idx_vars y
  refine (block_at m c t _ _ _).trans ?_
  refine congrArg _ ?_
  blk_ext [idx0_3 t, row, head]

end Cert.Kernel4Ideal.Qkv

namespace Cert.Proof

open Idealize.ShloMosaic Idealize.SL.Sem

/-- The kernel on words. -/
theorem frame_kernel4 : Cert.quiescent_Kernel4 (hKernel4 := Cert.Kernel4.Gen.facts) := fun m ρ _ =>
  Cert.Kernel4.Gen.frame (F := Bits) m ρ

/-- The kernel on extended reals. -/
theorem frame_ideal4 : Cert.quiescent_Kernel4Ideal (hKernel4Ideal := Cert.Kernel4Ideal.Gen.facts) := fun m ρ _ =>
  Cert.Kernel4Ideal.Gen.frame (F := Ideal) m ρ

/-- The reference: its operations write no argument, and it declares no semaphore. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Qkv.run (F := Ideal) m ρ)

/-- The named constant is the real `1/(log 2 · √128)`. -/
theorem factor_named : Cert.preserves_Kernel4_Kernel4Ideal :=
  IdealRules.named_const.statement Cert.Kernel4Ideal.κ "q_scale" .f32 0x3E0293EE#32 (((Real.log 2 * Real.sqrt 128)⁻¹ : ℝ) : EReal) rfl

/-- The projection and its formula end with one array. -/
theorem qkv_eq : Cert.algebraic_Kernel4Ideal_Reference4Ideal (hKernel4Ideal := Cert.Kernel4Ideal.Gen.facts)
    (hReference4Ideal := Cert.Reference4Ideal.Gen.facts) := fun m g m' g' hpre hargs => by
  refine ⟨fun c => Cert.Kernel4Ideal.Qkv.G m c, ?_, ?_⟩
  · have hk := θ_run_and (Cert.Kernel4Ideal.Gen.run_main (F := Ideal) m g) (Cert.Kernel4Ideal.Gen.unchanged (F := Ideal) m g)
    refine (θ_run Cert.Kernel4Ideal.defs _ _).mono (fun r h c => ⟨?_, h.2 c⟩) hk
    exact ((h.1 c).1 3).trans (Cert.Kernel4Ideal.Qkv.array_eq m c)
  · refine (θ_run Cert.Reference4Ideal.defs _ _).mono (fun r h c => ⟨(h c).1.trans ?_, (h c).2⟩) (Cert.Reference4Ideal.Qkv.run (F := Ideal) m' g')
    obtain ⟨h0, h1, h2⟩ := hargs c
    rw [h0, h1, h2]
    rfl

end Cert.Proof

end
-- ==== Proof.Out.Value.lean ====
/- The output projection: the frames, and the kernel's array is the rows with the heads' product added. -/
module

public import proofs.«01_k».proof.Defs
public import proofs.«01_k».proof.Proof.Gen.Kernel5
public import proofs.«01_k».proof.Proof.Gen.Kernel5Ideal.Frame
public import proofs.«01_k».proof.Proof.Gen.Reference5Ideal
public import proofs.«01_k».proof.Proof.Gen.Reference5Ideal.Run
public import Idealize.ShloMosaic.Lib.Pipeline.ValueKit
public import Idealize.ShloMosaic.Lib.Pointwise
public import Idealize.ShloMosaic.Lib.Claim
public import Idealize.ShloMosaic.Init

@[expose] public section

set_option maxRecDepth 16384

noncomputable section

namespace Cert.Kernel5Ideal.Out

open Idealize.ShloMosaic Idealize.ShloMosaic.TcCoe Idealize.SL.Sem
open Cert.Kernel5Ideal Cert.Kernel5Ideal.Gen

theorem pay1_at (h : Vec Ideal S512x2048 .f32) (o : Vec Ideal S512x2048 .bf16) (w : Vec Ideal S1x2048x2048 .bf16) (r : Fin 512) (j : Fin 2048) :
    k0_pay1 h o w (ix2 r j) = h (ix2 r j) + ∑ k : Fin 2048, o (ix2 r k) * w (ix3 0 k j) := by
  pointwise [k0_pay1]

/-- The rows with the heads' product added, in the reference's operations. -/
def formula (h : FVec Ideal Cert.Reference5Ideal.S8192x2048 .f32) (o : FVec Ideal Cert.Reference5Ideal.S8192x2048 .bf16)
    (w : FVec Ideal Cert.Reference5Ideal.S2x2048x2048 .f32) : FVec Ideal Cert.Reference5Ideal.S8192x2048 .f32 :=
  addf h (Host.dotGeneral Cert.Reference5Ideal.dot_S8192x2048_S2048x2048_S8192x2048_1_0_0_1_n_n none
    (extf .f32 o Cert.Reference5Ideal.Gen.bitsLt_bf16_f32 : FVec Ideal Cert.Reference5Ideal.S8192x2048 .f32)
    (shapeCast Cert.Reference5Ideal.S2048x2048 (extractStridedSlice Cert.Reference5Ideal.S1x2048x2048 ![0, 0, 0] w
      Cert.Reference5Ideal.Gen.slices_S2x2048x2048_S1x2048x2048_0_0_0) Cert.Reference5Ideal.Gen.shapeCasts_S1x2048x2048_S2048x2048 : FVec Ideal Cert.Reference5Ideal.S2048x2048 .f32))

theorem formula_at (h : FVec Ideal Cert.Reference5Ideal.S8192x2048 .f32) (o : FVec Ideal Cert.Reference5Ideal.S8192x2048 .bf16)
    (w : Vec Ideal Cert.Reference5Ideal.S2x2048x2048 .f32) (r : Fin 8192) (j : Fin 2048) :
    formula h o w (ix2 r j) = h (ix2 r j) + ∑ k : Fin 2048, o (ix2 r k) * w (ix3 0 k j) := by
  pointwise [formula]

section Blocks
variable (m : (ℓ : Loc nD τ sig) → Buf (Elt Ideal) ℓ) (c : Dev nD) (t : Fin cfg0.N)

theorem idx0_0 : ∀ t : Fin cfg0.N, win0_0.index t = ![t.val, 0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![t.val, 0] := (by decide +kernel : ∀ t : Fin grid0.N, _)

/-- A row of a point's block. -/
def row (t : Fin cfg0.N) (r : Fin 512) : Fin 8192 := ⟨512 * t.val + r.val, by have : t.val < 16 := t.isLt; omega⟩

theorem rows_at (r : Fin 512) (k : Fin 2048) : iblk m c 0 t (ix2 r k) = m ((c : Thread nD τ).loc main_arg0) (ix2 (row t r) k) := by
  rw [← V_main_arg0 m c]
  blk_simp [iblk]
  refine congrArg _ ?_
  blk_ext [idx0_0 t, row]

theorem heads_at (r : Fin 512) (k : Fin 2048) : iblk m c 1 t (ix2 r k) = m ((c : Thread nD τ).loc main_arg1) (ix2 (row t r) k) := by
  rw [← V_main_arg1 m c]
  blk_simp [iblk]
  refine congrArg _ ?_
  blk_ext [idx0_1 t, row]

theorem rounded_at (k j : Fin 2048) : V m c main_v0 (ix3 0 k j) = m ((c : Thread nD τ).loc main_arg2) (ix3 0 k j) := by
  entry_read
  pointwise []

theorem weights_at (k j : Fin 2048) : iblk m c 2 t (ix3 0 k j) = m ((c : Thread nD τ).loc main_arg2) (ix3 0 k j) := by
  rw [← rounded_at m c]
  blk_simp [iblk]
  refine congrArg _ ?_
  blk_ext [idx0_2 t]

/-- The reference's result of the arguments. -/
def G : Buf (Elt Ideal) ((c : Thread nD τ).loc main_v1) :=
  formula (m ((c : Thread nD τ).loc main_arg0)) (m ((c : Thread nD τ).loc main_arg1)) (m ((c : Thread nD τ).loc main_arg2))

theorem out_at (r : Fin 512) (j : Fin 2048) : out0_3 (iblk m c 0 t) (iblk m c 1 t) (iblk m c 2 t) (ix2 r j) = G m c (ix2 (row t r) j) := by
  frame_out
  unfold G
  rw [pay1_at, formula_at, rows_at]
  simp only [heads_at, weights_at]

end Blocks

/-- The array after the run. -/
theorem array_eq (m : (ℓ : Loc nD τ sig) → Buf (Elt Ideal) ℓ) (c : Dev nD) : (dats m 0 c).arrAt 3 (cfgs 0).N = G m c := by
  refine (dats m 0 c).arrAt_eq_of_covers 3 _ (by decide +kernel) fun t hf y => ?_
  blk_simp
  rw [after0_3]
  idx_vars y
  refine (out_at m c t _ _).trans ?_
  refine congrArg _ ?_
  blk_ext [idx0_3 t, row]

end Cert.Kernel5Ideal.Out

namespace Cert.Proof

open Idealize.ShloMosaic Idealize.SL.Sem

/-- The two programs' bodies are one text. -/
theorem body5_same : @Cert.Kernel5.defs₀ Bits _ Cert.Kernel5.Gen.facts = @Cert.Kernel5Ideal.defs₀ Bits _ Cert.Kernel5Ideal.Gen.facts := by
  refine congrArg Defs.onTc ?_
  funext l x
  match l, x with
  | 0, (t, s) => exact rfl

theorem defs5_same : @Cert.Kernel5.defs Bits _ Cert.Kernel5.Gen.facts = @Cert.Kernel5Ideal.defs Bits _ Cert.Kernel5Ideal.Gen.facts := by
  unfold Cert.Kernel5.defs Cert.Kernel5Ideal.defs
  exact congrArg (Pipeline.defs _) body5_same

/-- The kernel on words: its text is the one the run is proved for. -/
theorem frame_kernel5 : Cert.quiescent_Kernel5 (hKernel5 := Cert.Kernel5.Gen.facts) := fun m ρ _ => by
  have h := Cert.Kernel5Ideal.Gen.frame (F := Bits) m ρ
  rw [← defs5_same] at h
  exact h

/-- The kernel on extended reals. -/
theorem frame_ideal5 : Cert.quiescent_Kernel5Ideal (hKernel5Ideal := Cert.Kernel5Ideal.Gen.facts) := fun m ρ _ =>
  Cert.Kernel5Ideal.Gen.frame (F := Ideal) m ρ

/-- The reference: its operations write no argument, and it declares no semaphore. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The output projection and its formula end with one array. -/
theorem oproj_eq : Cert.algebraic_Kernel5Ideal_Reference5Ideal (hKernel5Ideal := Cert.Kernel5Ideal.Gen.facts)
    (hReference5Ideal := Cert.Reference5Ideal.Gen.facts) := fun m g m' g' hpre hargs => by
  refine ⟨fun c => Cert.Kernel5Ideal.Out.G m c, ?_, ?_⟩
  · have hk := θ_run_and (Cert.Kernel5Ideal.Gen.run_main (F := Ideal) m g) (Cert.Kernel5Ideal.Gen.unchanged (F := Ideal) m g)
    refine (θ_run Cert.Kernel5Ideal.defs _ _).mono (fun r h c => ⟨?_, h.2 c⟩) hk
    exact ((h.1 c).1 3).trans (Cert.Kernel5Ideal.Out.array_eq m c)
  · refine (θ_run Cert.Reference5Ideal.defs _ _).mono (fun r h c => ⟨(h c).1.trans ?_, (h c).2⟩) (Cert.Reference5Ideal.Value.run (F := Ideal) m' g')
    obtain ⟨h0, h1, h2⟩ := hargs c
    rw [h0, h1, h2]
    rfl

end Cert.Proof

end
-- ==== Proof.Latent.Math.lean ====
/- The norm of a row and the rotation of a head's last columns, on extended reals. -/
module

public import Idealize.ShloMosaic.PureOps.Ideal

@[expose] public section

noncomputable section

namespace Cert.Latent

open Idealize.ShloMosaic

/-- A row scaled to mean square one, times the gains; `c` is the row's length. -/
def norm {n : ℕ} (c : EReal) (h g : Fin n → EReal) (k : Fin n) : EReal :=
  h k * Ideal.rsqrt (Ideal.div (∑ i : Fin n, h i * h i) c + Ideal.ofBits .f32 0x358637BD#32) * g k

theorem sq_nonneg (x : EReal) : 0 ≤ x * x := by
  induction x using EReal.rec with
  | bot => simp
  | coe r => rw [← EReal.coe_mul]; exact_mod_cast mul_self_nonneg r
  | top => simp

/-- The small number added to the mean square is a positive real. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

/-- The reciprocal root of a number above zero is a real. -/
theorem rsqrt_real (x : EReal) (h : 0 < x) : ∃ r : ℝ, Ideal.rsqrt x = (r : EReal) := by
  induction x using EReal.rec with
  | bot => simp at h
  | coe r =>
    have hr : 0 < r := by exact_mod_cast h
    exact ⟨(Real.sqrt r)⁻¹, by rw [Ideal.rsqrt_coe, if_neg hr.le.not_gt, if_neg hr.ne']⟩
  | top => exact ⟨0, by simp⟩

/-- Whatever the row, its norm is real where the gain is: an infinite entry is multiplied by zero. -/
theorem norm_real {n : ℕ} (c : ℝ) (hc : 0 < c) (h g : Fin n → EReal) (k : Fin n) (hg : ∃ r : ℝ, g k = (r : EReal)) :
    ∃ r : ℝ, norm (c : EReal) h g k = (r : EReal) := by
  obtain ⟨a, ha⟩ := hg
  obtain ⟨e, he, hE⟩ := eps_pos
  have hi : (0 : ℝ) < 1 / c := by positivity
  have hle : h k * h k ≤ ∑ i : Fin n, h i * h i := Finset.single_le_sum (f := fun i => h i * h i) (fun i _ => sq_nonneg _) (Finset.mem_univ k)
  have hs : 0 ≤ ∑ i : Fin n, h i * h i := (sq_nonneg _).trans hle
  unfold norm
  rw [ha, hE, Ideal.div_coe hc.ne']
  have hd : 0 ≤ (∑ i : Fin n, h i * h i) * ((1 / c : ℝ) : EReal) := mul_nonneg hs (by exact_mod_cast hi.le)
  have hp : 0 < (∑ i : Fin n, h i * h i) * ((1 / c : ℝ) : EReal) + (e : EReal) :=
    lt_of_lt_of_le (show (0 : EReal) < (e : EReal) by exact_mod_cast he) (le_add_of_nonneg_left hd)
  have htop : h k * h k = ⊤ → (∑ i : Fin n, h i * h i) * ((1 / c : ℝ) : EReal) + (e : EReal) = ⊤ := fun h2 => by
    rw [h2, top_le_iff] at hle
    rw [hle, EReal.top_mul_coe_of_pos hi, EReal.top_add_coe]
  obtain ⟨q, hq⟩ := rsqrt_real _ hp
  have hz : (∃ b : ℝ, h k = (b : EReal)) ∨ h k * h k = ⊤ := by
    generalize h k = x
    induction x using EReal.rec with
    | bot => right; simp
    | coe r => left; exact ⟨r, rfl⟩
    | top => right; simp
  rcases hz with ⟨b, hb⟩ | hz
  · exact ⟨b * q * a, by rw [hq, hb]; push_cast; rfl⟩
  · exact ⟨0, by rw [htop hz]; simp⟩

theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- Of real factors, the products with the negatives sum to the negative of the sum. -/
theorem sum_neg {n : ℕ} (c w : Fin n → EReal) (hc : ∀ k, ∃ r : ℝ, c k = (r : EReal)) (hw : ∀ k, ∃ r : ℝ, w k = (r : EReal)) :
    ∑ k, c k * -w k = -∑ k, c k * w k := by
  choose a ha using hc
  choose b hb using hw
  have h1 : ∑ k, c k * -w k = ((∑ k, a k * -b k : ℝ) : EReal) := by
    rw [coe_sum]; exact Finset.sum_congr rfl fun k _ => by rw [ha, hb]; push_cast; rfl
  have h2 : ∑ k, c k * w k = ((∑ k, a k * b k : ℝ) : EReal) := by
    rw [coe_sum]; exact Finset.sum_congr rfl fun k _ => by rw [ha, hb]; push_cast; rfl
  rw [h1, h2, ← EReal.coe_neg]
  simp

/-- The last 128 columns of a head: 64 columns rotated by the angles, and zeros. -/
def tail (x : Fin 64 → EReal) (co si : Fin 32 → EReal) (l : Fin 128) : EReal :=
  if h1 : l.val < 32 then x ⟨l.val, by omega⟩ * co ⟨l.val, h1⟩ - x ⟨32 + l.val, by omega⟩ * si ⟨l.val, h1⟩
  else if h2 : l.val < 64 then x ⟨l.val - 32, by omega⟩ * si ⟨l.val - 32, by omega⟩ + x ⟨l.val, h2⟩ * co ⟨l.val - 32, by omega⟩
  else 0

/-- The same from 64 columns and 64 exchanged ones side by side, with the tables side by side. -/
def pair (p cs : Fin 128 → EReal) (l : Fin 128) : EReal :=
  if h : l.val < 64 then p l * cs l + p ⟨l.val + 64, by omega⟩ * cs ⟨l.val + 64, by omega⟩ else 0

theorem pair_eq (p cs : Fin 128 → EReal) (x : Fin 64 → EReal) (co si : Fin 32 → EReal)
    (hx : ∀ l : Fin 64, p ⟨l.val, by omega⟩ = x l)
    (h1 : ∀ l : Fin 32, p ⟨64 + l.val, by omega⟩ = -x ⟨32 + l.val, by omega⟩)
    (h2 : ∀ l : Fin 32, p ⟨96 + l.val, by omega⟩ = x ⟨l.val, by omega⟩)
    (c0 : ∀ l : Fin 32, cs ⟨l.val, by omega⟩ = co l) (c1 : ∀ l : Fin 32, cs ⟨32 + l.val, by omega⟩ = co l)
    (s0 : ∀ l : Fin 32, cs ⟨64 + l.val, by omega⟩ = si l) (s1 : ∀ l : Fin 32, cs ⟨96 + l.val, by omega⟩ = si l) (l : Fin 128) :
    pair p cs l = tail x co si l := by
  unfold pair tail
  by_cases hl : l.val < 32
  · rw [dif_pos (by omega), dif_pos hl]
    have e1 := h1 ⟨l.val, hl⟩
    have e2 := s0 ⟨l.val, hl⟩
    simp only [Nat.add_comm 64] at e1 e2
    rw [e1, e2, sub_eq_add_neg, ← EReal.neg_mul, ← c0 ⟨l.val, hl⟩, ← hx ⟨l.val, by omega⟩]
  · by_cases hm : l.val < 64
    · rw [dif_pos hm, dif_neg hl, dif_pos hm, add_comm]
      have e1 := h2 ⟨l.val - 32, by omega⟩
      have e2 := s1 ⟨l.val - 32, by omega⟩
      have e3 := c1 ⟨l.val - 32, by omega⟩
      have n1 : 96 + (l.val - 32) = l.val + 64 := by omega
      have n2 : 32 + (l.val - 32) = l.val := by omega
      simp only [n1] at e1 e2
      simp only [n2] at e3
      rw [e1, e2, ← e3, ← hx ⟨l.val, hm⟩]
    · rw [dif_neg hm, dif_neg hl, dif_neg hm]

theorem len2048 : Ideal.ofBits .f32 0x45000000#32 = ((2048 : ℝ) : EReal) := by
  simp [Ideal.ofBits, Ideal.ieee, -EReal.coe_mul]; norm_num

theorem len768 : Ideal.ofBits .f32 0x44400000#32 = ((768 : ℝ) : EReal) := by
  simp [Ideal.ofBits, Ideal.ieee, -EReal.coe_mul]; norm_num

end Cert.Latent

end
-- ==== Proof.Latent.QBody.lean ====
/- The queries call: what its body computes from its blocks. -/
module

public import proofs.«01_k».proof.Defs
public import proofs.«01_k».proof.Proof.Latent.Math
public import proofs.«01_k».proof.Proof.Gen.Kernel6
public import proofs.«01_k».proof.Proof.Gen.Kernel6Ideal.Frame
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel6Ideal.Latent

open Idealize.ShloMosaic Idealize.ShloMosaic.TcCoe Idealize.SL.Sem
open Cert.Kernel6Ideal Cert.Kernel6Ideal.Gen
open Cert.Latent (norm tail pair)

theorem lane_lt : ∀ l : Fin 128, IntOp.cmpi .slt (BitVec.ofNat 32 l.val) 64#32 = if l.val < 64 then 1#1 else 0#1 := by decide

/-- The compressed rows. -/
def low (h : Vec Ideal S512x2048 .f32) (g : Vec Ideal S1x1x2048 .f32) (w : Vec Ideal S1x2048x768 .bf16) (r : Fin 512) (j : Fin 768) : EReal :=
  ∑ k : Fin 2048, norm (Ideal.ofBits .f32 0x45000000#32) (fun k => h (ix2 r k)) (fun k => g (ix3 0 0 k)) k * w (ix3 0 k j)

theorem pay2_at (h : Vec Ideal S512x2048 .f32) (g : Vec Ideal S1x1x2048 .f32) (w : Vec Ideal S1x2048x768 .bf16) (n : Vec Ideal S1x1x768 .f32) (r : Fin 512) (j : Fin 768) :
    k0_pay2 h g w n (ix2 r j) = norm (Ideal.ofBits .f32 0x44400000#32) (fun j => low h g w r j) (fun j => n (ix3 0 0 j)) j := by
  pointwise [k0_pay2]
  rfl

theorem pay3_at (y : Vec Ideal S512x128 .f32) (r : Fin 512) (l : Fin 128) : k0_pay3 y (ix2 r l) = y (ix2 r l) := by
  pointwise [k0_pay3]

/-- The factor of the queries. -/
def scale : EReal := Named.named (F := Ideal) κ "mla_q_scale" (φ := .f32) 0x3DD53B95#32

theorem scale_eq : scale = (((Real.log 2 * Real.sqrt 192)⁻¹ : ℝ) : EReal) :=
  IdealRules.named_const.ideal_named_scalar _ _ _ _ rfl

theorem prod_at (a : FVec Ideal S512x768 .bf16) (w : Vec Ideal S1x768x256 .bf16) (r : Fin 512) (j : Fin 256) :
    k0_pay18 a w (ix2 r j) = ∑ k : Fin 768, a (ix2 r k) * w (ix3 0 k j) := by
  pointwise [k0_pay18]

/-- A head from its product: 128 columns kept, 64 rotated, zeros; all times the factor. -/
theorem piece (a : FVec Ideal S512x768 .bf16) (y : FVec Ideal S512x128 .f32) (w : Vec Ideal S1x768x256 .bf16) (r : Fin 512) (d : Fin 256) :
    k0_pay1 a y w (ix3 0 r d) = (if h : d.val < 128 then k0_pay18 a w (ix2 r d)
      else pair (fun l => k0_pay18 a w (ix2 r ⟨128 + l.val, by omega⟩)) (fun l => y (ix2 r l)) ⟨d.val - 128, by omega⟩) * scale := by
  change k0_pay21 (k0_pay18 a w) (k0_pay19 a y w) (iota .tc S512x128 32 [1] iota_S512x128_d1_w32) k0_pay20 (ix3 0 r d) = _
  unfold k0_pay19
  generalize k0_pay18 a w = P
  unfold pair
  pointwise [k0_pay21, k0_pay20]
  refine congrArg (· * scale) ?_
  by_cases hd : d.val < 128
  · rw [dif_pos hd, dif_pos hd]
  · rw [dif_neg hd, dif_neg hd]
    have hl : d.val - 128 < 128 := by omega
    rw [lane_lt ⟨d.val - 128, hl⟩]
    by_cases h6 : d.val - 128 < 64
    · have e : (d.val - 128 + 128 - 64) % 128 = d.val - 128 + 64 := by omega
      simp only [h6, if_true, dif_pos, e]
      rfl
    · simp only [h6, if_false, dif_neg, not_false_eq_true]
      rfl

/-- A block of queries. -/
def qval (a : FVec Ideal S512x768 .bf16) (y : FVec Ideal S512x128 .f32) (w : Vec Ideal S1x768x4096 .bf16) (e : Fin 16) (r : Fin 512) (d : Fin 256) : EReal :=
  (if h : d.val < 128 then ∑ k : Fin 768, a (ix2 r k) * w (ix3 0 k ⟨256 * e.val + d.val, by omega⟩)
    else pair (fun l => ∑ k : Fin 768, a (ix2 r k) * w (ix3 0 k ⟨256 * e.val + (128 + l.val), by omega⟩)) (fun l => y (ix2 r l)) ⟨d.val - 128, by omega⟩) * scale

theorem cut (w : Vec Ideal S1x768x4096 .bf16) (e : Fin 16) (i) (k : Fin 768) (j : Fin 256) :
    View.ld w (Rect.unit (s := S1x768x4096) ![0, 0, 256 * e.val] S1x768x256.size i) (ix3 0 k j) = w (ix3 0 k ⟨256 * e.val + j.val, by omega⟩) := by
  refine congrArg w (funext fun q => Fin.ext ?_)
  fin_cases q
  · exact (ValueKit.rect_emb_unit_val _ _ _ _ _).trans (Nat.zero_add _)
  · exact (ValueKit.rect_emb_unit_val _ _ _ _ _).trans (Nat.zero_add _)
  · exact ValueKit.rect_emb_unit_val _ _ _ _ _

theorem query_of (e : Fin 16) (i) (a : FVec Ideal S512x768 .bf16) (y : FVec Ideal S512x128 .f32) (w : Vec Ideal S1x768x4096 .bf16) (r : Fin 512) (d : Fin 256) :
    k0_pay1 a y (View.ld w (Rect.unit (s := S1x768x4096) ![0, 0, 256 * e.val] S1x768x256.size i)) (ix3 0 r d) = qval a y w e r d := by
  have hb := cut w e i
  revert hb
  generalize View.ld w (Rect.unit (s := S1x768x4096) ![0, 0, 256 * e.val] S1x768x256.size i) = b
  intro hb
  rw [piece]
  simp only [prod_at, hb]
  rfl

/-- A block at an index's coordinates. -/
def qat (a : FVec Ideal S512x768 .bf16) (y : FVec Ideal S512x128 .f32) (w : Vec Ideal S1x768x4096 .bf16) (i : S16x512x256.Idx) : EReal := qval a y w (i 0) (i 1) (i 2)

theorem qat_eq (a : FVec Ideal S512x768 .bf16) (y : FVec Ideal S512x128 .f32) (w : Vec Ideal S1x768x4096 .bf16) (e : Fin 16) (r : Fin 512) (d : Fin 256) (i : S16x512x256.Idx)
    (h0 : (i 0).val = e.val) (h1 : (i 1).val = r.val) (h2 : (i 2).val = d.val) : qval a y w e r d = qat a y w i := by
  obtain rfl : e = i 0 := Fin.ext h0.symm
  obtain rfl : r = i 1 := Fin.ext h1.symm
  obtain rfl : d = i 2 := Fin.ext h2.symm
  rfl

theorem queries_out (y0 : Vec Ideal S512x2048 .f32) (y1 : Vec Ideal S1x1x2048 .f32) (y2 : Vec Ideal S1x2048x768 .bf16) (y3 : Vec Ideal S1x1x768 .f32)
    (x4 : Vec Ideal S1x768x4096 .bf16) (y5 : Vec Ideal S512x128 .f32) (e : Fin 16) (r : Fin 512) (d : Fin 256) :
    out0_6 y0 y1 y2 y3 x4 y5 (ix3 e r d) = qval (k0_pay2 y0 y1 y2 y3) (k0_pay3 y5) x4 e r d := by
  have e0 : k0_pay31 y0 y1 y2 y3 x4 y5 = k0_pay2 y0 y1 y2 y3 := by
    unfold k0_pay31
    frame_out
  have e1 : k0_pay32 y0 y1 y2 y3 x4 y5 = k0_pay3 y5 := by
    unfold k0_pay32
    frame_out
  unfold out0_6
  rw [e0, e1]
  generalize k0_pay2 y0 y1 y2 y3 = a
  generalize k0_pay3 y5 = b
  refine (View.canon_apply_of_pieces (Val := Elt Ideal) (e := .bf16) (qat a b x4) _ (fun q hq x => ?_) _ ?_).trans rfl
  rotate_left
  · refine View.cover_of_tiledL (s := S16x512x256) _ S1x512x256.size ?_ _
    sl_kernel_rfl
  simp only [List.mem_cons, List.mem_nil_iff, or_false] at hq
  rcases hq with rfl | rfl | rfl | rfl | rfl | rfl | rfl | rfl | rfl | rfl | rfl | rfl | rfl | rfl | rfl | rfl
  · change S1x512x256.Idx at x
    idx_vars x
    obtain rfl : x0 = 0 := Subsingleton.elim _ _
    refine (query_of 15 inb_S1x768x4096_S1x768x256_0_0_3840 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 14 inb_S1x768x4096_S1x768x256_0_0_3584 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 13 inb_S1x768x4096_S1x768x256_0_0_3328 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 12 inb_S1x768x4096_S1x768x256_0_0_3072 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 11 inb_S1x768x4096_S1x768x256_0_0_2816 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 10 inb_S1x768x4096_S1x768x256_0_0_2560 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 9 inb_S1x768x4096_S1x768x256_0_0_2304 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 8 inb_S1x768x4096_S1x768x256_0_0_2048 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 7 inb_S1x768x4096_S1x768x256_0_0_1792 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 6 inb_S1x768x4096_S1x768x256_0_0_1536 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 5 inb_S1x768x4096_S1x768x256_0_0_1280 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 4 inb_S1x768x4096_S1x768x256_0_0_1024 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 3 inb_S1x768x4096_S1x768x256_0_0_768 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 2 inb_S1x768x4096_S1x768x256_0_0_512 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 1 inb_S1x768x4096_S1x768x256_0_0_256 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (query_of 0 inb_S1x768x4096_S1x768x256_0_0_0 _ _ x4 x1 x2).trans (qat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)

end Cert.Kernel6Ideal.Latent

end
-- ==== Proof.Latent.QTerms.lean ====
/- The reference's queries at an element. -/
module

public import proofs.«01_k».proof.Defs
public import proofs.«01_k».proof.Proof.Latent.Math
public import proofs.«01_k».proof.Proof.Gen.Reference6Ideal
public import proofs.«01_k».proof.Proof.Gen.Reference6Ideal.Run
public import Idealize.ShloMosaic.Lib.Pipeline.ValueKit
public import Idealize.ShloMosaic.Lib.Pointwise
public import Idealize.ShloMosaic.Lib.StableHlo.Run

@[expose] public section

set_option maxRecDepth 16384

noncomputable section

namespace Cert.Reference6Ideal.Latent

open Idealize.ShloMosaic Idealize.ShloMosaic.TcCoe Idealize.SL.Sem
open Cert.Reference6Ideal Cert.Reference6Ideal.Gen
open Cert.Latent (norm tail)

section Terms
variable {F : FTy → Type} [FloatOps F]

/-- The rows scaled to mean square one, times the gains. -/
def normed (h : FVec F S8192x2048 .f32) (g : FVec F S4x2048 .f32) : FVec F S8192x2048 .f32 :=
  mulf (mulf h (broadcastInDim S8192x2048 ![0, 1] bcast_S8192x1_S8192x2048_0_1 (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![2, 0] g slices_S4x2048_S1x2048_2_0) shapeCasts_S1x2048_S2048)))

/-- The compressed rows scaled to mean square one, times the gains. -/
def cnormed (h : FVec F S8192x768 .f32) (g : FVec F S2x768 .f32) : FVec F S8192x768 .f32 :=
  mulf (mulf h (broadcastInDim S8192x768 ![0, 1] bcast_S8192x1_S8192x768_0_1 (Host.rsqrt (addf (Host.divf (broadcastInDim S8192x1 ![0] bcast_S8192_S8192x1_0 (Host.reduceAdd (mulf h h) (constant S_ .f32 0x00000000#32) reducesTo_S8192x768_S8192_d1 h_S_)) (broadcastInDim S8192x1 ![] bcast_S_S8192x1 (constant S_ .f32 0x44400000#32))) (broadcastInDim S8192x1 ![] bcast_S_S8192x1 (constant S_ .f32 0x358637BD#32)))))) (broadcastInDim S8192x768 ![0, 1] bcast_S1x768_S8192x768_0_1 (broadcastInDim S1x768 ![1] bcast_S768_S1x768_1 (shapeCast _ (extractStridedSlice S1x768 ![0, 0] g slices_S2x768_S1x768_0_0) shapeCasts_S1x768_S768)))

/-- The compressed rows. -/
def down (x : FVec F S8192x2048 .f32) (w : FVec F S2x2048x768 .f32) : FVec F S8192x768 .f32 :=
  Host.dotGeneral dot_S8192x2048_S2048x768_S8192x768_1_0_0_1_n_n none x (shapeCast _ (extractStridedSlice S1x2048x768 ![0, 0, 0] w slices_S2x2048x768_S1x2048x768_0_0_0) shapeCasts_S1x2048x768_S2048x768)

/-- The queries of the compressed rows in sixteen heads, before their rotation. -/
def heads (x : FVec F S8192x768 .f32) (w : FVec F S2x768x3072 .f32) : FVec F S8192x16x192 .f32 :=
  shapeCast _ (Host.dotGeneral dot_S8192x768_S768x3072_S8192x3072_1_0_0_1_n_n none x (shapeCast _ (extractStridedSlice S1x768x3072 ![0, 0, 0] w slices_S2x768x3072_S1x768x3072_0_0_0) shapeCasts_S1x768x3072_S768x3072) : FVec F S8192x3072 .f32) shapeCasts_S8192x3072_S8192x16x192

/-- A table of the angles for every head. -/
def table (a : FVec F S8192x32 .f32) : FVec F S8192x16x32 .f32 :=
  broadcastInDim S8192x16x32 ![0, 1, 2] bcast_S8192x1x32_S8192x16x32_0_1_2 (broadcastInDim S8192x1x32 ![0, 2] bcast_S8192x32_S8192x1x32_0_2 a)

/-- The heads with their last columns rotated, and zeros. -/
def rotated (q : FVec F S8192x16x192 .f32) (co si : FVec F S8192x32 .f32) : FVec F S8192x16x256 .f32 :=
  concatenate S8192x16x256 2
    [⟨S8192x16x128, (extractStridedSlice S8192x16x128 ![0, 0, 0] q slices_S8192x16x192_S8192x16x128_0_0_0 : FVec F S8192x16x128 .f32)⟩,
     ⟨S8192x16x32, (subf (mulf (extractStridedSlice S8192x16x32 ![0, 0, 128] q slices_S8192x16x192_S8192x16x32_0_0_128) (table co)) (mulf (extractStridedSlice S8192x16x32 ![0, 0, 160] q slices_S8192x16x192_S8192x16x32_0_0_160) (table si)) : FVec F S8192x16x32 .f32)⟩,
     ⟨S8192x16x32, (addf (mulf (extractStridedSlice S8192x16x32 ![0, 0, 128] q slices_S8192x16x192_S8192x16x32_0_0_128) (table si)) (mulf (extractStridedSlice S8192x16x32 ![0, 0, 160] q slices_S8192x16x192_S8192x16x32_0_0_160) (table co)) : FVec F S8192x16x32 .f32)⟩,
     ⟨S8192x16x64, (broadcastInDim S8192x16x64 ![] bcast_S_S8192x16x64 (constant S_ .f32 0x00000000#32) : FVec F S8192x16x64 .f32)⟩]
    concatenates_S8192x16x128_S8192x16x32_S8192x16x32_S8192x16x64_S8192x16x256_d2

/-- The factor of the queries. -/
def factor : FVec F S_ .f32 :=
  Host.divf (constant S_ .f32 0x3F800000#32) (mulf (Host.log (constant S_ .f32 0x40000000#32)) (Host.sqrt (constant S_ .f32 0x43400000#32)))

/-- The queries head by head, times their factor. -/
def result (y : FVec F S8192x16x256 .f32) : FVec F S16x8192x256 .bf16 :=
  truncf .bf16 (mulf (transpose S16x8192x256 [1, 0, 2] y transposes_S8192x16x256_S16x8192x256_1_0_2) (broadcastInDim S16x8192x256 ![] bcast_S_S16x8192x256 factor)) bitsLt_bf16_f32

/-- The reference's run: its result, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = result (rotated (heads (cnormed (down (normed (m ((c.tc : Thread nD τ).loc main_arg0)) (m ((c.tc : Thread nD τ).loc main_arg1))) (m ((c.tc : Thread nD τ).loc main_arg2))) (m ((c.tc : Thread nD τ).loc main_arg3))) (m ((c.tc : Thread nD τ).loc main_arg4))) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := Value.run m ρ

end Terms

theorem normed_at (h : FVec Ideal S8192x2048 .f32) (g : FVec Ideal S4x2048 .f32) (r : Fin 8192) (k : Fin 2048) :
    normed h g (ix2 r k) = norm (Ideal.ofBits .f32 0x45000000#32) (fun k => h (ix2 r k)) (fun k => g (ix2 2 k)) k := by
  pointwise [normed]
  rfl

theorem cnormed_at (h : FVec Ideal S8192x768 .f32) (g : FVec Ideal S2x768 .f32) (r : Fin 8192) (k : Fin 768) :
    cnormed h g (ix2 r k) = norm (Ideal.ofBits .f32 0x44400000#32) (fun k => h (ix2 r k)) (fun k => g (ix2 0 k)) k := by
  pointwise [cnormed]
  rfl

theorem down_at (x : FVec Ideal S8192x2048 .f32) (w : FVec Ideal S2x2048x768 .f32) (r : Fin 8192) (j : Fin 768) :
    down x w (ix2 r j) = ∑ k : Fin 2048, x (ix2 r k) * w (ix3 0 k j) := by
  pointwise [down]

theorem heads_at (x : FVec Ideal S8192x768 .f32) (w : FVec Ideal S2x768x3072 .f32) (r : Fin 8192) (e : Fin 16) (d : Fin 192) :
    heads x w (ix3 r e d) = ∑ k : Fin 768, x (ix2 r k) * w (ix3 0 k ⟨192 * e.val + d.val, by omega⟩) := by
  pointwise [heads]
  simp only [Nat.mul_comm e.val 192]

theorem table_at (a : FVec Ideal S8192x32 .f32) (r : Fin 8192) (e : Fin 16) (l : Fin 32) : table a (ix3 r e l) = a (ix2 r l) := by
  pointwise [table]

theorem rotated_at (q : FVec Ideal S8192x16x192 .f32) (co si : FVec Ideal S8192x32 .f32) (r : Fin 8192) (e : Fin 16) (d : Fin 256) :
    rotated q co si (ix3 r e d) = if h : d.val < 128 then q (ix3 r e ⟨d.val, by omega⟩)
      else tail (fun l => q (ix3 r e ⟨128 + l.val, by omega⟩)) (fun l => co (ix2 r l)) (fun l => si (ix2 r l)) ⟨d.val - 128, by omega⟩ := by
  unfold tail
  pointwise [rotated, table]
  by_cases h0 : d.val < 128
  · rw [dif_pos h0, dif_pos h0]
  · rw [dif_neg h0, dif_neg h0]
    have n1 : 128 + (32 + (d.val - 128)) = 160 + (d.val - 128) := by omega
    by_cases h1 : d.val - 128 < 32
    · rw [dif_pos h1, dif_pos h1]
      simp only [n1]
    · rw [dif_neg h1, dif_neg h1]
      by_cases h2 : d.val - 128 < 64
      · have n2 : 160 + (d.val - 128 - 32) = 128 + (d.val - 128) := by omega
        rw [dif_pos (by omega), dif_pos h2]
        simp only [n2]
      · rw [dif_neg (by omega), dif_neg h2]

theorem two_eq : Ideal.ofBits .f32 0x40000000#32 = ((2 : ℝ) : EReal) := by
  simp [Ideal.ofBits, Ideal.ieee, -EReal.coe_mul]; norm_num

theorem width_eq : Ideal.ofBits .f32 0x43400000#32 = ((192 : ℝ) : EReal) := by
  simp [Ideal.ofBits, Ideal.ieee, -EReal.coe_mul]; norm_num

/-- The factor is the real `1/(log 2 · √192)`. -/
theorem factor_at (i : S_.Idx) : factor (F := Ideal) i = (((Real.log 2 * Real.sqrt 192)⁻¹ : ℝ) : EReal) := by
  have hl : 0 < Real.log 2 := Real.log_pos (by norm_num)
  have hs : 0 < Real.sqrt 192 := Real.sqrt_pos.mpr (by norm_num)
  pointwise [factor]
  rw [two_eq, width_eq, Ideal.log_coe, Ideal.sqrt_coe, if_neg (by norm_num), if_neg (by norm_num), ← EReal.coe_mul,
    Ideal.div_coe (mul_pos hl hs).ne', one_mul, one_div]

theorem result_at (y : FVec Ideal S8192x16x256 .f32) (e : Fin 16) (r : Fin 8192) (d : Fin 256) :
    result y (ix3 e r d) = y (ix3 r e d) * (((Real.log 2 * Real.sqrt 192)⁻¹ : ℝ) : EReal) := by
  pointwise [result]
  rw [factor_at]

end Cert.Reference6Ideal.Latent

end
-- ==== Proof.Latent.QValue.lean ====
/- The queries call: the frames, and the kernel's array is the reference's. -/
module

public import proofs.«01_k».proof.Defs
public import proofs.«01_k».proof.Proof.Attn.Finite
public import proofs.«01_k».proof.Proof.Gen.Pre_finite_q
public import proofs.«01_k».proof.Proof.Gen.Kernel6.Frame
public import proofs.«01_k».proof.Proof.Latent.QBody
public import proofs.«01_k».proof.Proof.Latent.QTerms
public import Idealize.ShloMosaic.Lib.Claim
public import Idealize.ShloMosaic.Init

@[expose] public section

set_option maxRecDepth 16384

noncomputable section

namespace Cert.Kernel6Ideal.Latent

open Idealize.ShloMosaic Idealize.ShloMosaic.TcCoe Idealize.SL.Sem
open Cert.Kernel6Ideal Cert.Kernel6Ideal.Gen
open Cert.Latent (norm norm_real sum_neg tail pair pair_eq len768)
open Cert.Reference6Ideal.Latent (normed cnormed down heads rotated result normed_at cnormed_at down_at heads_at rotated_at result_at)

/-- Under the precondition the gains of the compressed rows and the weights of the heads are reals. -/
theorem finite_args [Cert.Pre_finite_q.Facts] (a0 : FVec Ideal Pre_finite_q.S8192x2048 .f32) (a1 : FVec Ideal Pre_finite_q.S4x2048 .f32)
    (a2 : FVec Ideal Pre_finite_q.S2x2048x768 .f32) (a3 : FVec Ideal Pre_finite_q.S2x768 .f32) (a4 : FVec Ideal Pre_finite_q.S2x768x3072 .f32)
    (a5 a6 : FVec Ideal Pre_finite_q.S8192x32 .f32) (h : Pre_finite_q.fn (F := Ideal) a0 a1 a2 a3 a4 a5 a6 = fun _ => 1#1) :
    (∀ i, ∃ r : ℝ, a3 i = (r : EReal)) ∧ ∀ i, ∃ r : ℝ, a4 i = (r : EReal) := by
  haveI : Subsingleton Pre_finite_q.S_.Idx := ⟨fun a b => funext fun i => i.elim0⟩
  have h0 := congrFun h (fun i => i.elim0)
  unfold Pre_finite_q.fn at h0
  have e := IntOp.andi_eq_one.mp h0
  exact ⟨Cert.Attn.reals_of_all a3 _ (fun _ => Cert.Attn.ofBits_inf) _ _ _ _ e.1, Cert.Attn.reals_of_all a4 _ (fun _ => Cert.Attn.ofBits_inf) _ _ _ _ e.2⟩

section Points
variable (m : (ℓ : Loc nD τ sig) → Buf (Elt Ideal) ℓ) (c : Dev nD) (t : Fin cfg0.N)

theorem idx0_0 : ∀ t : Fin cfg0.N, win0_0.index t = ![t.val, 0] := (by decide +kernel : ∀ t : Fin grid0.N, _)
theorem idx0_1 : ∀ t : Fin cfg0.N, win0_1.index t = ![2, 0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![0, 0, 0] := (by decide +kernel : ∀ t : Fin grid0.N, _)
theorem idx0_4 : ∀ t : Fin cfg0.N, win0_4.index t = ![0, 0, 0] := (by decide +kernel : ∀ t : Fin grid0.N, _)
theorem idx0_5 : ∀ t : Fin cfg0.N, win0_5.index t = ![t.val, 0] := (by decide +kernel : ∀ t : Fin grid0.N, _)
theorem idx0_6 : ∀ t : Fin cfg0.N, win0_6.index t = ![0, t.val, 0] := (by decide +kernel : ∀ t : Fin grid0.N, _)

/-- A row of a point's block. -/
def row (t : Fin cfg0.N) (r : Fin 512) : Fin 8192 := ⟨512 * t.val + r.val, by have : t.val < 16 := t.isLt; omega⟩

/-- The arguments. -/
abbrev h0 : FVec Ideal Cert.Reference6Ideal.S8192x2048 .f32 := m ((c : Thread nD τ).loc main_arg0)
abbrev g0 : FVec Ideal Cert.Reference6Ideal.S4x2048 .f32 := m ((c : Thread nD τ).loc main_arg1)
abbrev wd : FVec Ideal Cert.Reference6Ideal.S2x2048x768 .f32 := m ((c : Thread nD τ).loc main_arg2)
abbrev g1 : FVec Ideal Cert.Reference6Ideal.S2x768 .f32 := m ((c : Thread nD τ).loc main_arg3)
abbrev wu : FVec Ideal Cert.Reference6Ideal.S2x768x3072 .f32 := m ((c : Thread nD τ).loc main_arg4)
abbrev co : FVec Ideal Cert.Reference6Ideal.S8192x32 .f32 := m ((c : Thread nD τ).loc main_arg5)
abbrev si : FVec Ideal Cert.Reference6Ideal.S8192x32 .f32 := m ((c : Thread nD τ).loc main_arg6)

theorem rows_at (r : Fin 512) (k : Fin 2048) : iblk m c 0 t (ix2 r k) = h0 m c (ix2 (row t r) k) := by
  unfold h0
  rw [← V_main_arg0 m c]
  blk_simp [iblk]
  refine congrArg _ ?_
  blk_ext [idx0_0 t, row]

theorem gains_at (k : Fin 2048) : V m c main_v10 (ix3 2 0 k) = g0 m c (ix2 2 k) := by
  entry_read
  pointwise []

theorem gain_at (k : Fin 2048) : iblk m c 1 t (ix3 0 0 k) = g0 m c (ix2 2 k) := by
  rw [← gains_at m c]
  blk_simp [iblk]
  refine congrArg _ ?_
  blk_ext [idx0_1 t]

theorem downs_at (k : Fin 2048) (j : Fin 768) : V m c main_v11 (ix3 0 k j) = wd m c (ix3 0 k j) := by
  entry_read
  pointwise []

theorem wdown_at (k : Fin 2048) (j : Fin 768) : iblk m c 2 t (ix3 0 k j) = wd m c (ix3 0 k j) := by
  rw [← downs_at m c]
  blk_simp [iblk]
  refine congrArg _ ?_
  blk_ext [idx0_2 t]

theorem cgains_at (k : Fin 768) : V m c main_v12 (ix3 0 0 k) = g1 m c (ix2 0 k) := by
  entry_read
  pointwise []

theorem cgain_at (k : Fin 768) : iblk m c 3 t (ix3 0 0 k) = g1 m c (ix2 0 k) := by
  rw [← cgains_at m c]
  blk_simp [iblk]
  refine congrArg _ ?_
  blk_ext [idx0_3 t]

theorem wide_at (k : Fin 768) (e : Fin 16) (j : Fin 256) : V m c main_v8 (ix3 0 k ⟨256 * e.val + j.val, by omega⟩) =
    if h : j.val < 192 then wu m c (ix3 0 k ⟨192 * e.val + j.val, by omega⟩)
    else if h2 : j.val - 192 < 32 then -wu m c (ix3 0 k ⟨192 * e.val + (128 + (32 + (j.val - 192))), by omega⟩)
    else wu m c (ix3 0 k ⟨192 * e.val + (128 + (j.val - 192 - 32)), by omega⟩) := by
  have n1 : (256 * e.val + j.val) % 256 = j.val := by omega
  have n2 : (256 * e.val + j.val) / 256 = e.val := by omega
  entry_read
  pointwise []
  simp only [n1, n2, Nat.mul_comm e.val 192]

theorem tables_at (r : Fin 8192) (j : Fin 128) : V m c main_v9 (ix2 r j) =
    if h : j.val < 32 then co m c (ix2 r ⟨j.val, h⟩)
    else if h1 : j.val - 32 < 32 then co m c (ix2 r ⟨j.val - 32, h1⟩)
    else if h2 : j.val - 32 - 32 < 32 then si m c (ix2 r ⟨j.val - 32 - 32, h2⟩)
    else si m c (ix2 r ⟨j.val - 32 - 32 - 32, by omega⟩) := by
  entry_read
  pointwise []

theorem blk4_at (k : Fin 768) (j : Fin 4096) : iblk m c 4 t (ix3 0 k j) = V m c main_v8 (ix3 0 k j) := by
  have key : ∀ b : Buf (Elt Ideal) ((c : Thread nD τ).loc main_v8), (win0_4.blk t).view.read (Elt Ideal) b (ix3 0 k j) = b (ix3 0 k j) := by
    intro b
    blk_simp []
    refine congrArg b ?_
    blk_ext [idx0_4 t]
  exact key _

theorem blk5_at (r : Fin 512) (j : Fin 128) : iblk m c 5 t (ix2 r j) = V m c main_v9 (ix2 (row t r) j) := by
  blk_simp [iblk]
  refine congrArg _ ?_
  blk_ext [idx0_5 t, row]

/-- The compressed rows' norm and the heads before their rotation, in the reference's terms. -/
abbrev C : FVec Ideal Cert.Reference6Ideal.S8192x768 .f32 := cnormed (down (normed (h0 m c) (g0 m c)) (wd m c)) (g1 m c)
abbrev Q : FVec Ideal Cert.Reference6Ideal.S8192x16x192 .f32 := heads (C m c) (wu m c)

theorem wide_low (k : Fin 768) (e : Fin 16) (j : Fin 192) : V m c main_v8 (ix3 0 k ⟨256 * e.val + j.val, by omega⟩) = wu m c (ix3 0 k ⟨192 * e.val + j.val, by omega⟩) :=
  (wide_at m c k e ⟨j.val, by omega⟩).trans (dif_pos j.isLt)

theorem wide_neg (k : Fin 768) (e : Fin 16) (l : Fin 32) : V m c main_v8 (ix3 0 k ⟨256 * e.val + (128 + (64 + l.val)), by omega⟩)
    = -wu m c (ix3 0 k ⟨192 * e.val + (128 + (32 + l.val)), by omega⟩) := by
  have n : 128 + (64 + l.val) - 192 = l.val := by omega
  refine (wide_at m c k e ⟨128 + (64 + l.val), by omega⟩).trans ?_
  rw [dif_neg (by simp only []; omega), dif_pos (by simp only []; omega)]
  simp only [n]

theorem wide_pos (k : Fin 768) (e : Fin 16) (l : Fin 32) : V m c main_v8 (ix3 0 k ⟨256 * e.val + (128 + (96 + l.val)), by omega⟩)
    = wu m c (ix3 0 k ⟨192 * e.val + (128 + l.val), by omega⟩) := by
  have n : 128 + (96 + l.val) - 192 - 32 = l.val := by omega
  refine (wide_at m c k e ⟨128 + (96 + l.val), by omega⟩).trans ?_
  rw [dif_neg (by simp only []; omega), dif_neg (by simp only []; omega)]
  simp only [n]

theorem low_at (r : Fin 512) (j : Fin 768) : low (iblk m c 0 t) (iblk m c 1 t) (iblk m c 2 t) r j = down (normed (h0 m c) (g0 m c)) (wd m c) (ix2 (row t r) j) := by
  refine Eq.trans ?_ (down_at _ _ _ _).symm
  unfold low
  simp only [rows_at, gain_at, wdown_at, normed_at]

theorem latent_at (r : Fin 512) (j : Fin 768) : k0_pay2 (iblk m c 0 t) (iblk m c 1 t) (iblk m c 2 t) (iblk m c 3 t) (ix2 r j) = C m c (ix2 (row t r) j) := by
  rw [pay2_at, C, cnormed_at]
  simp only [cgain_at, low_at]

theorem lat_real (hg : ∀ i, ∃ r : ℝ, g1 m c i = (r : EReal)) (R : Fin 8192) (k : Fin 768) : ∃ r : ℝ, C m c (ix2 R k) = (r : EReal) := by
  rw [C, cnormed_at, len768]
  exact norm_real 768 (by norm_num) _ _ k (hg _)

theorem rot_at (x : FVec Ideal Cert.Reference6Ideal.S8192x768 .f32) (hx : ∀ R k, ∃ r : ℝ, x (ix2 R k) = (r : EReal)) (hw : ∀ i, ∃ r : ℝ, wu m c i = (r : EReal))
    (e : Fin 16) (R : Fin 8192) (l : Fin 128) :
    pair (fun l => ∑ k : Fin 768, x (ix2 R k) * V m c main_v8 (ix3 0 k ⟨256 * e.val + (128 + l.val), by omega⟩)) (fun l => V m c main_v9 (ix2 R l)) l
      = tail (fun l => heads x (wu m c) (ix3 R e ⟨128 + l.val, by omega⟩)) (fun l => co m c (ix2 R l)) (fun l => si m c (ix2 R l)) l := by
  have hn : ∀ l : Fin 32, ∑ k : Fin 768, x (ix2 R k) * V m c main_v8 (ix3 0 k ⟨256 * e.val + (128 + (64 + l.val)), by omega⟩)
      = -heads x (wu m c) (ix3 R e ⟨128 + (32 + l.val), by omega⟩) := fun l => by
    rw [heads_at, ← sum_neg (fun k => x (ix2 R k)) _ (fun k => hx R k) (fun k => hw _)]
    exact Finset.sum_congr rfl fun k _ => congrArg (_ * ·) (wide_neg m c k e l)
  have hp : ∀ l : Fin 32, ∑ k : Fin 768, x (ix2 R k) * V m c main_v8 (ix3 0 k ⟨256 * e.val + (128 + (96 + l.val)), by omega⟩)
      = heads x (wu m c) (ix3 R e ⟨128 + l.val, by omega⟩) := fun l => by
    rw [heads_at]
    exact Finset.sum_congr rfl fun k _ => congrArg (_ * ·) (wide_pos m c k e l)
  have hk : ∀ l : Fin 64, ∑ k : Fin 768, x (ix2 R k) * V m c main_v8 (ix3 0 k ⟨256 * e.val + (128 + l.val), by omega⟩)
      = heads x (wu m c) (ix3 R e ⟨128 + l.val, by omega⟩) := fun l => by
    rw [heads_at]
    exact Finset.sum_congr rfl fun k _ => congrArg (_ * ·) (wide_low m c k e ⟨128 + l.val, by omega⟩)
  refine pair_eq _ _ _ _ _ hk hn hp (fun l => ?_) (fun l => ?_) (fun l => ?_) (fun l => ?_) l
  · rw [tables_at, dif_pos (by simp only []; omega)]
  · have n : 32 + l.val - 32 = l.val := by omega
    rw [tables_at, dif_neg (by simp only []; omega), dif_pos (by simp only []; omega)]
    simp only [n]
  · have n : 64 + l.val - 32 - 32 = l.val := by omega
    rw [tables_at, dif_neg (by simp only []; omega), dif_neg (by simp only []; omega), dif_pos (by simp only []; omega)]
    simp only [n]
  · have n : 96 + l.val - 32 - 32 - 32 = l.val := by omega
    rw [tables_at, dif_neg (by simp only []; omega), dif_neg (by simp only []; omega), dif_neg (by simp only []; omega)]
    simp only [n]

/-- The reference's result of the arguments. -/
def G : Buf (Elt Ideal) ((c : Thread nD τ).loc main_v13) := result (F := Ideal) (rotated (Q m c) (co m c) (si m c))

theorem block_at (hg : ∀ i, ∃ r : ℝ, g1 m c i = (r : EReal)) (hw : ∀ i, ∃ r : ℝ, wu m c i = (r : EReal)) (e : Fin 16) (r : Fin 512) (d : Fin 256) :
    out0_6 (iblk m c 0 t) (iblk m c 1 t) (iblk m c 2 t) (iblk m c 3 t) (iblk m c 4 t) (iblk m c 5 t) (ix3 e r d) = G m c (ix3 e (row t r) d) := by
  rw [queries_out]
  unfold G qval
  rw [result_at, rotated_at, scale_eq]
  refine congrArg (· * _) ?_
  simp only [latent_at, blk4_at, pay3_at, blk5_at]
  have hx := lat_real m c hg
  unfold Q
  revert hx
  generalize C m c = x
  intro hx
  by_cases hd : d.val < 128
  · rw [dif_pos hd, dif_pos hd, heads_at]
    exact Finset.sum_congr rfl fun k _ => congrArg (_ * ·) (wide_low m c k e ⟨d.val, by omega⟩)
  · rw [dif_neg hd, dif_neg hd]
    exact rot_at m c x hx hw e (row t r) _

end Points

/-- The array after the run. -/
theorem array_eq (m : (ℓ : Loc nD τ sig) → Buf (Elt Ideal) ℓ) (c : Dev nD) (hg : ∀ i, ∃ r : ℝ, g1 m c i = (r : EReal)) (hw : ∀ i, ∃ r : ℝ, wu m c i = (r : EReal)) :
    (dats m 0 c).arrAt 6 (cfgs 0).N = G m c := by
  refine (dats m 0 c).arrAt_eq_of_covers 6 _ (by decide +kernel) fun t hf y => ?_
  blk_simp
  rw [after0_6]
  idx_vars y
  refine (block_at m c t hg hw _ _ _).trans ?_
  refine congrArg _ ?_
  blk_ext [idx0_6 t, row]

end Cert.Kernel6Ideal.Latent

namespace Cert.Proof

open Idealize.ShloMosaic Idealize.SL.Sem

/-- The kernel on words. -/
theorem frame_kernel6 : Cert.quiescent_Kernel6 (hKernel6 := Cert.Kernel6.Gen.facts) := fun m ρ _ =>
  Cert.Kernel6.Gen.frame (F := Bits) m ρ

/-- The kernel on extended reals. -/
theorem frame_ideal6 : Cert.quiescent_Kernel6Ideal (hKernel6Ideal := Cert.Kernel6Ideal.Gen.facts) := fun m ρ _ =>
  Cert.Kernel6Ideal.Gen.frame (F := Ideal) m ρ

theorem frame_ideal6_pre : Cert.quiescent_Kernel6Ideal_pre_finite_q (hKernel6Ideal := Cert.Kernel6Ideal.Gen.facts)
    (hPre_finite_q := Cert.Pre_finite_q.Gen.facts) := fun m ρ _ =>
  Cert.Kernel6Ideal.Gen.frame (F := Ideal) m ρ

/-- The reference: its operations write no argument, and it declares no semaphore. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Latent.run (F := Ideal) m ρ)

theorem frame_reference6_pre : Cert.quiescent_Reference6Ideal_pre_finite_q (hReference6Ideal := Cert.Reference6Ideal.Gen.facts)
    (hPre_finite_q := Cert.Pre_finite_q.Gen.facts) := fun m ρ _ =>
  (θ_run Cert.Reference6Ideal.defs _ _).mono (fun r h => ⟨fun c => (h c).2, sem_eq_zero_of_no_sems (by decide) r.2⟩)
    (Cert.Reference6Ideal.Latent.run (F := Ideal) m ρ)

/-- The named constant is the real `1/(log 2 · √192)`. -/
theorem q_factor_named : Cert.preserves_Kernel6_Kernel6Ideal :=
  IdealRules.named_const.statement Cert.Kernel6Ideal.κ "mla_q_scale" .f32 0x3DD53B95#32 (((Real.log 2 * Real.sqrt 192)⁻¹ : ℝ) : EReal) rfl

/-- The queries call and its formula end with one array. -/
theorem queries_eq : Cert.algebraic_Kernel6Ideal_Reference6Ideal_pre_finite_q (hKernel6Ideal := Cert.Kernel6Ideal.Gen.facts)
    (hReference6Ideal := Cert.Reference6Ideal.Gen.facts) (hPre_finite_q := Cert.Pre_finite_q.Gen.facts) := fun m g m' g' hpre hargs => by
  refine ⟨fun c => Cert.Kernel6Ideal.Latent.G m c, ?_, ?_⟩
  · have hk := θ_run_and (Cert.Kernel6Ideal.Gen.run_main (F := Ideal) m g) (Cert.Kernel6Ideal.Gen.unchanged (F := Ideal) m g)
    refine (θ_run Cert.Kernel6Ideal.defs _ _).mono (fun r h c => ⟨?_, h.2 c⟩) hk
    have hf := @Cert.Kernel6Ideal.Latent.finite_args Cert.Pre_finite_q.Gen.facts _ _ _ _ _ _ _ (hpre c)
    exact ((h.1 c).1 6).trans (Cert.Kernel6Ideal.Latent.array_eq m c hf.1 hf.2)
  · refine (θ_run Cert.Reference6Ideal.defs _ _).mono (fun r h c => ⟨(h c).1.trans ?_, (h c).2⟩) (Cert.Reference6Ideal.Latent.run (F := Ideal) m' g')
    obtain ⟨h0, h1, h2, h3, h4, h5, h6⟩ := hargs c
    rw [h0, h1, h2, h3, h4, h5, h6]
    rfl

end Cert.Proof

end
-- ==== Proof.Latent.KvBody.lean ====
/- The keys and values call: what its body computes from its blocks. -/
module

public import proofs.«01_k».proof.Defs
public import proofs.«01_k».proof.Proof.Latent.Math
public import proofs.«01_k».proof.Proof.Gen.Kernel7
public import proofs.«01_k».proof.Proof.Gen.Kernel7Ideal.Frame
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel7Ideal.Latent

open Idealize.ShloMosaic Idealize.ShloMosaic.TcCoe Idealize.SL.Sem
open Cert.Kernel7Ideal Cert.Kernel7Ideal.Gen
open Cert.Latent (norm tail pair)

theorem pay7_at (h : Vec Ideal S512x2048 .f32) (g : Vec Ideal S1x2048 .f32) (w : Vec Ideal S2048x640 .bf16) (r : Fin 512) (j : Fin 640) :
    k0_pay7 h g w (ix2 r j) = ∑ k : Fin 2048, norm (Ideal.ofBits .f32 0x45000000#32) (fun k => h (ix2 r k)) (fun k => g (ix2 0 k)) k * w (ix2 k j) := by
  pointwise [k0_pay7]
  rfl

theorem pay8_at (h : Vec Ideal S512x2048 .f32) (g : Vec Ideal S1x2048 .f32) (w : Vec Ideal S2048x640 .bf16) (n : Vec Ideal S1x512 .f32) (r : Fin 512) (j : Fin 512) :
    k0_pay8 h g w n (ix2 r j) = norm (Ideal.ofBits .f32 0x44000000#32) (fun j : Fin 512 => k0_pay7 h g w (ix2 r ⟨j.val, by omega⟩)) (fun j => n (ix2 0 j)) j := by
  unfold k0_pay8
  generalize k0_pay7 h g w = t
  pointwise []
  rfl

theorem lane_lt : ∀ l : Fin 128, IntOp.cmpi .slt (BitVec.ofNat 32 l.val) 64#32 = if l.val < 64 then 1#1 else 0#1 := by decide

theorem pay10_at (h : Vec Ideal S512x2048 .f32) (g : Vec Ideal S1x2048 .f32) (w : Vec Ideal S2048x640 .bf16) (cs : Vec Ideal S512x128 .f32) (r : Fin 512) (l : Fin 128) :
    k0_pay10 (k0_pay9 h g w cs) (ix2 r l) = pair (fun l => k0_pay7 h g w (ix2 r ⟨512 + l.val, by omega⟩)) (fun l => cs (ix2 r l)) l := by
  unfold k0_pay10 k0_pay9 pair
  generalize k0_pay7 h g w = t
  pointwise []
  rw [lane_lt l]
  by_cases hl : l.val < 64
  · have e : (l.val + 128 - 64) % 128 = l.val + 64 := by omega
    simp only [hl, if_true, dif_pos, e]
    rfl
  · simp only [hl, if_false, dif_neg, not_false_eq_true]
    rfl

/-- A block of keys: a head's columns, and the rotated ones. -/
def kval (a : FVec Ideal S512x512 .bf16) (y : FVec Ideal S512x128 .f32) (w : Vec Ideal S512x4096 .bf16) (e : Fin 16) (r : Fin 512) (d : Fin 256) : EReal :=
  if h : d.val < 128 then ∑ k : Fin 512, a (ix2 r k) * w (ix2 k ⟨256 * e.val + d.val, by omega⟩) else y (ix2 r ⟨d.val - 128, by omega⟩)

/-- A block of values. -/
def vval (a : FVec Ideal S512x512 .bf16) (w : Vec Ideal S512x4096 .bf16) (e : Fin 16) (r : Fin 512) (d : Fin 128) : EReal :=
  ∑ k : Fin 512, a (ix2 r k) * w (ix2 k ⟨256 * e.val + (128 + d.val), by omega⟩)

theorem key_piece (a : FVec Ideal S512x512 .bf16) (y : FVec Ideal S512x128 .f32) (w : Vec Ideal S512x256 .bf16) (r : Fin 512) (d : Fin 256) :
    k0_pay5 a y w (ix3 0 r d) = if h : d.val < 128 then ∑ k : Fin 512, a (ix2 r k) * w (ix2 k d) else y (ix2 r ⟨d.val - 128, by omega⟩) := by
  pointwise [k0_pay5, k0_pay4]

theorem value_piece (a : FVec Ideal S512x512 .bf16) (w : Vec Ideal S512x256 .bf16) (r : Fin 512) (d : Fin 128) :
    k0_pay6 a w (ix3 0 r d) = ∑ k : Fin 512, a (ix2 r k) * w (ix2 k ⟨128 + d.val, by omega⟩) := by
  pointwise [k0_pay6, k0_pay4]

theorem cut (w : Vec Ideal S512x4096 .bf16) (e : Fin 16) (i) (k : Fin 512) (j : Fin 256) :
    View.ld w (Rect.unit (s := S512x4096) ![0, 256 * e.val] S512x256.size i) (ix2 k j) = w (ix2 k ⟨256 * e.val + j.val, by omega⟩) := by
  refine congrArg w (funext fun q => Fin.ext ?_)
  fin_cases q
  · exact (ValueKit.rect_emb_unit_val _ _ _ _ _).trans (Nat.zero_add _)
  · exact ValueKit.rect_emb_unit_val _ _ _ _ _

theorem key_of (e : Fin 16) (i) (a : FVec Ideal S512x512 .bf16) (y : FVec Ideal S512x128 .f32) (w : Vec Ideal S512x4096 .bf16) (r : Fin 512) (d : Fin 256) :
    k0_pay5 a y (View.ld w (Rect.unit (s := S512x4096) ![0, 256 * e.val] S512x256.size i)) (ix3 0 r d) = kval a y w e r d := by
  have hb := cut w e i
  revert hb
  generalize View.ld w (Rect.unit (s := S512x4096) ![0, 256 * e.val] S512x256.size i) = b
  intro hb
  rw [key_piece]
  simp only [hb]
  rfl

theorem value_of (e : Fin 16) (i) (a : FVec Ideal S512x512 .bf16) (w : Vec Ideal S512x4096 .bf16) (r : Fin 512) (d : Fin 128) :
    k0_pay6 a (View.ld w (Rect.unit (s := S512x4096) ![0, 256 * e.val] S512x256.size i)) (ix3 0 r d) = vval a w e r d := by
  have hb := cut w e i
  revert hb
  generalize View.ld w (Rect.unit (s := S512x4096) ![0, 256 * e.val] S512x256.size i) = b
  intro hb
  rw [value_piece]
  simp only [hb]
  rfl

/-- A block at an index's coordinates. -/
def kat (a : FVec Ideal S512x512 .bf16) (y : FVec Ideal S512x128 .f32) (w : Vec Ideal S512x4096 .bf16) (i : S16x512x256.Idx) : EReal := kval a y w (i 0) (i 1) (i 2)

def vat (a : FVec Ideal S512x512 .bf16) (w : Vec Ideal S512x4096 .bf16) (i : S16x512x128.Idx) : EReal := vval a w (i 0) (i 1) (i 2)

theorem kat_eq (a : FVec Ideal S512x512 .bf16) (y : FVec Ideal S512x128 .f32) (w : Vec Ideal S512x4096 .bf16) (e : Fin 16) (r : Fin 512) (d : Fin 256) (i : S16x512x256.Idx)
    (h0 : (i 0).val = e.val) (h1 : (i 1).val = r.val) (h2 : (i 2).val = d.val) : kval a y w e r d = kat a y w i := by
  obtain rfl : e = i 0 := Fin.ext h0.symm
  obtain rfl : r = i 1 := Fin.ext h1.symm
  obtain rfl : d = i 2 := Fin.ext h2.symm
  rfl

theorem vat_eq (a : FVec Ideal S512x512 .bf16) (w : Vec Ideal S512x4096 .bf16) (e : Fin 16) (r : Fin 512) (d : Fin 128) (i : S16x512x128.Idx)
    (h0 : (i 0).val = e.val) (h1 : (i 1).val = r.val) (h2 : (i 2).val = d.val) : vval a w e r d = vat a w i := by
  obtain rfl : e = i 0 := Fin.ext h0.symm
  obtain rfl : r = i 1 := Fin.ext h1.symm
  obtain rfl : d = i 2 := Fin.ext h2.symm
  rfl

theorem keys_out (y0 : Vec Ideal S512x2048 .f32) (y1 : Vec Ideal S1x2048 .f32) (y2 : Vec Ideal S2048x640 .bf16) (y3 : Vec Ideal S1x512 .f32)
    (x4 : Vec Ideal S512x4096 .bf16) (y5 : Vec Ideal S512x128 .f32) (e : Fin 16) (r : Fin 512) (d : Fin 256) :
    out0_6 y0 y1 y2 y3 x4 y5 (ix3 e r d) = kval (k0_pay8 y0 y1 y2 y3) (k0_pay10 (k0_pay9 y0 y1 y2 y5)) x4 e r d := by
  have e0 : k0_pay57 y0 y1 y2 y3 x4 y5 = k0_pay8 y0 y1 y2 y3 := by
    unfold k0_pay57
    frame_out
  have e1 : k0_pay59 y0 y1 y2 y3 x4 y5 = k0_pay10 (k0_pay9 y0 y1 y2 y5) := by
    unfold k0_pay59 k0_pay58
    frame_out
  have e2 : k0_pay58 y0 y1 y2 y3 x4 y5 = k0_pay9 y0 y1 y2 y5 := by
    unfold k0_pay58
    frame_out
  unfold out0_6
  rw [e0, e1, e2]
  generalize k0_pay8 y0 y1 y2 y3 = a
  generalize k0_pay9 y0 y1 y2 y5 = b
  refine (View.canon_apply_of_pieces (Val := Elt Ideal) (e := .bf16) (kat a (k0_pay10 b) x4) _ (fun q hq x => ?_) _ ?_).trans rfl
  rotate_left
  · refine View.cover_of_tiledL (s := S16x512x256) _ S1x512x256.size ?_ _
    sl_kernel_rfl
  simp only [List.mem_cons, List.mem_nil_iff, or_false] at hq
  rcases hq with rfl | rfl | rfl | rfl | rfl | rfl | rfl | rfl | rfl | rfl | rfl | rfl | rfl | rfl | rfl | rfl
  · change S1x512x256.Idx at x
    idx_vars x
    obtain rfl : x0 = 0 := Subsingleton.elim _ _
    refine (key_of 15 inb_S512x4096_S512x256_0_3840 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 14 inb_S512x4096_S512x256_0_3584 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 13 inb_S512x4096_S512x256_0_3328 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 12 inb_S512x4096_S512x256_0_3072 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 11 inb_S512x4096_S512x256_0_2816 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 10 inb_S512x4096_S512x256_0_2560 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 9 inb_S512x4096_S512x256_0_2304 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 8 inb_S512x4096_S512x256_0_2048 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 7 inb_S512x4096_S512x256_0_1792 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 6 inb_S512x4096_S512x256_0_1536 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 5 inb_S512x4096_S512x256_0_1280 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 4 inb_S512x4096_S512x256_0_1024 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 3 inb_S512x4096_S512x256_0_768 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 2 inb_S512x4096_S512x256_0_512 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 1 inb_S512x4096_S512x256_0_256 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x256.Idx at x
    idx_vars x
    obtain rfl : x0 = 0 := Subsingleton.elim _ _
    refine (key_of 0 inb_S512x4096_S512x256_0_0 _ _ x4 x1 x2).trans (kat_eq _ _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)

theorem values_out (y0 : Vec Ideal S512x2048 .f32) (y1 : Vec Ideal S1x2048 .f32) (y2 : Vec Ideal S2048x640 .bf16) (y3 : Vec Ideal S1x512 .f32)
    (x4 : Vec Ideal S512x4096 .bf16) (y5 : Vec Ideal S512x128 .f32) (e : Fin 16) (r : Fin 512) (d : Fin 128) :
    out0_7 y0 y1 y2 y3 x4 y5 (ix3 e r d) = vval (k0_pay8 y0 y1 y2 y3) x4 e r d := by
  have e0 : k0_pay57 y0 y1 y2 y3 x4 y5 = k0_pay8 y0 y1 y2 y3 := by
    unfold k0_pay57
    frame_out
  have e1 : k0_pay59 y0 y1 y2 y3 x4 y5 = k0_pay10 (k0_pay9 y0 y1 y2 y5) := by
    unfold k0_pay59 k0_pay58
    frame_out
  have e2 : k0_pay58 y0 y1 y2 y3 x4 y5 = k0_pay9 y0 y1 y2 y5 := by
    unfold k0_pay58
    frame_out
  unfold out0_7
  rw [e0]
  generalize k0_pay8 y0 y1 y2 y3 = a
  generalize k0_pay9 y0 y1 y2 y5 = b
  refine (View.canon_apply_of_pieces (Val := Elt Ideal) (e := .bf16) (vat a x4) _ (fun q hq x => ?_) _ ?_).trans rfl
  rotate_left
  · refine View.cover_of_tiledL (s := S16x512x128) _ S1x512x128.size ?_ _
    sl_kernel_rfl
  simp only [List.mem_cons, List.mem_nil_iff, or_false] at hq
  rcases hq with rfl | rfl | rfl | rfl | rfl | rfl | rfl | rfl | rfl | rfl | rfl | rfl | rfl | rfl | rfl | rfl
  · change S1x512x128.Idx at x
    idx_vars x
    obtain rfl : x0 = 0 := Subsingleton.elim _ _
    refine (value_of 15 inb_S512x4096_S512x256_0_3840 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 14 inb_S512x4096_S512x256_0_3584 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 13 inb_S512x4096_S512x256_0_3328 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 12 inb_S512x4096_S512x256_0_3072 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 11 inb_S512x4096_S512x256_0_2816 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 10 inb_S512x4096_S512x256_0_2560 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 9 inb_S512x4096_S512x256_0_2304 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 8 inb_S512x4096_S512x256_0_2048 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 7 inb_S512x4096_S512x256_0_1792 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 6 inb_S512x4096_S512x256_0_1536 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 5 inb_S512x4096_S512x256_0_1280 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 4 inb_S512x4096_S512x256_0_1024 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 3 inb_S512x4096_S512x256_0_768 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 2 inb_S512x4096_S512x256_0_512 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 1 inb_S512x4096_S512x256_0_256 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)
  · change S1x512x128.Idx at x
    idx_vars x
    obtain rfl : x0 = 0 := Subsingleton.elim _ _
    refine (value_of 0 inb_S512x4096_S512x256_0_0 _ x4 x1 x2).trans (vat_eq _ _ _ _ _ _ (ValueKit.rect_emb_unit_val _ _ _ _ _) ?_ ?_)
    · exact (ValueKit.rect_emb_unit_val _ _ _ _ _).trans (Nat.zero_add _)
    · exact (ValueKit.rect_emb_unit_val _ _ _ _ _).trans (Nat.zero_add _)

end Cert.Kernel7Ideal.Latent

end
-- ==== Proof.Latent.KvTerms.lean ====
/- The reference's keys and values at an element. -/
module

public import proofs.«01_k».proof.Defs
public import proofs.«01_k».proof.Proof.Latent.Math
public import proofs.«01_k».proof.Proof.Gen.Reference7Ideal
public import proofs.«01_k».proof.Proof.Gen.Reference7Ideal.Run
public import Idealize.ShloMosaic.Lib.Pipeline.ValueKit
public import Idealize.ShloMosaic.Lib.Pointwise
public import Idealize.ShloMosaic.Lib.StableHlo.Run

@[expose] public section

set_option maxRecDepth 16384

noncomputable section

namespace Cert.Reference7Ideal.Latent

open Idealize.ShloMosaic Idealize.ShloMosaic.TcCoe Idealize.SL.Sem
open Cert.Reference7Ideal Cert.Reference7Ideal.Gen
open Cert.Latent (norm tail)

section Terms
variable {F : FTy → Type} [FloatOps F]

/-- The rows scaled to mean square one, times the gains. -/
def normed (h : FVec F S8192x2048 .f32) (g : FVec F S2048 .f32) : FVec F S8192x2048 .f32 :=
  mulf (mulf h (broadcastInDim S8192x2048 ![0, 1] bcast_S8192x1_S8192x2048_0_1 (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The compressed rows scaled to mean square one, times the gains. -/
def cnormed (h : FVec F S8192x512 .f32) (g : FVec F S512 .f32) : FVec F S8192x512 .f32 :=
  mulf (mulf h (broadcastInDim S8192x512 ![0, 1] bcast_S8192x1_S8192x512_0_1 (Host.rsqrt (addf (Host.divf (broadcastInDim S8192x1 ![0] bcast_S8192_S8192x1_0 (Host.reduceAdd (mulf h h) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 g))

/-- The compressed rows and the columns to rotate. -/
def down (x : FVec F S8192x2048 .f32) (w : FVec F S2048x576 .f32) : FVec F S8192x576 .f32 :=
  Host.dotGeneral dot_S8192x2048_S2048x576_S8192x576_1_0_0_1_n_n none x w

/-- The compressed rows alone. -/
def compressed (t : FVec F S8192x576 .f32) : FVec F S8192x512 .f32 :=
  extractStridedSlice S8192x512 ![0, 0] t slices_S8192x576_S8192x512_0_0

/-- Keys and values of the compressed rows in sixteen heads. -/
def heads (x : FVec F S8192x512 .f32) (w : FVec F S512x4096 .f32) : FVec F S16x8192x256 .f32 :=
  transpose S16x8192x256 [1, 0, 2] (shapeCast _ (Host.dotGeneral dot_S8192x512_S512x4096_S8192x4096_1_0_0_1_n_n none x w : FVec F S8192x4096 .f32) shapeCasts_S8192x4096_S8192x16x256) transposes_S8192x16x256_S16x8192x256_1_0_2

/-- The rotated columns and zeros. -/
def rotated (t : FVec F S8192x576 .f32) (co si : FVec F S8192x32 .f32) : FVec F S8192x128 .f32 :=
  concatenate S8192x128 1
    [⟨S8192x32, (subf (mulf (extractStridedSlice S8192x32 ![0, 512] t slices_S8192x576_S8192x32_0_512) co) (mulf (extractStridedSlice S8192x32 ![0, 544] t slices_S8192x576_S8192x32_0_544) si) : FVec F S8192x32 .f32)⟩,
     ⟨S8192x32, (addf (mulf (extractStridedSlice S8192x32 ![0, 512] t slices_S8192x576_S8192x32_0_512) si) (mulf (extractStridedSlice S8192x32 ![0, 544] t slices_S8192x576_S8192x32_0_544) co) : FVec F S8192x32 .f32)⟩,
     ⟨S8192x64, (broadcastInDim S8192x64 ![] bcast_S_S8192x64 (constant S_ .f32 0x00000000#32) : FVec F S8192x64 .f32)⟩]
    concatenates_S8192x32_S8192x32_S8192x64_S8192x128_d1

/-- The keys. -/
def keys (a : FVec F S16x8192x256 .f32) (y : FVec F S8192x128 .f32) : FVec F S16x8192x256 .bf16 :=
  truncf .bf16 (concatenate S16x8192x256 2
    [⟨S16x8192x128, extractStridedSlice S16x8192x128 ![0, 0, 0] a slices_S16x8192x256_S16x8192x128_0_0_0⟩,
     ⟨S16x8192x128, broadcastInDim S16x8192x128 ![0, 1, 2] bcast_S1x8192x128_S16x8192x128_0_1_2 (broadcastInDim S1x8192x128 ![1, 2] bcast_S8192x128_S1x8192x128_1_2 y)⟩]
    concatenates_S16x8192x128_S16x8192x128_S16x8192x256_d2 : FVec F S16x8192x256 .f32) bitsLt_bf16_f32

/-- The values. -/
def values (a : FVec F S16x8192x256 .f32) : FVec F S16x8192x128 .bf16 :=
  truncf .bf16 (extractStridedSlice S16x8192x128 ![0, 0, 128] a slices_S16x8192x256_S16x8192x128_0_0_128) bitsLt_bf16_f32

/-- The reference's run: its two results, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = keys (heads (cnormed (compressed (down (normed (m ((c.tc : Thread nD τ).loc main_arg0)) (m ((c.tc : Thread nD τ).loc main_arg1))) (m ((c.tc : Thread nD τ).loc main_arg2)))) (m ((c.tc : Thread nD τ).loc main_arg3))) (m ((c.tc : Thread nD τ).loc main_arg4))) (rotated (down (normed (m ((c.tc : Thread nD τ).loc main_arg0)) (m ((c.tc : Thread nD τ).loc main_arg1))) (m ((c.tc : Thread nD τ).loc main_arg2))) (m ((c.tc : Thread nD τ).loc main_arg5)) (m ((c.tc : Thread nD τ).loc main_arg6)))
      ∧ r.2.mem ((c.tc : Thread nD τ).loc main_v47) = values (heads (cnormed (compressed (down (normed (m ((c.tc : Thread nD τ).loc main_arg0)) (m ((c.tc : Thread nD τ).loc main_arg1))) (m ((c.tc : Thread nD τ).loc main_arg2)))) (m ((c.tc : Thread nD τ).loc main_arg3))) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := Value.run m ρ

end Terms

theorem normed_at (h : FVec Ideal S8192x2048 .f32) (g : FVec Ideal S2048 .f32) (r : Fin 8192) (k : Fin 2048) :
    normed h g (ix2 r k) = norm (Ideal.ofBits .f32 0x45000000#32) (fun k => h (ix2 r k)) (fun k => g (ix1 k)) k := by
  pointwise [normed]
  rfl

theorem cnormed_at (h : FVec Ideal S8192x512 .f32) (g : FVec Ideal S512 .f32) (r : Fin 8192) (k : Fin 512) :
    cnormed h g (ix2 r k) = norm (Ideal.ofBits .f32 0x44000000#32) (fun k => h (ix2 r k)) (fun k => g (ix1 k)) k := by
  pointwise [cnormed]
  rfl

theorem down_at (x : FVec Ideal S8192x2048 .f32) (w : FVec Ideal S2048x576 .f32) (r : Fin 8192) (j : Fin 576) :
    down x w (ix2 r j) = ∑ k : Fin 2048, x (ix2 r k) * w (ix2 k j) := by
  pointwise [down]

theorem compressed_at (t : FVec Ideal S8192x576 .f32) (r : Fin 8192) (j : Fin 512) :
    compressed t (ix2 r j) = t (ix2 r ⟨j.val, by omega⟩) := by
  pointwise [compressed]

theorem heads_at (x : FVec Ideal S8192x512 .f32) (w : FVec Ideal S512x4096 .f32) (e : Fin 16) (r : Fin 8192) (d : Fin 256) :
    heads x w (ix3 e r d) = ∑ k : Fin 512, x (ix2 r k) * w (ix2 k ⟨256 * e.val + d.val, by omega⟩) := by
  pointwise [heads]
  simp only [Nat.mul_comm e.val 256]

theorem rotated_at (t : FVec Ideal S8192x576 .f32) (co si : FVec Ideal S8192x32 .f32) (r : Fin 8192) (l : Fin 128) :
    rotated t co si (ix2 r l) = tail (fun l => t (ix2 r ⟨512 + l.val, by omega⟩)) (fun l => co (ix2 r l)) (fun l => si (ix2 r l)) l := by
  have n1 : 512 + (32 + l.val) = 544 + l.val := by omega
  unfold tail
  pointwise [rotated]
  by_cases h1 : l.val < 32
  · rw [dif_pos h1, dif_pos h1]
    simp only [n1]
  · rw [dif_neg h1, dif_neg h1]
    by_cases h2 : l.val < 64
    · have n2 : 544 + (l.val - 32) = 512 + l.val := by omega
      rw [dif_pos (by omega), dif_pos h2]
      simp only [n2]
    · rw [dif_neg (by omega), dif_neg h2]

theorem keys_at (a : FVec Ideal S16x8192x256 .f32) (y : FVec Ideal S8192x128 .f32) (e : Fin 16) (r : Fin 8192) (d : Fin 256) :
    keys a y (ix3 e r d) = if h : d.val < 128 then a (ix3 e r d) else y (ix2 r ⟨d.val - 128, by omega⟩) := by
  pointwise [keys]

theorem values_at (a : FVec Ideal S16x8192x256 .f32) (e : Fin 16) (r : Fin 8192) (d : Fin 128) :
    values a (ix3 e r d) = a (ix3 e r ⟨128 + d.val, by omega⟩) := by
  pointwise [values]

end Cert.Reference7Ideal.Latent

end
-- ==== Proof.Latent.KvValue.lean ====
/- The keys and values call: the frames, and the kernel's arrays are the reference's. -/
module

public import proofs.«01_k».proof.Defs
public import proofs.«01_k».proof.Proof.Attn.Finite
public import proofs.«01_k».proof.Proof.Gen.Pre_finite_kv
public import proofs.«01_k».proof.Proof.Latent.KvBody
public import proofs.«01_k».proof.Proof.Latent.KvTerms
public import Idealize.ShloMosaic.Lib.Claim
public import Idealize.ShloMosaic.Init

@[expose] public section

set_option maxRecDepth 16384

noncomputable section

namespace Cert.Kernel7Ideal.Latent

open Idealize.ShloMosaic Idealize.ShloMosaic.TcCoe Idealize.SL.Sem
open Cert.Kernel7Ideal Cert.Kernel7Ideal.Gen
open Cert.Latent (norm norm_real sum_neg tail pair pair_eq len2048)
open Cert.Reference7Ideal.Latent (normed cnormed down compressed heads rotated keys values normed_at cnormed_at down_at compressed_at heads_at rotated_at keys_at values_at)

/-- Under the precondition the gains and the weights of the first product are reals. -/
theorem finite_args [Cert.Pre_finite_kv.Facts] (a0 : FVec Ideal Pre_finite_kv.S8192x2048 .f32) (a1 : FVec Ideal Pre_finite_kv.S2048 .f32)
    (a2 : FVec Ideal Pre_finite_kv.S2048x576 .f32) (a3 : FVec Ideal Pre_finite_kv.S512 .f32) (a4 : FVec Ideal Pre_finite_kv.S512x4096 .f32)
    (a5 a6 : FVec Ideal Pre_finite_kv.S8192x32 .f32) (h : Pre_finite_kv.fn (F := Ideal) a0 a1 a2 a3 a4 a5 a6 = fun _ => 1#1) :
    (∀ i, ∃ r : ℝ, a1 i = (r : EReal)) ∧ ∀ i, ∃ r : ℝ, a2 i = (r : EReal) := by
  haveI : Subsingleton Pre_finite_kv.S_.Idx := ⟨fun a b => funext fun i => i.elim0⟩
  have h0 := congrFun h (fun i => i.elim0)
  unfold Pre_finite_kv.fn at h0
  have e := IntOp.andi_eq_one.mp h0
  exact ⟨Cert.Attn.reals_of_all a1 _ (fun _ => Cert.Attn.ofBits_inf) _ _ _ _ e.1, Cert.Attn.reals_of_all a2 _ (fun _ => Cert.Attn.ofBits_inf) _ _ _ _ e.2⟩

section Points
variable (m : (ℓ : Loc nD τ sig) → Buf (Elt Ideal) ℓ) (c : Dev nD) (t : Fin cfg0.N)

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![t.val, 0] := (by decide +kernel : ∀ t : Fin grid0.N, _)
theorem idx0_6 : ∀ t : Fin cfg0.N, win0_6.index t = ![0, t.val, 0] := (by decide +kernel : ∀ t : Fin grid0.N, _)
theorem idx0_7 : ∀ t : Fin cfg0.N, win0_7.index t = ![0, t.val, 0] := (by decide +kernel : ∀ t : Fin grid0.N, _)

/-- A row of a point's block. -/
def row (t : Fin cfg0.N) (r : Fin 512) : Fin 8192 := ⟨512 * t.val + r.val, by have : t.val < 16 := t.isLt; omega⟩

/-- The arguments. -/
abbrev h0 : FVec Ideal Cert.Reference7Ideal.S8192x2048 .f32 := m ((c : Thread nD τ).loc main_arg0)
abbrev g0 : FVec Ideal Cert.Reference7Ideal.S2048 .f32 := m ((c : Thread nD τ).loc main_arg1)
abbrev wd : FVec Ideal Cert.Reference7Ideal.S2048x576 .f32 := m ((c : Thread nD τ).loc main_arg2)
abbrev g1 : FVec Ideal Cert.Reference7Ideal.S512 .f32 := m ((c : Thread nD τ).loc main_arg3)
abbrev wu : FVec Ideal Cert.Reference7Ideal.S512x4096 .f32 := m ((c : Thread nD τ).loc main_arg4)
abbrev co : FVec Ideal Cert.Reference7Ideal.S8192x32 .f32 := m ((c : Thread nD τ).loc main_arg5)
abbrev si : FVec Ideal Cert.Reference7Ideal.S8192x32 .f32 := m ((c : Thread nD τ).loc main_arg6)

theorem rows_at (r : Fin 512) (k : Fin 2048) : iblk m c 0 t (ix2 r k) = h0 m c (ix2 (row t r) k) := by
  unfold h0
  rw [← V_main_arg0 m c]
  blk_simp [iblk]
  refine congrArg _ ?_
  blk_ext [idx0_0 t, row]

theorem gains_at (k : Fin 2048) : V m c main_v8 (ix2 0 k) = g0 m c (ix1 k) := by
  entry_read
  pointwise []

theorem gain_at (k : Fin 2048) : iblk m c 1 t (ix2 0 k) = g0 m c (ix1 k) := by
  rw [← gains_at m c]
  blk_simp [iblk]
  refine congrArg _ ?_
  blk_ext [idx0_1 t]

theorem cgains_at (k : Fin 512) : V m c main_v9 (ix2 0 k) = g1 m c (ix1 k) := by
  entry_read
  pointwise []

theorem cgain_at (k : Fin 512) : iblk m c 3 t (ix2 0 k) = g1 m c (ix1 k) := by
  rw [← cgains_at m c]
  blk_simp [iblk]
  refine congrArg _ ?_
  blk_ext [idx0_3 t]

theorem ups_at (k : Fin 512) (j : Fin 4096) : V m c main_v10 (ix2 k j) = wu m c (ix2 k j) := by
  entry_read
  pointwise []

theorem up_at (k : Fin 512) (j : Fin 4096) : iblk m c 4 t (ix2 k j) = wu m c (ix2 k j) := by
  rw [← ups_at m c]
  blk_simp [iblk]
  refine congrArg _ ?_
  blk_ext [idx0_4 t]

theorem wide_at (k : Fin 2048) (j : Fin 640) : V m c main_v6 (ix2 k j) =
    if h : j.val < 576 then wd m c (ix2 k ⟨j.val, h⟩)
    else if h2 : j.val - 576 < 32 then -wd m c (ix2 k ⟨512 + (32 + (j.val - 576)), by omega⟩)
    else wd m c (ix2 k ⟨512 + (j.val - 576 - 32), by omega⟩) := by
  entry_read
  pointwise []

theorem tables_at (r : Fin 8192) (j : Fin 128) : V m c main_v7 (ix2 r j) =
    if h : j.val < 32 then co m c (ix2 r ⟨j.val, h⟩)
    else if h1 : j.val - 32 < 32 then co m c (ix2 r ⟨j.val - 32, h1⟩)
    else if h2 : j.val - 32 - 32 < 32 then si m c (ix2 r ⟨j.val - 32 - 32, h2⟩)
    else si m c (ix2 r ⟨j.val - 32 - 32 - 32, by omega⟩) := by
  entry_read
  pointwise []

theorem blk2_at (k : Fin 2048) (j : Fin 640) : iblk m c 2 t (ix2 k j) = V m c main_v6 (ix2 k j) := by
  blk_simp [iblk]
  refine congrArg _ ?_
  blk_ext [idx0_2 t]

theorem blk5_at (r : Fin 512) (j : Fin 128) : iblk m c 5 t (ix2 r j) = V m c main_v7 (ix2 (row t r) j) := by
  blk_simp [iblk]
  refine congrArg _ ?_
  blk_ext [idx0_5 t, row]

/-- The rows' norm, the compressed rows and the columns to rotate, in the reference's terms. -/
abbrev nrm : FVec Ideal Cert.Reference7Ideal.S8192x2048 .f32 := normed (h0 m c) (g0 m c)
abbrev D : FVec Ideal Cert.Reference7Ideal.S8192x576 .f32 := down (nrm m c) (wd m c)
abbrev C : FVec Ideal Cert.Reference7Ideal.S8192x512 .f32 := cnormed (compressed (D m c)) (g1 m c)
abbrev Y : FVec Ideal Cert.Reference7Ideal.S8192x128 .f32 := rotated (D m c) (co m c) (si m c)

theorem wide_low (k : Fin 2048) (j : Fin 576) : V m c main_v6 (ix2 k ⟨j.val, by omega⟩) = wd m c (ix2 k j) := by
  rw [wide_at, dif_pos j.isLt]

theorem wide_neg (k : Fin 2048) (l : Fin 32) : V m c main_v6 (ix2 k ⟨512 + (64 + l.val), by omega⟩) = -wd m c (ix2 k ⟨512 + (32 + l.val), by omega⟩) := by
  have e : 512 + (64 + l.val) - 576 = l.val := by omega
  rw [wide_at, dif_neg (by simp only []; omega), dif_pos (by simp only []; omega)]
  simp only [e]

theorem wide_pos (k : Fin 2048) (l : Fin 32) : V m c main_v6 (ix2 k ⟨512 + (96 + l.val), by omega⟩) = wd m c (ix2 k ⟨512 + l.val, by omega⟩) := by
  have e : 512 + (96 + l.val) - 576 - 32 = l.val := by omega
  rw [wide_at, dif_neg (by simp only []; omega), dif_neg (by simp only []; omega)]
  simp only [e]

theorem prod_at (r : Fin 512) (j : Fin 640) : k0_pay7 (iblk m c 0 t) (iblk m c 1 t) (iblk m c 2 t) (ix2 r j)
    = ∑ k : Fin 2048, nrm m c (ix2 (row t r) k) * V m c main_v6 (ix2 k j) := by
  rw [pay7_at]
  simp only [rows_at, gain_at, blk2_at, nrm, normed_at]

theorem low_at (r : Fin 512) (j : Fin 576) : k0_pay7 (iblk m c 0 t) (iblk m c 1 t) (iblk m c 2 t) (ix2 r ⟨j.val, by omega⟩) = D m c (ix2 (row t r) j) := by
  refine (prod_at m c t r _).trans ((down_at _ _ _ _).trans (Finset.sum_congr rfl fun k _ => ?_)).symm
  exact congrArg (_ * ·) (wide_low m c k j).symm

theorem latent_at (r : Fin 512) (j : Fin 512) : k0_pay8 (iblk m c 0 t) (iblk m c 1 t) (iblk m c 2 t) (iblk m c 3 t) (ix2 r j) = C m c (ix2 (row t r) j) := by
  rw [pay8_at, C, cnormed_at]
  simp only [cgain_at, compressed_at]
  refine congrArg (fun f => norm _ f _ j) (funext fun q => ?_)
  exact low_at m c t r ⟨q.val, by omega⟩

theorem nrm_real (hg : ∀ i, ∃ r : ℝ, g0 m c i = (r : EReal)) (R : Fin 8192) (k : Fin 2048) : ∃ r : ℝ, nrm m c (ix2 R k) = (r : EReal) := by
  rw [nrm, normed_at, len2048]
  exact norm_real 2048 (by norm_num) _ _ k (hg _)

theorem rot_at (hg : ∀ i, ∃ r : ℝ, g0 m c i = (r : EReal)) (hw : ∀ i, ∃ r : ℝ, wd m c i = (r : EReal)) (r : Fin 512) (l : Fin 128) :
    k0_pay10 (k0_pay9 (iblk m c 0 t) (iblk m c 1 t) (iblk m c 2 t) (iblk m c 5 t)) (ix2 r l) = Y m c (ix2 (row t r) l) := by
  rw [pay10_at, Y, rotated_at]
  refine pair_eq _ _ _ _ _ (fun l => ?_) (fun l => ?_) (fun l => ?_) (fun l => ?_) (fun l => ?_) (fun l => ?_) (fun l => ?_) l
  · exact low_at m c t r ⟨512 + l.val, by omega⟩
  · refine (prod_at m c t r _).trans ((Finset.sum_congr rfl fun k _ => congrArg (_ * ·) (wide_neg m c k l)).trans ?_)
    exact (sum_neg _ _ (fun k => nrm_real m c hg _ k) (fun k => hw _)).trans (congrArg Neg.neg (down_at _ _ _ _).symm)
  · refine (prod_at m c t r _).trans ((Finset.sum_congr rfl fun k _ => congrArg (_ * ·) (wide_pos m c k l)).trans ?_)
    exact (down_at _ _ _ _).symm
  · rw [blk5_at, tables_at, dif_pos (by simp only []; omega)]
  · have e : 32 + l.val - 32 = l.val := by omega
    rw [blk5_at, tables_at, dif_neg (by simp only []; omega), dif_pos (by simp only []; omega)]
    simp only [e]
  · have e : 64 + l.val - 32 - 32 = l.val := by omega
    rw [blk5_at, tables_at, dif_neg (by simp only []; omega), dif_neg (by simp only []; omega), dif_pos (by simp only []; omega)]
    simp only [e]
  · have e : 96 + l.val - 32 - 32 - 32 = l.val := by omega
    rw [blk5_at, tables_at, dif_neg (by simp only []; omega), dif_neg (by simp only []; omega), dif_neg (by simp only []; omega)]
    simp only [e]

/-- The reference's results of the arguments. -/
def GK : Buf (Elt Ideal) ((c : Thread nD τ).loc main_v11_0) := keys (F := Ideal) (heads (C m c) (wu m c)) (Y m c)
def GV : Buf (Elt Ideal) ((c : Thread nD τ).loc main_v11_1) := values (F := Ideal) (heads (C m c) (wu m c))

theorem keys_block (hg : ∀ i, ∃ r : ℝ, g0 m c i = (r : EReal)) (hw : ∀ i, ∃ r : ℝ, wd m c i = (r : EReal)) (e : Fin 16) (r : Fin 512) (d : Fin 256) :
    out0_6 (iblk m c 0 t) (iblk m c 1 t) (iblk m c 2 t) (iblk m c 3 t) (iblk m c 4 t) (iblk m c 5 t) (ix3 e r d) = GK m c (ix3 e (row t r) d) := by
  rw [keys_out]
  unfold GK kval
  rw [keys_at, heads_at]
  simp only [latent_at, up_at, rot_at m c t hg hw]

theorem values_block (e : Fin 16) (r : Fin 512) (d : Fin 128) :
    out0_7 (iblk m c 0 t) (iblk m c 1 t) (iblk m c 2 t) (iblk m c 3 t) (iblk m c 4 t) (iblk m c 5 t) (ix3 e r d) = GV m c (ix3 e (row t r) d) := by
  rw [values_out]
  unfold GV vval
  rw [values_at, heads_at]
  simp only [latent_at, up_at]

end Points

/-- The arrays after the run. -/
theorem keys_eq (m : (ℓ : Loc nD τ sig) → Buf (Elt Ideal) ℓ) (c : Dev nD) (hg : ∀ i, ∃ r : ℝ, g0 m c i = (r : EReal)) (hw : ∀ i, ∃ r : ℝ, wd m c i = (r : EReal)) :
    (dats m 0 c).arrAt 6 (cfgs 0).N = GK m c := by
  refine (dats m 0 c).arrAt_eq_of_covers 6 _ (by decide +kernel) fun t hf y => ?_
  blk_simp
  rw [after0_6]
  idx_vars y
  refine (keys_block m c t hg hw _ _ _).trans ?_
  refine congrArg _ ?_
  blk_ext [idx0_6 t, row]

theorem values_eq (m : (ℓ : Loc nD τ sig) → Buf (Elt Ideal) ℓ) (c : Dev nD) : (dats m 0 c).arrAt 7 (cfgs 0).N = GV m c := by
  refine (dats m 0 c).arrAt_eq_of_covers 7 _ (by decide +kernel) fun t hf y => ?_
  blk_simp
  rw [after0_7]
  idx_vars y
  refine (values_block m c t _ _ _).trans ?_
  refine congrArg _ ?_
  blk_ext [idx0_7 t, row]

end Cert.Kernel7Ideal.Latent

namespace Cert.Proof

open Idealize.ShloMosaic Idealize.SL.Sem

/-- The two programs' bodies are one text. -/
theorem body7_same : @Cert.Kernel7.defs₀ Bits _ Cert.Kernel7.Gen.facts = @Cert.Kernel7Ideal.defs₀ Bits _ Cert.Kernel7Ideal.Gen.facts := by
  refine congrArg Defs.onTc ?_
  funext l x
  match l, x with
  | 0, (t, s) => exact rfl

theorem defs7_same : @Cert.Kernel7.defs Bits _ Cert.Kernel7.Gen.facts = @Cert.Kernel7Ideal.defs Bits _ Cert.Kernel7Ideal.Gen.facts := by
  unfold Cert.Kernel7.defs Cert.Kernel7Ideal.defs
  exact congrArg (Pipeline.defs _) body7_same

/-- The kernel on words: its text is the one the run is proved for. -/
theorem frame_kernel7 : Cert.quiescent_Kernel7 (hKernel7 := Cert.Kernel7.Gen.facts) := fun m ρ _ => by
  have h := Cert.Kernel7Ideal.Gen.frame (F := Bits) m ρ
  rw [← defs7_same] at h
  exact h

/-- The kernel on extended reals. -/
theorem frame_ideal7 : Cert.quiescent_Kernel7Ideal (hKernel7Ideal := Cert.Kernel7Ideal.Gen.facts) := fun m ρ _ =>
  Cert.Kernel7Ideal.Gen.frame (F := Ideal) m ρ

theorem frame_ideal7_pre : Cert.quiescent_Kernel7Ideal_pre_finite_kv (hKernel7Ideal := Cert.Kernel7Ideal.Gen.facts)
    (hPre_finite_kv := Cert.Pre_finite_kv.Gen.facts) := fun m ρ _ =>
  Cert.Kernel7Ideal.Gen.frame (F := Ideal) m ρ

/-- The reference: its operations write no argument, and it declares no semaphore. -/
theorem frame_reference7 : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Latent.run (F := Ideal) m ρ)

theorem frame_reference7_pre : Cert.quiescent_Reference7Ideal_pre_finite_kv (hReference7Ideal := Cert.Reference7Ideal.Gen.facts)
    (hPre_finite_kv := Cert.Pre_finite_kv.Gen.facts) := fun m ρ _ =>
  (θ_run Cert.Reference7Ideal.defs _ _).mono (fun r h => ⟨fun c => (h c).2.2, sem_eq_zero_of_no_sems (by decide) r.2⟩)
    (Cert.Reference7Ideal.Latent.run (F := Ideal) m ρ)

/-- The keys and values call and its formula end with the same two arrays. -/
theorem kv_eq : Cert.algebraic_Kernel7Ideal_Reference7Ideal_pre_finite_kv (hKernel7Ideal := Cert.Kernel7Ideal.Gen.facts)
    (hReference7Ideal := Cert.Reference7Ideal.Gen.facts) (hPre_finite_kv := Cert.Pre_finite_kv.Gen.facts) := fun m g m' g' hpre hargs => by
  refine ⟨fun c => Cert.Kernel7Ideal.Latent.GK m c, fun c => Cert.Kernel7Ideal.Latent.GV m c, ?_, ?_⟩
  · have hk := θ_run_and (Cert.Kernel7Ideal.Gen.run_main (F := Ideal) m g) (Cert.Kernel7Ideal.Gen.unchanged (F := Ideal) m g)
    refine (θ_run Cert.Kernel7Ideal.defs _ _).mono (fun r h c => ⟨?_, ?_, h.2 c⟩) hk
    · have hf := @Cert.Kernel7Ideal.Latent.finite_args Cert.Pre_finite_kv.Gen.facts _ _ _ _ _ _ _ (hpre c)
      exact ((h.1 c).1 6).trans (Cert.Kernel7Ideal.Latent.keys_eq m c hf.1 hf.2)
    · exact ((h.1 c).1 7).trans (Cert.Kernel7Ideal.Latent.values_eq m c)
  · refine (θ_run Cert.Reference7Ideal.defs _ _).mono (fun r h c => ⟨(h c).1.trans ?_, (h c).2.1.trans ?_, (h c).2.2⟩) (Cert.Reference7Ideal.Latent.run (F := Ideal) m' g')
    · obtain ⟨h0, h1, h2, h3, h4, h5, h6⟩ := hargs c
      rw [h0, h1, h2, h3, h4, h5, h6]
      rfl
    · obtain ⟨h0, h1, h2, h3, h4, h5, h6⟩ := hargs c
      rw [h0, h1, h2, h3, h4]
      rfl

end Cert.Proof

end
-- ==== Proof.lean ====
/- The proof of the claim: the frames and the equations of the attention kernel, of the two feed-forward kernels, of the two projections and of the queries, keys and values with their formulas. -/
module

public import proofs.«01_k».proof.Defs
public import proofs.«01_k».proof.Proof.Frames
public import proofs.«01_k».proof.Proof.Attn.Finite
public import proofs.«01_k».proof.Proof.Attn.Value
public import proofs.«01_k».proof.Proof.Ffn.Frames
public import proofs.«01_k».proof.Proof.Ffn.Value
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2Ideal.Frame
public import proofs.«01_k».proof.Proof.Gen.Reference2Ideal.Run
public import proofs.«01_k».proof.Proof.Last.Frames
public import proofs.«01_k».proof.Proof.Last.Value
public import proofs.«01_k».proof.Proof.Gen.Kernel3
public import proofs.«01_k».proof.Proof.Gen.Kernel3Ideal
public import proofs.«01_k».proof.Proof.Gen.Reference3Ideal
public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Kernel3Ideal.Frame
public import proofs.«01_k».proof.Proof.Gen.Reference3Ideal.Run
public import proofs.«01_k».proof.Proof.Qkv.Value
public import proofs.«01_k».proof.Proof.Out.Value
public import proofs.«01_k».proof.Proof.Latent.QValue
public import proofs.«01_k».proof.Proof.Latent.KvValue
public import proofs.«01_k».proof.Proof.Gen.Kernel4
public import proofs.«01_k».proof.Proof.Gen.Kernel4.Launch
public import proofs.«01_k».proof.Proof.Gen.Kernel4.Points
public import proofs.«01_k».proof.Proof.Gen.Kernel4.Skeleton
public import proofs.«01_k».proof.Proof.Gen.Kernel4.Frame
public import proofs.«01_k».proof.Proof.Gen.Kernel4Ideal
public import proofs.«01_k».proof.Proof.Gen.Reference4Ideal
public import proofs.«01_k».proof.Proof.Gen.Kernel4Ideal.Launch
public import proofs.«01_k».proof.Proof.Gen.Kernel4Ideal.Points
public import proofs.«01_k».proof.Proof.Gen.Kernel4Ideal.Skeleton
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Kernel5Ideal.Launch
public import proofs.«01_k».proof.Proof.Gen.Kernel5Ideal.Points
public import proofs.«01_k».proof.Proof.Gen.Kernel5Ideal.Skeleton
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Kernel6Ideal.Launch
public import proofs.«01_k».proof.Proof.Gen.Kernel6Ideal.Points
public import proofs.«01_k».proof.Proof.Gen.Kernel6Ideal.Skeleton
public import proofs.«01_k».proof.Proof.Gen.Kernel6Ideal.Frame
public import proofs.«01_k».proof.Proof.Gen.Reference6Ideal.Run
public import proofs.«01_k».proof.Proof.Gen.Kernel6.Launch
public import proofs.«01_k».proof.Proof.Gen.Kernel6.Points
public import proofs.«01_k».proof.Proof.Gen.Kernel6.Skeleton
public import proofs.«01_k».proof.Proof.Gen.Kernel6.Frame
public import proofs.«01_k».proof.Proof.Gen.Pre_finite_q
public import proofs.«01_k».proof.Proof.Gen.Kernel7
public import proofs.«01_k».proof.Proof.Gen.Kernel7Ideal
public import proofs.«01_k».proof.Proof.Gen.Reference7Ideal
public import proofs.«01_k».proof.Proof.Gen.Kernel7Ideal.Launch
public import proofs.«01_k».proof.Proof.Gen.Kernel7Ideal.Points
public import proofs.«01_k».proof.Proof.Gen.Kernel7Ideal.Skeleton
public import proofs.«01_k».proof.Proof.Gen.Kernel7Ideal.Frame
public import proofs.«01_k».proof.Proof.Gen.Reference7Ideal.Run
public import proofs.«01_k».proof.Proof.Gen.Pre_finite_kv
public import Idealize.ShloMosaic.Adequacy
public import Idealize.ShloMosaic.Init

@[expose] public section

noncomputable section

namespace Cert.Proof

open Idealize.ShloMosaic Idealize.ShloMosaic.TcCoe Idealize.SL.Sem
open Cert.KernelIdeal.Flash (G dats A_eq run_main array_eq)

/-- On real arguments the kernel and the attention formula end with one array. -/
theorem attention_eq : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hpre hargs => by
  refine ⟨fun c => G m c, ?_, ?_⟩
  · have hk := θ_run_and (run_main (F := Ideal) m g) (Cert.KernelIdeal.Gen.frame_of m g (dats m) (A_eq m) (run_main m g))
    refine (θ_run Cert.KernelIdeal.defs _ _).mono (fun r h c => ⟨?_, h.2 c⟩) hk
    have hf := @Cert.Attn.finite_args Cert.Pre_finite.Gen.facts _ _ _ (hpre c)
    exact ((h.1 c).1 3).trans (array_eq m c hf.1 hf.2.1 hf.2.2)
  · refine (θ_run Cert.ReferenceIdeal.defs _ _).mono (fun r h c => ⟨(h c).1.trans ?_, (h c).2⟩) (Cert.ReferenceIdeal.Value.run (F := Ideal) m' g')
    obtain ⟨h0, h1, h2⟩ := hargs c
    rw [Cert.ReferenceIdeal.Attn.res_eq, h0, h1, h2]
    rfl

/-- The feed-forward kernel and its formula end with one array. -/
theorem ffn_eq : Cert.algebraic_Kernel2Ideal_Reference2Ideal (hKernel2Ideal := Cert.Kernel2Ideal.Gen.facts)
    (hReference2Ideal := Cert.Reference2Ideal.Gen.facts) := fun m g m' g' hpre hargs => by
  refine ⟨fun c => Cert.Kernel2Ideal.Ffn.G m c, ?_, ?_⟩
  · have hk := θ_run_and (Cert.Kernel2Ideal.Ffn.run_main (F := Ideal) m g) (Cert.Kernel2Ideal.Ffn.frame_run (F := Ideal) m g)
    refine (θ_run Cert.Kernel2Ideal.defs _ _).mono (fun r h c => ⟨?_, h.2.1 c⟩) hk
    exact ((h.1 c).1 2).trans (Cert.Kernel2Ideal.Ffn.array_eq m c)
  · refine (θ_run Cert.Reference2Ideal.defs _ _).mono (fun r h c => ⟨(h c).1.trans ?_, (h c).2⟩) (Cert.Reference2Ideal.Ffn.run (F := Ideal) m' g')
    obtain ⟨h0, h1, h2, h3⟩ := hargs c
    rw [h0, h1, h2, h3]
    rfl

/-- The feed-forward kernel with the final norm and its formula end with one array. -/
theorem ffn_final_eq : Cert.algebraic_Kernel3Ideal_Reference3Ideal (hKernel3Ideal := Cert.Kernel3Ideal.Gen.facts)
    (hReference3Ideal := Cert.Reference3Ideal.Gen.facts) := fun m g m' g' hpre hargs => by
  refine ⟨fun c => Cert.Kernel3Ideal.Last.G m c, ?_, ?_⟩
  · have hk := θ_run_and (Cert.Kernel3Ideal.Last.run_main (F := Ideal) m g) (Cert.Kernel3Ideal.Last.frame_run (F := Ideal) m g)
    refine (θ_run Cert.Kernel3Ideal.defs _ _).mono (fun r h c => ⟨?_, h.2.1 c⟩) hk
    exact ((h.1 c).1 3).trans (Cert.Kernel3Ideal.Last.array_eq m c)
  · refine (θ_run Cert.Reference3Ideal.defs _ _).mono (fun r h c => ⟨(h c).1.trans ?_, (h c).2⟩) (Cert.Reference3Ideal.Value.run (F := Ideal) m' g')
    obtain ⟨h0, h1, h2, h3, h4⟩ := hargs c
    rw [Cert.Reference3Ideal.Last.res_eq, h0, h1, h2, h3, h4]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_finite_q.Gen.facts, Cert.Pre_finite_kv.Gen.facts,
  frame_kernel, frame_ideal, frame_ideal_pre, frame_reference, frame_reference_pre, frame_kernel2, frame_ideal2, frame_reference2,
  frame_kernel3, frame_ideal3, frame_reference3, frame_kernel4, frame_ideal4, frame_reference4, frame_kernel5, frame_ideal5, frame_reference5,
  frame_kernel6, frame_ideal6, frame_ideal6_pre, frame_reference6, frame_reference6_pre,
  frame_kernel7, frame_ideal7, frame_ideal7_pre, frame_reference7, frame_reference7_pre,
  trivial, attention_eq, trivial, ffn_eq, trivial, ffn_final_eq, factor_named, qkv_eq, trivial, oproj_eq,
  q_factor_named, queries_eq, trivial, kv_eq⟩

end Cert.Proof

end
